-- ==== Defs.lean ====
def Pre_Kernel [hPre_sel_in_range : Cert.Pre_sel_in_range.Facts] (m : (ℓ : Loc Cert.Kernel.nD Cert.Kernel.τ Cert.Kernel.sig) → Buf (Elt Bits) ℓ) : Prop :=
  ∀ c : Dev Cert.Kernel.nD,
    (Cert.Pre_sel_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_sel_in_range : Cert.Pre_sel_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sel_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sel_in_range [hPre_sel_in_range : Cert.Pre_sel_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sel_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_sel_in_range : Cert.Pre_sel_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_sel_in_range : Cert.Pre_sel_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_sel_in_range [hReferenceIdeal : Cert.ReferenceIdeal.Facts] [hPre_sel_in_range : Cert.Pre_sel_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sel_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_on_not_out [hKernelIdeal : Cert.KernelIdeal.Facts] [hReferenceIdeal : Cert.ReferenceIdeal.Facts] [hPre_sel_in_range : Cert.Pre_sel_in_range.Facts] [hOn_not_out : Cert.On_not_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![6, 1, 3584]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v20_0) i = v0 c i)
          ∧ (∀ i : (⟨4, ![6, 4, 7, 3585]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v20_1) i = v1 c i)
          ∧ (∀ i : (⟨4, ![6, 1, 4, 128]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.KernelIdeal.nD Cert.KernelIdeal.τ).loc Cert.KernelIdeal.main_v20_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![6, 1, 3584]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v228) i = v0 c i)
          ∧ (∀ i : (⟨4, ![6, 4, 7, 3585]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v167) i = v1 c i)
          ∧ (∀ i : (⟨4, ![6, 1, 4, 128]⟩ : Shape).Idx, (Cert.On_not_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.ReferenceIdeal.nD Cert.ReferenceIdeal.τ).loc Cert.ReferenceIdeal.main_v69) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_sel_in_range : Cert.Pre_sel_in_range.Facts) (hOn_not_out : Cert.On_not_out.Facts),
    quiescent_Kernel (hKernel := hKernel) (hPre_sel_in_range := hPre_sel_in_range)
    ∧ quiescent_KernelIdeal (hKernelIdeal := hKernelIdeal) (hPre_sel_in_range := hPre_sel_in_range)
    ∧ quiescent_ReferenceIdeal (hReferenceIdeal := hReferenceIdeal)
    ∧ quiescent_ReferenceIdeal_pre_sel_in_range (hReferenceIdeal := hReferenceIdeal) (hPre_sel_in_range := hPre_sel_in_range)
    ∧ preserves_Kernel_KernelIdeal
    ∧ algebraic_KernelIdeal_ReferenceIdeal_on_not_out (hKernelIdeal := hKernelIdeal) (hReferenceIdeal := hReferenceIdeal) (hPre_sel_in_range := hPre_sel_in_range) (hOn_not_out := hOn_not_out)
-- ==== On_not_out.lean ====
abbrev S6x1x3584 : Shape := ⟨3, ![6, 1, 3584]⟩
abbrev S6x1x4x128 : Shape := ⟨4, ![6, 1, 4, 128]⟩
abbrev S6x65536x160 : Shape := ⟨3, ![6, 65536, 160]⟩
abbrev S6x160x512 : Shape := ⟨3, ![6, 160, 512]⟩
abbrev S6x65536x4x128 : Shape := ⟨4, ![6, 65536, 4, 128]⟩
abbrev S6x65536x4 : Shape := ⟨3, ![6, 65536, 4]⟩
abbrev S6x4x448 : Shape := ⟨3, ![6, 4, 448]⟩
abbrev S6 : Shape := ⟨1, ![6]⟩
abbrev S_ : Shape := ⟨0, ![]⟩
abbrev S6x4x7x3585 : Shape := ⟨4, ![6, 4, 7, 3585]⟩

class Facts : Prop where
  bcast_S_S6x1x3584 : S_.BroadcastsInDim S6x1x3584 (![] : Fin 0 → Fin S6x1x3584.rank)
  bcast_S_S6x4x7x3585 : S_.BroadcastsInDim S6x4x7x3585 (![] : Fin 0 → Fin S6x4x7x3585.rank)
  bcast_S_S6x1x4x128 : S_.BroadcastsInDim S6x1x4x128 (![] : Fin 0 → Fin S6x1x4x128.rank)

variable [Facts]

def fn {F : FTy → Type} [FloatOps F] (main_arg0 : FVec F S6x1x3584 .bf16) (main_arg1 : FVec F S6x1x4x128 .bf16) (main_arg2 : FVec F S6x1x4x128 .bf16) (main_arg3 : FVec F S6x65536x160 .bf16) (main_arg4 : FVec F S6x160x512 .bf16) (main_arg5 : FVec F S6x65536x4x128 .fp8e4m3) (main_arg6 : FVec F S6x65536x4 .f32) (main_arg7 : IVec S6x4x448 32) (main_arg8 : IVec S6 32) (main_arg9 : IVec S6 32) : IVec S6x1x3584 1 × IVec S6x4x7x3585 1 × IVec S6x1x4x128 1 :=
  let main_c : IVec S_ 1 := constantI S_ 1 0#1
  let main_v0 : IVec S6x1x3584 1 := broadcastInDim S6x1x3584 ![] bcast_S_S6x1x3584 main_c
  let main_c_0 : IVec S_ 1 := constantI S_ 1 1#1
  let main_v1 : IVec S6x4x7x3585 1 := broadcastInDim S6x4x7x3585 ![] bcast_S_S6x4x7x3585 main_c_0
  let main_c_1 : IVec S_ 1 := constantI S_ 1 1#1
  let main_v2 : IVec S6x1x4x128 1 := broadcastInDim S6x1x4x128 ![] bcast_S_S6x1x4x128 main_c_1
  (main_v0, main_v1, main_v2)
-- ==== Pre_sel_in_range.lean ====
abbrev S6x1x3584 : Shape := ⟨3, ![6, 1, 3584]⟩
abbrev S6x1x4x128 : Shape := ⟨4, ![6, 1, 4, 128]⟩
abbrev S6x65536x160 : Shape := ⟨3, ![6, 65536, 160]⟩
abbrev S6x160x512 : Shape := ⟨3, ![6, 160, 512]⟩
abbrev S6x65536x4x128 : Shape := ⟨4, ![6, 65536, 4, 128]⟩
abbrev S6x65536x4 : Shape := ⟨3, ![6, 65536, 4]⟩
abbrev S6x4x448 : Shape := ⟨3, ![6, 4, 448]⟩
abbrev S6 : Shape := ⟨1, ![6]⟩
abbrev S_ : Shape := ⟨0, ![]⟩

class Facts : Prop where
  bcast_S_S6x4x448 : S_.BroadcastsInDim S6x4x448 (![] : Fin 0 → Fin S6x4x448.rank)

variable [Facts]

def fn {F : FTy → Type} [FloatOps F] (main_arg0 : FVec F S6x1x3584 .bf16) (main_arg1 : FVec F S6x1x4x128 .bf16) (main_arg2 : FVec F S6x1x4x128 .bf16) (main_arg3 : FVec F S6x65536x160 .bf16) (main_arg4 : FVec F S6x160x512 .bf16) (main_arg5 : FVec F S6x65536x4x128 .fp8e4m3) (main_arg6 : FVec F S6x65536x4 .f32) (main_arg7 : IVec S6x4x448 32) (main_arg8 : IVec S6 32) (main_arg9 : IVec S6 32) : IVec S6x4x448 1 :=
  let main_c : IVec S_ 32 := constantI S_ 32 4294967295#32
  let main_v0 : IVec S6x4x448 32 := broadcastInDim S6x4x448 ![] bcast_S_S6x4x448 main_c
  let main_v1 : IVec S6x4x448 1 := cmpi .sge main_arg7 main_v0
  let main_c_0 : IVec S_ 32 := constantI S_ 32 8192#32
  let main_v2 : IVec S6x4x448 32 := broadcastInDim S6x4x448 ![] bcast_S_S6x4x448 main_c_0
  let main_v3 : IVec S6x4x448 1 := cmpi .slt main_arg7 main_v2
  let main_v4 : IVec S6x4x448 1 := andi main_v1 main_v3
  main_v4
-- ==== Kernel.lean ====
abbrev S6x1x3584 : Shape := ⟨3, ![6, 1, 3584]⟩
abbrev S6x1x4x128 : Shape := ⟨4, ![6, 1, 4, 128]⟩
abbrev S6x65536x160 : Shape := ⟨3, ![6, 65536, 160]⟩
abbrev S6x160x512 : Shape := ⟨3, ![6, 160, 512]⟩
abbrev S6x65536x4x128 : Shape := ⟨4, ![6, 65536, 4, 128]⟩
abbrev S6x65536x4 : Shape := ⟨3, ![6, 65536, 4]⟩
abbrev S6x4x448 : Shape := ⟨3, ![6, 4, 448]⟩
abbrev S6 : Shape := ⟨1, ![6]⟩
abbrev S64 : Shape := ⟨1, ![64]⟩
abbrev S_ : Shape := ⟨0, ![]⟩
abbrev S64x1 : Shape := ⟨2, ![64, 1]⟩
abbrev S64x128 : Shape := ⟨2, ![64, 128]⟩
abbrev S128 : Shape := ⟨1, ![128]⟩
abbrev S1x128 : Shape := ⟨2, ![1, 128]⟩
abbrev S6x512x128x4 : Shape := ⟨4, ![6, 512, 128, 4]⟩
abbrev S6x512x4x128 : Shape := ⟨4, ![6, 512, 4, 128]⟩
abbrev S24x448 : Shape := ⟨2, ![24, 448]⟩
abbrev S6x3584 : Shape := ⟨2, ![6, 3584]⟩
abbrev S6x4x128 : Shape := ⟨3, ![6, 4, 128]⟩
abbrev S6x4x7x3585 : Shape := ⟨4, ![6, 4, 7, 3585]⟩
abbrev S1x160x128 : Shape := ⟨3, ![1, 160, 128]⟩
abbrev S1x512x4x128 : Shape := ⟨4, ![1, 512, 4, 128]⟩
abbrev S1x1x896 : Shape := ⟨3, ![1, 1, 896]⟩
abbrev S1x1x7x3585 : Shape := ⟨4, ![1, 1, 7, 3585]⟩
abbrev S1x1x4x128 : Shape := ⟨4, ![1, 1, 4, 128]⟩
abbrev S2x3584x160 : Shape := ⟨3, ![2, 3584, 160]⟩
abbrev S2x3584x4x128 : Shape := ⟨4, ![2, 3584, 4, 128]⟩
abbrev S28x24x128 : Shape := ⟨3, ![28, 24, 128]⟩
abbrev S28x8x128 : Shape := ⟨3, ![28, 8, 128]⟩
abbrev S28x1x128 : Shape := ⟨3, ![28, 1, 128]⟩
abbrev S28x6x128 : Shape := ⟨3, ![28, 6, 128]⟩
abbrev S2 : Shape := ⟨1, ![2]⟩
abbrev S1x1x1 : Shape := ⟨3, ![1, 1, 1]⟩
abbrev S1 : Shape := ⟨1, ![1]⟩
abbrev S1x8x160 : Shape := ⟨3, ![1, 8, 160]⟩
abbrev S8x160 : Shape := ⟨2, ![8, 160]⟩
abbrev S1x8x4x128 : Shape := ⟨4, ![1, 8, 4, 128]⟩
abbrev S8x4x128 : Shape := ⟨3, ![8, 4, 128]⟩
abbrev S64x512 : Shape := ⟨2, ![64, 512]⟩
abbrev S24x512 : Shape := ⟨2, ![24, 512]⟩
abbrev S24x64 : Shape := ⟨2, ![24, 64]⟩
abbrev S24x128 : Shape := ⟨2, ![24, 128]⟩
abbrev S1x24x128 : Shape := ⟨3, ![1, 24, 128]⟩
abbrev S6x128 : Shape := ⟨2, ![6, 128]⟩
abbrev S1x6x128 : Shape := ⟨3, ![1, 6, 128]⟩
abbrev S7x1x128 : Shape := ⟨3, ![7, 1, 128]⟩
abbrev S7x128 : Shape := ⟨2, ![7, 128]⟩
abbrev S8x128 : Shape := ⟨2, ![8, 128]⟩
abbrev S1x4x128 : Shape := ⟨3, ![1, 4, 128]⟩
abbrev S4x128 : Shape := ⟨2, ![4, 128]⟩
abbrev S8 : Shape := ⟨1, ![8]⟩
abbrev S8x1 : Shape := ⟨2, ![8, 1]⟩
abbrev S160x128 : Shape := ⟨2, ![160, 128]⟩
abbrev S1x1x1x128 : Shape := ⟨4, ![1, 1, 1, 128]⟩
abbrev S1x128x160 : Shape := ⟨3, ![1, 128, 160]⟩
abbrev S128x160 : Shape := ⟨2, ![128, 160]⟩
abbrev S128x128 : Shape := ⟨2, ![128, 128]⟩
abbrev S1x1x128 : Shape := ⟨3, ![1, 1, 128]⟩
abbrev S1x8x128 : Shape := ⟨3, ![1, 8, 128]⟩
abbrev S8x128x1 : Shape := ⟨3, ![8, 128, 1]⟩
abbrev S1x8x1 : Shape := ⟨3, ![1, 8, 1]⟩
abbrev S1x7x128 : Shape := ⟨3, ![1, 7, 128]⟩
abbrev S1x1x7x128 : Shape := ⟨4, ![1, 1, 7, 128]⟩
abbrev S7x1 : Shape := ⟨2, ![7, 1]⟩
abbrev S1x1x7x1 : Shape := ⟨4, ![1, 1, 7, 1]⟩
abbrev S1x3584x4x128 : Shape := ⟨4, ![1, 3584, 4, 128]⟩
abbrev S3584x4x128 : Shape := ⟨3, ![3584, 4, 128]⟩
abbrev S1x128x1x128 : Shape := ⟨4, ![1, 128, 1, 128]⟩

abbrev nBuf : Space → Nat
  | .hbm => 34
  | .vmem => 23
  | .smem => 3
  | _ => 0

abbrev bufTy : (tb : Table) → Fin (tcTables nBuf tb) → BufTy
  | .hbm, ⟨0, _⟩ => ⟨S6x1x3584, .bf16⟩
  | .hbm, ⟨1, _⟩ => ⟨S6x1x4x128, .bf16⟩
  | .hbm, ⟨2, _⟩ => ⟨S6x1x4x128, .bf16⟩
  | .hbm, ⟨3, _⟩ => ⟨S6x65536x160, .bf16⟩
  | .hbm, ⟨4, _⟩ => ⟨S6x160x512, .bf16⟩
  | .hbm, ⟨5, _⟩ => ⟨S6x65536x4x128, .fp8e4m3⟩
  | .hbm, ⟨6, _⟩ => ⟨S6x65536x4, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S64x128, .f32⟩
  | .hbm, ⟨23, _⟩ => ⟨S128, .f32⟩
  | .hbm, ⟨24, _⟩ => ⟨S1x128, .f32⟩
  | .hbm, ⟨25, _⟩ => ⟨S6x512x128x4, .f32⟩
  | .hbm, ⟨26, _⟩ => ⟨S6x512x4x128, .f32⟩
  | .hbm, ⟨27, _⟩ => ⟨S24x448, .i32⟩
  | .hbm, ⟨28, _⟩ => ⟨S6x3584, .bf16⟩
  | .hbm, ⟨29, _⟩ => ⟨S6x4x128, .bf16⟩
  | .hbm, ⟨30, _⟩ => ⟨S6x4x128, .bf16⟩
  | .hbm, ⟨31, _⟩ => ⟨S6x1x3584, .bf16⟩
  | .hbm, ⟨32, _⟩ => ⟨S6x4x7x3585, .f32⟩
  | .hbm, ⟨33, _⟩ => ⟨S6x1x4x128, .bf16⟩
  | .local _ .vmem, ⟨0, _⟩ => ⟨S24x448, .i32⟩
  | .local _ .vmem, ⟨1, _⟩ => ⟨S6x3584, .bf16⟩
  | .local _ .vmem, ⟨2, _⟩ => ⟨S6x4x128, .bf16⟩
  | .local _ .vmem, ⟨3, _⟩ => ⟨S6x4x128, .bf16⟩
  | .local _ .vmem, ⟨4, _⟩ => ⟨S1x160x128, .bf16⟩
  | .local _ .vmem, ⟨5, _⟩ => ⟨S1x160x128, .bf16⟩
  | .local _ .vmem, ⟨6, _⟩ => ⟨S1x512x4x128, .f32⟩
  | .local _ .vmem, ⟨7, _⟩ => ⟨S1x512x4x128, .f32⟩
  | .local _ .vmem, ⟨8, _⟩ => ⟨S64x128, .f32⟩
  | .local _ .vmem, ⟨9, _⟩ => ⟨S1x128, .f32⟩
  | .local _ .vmem, ⟨10, _⟩ => ⟨S1x1x896, .bf16⟩
  | .local _ .vmem, ⟨11, _⟩ => ⟨S1x1x896, .bf16⟩
  | .local _ .vmem, ⟨12, _⟩ => ⟨S1x1x7x3585, .f32⟩
  | .local _ .vmem, ⟨13, _⟩ => ⟨S1x1x7x3585, .f32⟩
  | .local _ .vmem, ⟨14, _⟩ => ⟨S1x1x4x128, .bf16⟩
  | .local _ .vmem, ⟨15, _⟩ => ⟨S1x1x4x128, .bf16⟩
  | .local _ .vmem, ⟨16, _⟩ => ⟨S2x3584x160, .bf16⟩
  | .local _ .vmem, ⟨17, _⟩ => ⟨S2x3584x4x128, .fp8e4m3⟩
  | .local _ .vmem, ⟨18, _⟩ => ⟨S28x24x128, .i32⟩
  | .local _ .vmem, ⟨19, _⟩ => ⟨S28x8x128, .f32⟩
  | .local _ .vmem, ⟨20, _⟩ => ⟨S64x128, .f32⟩
  | .local _ .vmem, ⟨21, _⟩ => ⟨S28x1x128, .f32⟩
  | .local _ .vmem, ⟨22, _⟩ => ⟨S28x6x128, .f32⟩
  | .local _ .smem, ⟨0, _⟩ => ⟨S6x4x448, .i32⟩
  | .local _ .smem, ⟨1, _⟩ => ⟨S6, .i32⟩
  | .local _ .smem, ⟨2, _⟩ => ⟨S6, .i32⟩
  | _, _ => ⟨S6x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_arg7 : Ref sig .tc := ⟨.smem, 0, rfl⟩
abbrev main_arg8 : Ref sig .tc := ⟨.smem, 1, rfl⟩
abbrev main_arg9 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![24], ![false]⟩

abbrev pre0 : Pipeline.Prefetch sig := ⟨3, ![main_arg7.idx, main_arg8.idx, main_arg9.idx], fun | 0 => main_arg7.names | 1 => main_arg8.names | 2 => main_arg9.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_cond1 (i : grid0.Coords) : BitVec 1 :=
  let arg0 : BitVec 32 := BitVec.ofNat 32 (i 0).val
  let c0_i32_15 : BitVec 32 := 0#32
  let v37 : BitVec 1 := Scalar.cmpi .eq arg0 c0_i32_15
  let v38 : BitVec 32 := Scalar.extui v37
  let c0_i32_16 : BitVec 32 := 0#32
  let v39 : BitVec 1 := Scalar.cmpi .ne v38 c0_i32_16
  v39

@[reducible] def k0_t1_loop : Scf.Loop 32 :=
  let c0_i32_180 : BitVec 32 := 0#32
  let c7_i32_181 : BitVec 32 := 7#32
  let v328 : BitVec 32 := Scalar.addi c0_i32_180 c7_i32_181
  let c1_i32_182 : BitVec 32 := 1#32
  ⟨c0_i32_180, v328, c1_i32_182⟩
@[reducible] def k0_t2_loop : Scf.Loop 32 :=
  let c0_i32_373 : BitVec 32 := 0#32
  let c64_i32_374 : BitVec 32 := 64#32
  let v720 : BitVec 32 := Scalar.addi c0_i32_373 c64_i32_374
  let c1_i32_375 : BitVec 32 := 1#32
  ⟨c0_i32_373, v720, c1_i32_375⟩
def k0_off1 (k0_t1 : Fin k0_t1_loop.trips) (k0_t2 : Fin k0_t2_loop.trips) : Fin 3 → Nat :=
  let c0_379 : Index := 0#32
  let c0_380 : Index := 0#32
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v723 : BitVec 32 := Scalar.addi v719 v722
  let v724 : Index := Scalar.indexCast v723
  ![0, 0, v724.toNat]
def k0_mult1 (k0_t1 : Fin k0_t1_loop.trips) (k0_t2 : Fin k0_t2_loop.trips) (v725 : BitVec 32) : BitVec 32 :=
  let c0_i32_381 : BitVec 32 := 0#32
  let v726 : BitVec 1 := Scalar.cmpi .sge v725 c0_i32_381
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v727 : BitVec 32 := Scalar.addi v719 v722
  let v728 : BitVec 32 := Scalar.select v726 v725 v727
  let c8_i32_382 : BitVec 32 := 8#32
  let v729 : BitVec 32 := Scalar.muli v728 c8_i32_382
  v729

def k0_mult2 (k0_t1 : Fin k0_t1_loop.trips) (k0_t2 : Fin k0_t2_loop.trips) : BitVec 32 :=
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v731 : BitVec 32 := Scalar.addi v719 v722
  let c8_i32_383 : BitVec 32 := 8#32
  let v732 : BitVec 32 := Scalar.muli v731 c8_i32_383
  v732
def k0_off2 (k0_t1 : Fin k0_t1_loop.trips) (k0_t2 : Fin k0_t2_loop.trips) : Fin 3 → Nat :=
  let c0_i32_385 : BitVec 32 := 0#32
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v731 : BitVec 32 := Scalar.addi v719 v722
  let c8_i32_383 : BitVec 32 := 8#32
  let v732 : BitVec 32 := Scalar.muli v731 c8_i32_383
  let v733 : BitVec 32 := v732
  let c0_i32_387 : BitVec 32 := 0#32
  ![0, v733.toNat, 0]
def k0_off3 (k0_t1 : Fin k0_t1_loop.trips) (k0_t2 : Fin k0_t2_loop.trips) (v725 : BitVec 32) : Fin 3 → Nat :=
  let c0_i32_384 : BitVec 32 := 0#32
  let c0_i32_381 : BitVec 32 := 0#32
  let v726 : BitVec 1 := Scalar.cmpi .sge v725 c0_i32_381
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v727 : BitVec 32 := Scalar.addi v719 v722
  let v728 : BitVec 32 := Scalar.select v726 v725 v727
  let c8_i32_382 : BitVec 32 := 8#32
  let v729 : BitVec 32 := Scalar.muli v728 c8_i32_382
  let v730 : BitVec 32 := v729
  let c0_i32_388 : BitVec 32 := 0#32
  ![0, v730.toNat, 0]
def k0_off4 (k0_t1 : Fin k0_t1_loop.trips) (k0_t2 : Fin k0_t2_loop.trips) : Fin 4 → Nat :=
  let c0_i32_390 : BitVec 32 := 0#32
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v731 : BitVec 32 := Scalar.addi v719 v722
  let c8_i32_383 : BitVec 32 := 8#32
  let v732 : BitVec 32 := Scalar.muli v731 c8_i32_383
  let v733 : BitVec 32 := v732
  let c0_i32_392 : BitVec 32 := 0#32
  let c0_i32_393 : BitVec 32 := 0#32
  ![0, v733.toNat, 0, 0]
def k0_off5 (k0_t1 : Fin k0_t1_loop.trips) (k0_t2 : Fin k0_t2_loop.trips) (v725 : BitVec 32) : Fin 4 → Nat :=
  let c0_i32_389 : BitVec 32 := 0#32
  let c0_i32_381 : BitVec 32 := 0#32
  let v726 : BitVec 1 := Scalar.cmpi .sge v725 c0_i32_381
  let c0_i32_371 : BitVec 32 := 0#32
  let c0_i32_180 : BitVec 32 := 0#32
  let c1_i32_182 : BitVec 32 := 1#32
  let arg26 : BitVec 32 := Scf.iv c0_i32_180 c1_i32_182 k0_t1
  let c1_i32_370 : BitVec 32 := 1#32
  let v717 : BitVec 32 := Scalar.muli arg26 c1_i32_370
  let v718 : BitVec 32 := Scalar.addi c0_i32_371 v717
  let c64_i32_372 : BitVec 32 := 64#32
  let v719 : BitVec 32 := Scalar.muli v718 c64_i32_372
  let c0_i32_378 : BitVec 32 := 0#32
  let c0_i32_373 : BitVec 32 := 0#32
  let c1_i32_375 : BitVec 32 := 1#32
  let arg27 : BitVec 32 := Scf.iv c0_i32_373 c1_i32_375 k0_t2
  let c1_i32_377 : BitVec 32 := 1#32
  let v721 : BitVec 32 := Scalar.muli arg27 c1_i32_377
  let v722 : BitVec 32 := Scalar.addi c0_i32_378 v721
  let v727 : BitVec 32 := Scalar.addi v719 v722
  let v728 : BitVec 32 := Scalar.select v726 v725 v727
  let c8_i32_382 : BitVec 32 := 8#32
  let v729 : BitVec 32 := Scalar.muli v728 c8_i32_382
  let v730 : BitVec 32 := v729
  let c0_i32_394 : BitVec 32 := 0#32
  let c0_i32_395 : BitVec 32 := 0#32
  ![0, v730.toNat, 0, 0]

def k0_chk1 (i : grid0.Coords) (k0_t1 : Fin k0_t1_loop.trips) (k0_t2 : Fin k0_t2_loop.trips) (v725 : BitVec 32) : Prop :=
  (∀ (k0_h1 : k0_cond1 i = 1#1), 8 ∣ (k0_mult1 k0_t1 k0_t2 v725).toNat) ∧
  (∀ (k0_h1 : k0_cond1 i = 1#1), ∀ a, (k0_off3 k0_t1 k0_t2 v725) a + S1x8x160.size a ≤ S6x65536x160.size a) ∧
  (∀ (k0_h1 : k0_cond1 i = 1#1), ∀ (hinb : ∀ a, (k0_off3 k0_t1 k0_t2 v725) a + S1x8x160.size a ≤ S6x65536x160.size a), (Rect.unit (s := S6x65536x160) (k0_off3 k0_t1 k0_t2 v725) S1x8x160.size hinb).WholeWords (EltTy.packing .bf16)) ∧
  (∀ (k0_h1 : k0_cond1 i = 1#1), ∀ a, (k0_off5 k0_t1 k0_t2 v725) a + S1x8x4x128.size a ≤ S6x65536x4x128.size a) ∧
  (∀ (k0_h1 : k0_cond1 i = 1#1), ∀ (hinb : ∀ a, (k0_off5 k0_t1 k0_t2 v725) a + S1x8x4x128.size a ≤ S6x65536x4x128.size a), (Rect.unit (s := S6x65536x4x128) (k0_off5 k0_t1 k0_t2 v725) S1x8x4x128.size hinb).WholeWords (EltTy.packing .fp8e4m3))
theorem k0_mult1_dvd : ∀ (i : grid0.Coords) (k0_t1 : Fin k0_t1_loop.trips) (k0_t2 : Fin k0_t2_loop.trips) (v725 : BitVec 32) (k0_hw1 : k0_chk1 i k0_t1 k0_t2 v725), ∀ (k0_h1 : k0_cond1 i = 1#1), 8 ∣ (k0_mult1 k0_t1 k0_t2 v725).toNat := fun i k0_t1 k0_t2 v725 k0_hw1 k0_h1 => k0_hw1.1 k0_h1
theorem k0_off3_inb : ∀ (i : grid0.Coords) (k0_t1 : Fin k0_t1_loop.trips) (k0_t2 : Fin k0_t2_loop.trips) (v725 : BitVec 32) (k0_hw1 : k0_chk1 i k0_t1 k0_t2 v725), ∀ (k0_h1 : k0_cond1 i = 1#1), ∀ a, (k0_off3 k0_t1 k0_t2 v725) a + S1x8x160.size a ≤ S6x65536x160.size a := fun i k0_t1 k0_t2 v725 k0_hw1 k0_h1 => k0_hw1.2.1 k0_h1
theorem k0_off3_wordsbf16 : ∀ (i : grid0.Coords) (k0_t1 : Fin k0_t1_loop.trips) (k0_t2 : Fin k0_t2_loop.trips) (v725 : BitVec 32) (k0_hw1 : k0_chk1 i k0_t1 k0_t2 v725), ∀ (k0_h1 : k0_cond1 i = 1#1), (Rect.unit (s := S6x65536x160) (k0_off3 k0_t1 k0_t2 v725) S1x8x160.size (k0_off3_inb i k0_t1 k0_t2 v725 k0_hw1 k0_h1)).WholeWords (EltTy.packing .bf16) := fun i k0_t1 k0_t2 v725 k0_hw1 k0_h1 => k0_hw1.2.2.1 k0_h1 (k0_off3_inb i k0_t1 k0_t2 v725 k0_hw1 k0_h1)
theorem k0_off5_inb : ∀ (i : grid0.Coords) (k0_t1 : Fin k0_t1_loop.trips) (k0_t2 : Fin k0_t2_loop.trips) (v725 : BitVec 32) (k0_hw1 : k0_chk1 i k0_t1 k0_t2 v725), ∀ (k0_h1 : k0_cond1 i = 1#1), ∀ a, (k0_off5 k0_t1 k0_t2 v725) a + S1x8x4x128.size a ≤ S6x65536x4x128.size a := fun i k0_t1 k0_t2 v725 k0_hw1 k0_h1 => k0_hw1.2.2.2.1 k0_h1
theorem k0_off5_wordsfp8e4m3 : ∀ (i : grid0.Coords) (k0_t1 : Fin k0_t1_loop.trips) (k0_t2 : Fin k0_t2_loop.trips) (v725 : BitVec 32) (k0_hw1 : k0_chk1 i k0_t1 k0_t2 v725), ∀ (k0_h1 : k0_cond1 i = 1#1), (Rect.unit (s := S6x65536x4x128) (k0_off5 k0_t1 k0_t2 v725) S1x8x4x128.size (k0_off5_inb i k0_t1 k0_t2 v725 k0_hw1 k0_h1)).WholeWords (EltTy.packing .fp8e4m3) := fun i k0_t1 k0_t2 v725 k0_hw1 k0_h1 => k0_hw1.2.2.2.2 k0_h1 (k0_off5_inb i k0_t1 k0_t2 v725 k0_hw1 k0_h1)

def k0_off6 (i : grid0.Coords) : Fin 1 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v40 : Index := Scalar.indexCast v16
  ![v40.toNat]
def k0_off7 (i : grid0.Coords) : Fin 3 → Nat :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c7_i32 : BitVec 32 := 7#32
  let v58 : BitVec 32 := Scalar.muli v26 c7_i32
  let v59 : Index := Scalar.indexCast v58
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v60 : Index := Scalar.indexCast v16
  let c0_18 : Index := 0#32
  ![v59.toNat, v60.toNat, 0]
def k0_off8 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v72 : Index := Scalar.indexCast v16
  let c0_21 : Index := 0#32
  let c0_22 : Index := 0#32
  ![v72.toNat, 0, 0]
@[reducible] def k0_t3_loop : Scf.Loop 32 :=
  let c0_i32_32 : BitVec 32 := 0#32
  let c448_i32 : BitVec 32 := 448#32
  let v101 : BitVec 32 := Scalar.addi c0_i32_32 c448_i32
  let c1_i32_33 : BitVec 32 := 1#32
  ⟨c0_i32_32, v101, c1_i32_33⟩
def k0_mult3 (k0_t3 : Fin k0_t3_loop.trips) : BitVec 32 :=
  let c0_i32_181 : BitVec 32 := 0#32
  let c0_i32_32 : BitVec 32 := 0#32
  let c1_i32_33 : BitVec 32 := 1#32
  let arg26 : BitVec 32 := Scf.iv c0_i32_32 c1_i32_33 k0_t3
  let c1_i32_180 : BitVec 32 := 1#32
  let v328 : BitVec 32 := Scalar.muli arg26 c1_i32_180
  let v329 : BitVec 32 := Scalar.addi c0_i32_181 v328
  let c8_i32 : BitVec 32 := 8#32
  let v330 : BitVec 32 := Scalar.muli v329 c8_i32
  v330
def k0_off9 (i : grid0.Coords) : Fin 1 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off10 (i : grid0.Coords) (k0_t3 : Fin k0_t3_loop.trips) : Fin 3 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_181 : BitVec 32 := 0#32
  let c0_i32_32 : BitVec 32 := 0#32
  let c1_i32_33 : BitVec 32 := 1#32
  let arg26 : BitVec 32 := Scf.iv c0_i32_32 c1_i32_33 k0_t3
  let c1_i32_180 : BitVec 32 := 1#32
  let v328 : BitVec 32 := Scalar.muli arg26 c1_i32_180
  let v329 : BitVec 32 := Scalar.addi c0_i32_181 v328
  let c8_i32 : BitVec 32 := 8#32
  let v330 : BitVec 32 := Scalar.muli v329 c8_i32
  let v331 : BitVec 32 := v330
  let c0_i32_183 : BitVec 32 := 0#32
  ![v36.toNat, v331.toNat, 0]
@[reducible] def k0_t4_loop : Scf.Loop 32 :=
  let c0_i32_38 : BitVec 32 := 0#32
  let c7_i32_39 : BitVec 32 := 7#32
  let v106 : BitVec 32 := Scalar.addi c0_i32_38 c7_i32_39
  let c1_i32_40 : BitVec 32 := 1#32
  ⟨c0_i32_38, v106, c1_i32_40⟩
def k0_cond2 (i : grid0.Coords) : BitVec 1 :=
  let arg0 : BitVec 32 := BitVec.ofNat 32 (i 0).val
  let c1_i32_182 : BitVec 32 := 1#32
  let v330 : BitVec 32 := Scalar.addi arg0 c1_i32_182
  let c24_i32 : BitVec 32 := 24#32
  let v331 : BitVec 1 := Scalar.cmpi .slt v330 c24_i32
  let v332 : BitVec 32 := Scalar.extui v331
  let c0_i32_183 : BitVec 32 := 0#32
  let v333 : BitVec 1 := Scalar.cmpi .ne v332 c0_i32_183
  v333

@[reducible] def k0_t5_loop : Scf.Loop 32 :=
  let c0_i32_209 : BitVec 32 := 0#32
  let c64_i32_210 : BitVec 32 := 64#32
  let v367 : BitVec 32 := Scalar.addi c0_i32_209 c64_i32_210
  let c1_i32_211 : BitVec 32 := 1#32
  ⟨c0_i32_209, v367, c1_i32_211⟩
def k0_off11 (i : grid0.Coords) (k0_t4 : Fin k0_t4_loop.trips) (k0_t5 : Fin k0_t5_loop.trips) : Fin 3 → Nat :=
  let arg0 : BitVec 32 := BitVec.ofNat 32 (i 0).val
  let c1_i32_193 : BitVec 32 := 1#32
  let v337 : BitVec 32 := Scalar.addi arg0 c1_i32_193
  let c0_i32_196 : BitVec 32 := 0#32
  let v340 : BitVec 1 := Scalar.cmpi .sgt v337 c0_i32_196
  let v341 : BitVec 32 := Scalar.extui v340
  let c0_i32_197 : BitVec 32 := 0#32
  let v342 : BitVec 1 := Scalar.cmpi .slt v337 c0_i32_197
  let v343 : BitVec 32 := Scalar.extui v342
  let v344 : BitVec 32 := Scalar.subi v341 v343
  let c4_i32_195 : BitVec 32 := 4#32
  let c0_i32_198 : BitVec 32 := 0#32
  let v345 : BitVec 1 := Scalar.cmpi .sgt c4_i32_195 c0_i32_198
  let v346 : BitVec 32 := Scalar.extui v345
  let c0_i32_199 : BitVec 32 := 0#32
  let v347 : BitVec 1 := Scalar.cmpi .slt c4_i32_195 c0_i32_199
  let v348 : BitVec 32 := Scalar.extui v347
  let v349 : BitVec 32 := Scalar.subi v346 v348
  let v350 : BitVec 1 := Scalar.cmpi .ne v344 v349
  let v351 : BitVec 32 := Scalar.remsi v337 c4_i32_195
  let c0_i32_200 : BitVec 32 := 0#32
  let v352 : BitVec 1 := Scalar.cmpi .ne v351 c0_i32_200
  let v353 : BitVec 1 := Scalar.andi v350 v352
  let v339 : BitVec 32 := Scalar.divsi v337 c4_i32_195
  let c1_i32_201 : BitVec 32 := 1#32
  let v354 : BitVec 32 := Scalar.subi v339 c1_i32_201
  let v355 : BitVec 32 := Scalar.select v353 v354 v339
  let v371 : Index := Scalar.indexCast v355
  let c4_i32_202 : BitVec 32 := 4#32
  let c0_i32_203 : BitVec 32 := 0#32
  let v356 : BitVec 1 := Scalar.cmpi .eq c4_i32_202 c0_i32_203
  let c1_i32_204 : BitVec 32 := 1#32
  let v357 : BitVec 32 := Scalar.select v356 c1_i32_204 c4_i32_202
  let v358 : BitVec 32 := Scalar.remsi v337 v357
  let c0_i32_206 : BitVec 32 := 0#32
  let v360 : BitVec 1 := Scalar.cmpi .slt v358 c0_i32_206
  let c0_i32_207 : BitVec 32 := 0#32
  let v361 : BitVec 1 := Scalar.cmpi .slt v357 c0_i32_207
  let v362 : BitVec 1 := Scalar.xori v360 v361
  let c0_i32_205 : BitVec 32 := 0#32
  let v359 : BitVec 1 := Scalar.cmpi .ne v358 c0_i32_205
  let v363 : BitVec 1 := Scalar.andi v362 v359
  let v364 : BitVec 32 := Scalar.addi v358 v357
  let v365 : BitVec 32 := Scalar.select v363 v364 v358
  let v372 : Index := Scalar.indexCast v365
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v370 : BitVec 32 := Scalar.addi v366 v369
  let v373 : Index := Scalar.indexCast v370
  ![v371.toNat, v372.toNat, v373.toNat]
def k0_mult4 (k0_t4 : Fin k0_t4_loop.trips) (k0_t5 : Fin k0_t5_loop.trips) (v374 : BitVec 32) : BitVec 32 :=
  let c0_i32_215 : BitVec 32 := 0#32
  let v375 : BitVec 1 := Scalar.cmpi .sge v374 c0_i32_215
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v376 : BitVec 32 := Scalar.addi v366 v369
  let v377 : BitVec 32 := Scalar.select v375 v374 v376
  let c8_i32 : BitVec 32 := 8#32
  let v378 : BitVec 32 := Scalar.muli v377 c8_i32
  v378

def k0_mult5 (k0_t4 : Fin k0_t4_loop.trips) (k0_t5 : Fin k0_t5_loop.trips) : BitVec 32 :=
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v380 : BitVec 32 := Scalar.addi v366 v369
  let c8_i32_216 : BitVec 32 := 8#32
  let v381 : BitVec 32 := Scalar.muli v380 c8_i32_216
  v381
def k0_off12 (i : grid0.Coords) : Fin 1 → Nat :=
  let c1_i32_194 : BitVec 32 := 1#32
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v338 : BitVec 32 := Scalar.subi c1_i32_194 v36
  ![v338.toNat]
def k0_off13 (i : grid0.Coords) (k0_t4 : Fin k0_t4_loop.trips) (k0_t5 : Fin k0_t5_loop.trips) : Fin 3 → Nat :=
  let c1_i32_194 : BitVec 32 := 1#32
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v338 : BitVec 32 := Scalar.subi c1_i32_194 v36
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v380 : BitVec 32 := Scalar.addi v366 v369
  let c8_i32_216 : BitVec 32 := 8#32
  let v381 : BitVec 32 := Scalar.muli v380 c8_i32_216
  let v382 : BitVec 32 := v381
  let c0_i32_217 : BitVec 32 := 0#32
  ![v338.toNat, v382.toNat, 0]
def k0_off14 (i : grid0.Coords) (k0_t4 : Fin k0_t4_loop.trips) (k0_t5 : Fin k0_t5_loop.trips) (v374 : BitVec 32) : Fin 3 → Nat :=
  let arg0 : BitVec 32 := BitVec.ofNat 32 (i 0).val
  let c1_i32_193 : BitVec 32 := 1#32
  let v337 : BitVec 32 := Scalar.addi arg0 c1_i32_193
  let c0_i32_196 : BitVec 32 := 0#32
  let v340 : BitVec 1 := Scalar.cmpi .sgt v337 c0_i32_196
  let v341 : BitVec 32 := Scalar.extui v340
  let c0_i32_197 : BitVec 32 := 0#32
  let v342 : BitVec 1 := Scalar.cmpi .slt v337 c0_i32_197
  let v343 : BitVec 32 := Scalar.extui v342
  let v344 : BitVec 32 := Scalar.subi v341 v343
  let c4_i32_195 : BitVec 32 := 4#32
  let c0_i32_198 : BitVec 32 := 0#32
  let v345 : BitVec 1 := Scalar.cmpi .sgt c4_i32_195 c0_i32_198
  let v346 : BitVec 32 := Scalar.extui v345
  let c0_i32_199 : BitVec 32 := 0#32
  let v347 : BitVec 1 := Scalar.cmpi .slt c4_i32_195 c0_i32_199
  let v348 : BitVec 32 := Scalar.extui v347
  let v349 : BitVec 32 := Scalar.subi v346 v348
  let v350 : BitVec 1 := Scalar.cmpi .ne v344 v349
  let v351 : BitVec 32 := Scalar.remsi v337 c4_i32_195
  let c0_i32_200 : BitVec 32 := 0#32
  let v352 : BitVec 1 := Scalar.cmpi .ne v351 c0_i32_200
  let v353 : BitVec 1 := Scalar.andi v350 v352
  let v339 : BitVec 32 := Scalar.divsi v337 c4_i32_195
  let c1_i32_201 : BitVec 32 := 1#32
  let v354 : BitVec 32 := Scalar.subi v339 c1_i32_201
  let v355 : BitVec 32 := Scalar.select v353 v354 v339
  let c0_i32_215 : BitVec 32 := 0#32
  let v375 : BitVec 1 := Scalar.cmpi .sge v374 c0_i32_215
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v376 : BitVec 32 := Scalar.addi v366 v369
  let v377 : BitVec 32 := Scalar.select v375 v374 v376
  let c8_i32 : BitVec 32 := 8#32
  let v378 : BitVec 32 := Scalar.muli v377 c8_i32
  let v379 : BitVec 32 := v378
  let c0_i32_218 : BitVec 32 := 0#32
  ![v355.toNat, v379.toNat, 0]
def k0_off15 (i : grid0.Coords) (k0_t4 : Fin k0_t4_loop.trips) (k0_t5 : Fin k0_t5_loop.trips) : Fin 4 → Nat :=
  let c1_i32_194 : BitVec 32 := 1#32
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v338 : BitVec 32 := Scalar.subi c1_i32_194 v36
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v380 : BitVec 32 := Scalar.addi v366 v369
  let c8_i32_216 : BitVec 32 := 8#32
  let v381 : BitVec 32 := Scalar.muli v380 c8_i32_216
  let v382 : BitVec 32 := v381
  let c0_i32_219 : BitVec 32 := 0#32
  let c0_i32_220 : BitVec 32 := 0#32
  ![v338.toNat, v382.toNat, 0, 0]
def k0_off16 (i : grid0.Coords) (k0_t4 : Fin k0_t4_loop.trips) (k0_t5 : Fin k0_t5_loop.trips) (v374 : BitVec 32) : Fin 4 → Nat :=
  let arg0 : BitVec 32 := BitVec.ofNat 32 (i 0).val
  let c1_i32_193 : BitVec 32 := 1#32
  let v337 : BitVec 32 := Scalar.addi arg0 c1_i32_193
  let c0_i32_196 : BitVec 32 := 0#32
  let v340 : BitVec 1 := Scalar.cmpi .sgt v337 c0_i32_196
  let v341 : BitVec 32 := Scalar.extui v340
  let c0_i32_197 : BitVec 32 := 0#32
  let v342 : BitVec 1 := Scalar.cmpi .slt v337 c0_i32_197
  let v343 : BitVec 32 := Scalar.extui v342
  let v344 : BitVec 32 := Scalar.subi v341 v343
  let c4_i32_195 : BitVec 32 := 4#32
  let c0_i32_198 : BitVec 32 := 0#32
  let v345 : BitVec 1 := Scalar.cmpi .sgt c4_i32_195 c0_i32_198
  let v346 : BitVec 32 := Scalar.extui v345
  let c0_i32_199 : BitVec 32 := 0#32
  let v347 : BitVec 1 := Scalar.cmpi .slt c4_i32_195 c0_i32_199
  let v348 : BitVec 32 := Scalar.extui v347
  let v349 : BitVec 32 := Scalar.subi v346 v348
  let v350 : BitVec 1 := Scalar.cmpi .ne v344 v349
  let v351 : BitVec 32 := Scalar.remsi v337 c4_i32_195
  let c0_i32_200 : BitVec 32 := 0#32
  let v352 : BitVec 1 := Scalar.cmpi .ne v351 c0_i32_200
  let v353 : BitVec 1 := Scalar.andi v350 v352
  let v339 : BitVec 32 := Scalar.divsi v337 c4_i32_195
  let c1_i32_201 : BitVec 32 := 1#32
  let v354 : BitVec 32 := Scalar.subi v339 c1_i32_201
  let v355 : BitVec 32 := Scalar.select v353 v354 v339
  let c0_i32_215 : BitVec 32 := 0#32
  let v375 : BitVec 1 := Scalar.cmpi .sge v374 c0_i32_215
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_208 : BitVec 32 := 64#32
  let v366 : BitVec 32 := Scalar.muli v329 c64_i32_208
  let c0_i32_214 : BitVec 32 := 0#32
  let c0_i32_209 : BitVec 32 := 0#32
  let c1_i32_211 : BitVec 32 := 1#32
  let arg27 : BitVec 32 := Scf.iv c0_i32_209 c1_i32_211 k0_t5
  let c1_i32_213 : BitVec 32 := 1#32
  let v368 : BitVec 32 := Scalar.muli arg27 c1_i32_213
  let v369 : BitVec 32 := Scalar.addi c0_i32_214 v368
  let v376 : BitVec 32 := Scalar.addi v366 v369
  let v377 : BitVec 32 := Scalar.select v375 v374 v376
  let c8_i32 : BitVec 32 := 8#32
  let v378 : BitVec 32 := Scalar.muli v377 c8_i32
  let v379 : BitVec 32 := v378
  let c0_i32_221 : BitVec 32 := 0#32
  let c0_i32_222 : BitVec 32 := 0#32
  ![v355.toNat, v379.toNat, 0, 0]

def k0_chk2 (i : grid0.Coords) (k0_t4 : Fin k0_t4_loop.trips) (k0_t5 : Fin k0_t5_loop.trips) (v374 : BitVec 32) : Prop :=
  (∀ (k0_h2 : k0_cond2 i = 1#1), 8 ∣ (k0_mult4 k0_t4 k0_t5 v374).toNat) ∧
  (∀ (k0_h2 : k0_cond2 i = 1#1), ∀ a, (k0_off14 i k0_t4 k0_t5 v374) a + S1x8x160.size a ≤ S6x65536x160.size a) ∧
  (∀ (k0_h2 : k0_cond2 i = 1#1), ∀ (hinb : ∀ a, (k0_off14 i k0_t4 k0_t5 v374) a + S1x8x160.size a ≤ S6x65536x160.size a), (Rect.unit (s := S6x65536x160) (k0_off14 i k0_t4 k0_t5 v374) S1x8x160.size hinb).WholeWords (EltTy.packing .bf16)) ∧
  (∀ (k0_h2 : k0_cond2 i = 1#1), ∀ a, (k0_off16 i k0_t4 k0_t5 v374) a + S1x8x4x128.size a ≤ S6x65536x4x128.size a) ∧
  (∀ (k0_h2 : k0_cond2 i = 1#1), ∀ (hinb : ∀ a, (k0_off16 i k0_t4 k0_t5 v374) a + S1x8x4x128.size a ≤ S6x65536x4x128.size a), (Rect.unit (s := S6x65536x4x128) (k0_off16 i k0_t4 k0_t5 v374) S1x8x4x128.size hinb).WholeWords (EltTy.packing .fp8e4m3))
theorem k0_mult4_dvd : ∀ (i : grid0.Coords) (k0_t4 : Fin k0_t4_loop.trips) (k0_t5 : Fin k0_t5_loop.trips) (v374 : BitVec 32) (k0_hw2 : k0_chk2 i k0_t4 k0_t5 v374), ∀ (k0_h2 : k0_cond2 i = 1#1), 8 ∣ (k0_mult4 k0_t4 k0_t5 v374).toNat := fun i k0_t4 k0_t5 v374 k0_hw2 k0_h2 => k0_hw2.1 k0_h2
theorem k0_off14_inb : ∀ (i : grid0.Coords) (k0_t4 : Fin k0_t4_loop.trips) (k0_t5 : Fin k0_t5_loop.trips) (v374 : BitVec 32) (k0_hw2 : k0_chk2 i k0_t4 k0_t5 v374), ∀ (k0_h2 : k0_cond2 i = 1#1), ∀ a, (k0_off14 i k0_t4 k0_t5 v374) a + S1x8x160.size a ≤ S6x65536x160.size a := fun i k0_t4 k0_t5 v374 k0_hw2 k0_h2 => k0_hw2.2.1 k0_h2
theorem k0_off14_wordsbf16 : ∀ (i : grid0.Coords) (k0_t4 : Fin k0_t4_loop.trips) (k0_t5 : Fin k0_t5_loop.trips) (v374 : BitVec 32) (k0_hw2 : k0_chk2 i k0_t4 k0_t5 v374), ∀ (k0_h2 : k0_cond2 i = 1#1), (Rect.unit (s := S6x65536x160) (k0_off14 i k0_t4 k0_t5 v374) S1x8x160.size (k0_off14_inb i k0_t4 k0_t5 v374 k0_hw2 k0_h2)).WholeWords (EltTy.packing .bf16) := fun i k0_t4 k0_t5 v374 k0_hw2 k0_h2 => k0_hw2.2.2.1 k0_h2 (k0_off14_inb i k0_t4 k0_t5 v374 k0_hw2 k0_h2)
theorem k0_off16_inb : ∀ (i : grid0.Coords) (k0_t4 : Fin k0_t4_loop.trips) (k0_t5 : Fin k0_t5_loop.trips) (v374 : BitVec 32) (k0_hw2 : k0_chk2 i k0_t4 k0_t5 v374), ∀ (k0_h2 : k0_cond2 i = 1#1), ∀ a, (k0_off16 i k0_t4 k0_t5 v374) a + S1x8x4x128.size a ≤ S6x65536x4x128.size a := fun i k0_t4 k0_t5 v374 k0_hw2 k0_h2 => k0_hw2.2.2.2.1 k0_h2
theorem k0_off16_wordsfp8e4m3 : ∀ (i : grid0.Coords) (k0_t4 : Fin k0_t4_loop.trips) (k0_t5 : Fin k0_t5_loop.trips) (v374 : BitVec 32) (k0_hw2 : k0_chk2 i k0_t4 k0_t5 v374), ∀ (k0_h2 : k0_cond2 i = 1#1), (Rect.unit (s := S6x65536x4x128) (k0_off16 i k0_t4 k0_t5 v374) S1x8x4x128.size (k0_off16_inb i k0_t4 k0_t5 v374 k0_hw2 k0_h2)).WholeWords (EltTy.packing .fp8e4m3) := fun i k0_t4 k0_t5 v374 k0_hw2 k0_h2 => k0_hw2.2.2.2.2 k0_h2 (k0_off16_inb i k0_t4 k0_t5 v374 k0_hw2 k0_h2)

@[reducible] def k0_t6_loop : Scf.Loop 32 :=
  let c0_i32_185 : BitVec 32 := 0#32
  let c64_i32_186 : BitVec 32 := 64#32
  let v335 : BitVec 32 := Scalar.addi c0_i32_185 c64_i32_186
  let c1_i32_187 : BitVec 32 := 1#32
  ⟨c0_i32_185, v335, c1_i32_187⟩
def k0_off17 (i : grid0.Coords) (k0_t4 : Fin k0_t4_loop.trips) (k0_t6 : Fin k0_t6_loop.trips) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v340 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v341 : Index := Scalar.indexCast v26
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c64_i32_184 : BitVec 32 := 64#32
  let v334 : BitVec 32 := Scalar.muli v329 c64_i32_184
  let c0_i32_194 : BitVec 32 := 0#32
  let c0_i32_185 : BitVec 32 := 0#32
  let c1_i32_187 : BitVec 32 := 1#32
  let arg27 : BitVec 32 := Scf.iv c0_i32_185 c1_i32_187 k0_t6
  let c1_i32_193 : BitVec 32 := 1#32
  let v337 : BitVec 32 := Scalar.muli arg27 c1_i32_193
  let v338 : BitVec 32 := Scalar.addi c0_i32_194 v337
  let v339 : BitVec 32 := Scalar.addi v334 v338
  let v342 : Index := Scalar.indexCast v339
  ![v340.toNat, v341.toNat, v342.toNat]
def k0_off18 (i : grid0.Coords) (v343 : BitVec 32) : Fin 4 → Nat :=
  let c0_202 : Index := 0#32
  let c0_i32_195 : BitVec 32 := 0#32
  let v344 : BitVec 32 := Scalar.maxsi v343 c0_i32_195
  let c0_i32_196 : BitVec 32 := 0#32
  let v346 : BitVec 1 := Scalar.cmpi .sgt v344 c0_i32_196
  let v347 : BitVec 32 := Scalar.extui v346
  let c0_i32_197 : BitVec 32 := 0#32
  let v348 : BitVec 1 := Scalar.cmpi .slt v344 c0_i32_197
  let v349 : BitVec 32 := Scalar.extui v348
  let v350 : BitVec 32 := Scalar.subi v347 v349
  let c16_i32 : BitVec 32 := 16#32
  let c0_i32_198 : BitVec 32 := 0#32
  let v351 : BitVec 1 := Scalar.cmpi .sgt c16_i32 c0_i32_198
  let v352 : BitVec 32 := Scalar.extui v351
  let c0_i32_199 : BitVec 32 := 0#32
  let v353 : BitVec 1 := Scalar.cmpi .slt c16_i32 c0_i32_199
  let v354 : BitVec 32 := Scalar.extui v353
  let v355 : BitVec 32 := Scalar.subi v352 v354
  let v356 : BitVec 1 := Scalar.cmpi .ne v350 v355
  let v357 : BitVec 32 := Scalar.remsi v344 c16_i32
  let c0_i32_200 : BitVec 32 := 0#32
  let v358 : BitVec 1 := Scalar.cmpi .ne v357 c0_i32_200
  let v359 : BitVec 1 := Scalar.andi v356 v358
  let v345 : BitVec 32 := Scalar.divsi v344 c16_i32
  let c1_i32_201 : BitVec 32 := 1#32
  let v360 : BitVec 32 := Scalar.subi v345 c1_i32_201
  let v361 : BitVec 32 := Scalar.select v359 v360 v345
  let v362 : Index := Scalar.indexCast v361
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v363 : Index := Scalar.indexCast v26
  let c0_203 : Index := 0#32
  ![0, v362.toNat, v363.toNat, 0]

def k0_chk3 (i : grid0.Coords) (v343 : BitVec 32) : Prop :=
  (∀ a, (k0_off18 i v343) a + S1x1x1x128.size a ≤ S1x512x4x128.size a)
theorem k0_off18_inb : ∀ (i : grid0.Coords) (v343 : BitVec 32) (k0_hw3 : k0_chk3 i v343), ∀ a, (k0_off18 i v343) a + S1x1x1x128.size a ≤ S1x512x4x128.size a := fun i v343 k0_hw3 => k0_hw3

def k0_off19 (k0_t6 : Fin k0_t6_loop.trips) : Fin 2 → Nat :=
  let c0_i32_194 : BitVec 32 := 0#32
  let c0_i32_185 : BitVec 32 := 0#32
  let c1_i32_187 : BitVec 32 := 1#32
  let arg27 : BitVec 32 := Scf.iv c0_i32_185 c1_i32_187 k0_t6
  let c1_i32_193 : BitVec 32 := 1#32
  let v337 : BitVec 32 := Scalar.muli arg27 c1_i32_193
  let v338 : BitVec 32 := Scalar.addi c0_i32_194 v337
  let v366 : Index := Scalar.indexCast v338
  let c0_204 : Index := 0#32
  ![v366.toNat, 0]
@[reducible] def k0_t7_loop : Scf.Loop 32 :=
  let c0_i32_189 : BitVec 32 := 0#32
  let c4_i32_190 : BitVec 32 := 4#32
  let v336 : BitVec 32 := Scalar.addi c0_i32_189 c4_i32_190
  let c1_i32_191 : BitVec 32 := 1#32
  ⟨c0_i32_189, v336, c1_i32_191⟩
def k0_mult6 (k0_t4 : Fin k0_t4_loop.trips) (k0_t7 : Fin k0_t7_loop.trips) : BitVec 32 :=
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c512_i32 : BitVec 32 := 512#32
  let v339 : BitVec 32 := Scalar.muli v329 c512_i32
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let c128_i32 : BitVec 32 := 128#32
  let v340 : BitVec 32 := Scalar.muli v338 c128_i32
  let v341 : BitVec 32 := Scalar.addi v339 v340
  v341
def k0_off20 (i : grid0.Coords) (k0_t4 : Fin k0_t4_loop.trips) (k0_t7 : Fin k0_t7_loop.trips) : Fin 3 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v343 : Index := Scalar.indexCast v36
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c512_i32 : BitVec 32 := 512#32
  let v339 : BitVec 32 := Scalar.muli v329 c512_i32
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let c128_i32 : BitVec 32 := 128#32
  let v340 : BitVec 32 := Scalar.muli v338 c128_i32
  let v341 : BitVec 32 := Scalar.addi v339 v340
  let v342 : BitVec 32 := v341
  let v344 : Index := Scalar.indexCast v342
  let c0_195 : Index := 0#32
  ![v343.toNat, v344.toNat, 0]
def k0_off21 (i : grid0.Coords) (k0_t4 : Fin k0_t4_loop.trips) (k0_t7 : Fin k0_t7_loop.trips) : Fin 3 → Nat :=
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c4_i32_197 : BitVec 32 := 4#32
  let v351 : BitVec 32 := Scalar.muli v329 c4_i32_197
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let v352 : BitVec 32 := Scalar.addi v351 v338
  let v353 : Index := Scalar.indexCast v352
  let arg0 : BitVec 32 := BitVec.ofNat 32 (i 0).val
  let v354 : Index := Scalar.indexCast arg0
  let c0_198 : Index := 0#32
  ![v353.toNat, v354.toNat, 0]
def k0_off22 (k0_t4 : Fin k0_t4_loop.trips) (k0_t7 : Fin k0_t7_loop.trips) : Fin 3 → Nat :=
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c4_i32_197 : BitVec 32 := 4#32
  let v351 : BitVec 32 := Scalar.muli v329 c4_i32_197
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let v352 : BitVec 32 := Scalar.addi v351 v338
  let v484 : Index := Scalar.indexCast v352
  let c0_213 : Index := 0#32
  let c0_214 : Index := 0#32
  ![v484.toNat, 0, 0]
def k0_mult7 (k0_t7 : Fin k0_t7_loop.trips) : BitVec 32 :=
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let c16_i32 : BitVec 32 := 16#32
  let v493 : BitVec 32 := Scalar.muli v338 c16_i32
  let c0_i32_216 : BitVec 32 := 0#32
  let v494 : BitVec 32 := Scalar.addi v493 c0_i32_216
  v494
def k0_off23 (k0_t7 : Fin k0_t7_loop.trips) (c0_i32_216 : BitVec 32) : Fin 2 → Nat :=
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let c16_i32 : BitVec 32 := 16#32
  let v493 : BitVec 32 := Scalar.muli v338 c16_i32
  let v494 : BitVec 32 := Scalar.addi v493 c0_i32_216
  let v495 : BitVec 32 := v494
  let v496 : Index := Scalar.indexCast v495
  let c0_217 : Index := 0#32
  ![v496.toNat, 0]
def k0_mult8 (k0_t7 : Fin k0_t7_loop.trips) : BitVec 32 :=
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let c16_i32_228 : BitVec 32 := 16#32
  let v536 : BitVec 32 := Scalar.muli v338 c16_i32_228
  let c8_i32_229 : BitVec 32 := 8#32
  let v537 : BitVec 32 := Scalar.addi v536 c8_i32_229
  v537
def k0_off24 (k0_t4 : Fin k0_t4_loop.trips) (k0_t7 : Fin k0_t7_loop.trips) : Fin 3 → Nat :=
  let c0_i32_181 : BitVec 32 := 0#32
  let c0_i32_38 : BitVec 32 := 0#32
  let c1_i32_40 : BitVec 32 := 1#32
  let arg26 : BitVec 32 := Scf.iv c0_i32_38 c1_i32_40 k0_t4
  let c1_i32_180 : BitVec 32 := 1#32
  let v328 : BitVec 32 := Scalar.muli arg26 c1_i32_180
  let v329 : BitVec 32 := Scalar.addi c0_i32_181 v328
  let c4_i32_197 : BitVec 32 := 4#32
  let v351 : BitVec 32 := Scalar.muli v329 c4_i32_197
  let c0_i32_194 : BitVec 32 := 0#32
  let c0_i32_189 : BitVec 32 := 0#32
  let c1_i32_191 : BitVec 32 := 1#32
  let arg27 : BitVec 32 := Scf.iv c0_i32_189 c1_i32_191 k0_t7
  let c1_i32_193 : BitVec 32 := 1#32
  let v337 : BitVec 32 := Scalar.muli arg27 c1_i32_193
  let v338 : BitVec 32 := Scalar.addi c0_i32_194 v337
  let v352 : BitVec 32 := Scalar.addi v351 v338
  let v581 : Index := Scalar.indexCast v352
  let c0_243 : Index := 0#32
  let c0_244 : Index := 0#32
  ![v581.toNat, 0, 0]
def k0_off25 (i : grid0.Coords) : Fin 1 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  ![v36.toNat]
def k0_off26 (i : grid0.Coords) : Fin 4 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_144 : BitVec 32 := 0#32
  let c0_i32_145 : BitVec 32 := 0#32
  let c0_i32_146 : BitVec 32 := 0#32
  ![v36.toNat, 0, 0, 0]
@[reducible] def k0_t8_loop : Scf.Loop 32 :=
  let c0_i32_151 : BitVec 32 := 0#32
  let c7_i32_152 : BitVec 32 := 7#32
  let v283 : BitVec 32 := Scalar.addi c0_i32_151 c7_i32_152
  let c1_i32_153 : BitVec 32 := 1#32
  ⟨c0_i32_151, v283, c1_i32_153⟩
def k0_mult9 (k0_t8 : Fin k0_t8_loop.trips) : BitVec 32 :=
  let c0_i32_151 : BitVec 32 := 0#32
  let c1_i32_153 : BitVec 32 := 1#32
  let arg26 : BitVec 32 := Scf.iv c0_i32_151 c1_i32_153 k0_t8
  let c512_i32 : BitVec 32 := 512#32
  let v328 : BitVec 32 := Scalar.muli arg26 c512_i32
  let c0_i32_180 : BitVec 32 := 0#32
  let v329 : BitVec 32 := Scalar.addi v328 c0_i32_180
  v329
def k0_off27 (i : grid0.Coords) (k0_t8 : Fin k0_t8_loop.trips) (c0_i32_180 : BitVec 32) : Fin 4 → Nat :=
  let arg0 : BitVec 32 := BitVec.ofNat 32 (i 0).val
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let v331 : Index := Scalar.indexCast v36
  let c0_i32_151 : BitVec 32 := 0#32
  let c1_i32_153 : BitVec 32 := 1#32
  let arg26 : BitVec 32 := Scf.iv c0_i32_151 c1_i32_153 k0_t8
  let c512_i32 : BitVec 32 := 512#32
  let v328 : BitVec 32 := Scalar.muli arg26 c512_i32
  let v329 : BitVec 32 := Scalar.addi v328 c0_i32_180
  let v330 : BitVec 32 := v329
  let v332 : Index := Scalar.indexCast v330
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v333 : Index := Scalar.indexCast v26
  let c0_181 : Index := 0#32
  ![v331.toNat, v332.toNat, v333.toNat, 0]
def k0_off28 (k0_t8 : Fin k0_t8_loop.trips) (c0_i32_183 : BitVec 32) : Fin 3 → Nat :=
  let c0_i32_151 : BitVec 32 := 0#32
  let c1_i32_153 : BitVec 32 := 1#32
  let arg26 : BitVec 32 := Scf.iv c0_i32_151 c1_i32_153 k0_t8
  let c4_i32_182 : BitVec 32 := 4#32
  let v336 : BitVec 32 := Scalar.muli arg26 c4_i32_182
  let v337 : BitVec 32 := Scalar.addi v336 c0_i32_183
  let v338 : Index := Scalar.indexCast v337
  let c0_184 : Index := 0#32
  let c0_185 : Index := 0#32
  ![v338.toNat, 0, 0]
def k0_mult10 (k0_t8 : Fin k0_t8_loop.trips) : BitVec 32 :=
  let c0_i32_151 : BitVec 32 := 0#32
  let c1_i32_153 : BitVec 32 := 1#32
  let arg26 : BitVec 32 := Scf.iv c0_i32_151 c1_i32_153 k0_t8
  let c512_i32_187 : BitVec 32 := 512#32
  let v344 : BitVec 32 := Scalar.muli arg26 c512_i32_187
  let c128_i32 : BitVec 32 := 128#32
  let v345 : BitVec 32 := Scalar.addi v344 c128_i32
  v345
def k0_mult11 (k0_t8 : Fin k0_t8_loop.trips) : BitVec 32 :=
  let c0_i32_151 : BitVec 32 := 0#32
  let c1_i32_153 : BitVec 32 := 1#32
  let arg26 : BitVec 32 := Scf.iv c0_i32_151 c1_i32_153 k0_t8
  let c512_i32_194 : BitVec 32 := 512#32
  let v360 : BitVec 32 := Scalar.muli arg26 c512_i32_194
  let c256_i32 : BitVec 32 := 256#32
  let v361 : BitVec 32 := Scalar.addi v360 c256_i32
  v361
def k0_mult12 (k0_t8 : Fin k0_t8_loop.trips) : BitVec 32 :=
  let c0_i32_151 : BitVec 32 := 0#32
  let c1_i32_153 : BitVec 32 := 1#32
  let arg26 : BitVec 32 := Scf.iv c0_i32_151 c1_i32_153 k0_t8
  let c512_i32_201 : BitVec 32 := 512#32
  let v376 : BitVec 32 := Scalar.muli arg26 c512_i32_201
  let c384_i32 : BitVec 32 := 384#32
  let v377 : BitVec 32 := Scalar.addi v376 c384_i32
  v377
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

abbrev stage0_0 : Fin 1 → Memref sig .tc .vmem S24x448 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x4x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x4x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x160x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x896 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x7x3585 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x4x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S6x1x3584 : Shape := ⟨3, ![6, 1, 3584]⟩
abbrev S6x1x4x128 : Shape := ⟨4, ![6, 1, 4, 128]⟩
abbrev S6x65536x160 : Shape := ⟨3, ![6, 65536, 160]⟩
abbrev S6x160x512 : Shape := ⟨3, ![6, 160, 512]⟩
abbrev S6x65536x4x128 : Shape := ⟨4, ![6, 65536, 4, 128]⟩
abbrev S6x65536x4 : Shape := ⟨3, ![6, 65536, 4]⟩
abbrev S6x4x448 : Shape := ⟨3, ![6, 4, 448]⟩
abbrev S6 : Shape := ⟨1, ![6]⟩
abbrev S6x1x28x128 : Shape := ⟨4, ![6, 1, 28, 128]⟩
abbrev S6x1x1 : Shape := ⟨3, ![6, 1, 1]⟩
abbrev S64 : Shape := ⟨1, ![64]⟩
abbrev S_ : Shape := ⟨0, ![]⟩
abbrev S6x1x1x1 : Shape := ⟨4, ![6, 1, 1, 1]⟩
abbrev S1x1x1x64 : Shape := ⟨4, ![1, 1, 1, 64]⟩
abbrev S6x1x1x64 : Shape := ⟨4, ![6, 1, 1, 64]⟩
abbrev S6x1x28x64 : Shape := ⟨4, ![6, 1, 28, 64]⟩
abbrev S6x1x4x64 : Shape := ⟨4, ![6, 1, 4, 64]⟩
abbrev S6x4x448x1 : Shape := ⟨4, ![6, 4, 448, 1]⟩
abbrev S8 : Shape := ⟨1, ![8]⟩
abbrev S1x1x1x8 : Shape := ⟨4, ![1, 1, 1, 8]⟩
abbrev S6x4x448x8 : Shape := ⟨4, ![6, 4, 448, 8]⟩
abbrev S6x4x3584 : Shape := ⟨3, ![6, 4, 3584]⟩
abbrev S4 : Shape := ⟨1, ![4]⟩
abbrev S1x4x1 : Shape := ⟨3, ![1, 4, 1]⟩
abbrev S6x4x3584x1 : Shape := ⟨4, ![6, 4, 3584, 1]⟩
abbrev S6x4x3584x2 : Shape := ⟨4, ![6, 4, 3584, 2]⟩
abbrev S6x4x3584x160 : Shape := ⟨4, ![6, 4, 3584, 160]⟩
abbrev S6x160x4x128 : Shape := ⟨4, ![6, 160, 4, 128]⟩
abbrev S6x4x3584x128 : Shape := ⟨4, ![6, 4, 3584, 128]⟩
abbrev S6x4x3584x64 : Shape := ⟨4, ![6, 4, 3584, 64]⟩
abbrev S6x4x7x128 : Shape := ⟨4, ![6, 4, 7, 128]⟩
abbrev S6x4x7x3584 : Shape := ⟨4, ![6, 4, 7, 3584]⟩
abbrev S6x4x1x3584 : Shape := ⟨4, ![6, 4, 1, 3584]⟩
abbrev S6x4x128 : Shape := ⟨3, ![6, 4, 128]⟩
abbrev S6x4x7 : Shape := ⟨3, ![6, 4, 7]⟩
abbrev S6x4x7x1 : Shape := ⟨4, ![6, 4, 7, 1]⟩
abbrev S6x4x7x3585 : Shape := ⟨4, ![6, 4, 7, 3585]⟩
abbrev S6x4x3584x3 : Shape := ⟨4, ![6, 4, 3584, 3]⟩
abbrev S6x4x1x128 : Shape := ⟨4, ![6, 4, 1, 128]⟩

abbrev nBuf : Space → Nat
  | .hbm => 284
  | .vmem => 2
  | .smem => 0
  | _ => 0

abbrev hbmTy0_0 (i : Nat) : BufTy := match i % 128 with
  | 0 => ⟨S6x1x3584, .bf16⟩
  | 1 => ⟨S6x1x4x128, .bf16⟩
  | 2 => ⟨S6x1x4x128, .bf16⟩
  | 3 => ⟨S6x65536x160, .bf16⟩
  | 4 => ⟨S6x160x512, .bf16⟩
  | 5 => ⟨S6x65536x4x128, .fp8e4m3⟩
  | 6 => ⟨S6x65536x4, .f32⟩
  | 7 => ⟨S6x4x448, .i32⟩
  | 8 => ⟨S6, .i32⟩
  | 9 => ⟨S6, .i32⟩
  | 10 => ⟨S6, .i32⟩
  | 11 => ⟨S6x1x28x128, .bf16⟩
  | 12 => ⟨S6x1x1, .i32⟩
  | 13 => ⟨S64, .f32⟩
  | 14 => ⟨S_, .f32⟩
  | 15 => ⟨S64, .f32⟩
  | 16 => ⟨S64, .f32⟩
  | 17 => ⟨S_, .f32⟩
  | 18 => ⟨S64, .f32⟩
  | 19 => ⟨S64, .f32⟩
  | 20 => ⟨S64, .f32⟩
  | 21 => ⟨S_, .f32⟩
  | 22 => ⟨S64, .f32⟩
  | 23 => ⟨S64, .f32⟩
  | 24 => ⟨S_, .f32⟩
  | 25 => ⟨S64, .f32⟩
  | 26 => ⟨S64, .f32⟩
  | 27 => ⟨S6x1x1, .f32⟩
  | 28 => ⟨S6x1x1x1, .f32⟩
  | 29 => ⟨S1x1x1x64, .f32⟩
  | 30 => ⟨S6x1x1x64, .f32⟩
  | 31 => ⟨S6x1x1x64, .f32⟩
  | 32 => ⟨S6x1x1x64, .f32⟩
  | 33 => ⟨S6x1x1x64, .f32⟩
  | 34 => ⟨S6x1x1x64, .f32⟩
  | 35 => ⟨S6x1x28x128, .f32⟩
  | 36 => ⟨S6x1x28x64, .f32⟩
  | 37 => ⟨S6x1x28x64, .f32⟩
  | 38 => ⟨S6x1x28x64, .f32⟩
  | 39 => ⟨S6x1x28x64, .f32⟩
  | 40 => ⟨S6x1x28x64, .f32⟩
  | 41 => ⟨S6x1x28x64, .f32⟩
  | 42 => ⟨S6x1x28x64, .f32⟩
  | 43 => ⟨S6x1x28x64, .f32⟩
  | 44 => ⟨S6x1x28x64, .f32⟩
  | 45 => ⟨S6x1x28x64, .f32⟩
  | 46 => ⟨S6x1x28x64, .f32⟩
  | 47 => ⟨S6x1x28x64, .f32⟩
  | 48 => ⟨S6x1x28x128, .f32⟩
  | 49 => ⟨S6x1x28x128, .bf16⟩
  | 50 => ⟨S6x1x1, .i32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | 65 => ⟨S6x1x1, .f32⟩
  | 66 => ⟨S6x1x1x1, .f32⟩
  | 67 => ⟨S1x1x1x64, .f32⟩
  | 68 => ⟨S6x1x1x64, .f32⟩
  | 69 => ⟨S6x1x1x64, .f32⟩
  | 70 => ⟨S6x1x1x64, .f32⟩
  | 71 => ⟨S6x1x1x64, .f32⟩
  | 72 => ⟨S6x1x1x64, .f32⟩
  | 73 => ⟨S6x1x4x128, .f32⟩
  | 74 => ⟨S6x1x4x64, .f32⟩
  | 75 => ⟨S6x1x4x64, .f32⟩
  | 76 => ⟨S6x1x4x64, .f32⟩
  | 77 => ⟨S6x1x4x64, .f32⟩
  | 78 => ⟨S6x1x4x64, .f32⟩
  | 79 => ⟨S6x1x4x64, .f32⟩
  | 80 => ⟨S6x1x4x64, .f32⟩
  | 81 => ⟨S6x1x4x64, .f32⟩
  | 82 => ⟨S6x1x4x64, .f32⟩
  | 83 => ⟨S6x1x4x64, .f32⟩
  | 84 => ⟨S6x1x4x64, .f32⟩
  | 85 => ⟨S6x1x4x64, .f32⟩
  | 86 => ⟨S6x1x4x128, .f32⟩
  | 87 => ⟨S6x1x4x128, .bf16⟩
  | 88 => ⟨S6x4x448x1, .i32⟩
  | 89 => ⟨S_, .i32⟩
  | 90 => ⟨S6x4x448x1, .i32⟩
  | 91 => ⟨S6x4x448x1, .i32⟩
  | 92 => ⟨S8, .i32⟩
  | 93 => ⟨S1x1x1x8, .i32⟩
  | 94 => ⟨S6x4x448x8, .i32⟩
  | 95 => ⟨S6x4x448x8, .i32⟩
  | 96 => ⟨S6x4x448x8, .i32⟩
  | 97 => ⟨S6x4x3584, .i32⟩
  | 98 => ⟨S6x4x448x8, .i32⟩
  | 99 => ⟨S6x4x3584, .i32⟩
  | 100 => ⟨S_, .i32⟩
  | 101 => ⟨S6x4x3584, .i32⟩
  | 102 => ⟨S6x4x3584, .i1⟩
  | 103 => ⟨S6x1x1, .i32⟩
  | 104 => ⟨S6x4x3584, .i32⟩
  | 105 => ⟨S6x4x3584, .i1⟩
  | 106 => ⟨S6x4x3584, .i1⟩
  | 107 => ⟨S_, .i32⟩
  | 108 => ⟨S_, .i32⟩
  | 109 => ⟨S_, .i32⟩
  | 110 => ⟨S6x4x3584, .i32⟩
  | 111 => ⟨S6x4x3584, .i32⟩
  | 112 => ⟨S_, .i32⟩
  | 113 => ⟨S6x4x3584, .i32⟩
  | 114 => ⟨S6x4x3584, .i32⟩
  | 115 => ⟨S6, .i32⟩
  | 116 => ⟨S6x1x1, .i32⟩
  | 117 => ⟨S4, .i32⟩
  | 118 => ⟨S1x4x1, .i32⟩
  | 119 => ⟨S_, .i32⟩
  | 120 => ⟨S6x1x1, .i32⟩
  | 121 => ⟨S6x1x1, .i1⟩
  | 122 => ⟨S_, .i32⟩
  | 123 => ⟨S6x1x1, .i32⟩
  | 124 => ⟨S6x1x1, .i32⟩
  | 125 => ⟨S6x1x1, .i32⟩
  | 126 => ⟨S_, .i32⟩
  | 127 => ⟨S6x4x3584, .i32⟩
  | _ => ⟨S6x1x3584, .bf16⟩

abbrev hbmTy0_1 (i : Nat) : BufTy := match i % 128 with
  | 0 => ⟨S6x4x3584, .i1⟩
  | 1 => ⟨S_, .i32⟩
  | 2 => ⟨S6x4x3584, .i32⟩
  | 3 => ⟨S6x4x3584, .i32⟩
  | 4 => ⟨S6x4x3584, .i32⟩
  | 5 => ⟨S6x4x3584, .i32⟩
  | 6 => ⟨S6x4x3584x1, .i32⟩
  | 7 => ⟨S6x4x3584x1, .i32⟩
  | 8 => ⟨S6x4x3584x2, .i32⟩
  | 9 => ⟨S6x4x3584x160, .bf16⟩
  | 10 => ⟨S6x160x4x128, .bf16⟩
  | 11 => ⟨S6x4x3584x128, .f32⟩
  | 12 => ⟨S6x4x3584x128, .bf16⟩
  | 13 => ⟨S6x1x1, .i32⟩
  | 14 => ⟨S6x4x3584, .i32⟩
  | 15 => ⟨S6x4x3584, .i32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S64, .f32⟩
  | 24 => ⟨S_, .f32⟩
  | 25 => ⟨S64, .f32⟩
  | 26 => ⟨S64, .f32⟩
  | 27 => ⟨S_, .f32⟩
  | 28 => ⟨S64, .f32⟩
  | 29 => ⟨S64, .f32⟩
  | 30 => ⟨S6x4x3584, .f32⟩
  | 31 => ⟨S6x4x3584x1, .f32⟩
  | 32 => ⟨S1x1x1x64, .f32⟩
  | 33 => ⟨S6x4x3584x64, .f32⟩
  | 34 => ⟨S6x4x3584x64, .f32⟩
  | 35 => ⟨S6x4x3584x64, .f32⟩
  | 36 => ⟨S6x4x3584x64, .f32⟩
  | 37 => ⟨S6x4x3584x64, .f32⟩
  | 38 => ⟨S6x4x3584x128, .f32⟩
  | 39 => ⟨S6x4x3584x64, .f32⟩
  | 40 => ⟨S6x4x3584x64, .f32⟩
  | 41 => ⟨S6x4x3584x64, .f32⟩
  | 42 => ⟨S6x4x3584x64, .f32⟩
  | 43 => ⟨S6x4x3584x64, .f32⟩
  | 44 => ⟨S6x4x3584x64, .f32⟩
  | 45 => ⟨S6x4x3584x64, .f32⟩
  | 46 => ⟨S6x4x3584x64, .f32⟩
  | 47 => ⟨S6x4x3584x128, .f32⟩
  | 48 => ⟨S6x4x3584x128, .bf16⟩
  | 49 => ⟨S6x4x7x128, .bf16⟩
  | 50 => ⟨S6x4x7x3584, .f32⟩
  | 51 => ⟨S_, .f32⟩
  | 52 => ⟨S6x4x7x3584, .f32⟩
  | 53 => ⟨S6x4x7x3584, .f32⟩
  | 54 => ⟨S6x4x1x3584, .i1⟩
  | 55 => ⟨S_, .f32⟩
  | 56 => ⟨S_, .f32⟩
  | 57 => ⟨S6x4x7x3584, .i1⟩
  | 58 => ⟨S6x4x7x3584, .f32⟩
  | 59 => ⟨S6x4x7x3584, .f32⟩
  | 60 => ⟨S6x4x128, .bf16⟩
  | 61 => ⟨S6x4x7, .f32⟩
  | 62 => ⟨S_, .f32⟩
  | 63 => ⟨S6x4x7, .f32⟩
  | 64 => ⟨S6x4x7, .f32⟩
  | 65 => ⟨S_, .f32⟩
  | 66 => ⟨S6x4x7, .f32⟩
  | 67 => ⟨S6x4x7, .f32⟩
  | 68 => ⟨S6x4x7x1, .f32⟩
  | 69 => ⟨S6x4x7x3584, .f32⟩
  | 70 => ⟨S6x4x7x3584, .f32⟩
  | 71 => ⟨S6x4x7x3584, .f32⟩
  | 72 => ⟨S6x4x7, .f32⟩
  | 73 => ⟨S6x4x7, .f32⟩
  | 74 => ⟨S_, .f32⟩
  | 75 => ⟨S6x4x7, .f32⟩
  | 76 => ⟨S6x4x7, .f32⟩
  | 77 => ⟨S6x4x7x1, .f32⟩
  | 78 => ⟨S6x4x7x3584, .f32⟩
  | 79 => ⟨S6x4x7x3584, .f32⟩
  | 80 => ⟨S6x4x7, .f32⟩
  | 81 => ⟨S6x4x7x1, .f32⟩
  | 82 => ⟨S6x4x7x3585, .f32⟩
  | 83 => ⟨S_, .i32⟩
  | 84 => ⟨S6x1x1, .i32⟩
  | 85 => ⟨S6x1x1, .i1⟩
  | 86 => ⟨S_, .i32⟩
  | 87 => ⟨S6x1x1, .i32⟩
  | 88 => ⟨S6x1x1, .i32⟩
  | 89 => ⟨S6x1x1, .i32⟩
  | 90 => ⟨S_, .i32⟩
  | 91 => ⟨S6x4x3584, .i32⟩
  | 92 => ⟨S6x4x3584, .i1⟩
  | 93 => ⟨S_, .i32⟩
  | 94 => ⟨S6x4x3584, .i32⟩
  | 95 => ⟨S6x4x3584, .i32⟩
  | 96 => ⟨S6x4x3584, .i32⟩
  | 97 => ⟨S_, .i32⟩
  | 98 => ⟨S1x4x1, .i32⟩
  | 99 => ⟨S1x4x1, .i1⟩
  | 100 => ⟨S_, .i32⟩
  | 101 => ⟨S1x4x1, .i32⟩
  | 102 => ⟨S1x4x1, .i32⟩
  | 103 => ⟨S1x4x1, .i32⟩
  | 104 => ⟨S6x4x3584, .i32⟩
  | 105 => ⟨S6x4x3584, .i32⟩
  | 106 => ⟨S6x4x3584x1, .i32⟩
  | 107 => ⟨S6x4x3584x1, .i32⟩
  | 108 => ⟨S6x4x3584x1, .i32⟩
  | 109 => ⟨S6x4x3584x3, .i32⟩
  | 110 => ⟨S6x4x3584x128, .fp8e4m3⟩
  | 111 => ⟨S_, .i32⟩
  | 112 => ⟨S6x1x1, .i32⟩
  | 113 => ⟨S6x1x1, .i1⟩
  | 114 => ⟨S_, .i32⟩
  | 115 => ⟨S6x1x1, .i32⟩
  | 116 => ⟨S6x1x1, .i32⟩
  | 117 => ⟨S6x1x1, .i32⟩
  | 118 => ⟨S_, .i32⟩
  | 119 => ⟨S6x4x3584, .i32⟩
  | 120 => ⟨S6x4x3584, .i1⟩
  | 121 => ⟨S_, .i32⟩
  | 122 => ⟨S6x4x3584, .i32⟩
  | 123 => ⟨S6x4x3584, .i32⟩
  | 124 => ⟨S6x4x3584, .i32⟩
  | 125 => ⟨S_, .i32⟩
  | 126 => ⟨S1x4x1, .i32⟩
  | 127 => ⟨S1x4x1, .i1⟩
  | _ => ⟨S6x1x3584, .bf16⟩

abbrev hbmTy0_2 (i : Nat) : BufTy := match i % 128 with
  | 0 => ⟨S_, .i32⟩
  | 1 => ⟨S1x4x1, .i32⟩
  | 2 => ⟨S1x4x1, .i32⟩
  | 3 => ⟨S1x4x1, .i32⟩
  | 4 => ⟨S6x4x3584, .i32⟩
  | 5 => ⟨S6x4x3584, .i32⟩
  | 6 => ⟨S6x4x3584x1, .i32⟩
  | 7 => ⟨S6x4x3584x1, .i32⟩
  | 8 => ⟨S6x4x3584x1, .i32⟩
  | 9 => ⟨S6x4x3584x3, .i32⟩
  | 10 => ⟨S6x4x3584, .f32⟩
  | 11 => ⟨S6x4x1x3584, .f32⟩
  | 12 => ⟨S6x4x7x3584, .f32⟩
  | 13 => ⟨S6x4x7x3584, .f32⟩
  | 14 => ⟨S6x4x7x3584, .bf16⟩
  | 15 => ⟨S6x4x3584x128, .bf16⟩
  | 16 => ⟨S6x4x7x128, .f32⟩
  | 17 => ⟨S6x4x7, .bf16⟩
  | 18 => ⟨S6x4x7, .f32⟩
  | 19 => ⟨S6x4x7x1, .f32⟩
  | 20 => ⟨S6x4x1x128, .bf16⟩
  | 21 => ⟨S6x4x1x128, .f32⟩
  | 22 => ⟨S6x4x7x128, .f32⟩
  | 23 => ⟨S6x4x7x128, .f32⟩
  | 24 => ⟨S6x4x7x128, .f32⟩
  | 25 => ⟨S6x4x7x128, .f32⟩
  | 26 => ⟨S6x4x7x128, .bf16⟩
  | 27 => ⟨S6x1x3584, .bf16⟩
  | _ => ⟨S6x1x3584, .bf16⟩

abbrev hbmTy (i : Nat) : BufTy := match i / 128 with
  | 0 => hbmTy0_0 i
  | 1 => hbmTy0_1 i
  | 2 => hbmTy0_2 i
  | _ => ⟨S6x1x3584, .bf16⟩

abbrev bufTy : (tb : Table) → Fin (tcTables nBuf tb) → BufTy
  | .hbm, ⟨i, _⟩ => hbmTy i
  | .local _ .vmem, ⟨0, _⟩ => ⟨S6x4x3584x128, .fp8e4m3⟩
  | .local _ .vmem, ⟨1, _⟩ => ⟨S6x4x3584x128, .bf16⟩
  | _, _ => ⟨S6x1x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_c_7 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_c_8 : Ref sig .tc := ⟨.hbm, 107, rfl⟩
abbrev main_c_9 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_10 : Ref sig .tc := ⟨.hbm, 119, rfl⟩
abbrev main_v92 : Ref sig .tc := ⟨.hbm, 120, rfl⟩
abbrev main_v93 : Ref sig .tc := ⟨.hbm, 121, rfl⟩
abbrev main_c_11 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_c_12 : Ref sig .tc := ⟨.hbm, 126, rfl⟩
abbrev main_v97 : Ref sig .tc := ⟨.hbm, 127, rfl⟩
abbrev main_v98 : Ref sig .tc := ⟨.hbm, 128, rfl⟩
abbrev main_c_13 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_cst_14 : Ref sig .tc := ⟨.hbm, 145, rfl⟩
abbrev main_v114 : Ref sig .tc := ⟨.hbm, 146, rfl⟩
abbrev main_v115 : Ref sig .tc := ⟨.hbm, 147, rfl⟩
abbrev main_cst_15 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_16 : Ref sig .tc := ⟨.hbm, 152, rfl⟩
abbrev main_v119 : Ref sig .tc := ⟨.hbm, 153, rfl⟩
abbrev main_v120 : Ref sig .tc := ⟨.hbm, 154, rfl⟩
abbrev main_cst_17 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_cst_18 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_19 : Ref sig .tc := ⟨.hbm, 183, rfl⟩
abbrev main_call1_v0 : Ref sig .tc := ⟨.hbm, 184, rfl⟩
abbrev main_call1_v1 : Ref sig .tc := ⟨.hbm, 185, rfl⟩
abbrev main_call1_v2 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_20 : Ref sig .tc := ⟨.hbm, 190, rfl⟩
abbrev main_v150 : Ref sig .tc := ⟨.hbm, 191, rfl⟩
abbrev main_v151 : Ref sig .tc := ⟨.hbm, 192, rfl⟩
abbrev main_cst_21 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_cst_22 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_c_23 : Ref sig .tc := ⟨.hbm, 211, rfl⟩
abbrev main_v168 : Ref sig .tc := ⟨.hbm, 212, rfl⟩
abbrev main_v169 : Ref sig .tc := ⟨.hbm, 213, rfl⟩
abbrev main_c_24 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_c_25 : Ref sig .tc := ⟨.hbm, 218, rfl⟩
abbrev main_v173 : Ref sig .tc := ⟨.hbm, 219, rfl⟩
abbrev main_v174 : Ref sig .tc := ⟨.hbm, 220, rfl⟩
abbrev main_c_26 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_c_27 : Ref sig .tc := ⟨.hbm, 225, rfl⟩
abbrev main_v178 : Ref sig .tc := ⟨.hbm, 226, rfl⟩
abbrev main_v179 : Ref sig .tc := ⟨.hbm, 227, rfl⟩
abbrev main_c_28 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_c_29 : Ref sig .tc := ⟨.hbm, 239, rfl⟩
abbrev main_v190 : Ref sig .tc := ⟨.hbm, 240, rfl⟩
abbrev main_v191 : Ref sig .tc := ⟨.hbm, 241, rfl⟩
abbrev main_c_30 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_c_31 : Ref sig .tc := ⟨.hbm, 246, rfl⟩
abbrev main_v195 : Ref sig .tc := ⟨.hbm, 247, rfl⟩
abbrev main_v196 : Ref sig .tc := ⟨.hbm, 248, rfl⟩
abbrev main_c_32 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_c_33 : Ref sig .tc := ⟨.hbm, 253, rfl⟩
abbrev main_v200 : Ref sig .tc := ⟨.hbm, 254, rfl⟩
abbrev main_v201 : Ref sig .tc := ⟨.hbm, 255, rfl⟩
abbrev main_c_34 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x4x3584x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4x3584x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Offs.lean ====
/- The places of the kernel's own transfers and loads in closed form: slot, chunk row and item, as functions of the
   grid point and the trip; and the side conditions the body assumes of a table word, from the word's range. -/
module

public import proofs.«01_k».proof.Proof.Gen.Kernel
public import Idealize.ShloMosaic.Lib.Affine

@[expose] public section

noncomputable section

namespace Cert.Kernel.Hand

open Cert.Kernel Cert.Kernel.Gen
open Idealize.ShloMosaic Idealize.SL.Sem

theorem k0_off10_closed : ∀ (i : grid0.Coords) (k0_t3 : Fin k0_t3_loop.trips), k0_off10 i k0_t3 = ![(i 0).val % 2, 8 * k0_t3.val, 0] := by
  intro i k0_t3
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_c0_i32_181 : Affine.IsInt 0#32 (0) := Affine.ofNat _ (by omega)
  have h_c0_i32_32 : Affine.IsInt 0#32 (0) := Affine.ofNat _ (by omega)
  have h_c1_i32_33 : Affine.IsInt 1#32 (1) := Affine.ofNat _ (by omega)
  have r_k0_t3 : k0_t3.val < 448 := Nat.lt_of_lt_of_le k0_t3.isLt k0_t3_abs.2.1
  have h_arg26 : Affine.IsInt _ ((k0_t3.val : Int)) := Affine.iv h_c0_i32_32 h_c1_i32_33 k0_t3.val (by omega)
  have c_arg26 : (k0_t3.val : Int) ≤ 448 - 1 := Affine.iv_lt k0_t3_abs.1 k0_t3.isLt k0_t3_abs.2.2 h_arg26
  have h_c1_i32_180 : Affine.IsInt 1#32 (1) := Affine.ofNat _ (by omega)
  have h_v328 : Affine.IsInt _ ((k0_t3.val : Int)) := Affine.muli h_arg26 h_c1_i32_180 (by omega)
  have h_v329 : Affine.IsInt _ ((k0_t3.val : Int)) := Affine.addi h_c0_i32_181 h_v328 (by omega)
  have h_c8_i32 : Affine.IsInt 8#32 (8) := Affine.ofNat _ (by omega)
  have h_v330 : Affine.IsInt _ (8 * (k0_t3.val : Int)) := Affine.muli h_v329 h_c8_i32 (by omega)
  have h_c0_i32_183 : Affine.IsInt 0#32 (0) := Affine.ofNat _ (by omega)
  exact Affine.vec_cons h_v36 (by omega) <| Affine.vec_cons h_v330 (by omega) <| Affine.vec_cons (Affine.ofNat 0 (by omega) : Affine.IsInt 0#32 0) (by omega) <| Affine.vec_nil

theorem k0_off13_closed : ∀ (i : grid0.Coords) (k0_t4 : Fin k0_t4_loop.trips) (k0_t5 : Fin k0_t5_loop.trips), k0_off13 i k0_t4 k0_t5 = ![1 - (i 0).val % 2, 8 * (64 * k0_t4.val + k0_t5.val), 0] := by
  intro i k0_t4 k0_t5
  have h_c1_i32_194 : Affine.IsInt 1#32 (1) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v338 : Affine.IsInt _ (-(((i 0).val : Int) % 2) + 1) := Affine.subi h_c1_i32_194 h_v36 (by omega)
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c64_i32_208 : Affine.IsInt 64#32 (64) := Affine.ofNat _ (by omega)
  have h_v366 : Affine.IsInt _ (64 * (k0_t4.val : Int)) := Affine.muli h_v329 h_c64_i32_208 (by omega)
  have h_c0_i32_214 : Affine.IsInt 0#32 (0) := Affine.ofNat _ (by omega)
  have h_c0_i32_209 : Affine.IsInt 0#32 (0) := Affine.ofNat _ (by omega)
  have h_c1_i32_211 : Affine.IsInt 1#32 (1) := Affine.ofNat _ (by omega)
  have r_k0_t5 : k0_t5.val < 64 := Nat.lt_of_lt_of_le k0_t5.isLt k0_t5_abs.2.1
  have h_arg27 : Affine.IsInt _ ((k0_t5.val : Int)) := Affine.iv h_c0_i32_209 h_c1_i32_211 k0_t5.val (by omega)
  have c_arg27 : (k0_t5.val : Int) ≤ 64 - 1 := Affine.iv_lt k0_t5_abs.1 k0_t5.isLt k0_t5_abs.2.2 h_arg27
  have h_c1_i32_213 : Affine.IsInt 1#32 (1) := Affine.ofNat _ (by omega)
  have h_v368 : Affine.IsInt _ ((k0_t5.val : Int)) := Affine.muli h_arg27 h_c1_i32_213 (by omega)
  have h_v369 : Affine.IsInt _ ((k0_t5.val : Int)) := Affine.addi h_c0_i32_214 h_v368 (by omega)
  have h_v380 : Affine.IsInt _ (64 * (k0_t4.val : Int) + (k0_t5.val : Int)) := Affine.addi h_v366 h_v369 (by omega)
  have h_c8_i32_216 : Affine.IsInt 8#32 (8) := Affine.ofNat _ (by omega)
  have h_v381 : Affine.IsInt _ (512 * (k0_t4.val : Int) + 8 * (k0_t5.val : Int)) := Affine.muli h_v380 h_c8_i32_216 (by omega)
  have h_c0_i32_217 : Affine.IsInt 0#32 (0) := Affine.ofNat _ (by omega)
  exact Affine.vec_cons h_v338 (by omega) <| Affine.vec_cons h_v381 (by omega) <| Affine.vec_cons (Affine.ofNat 0 (by omega) : Affine.IsInt 0#32 0) (by omega) <| Affine.vec_nil

theorem k0_off15_closed : ∀ (i : grid0.Coords) (k0_t4 : Fin k0_t4_loop.trips) (k0_t5 : Fin k0_t5_loop.trips), k0_off15 i k0_t4 k0_t5 = ![1 - (i 0).val % 2, 8 * (64 * k0_t4.val + k0_t5.val), 0, 0] := by
  intro i k0_t4 k0_t5
  have h_c1_i32_194 : Affine.IsInt 1#32 (1) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v338 : Affine.IsInt _ (-(((i 0).val : Int) % 2) + 1) := Affine.subi h_c1_i32_194 h_v36 (by omega)
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c64_i32_208 : Affine.IsInt 64#32 (64) := Affine.ofNat _ (by omega)
  have h_v366 : Affine.IsInt _ (64 * (k0_t4.val : Int)) := Affine.muli h_v329 h_c64_i32_208 (by omega)
  have h_c0_i32_214 : Affine.IsInt 0#32 (0) := Affine.ofNat _ (by omega)
  have h_c0_i32_209 : Affine.IsInt 0#32 (0) := Affine.ofNat _ (by omega)
  have h_c1_i32_211 : Affine.IsInt 1#32 (1) := Affine.ofNat _ (by omega)
  have r_k0_t5 : k0_t5.val < 64 := Nat.lt_of_lt_of_le k0_t5.isLt k0_t5_abs.2.1
  have h_arg27 : Affine.IsInt _ ((k0_t5.val : Int)) := Affine.iv h_c0_i32_209 h_c1_i32_211 k0_t5.val (by omega)
  have c_arg27 : (k0_t5.val : Int) ≤ 64 - 1 := Affine.iv_lt k0_t5_abs.1 k0_t5.isLt k0_t5_abs.2.2 h_arg27
  have h_c1_i32_213 : Affine.IsInt 1#32 (1) := Affine.ofNat _ (by omega)
  have h_v368 : Affine.IsInt _ ((k0_t5.val : Int)) := Affine.muli h_arg27 h_c1_i32_213 (by omega)
  have h_v369 : Affine.IsInt _ ((k0_t5.val : Int)) := Affine.addi h_c0_i32_214 h_v368 (by omega)
  have h_v380 : Affine.IsInt _ (64 * (k0_t4.val : Int) + (k0_t5.val : Int)) := Affine.addi h_v366 h_v369 (by omega)
  have h_c8_i32_216 : Affine.IsInt 8#32 (8) := Affine.ofNat _ (by omega)
  have h_v381 : Affine.IsInt _ (512 * (k0_t4.val : Int) + 8 * (k0_t5.val : Int)) := Affine.muli h_v380 h_c8_i32_216 (by omega)
  have h_c0_i32_219 : Affine.IsInt 0#32 (0) := Affine.ofNat _ (by omega)
  have h_c0_i32_220 : Affine.IsInt 0#32 (0) := Affine.ofNat _ (by omega)
  exact Affine.vec_cons h_v338 (by omega) <| Affine.vec_cons h_v381 (by omega) <| Affine.vec_cons (Affine.ofNat 0 (by omega) : Affine.IsInt 0#32 0) (by omega) <| Affine.vec_cons (Affine.ofNat 0 (by omega) : Affine.IsInt 0#32 0) (by omega) <| Affine.vec_nil

theorem k0_off20_closed : ∀ (i : grid0.Coords) (k0_t4 : Fin k0_t4_loop.trips) (k0_t7 : Fin k0_t7_loop.trips), k0_off20 i k0_t4 k0_t7 = ![(i 0).val % 2, 128 * (4 * k0_t4.val + k0_t7.val), 0] := by
  intro i k0_t4 k0_t7
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v343 : Affine.IsInt _ ((((i 0).val : Int) % 2)) := Affine.indexCast h_v36
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c512_i32 : Affine.IsInt 512#32 (512) := Affine.ofNat _ (by omega)
  have h_v339 : Affine.IsInt _ (512 * (k0_t4.val : Int)) := Affine.muli h_v329 h_c512_i32 (by omega)
  have h_c0_i32_194 : Affine.IsInt 0#32 (0) := Affine.ofNat _ (by omega)
  have h_c0_i32_189 : Affine.IsInt 0#32 (0) := Affine.ofNat _ (by omega)
  have h_c1_i32_191 : Affine.IsInt 1#32 (1) := Affine.ofNat _ (by omega)
  have r_k0_t7 : k0_t7.val < 4 := Nat.lt_of_lt_of_le k0_t7.isLt k0_t7_abs.2.1
  have h_arg27 : Affine.IsInt _ ((k0_t7.val : Int)) := Affine.iv h_c0_i32_189 h_c1_i32_191 k0_t7.val (by omega)
  have c_arg27 : (k0_t7.val : Int) ≤ 4 - 1 := Affine.iv_lt k0_t7_abs.1 k0_t7.isLt k0_t7_abs.2.2 h_arg27
  have h_c1_i32_193 : Affine.IsInt 1#32 (1) := Affine.ofNat _ (by omega)
  have h_v337 : Affine.IsInt _ ((k0_t7.val : Int)) := Affine.muli h_arg27 h_c1_i32_193 (by omega)
  have h_v338 : Affine.IsInt _ ((k0_t7.val : Int)) := Affine.addi h_c0_i32_194 h_v337 (by omega)
  have h_c128_i32 : Affine.IsInt 128#32 (128) := Affine.ofNat _ (by omega)
  have h_v340 : Affine.IsInt _ (128 * (k0_t7.val : Int)) := Affine.muli h_v338 h_c128_i32 (by omega)
  have h_v341 : Affine.IsInt _ (512 * (k0_t4.val : Int) + 128 * (k0_t7.val : Int)) := Affine.addi h_v339 h_v340 (by omega)
  have h_v344 : Affine.IsInt _ (512 * (k0_t4.val : Int) + 128 * (k0_t7.val : Int)) := Affine.indexCast h_v341
  have h_c0_195 : Affine.IsInt 0#32 (0) := Affine.ofNat _ (by omega)
  exact Affine.vec_cons h_v343 (by omega) <| Affine.vec_cons h_v344 (by omega) <| Affine.vec_cons (Affine.ofNat 0 (by omega) : Affine.IsInt 0#32 0) (by omega) <| Affine.vec_nil

theorem k0_off17_closed : ∀ (i : grid0.Coords) (k0_t4 : Fin k0_t4_loop.trips) (k0_t6 : Fin k0_t6_loop.trips), k0_off17 i k0_t4 k0_t6 = ![(i 0).val / 4, (i 0).val % 4, 64 * k0_t4.val + k0_t6.val] := by
  intro i k0_t4 k0_t6
  have r_i0 : (i 0).val < 24 := (i 0).isLt
  have h_arg0 : Affine.IsInt (BitVec.ofNat 32 (i 0).val) (((i 0).val : Int)) := Affine.ofNat _ (by omega)
  have h_c0_i32 : Affine.IsInt 0#32 (0) := Affine.ofNat _ (by omega)
  rcases (show ((i 0).val : Int) ≤ 0 ∨ 1 ≤ ((i 0).val : Int) by omega) with hs | hs
  · have h_v1 : Affine.Fails _ := Affine.sgt_fails h_arg0 h_c0_i32 (by omega)
    have h_v2 : Affine.IsInt _ (0) := Affine.extui_fails h_v1 (by omega)
    have h_c0_i32_0 : Affine.IsInt 0#32 (0) := Affine.ofNat _ (by omega)
    have h_v3 : Affine.Fails _ := Affine.slt_fails h_arg0 h_c0_i32_0 (by omega)
    have h_v4 : Affine.IsInt _ (0) := Affine.extui_fails h_v3 (by omega)
    have h_v5 : Affine.IsInt _ (0) := Affine.subi h_v2 h_v4 (by omega)
    have h_c4_i32 : Affine.IsInt 4#32 (4) := Affine.ofNat _ (by omega)
    have h_c0_i32_1 : Affine.IsInt 0#32 (0) := Affine.ofNat _ (by omega)
    have h_v6 : Affine.Holds _ := Affine.sgt_holds h_c4_i32 h_c0_i32_1 (by omega)
    have h_v7 : Affine.IsInt _ (1) := Affine.extui_holds h_v6 (by omega)
    have h_c0_i32_2 : Affine.IsInt 0#32 (0) := Affine.ofNat _ (by omega)
    have h_v8 : Affine.Fails _ := Affine.slt_fails h_c4_i32 h_c0_i32_2 (by omega)
    have h_v9 : Affine.IsInt _ (0) := Affine.extui_fails h_v8 (by omega)
    have h_v10 : Affine.IsInt _ (1) := Affine.subi h_v7 h_v9 (by omega)
    have h_v11 : Affine.Holds _ := Affine.ne_holds h_v5 h_v10 (by omega)
    have h_v12 : Affine.IsInt _ (((i 0).val : Int)) := Affine.remsi h_arg0 h_c4_i32 (by omega)
    have h_c0_i32_3 : Affine.IsInt 0#32 (0) := Affine.ofNat _ (by omega)
    have h_v13 : Affine.Fails _ := Affine.ne_fails h_v12 h_c0_i32_3 (by omega)
    have h_v14 : Affine.Fails _ := Affine.andi_fails_right (Affine.tH h_v11) h_v13
    have h_v0 : Affine.IsInt _ ((((i 0).val : Int) / 4)) := Affine.divsi h_arg0 h_c4_i32 (by omega)
    have h_c1_i32 : Affine.IsInt 1#32 (1) := Affine.ofNat _ (by omega)
    have h_v15 : Affine.IsInt _ ((((i 0).val : Int) / 4) - 1) := Affine.subi h_v0 h_c1_i32 (by omega)
    have h_v16 : Affine.IsInt _ ((((i 0).val : Int) / 4)) := Affine.select_fails h_v14 h_v15 h_v0 (by omega)
    have h_v340 : Affine.IsInt _ ((((i 0).val : Int) / 4)) := Affine.indexCast h_v16
    have h_c4_i32_4 : Affine.IsInt 4#32 (4) := Affine.ofNat _ (by omega)
    have h_c0_i32_5 : Affine.IsInt 0#32 (0) := Affine.ofNat _ (by omega)
    have h_v17 : Affine.Fails _ := Affine.eq_fails h_c4_i32_4 h_c0_i32_5 (by omega)
    have h_c1_i32_6 : Affine.IsInt 1#32 (1) := Affine.ofNat _ (by omega)
    have h_v18 : Affine.IsInt _ (4) := Affine.select_fails h_v17 h_c1_i32_6 h_c4_i32_4 (by omega)
    have h_v19 : Affine.IsInt _ (((i 0).val : Int)) := Affine.remsi h_arg0 h_v18 (by omega)
    have h_c0_i32_8 : Affine.IsInt 0#32 (0) := Affine.ofNat _ (by omega)
    have h_v21 : Affine.Fails _ := Affine.slt_fails h_v19 h_c0_i32_8 (by omega)
    have h_c0_i32_9 : Affine.IsInt 0#32 (0) := Affine.ofNat _ (by omega)
    have h_v22 : Affine.Fails _ := Affine.slt_fails h_v18 h_c0_i32_9 (by omega)
    have h_v23 : Affine.Fails _ := Affine.xori_ff h_v21 h_v22
    have h_c0_i32_7 : Affine.IsInt 0#32 (0) := Affine.ofNat _ (by omega)
    have h_v20 : Affine.Fails _ := Affine.ne_fails h_v19 h_c0_i32_7 (by omega)
    have h_v24 : Affine.Fails _ := Affine.andi_fails_left h_v23 (Affine.tF h_v20)
    have h_v25 : Affine.IsInt _ (((i 0).val : Int) + 4) := Affine.addi h_v19 h_v18 (by omega)
    have h_v26 : Affine.IsInt _ (((i 0).val : Int)) := Affine.select_fails h_v24 h_v25 h_v19 (by omega)
    have h_v341 : Affine.IsInt _ (((i 0).val : Int)) := Affine.indexCast h_v26
    have h_c0_i32_181 : Affine.IsInt 0#32 (0) := Affine.ofNat _ (by omega)
    have h_c0_i32_38 : Affine.IsInt 0#32 (0) := Affine.ofNat _ (by omega)
    have h_c1_i32_40 : Affine.IsInt 1#32 (1) := Affine.ofNat _ (by omega)
    have r_k0_t4 : k0_t4.val < 7 := Nat.lt_of_lt_of_le k0_t4.isLt k0_t4_abs.2.1
    have h_arg26 : Affine.IsInt _ ((k0_t4.val : Int)) := Affine.iv h_c0_i32_38 h_c1_i32_40 k0_t4.val (by omega)
    have c_arg26 : (k0_t4.val : Int) ≤ 7 - 1 := Affine.iv_lt k0_t4_abs.1 k0_t4.isLt k0_t4_abs.2.2 h_arg26
    have h_c1_i32_180 : Affine.IsInt 1#32 (1) := Affine.ofNat _ (by omega)
    have h_v328 : Affine.IsInt _ ((k0_t4.val : Int)) := Affine.muli h_arg26 h_c1_i32_180 (by omega)
    have h_v329 : Affine.IsInt _ ((k0_t4.val : Int)) := Affine.addi h_c0_i32_181 h_v328 (by omega)
    have h_c64_i32_184 : Affine.IsInt 64#32 (64) := Affine.ofNat _ (by omega)
    have h_v334 : Affine.IsInt _ (64 * (k0_t4.val : Int)) := Affine.muli h_v329 h_c64_i32_184 (by omega)
    have h_c0_i32_194 : Affine.IsInt 0#32 (0) := Affine.ofNat _ (by omega)
    have h_c0_i32_185 : Affine.IsInt 0#32 (0) := Affine.ofNat _ (by omega)
    have h_c1_i32_187 : Affine.IsInt 1#32 (1) := Affine.ofNat _ (by omega)
    have r_k0_t6 : k0_t6.val < 64 := Nat.lt_of_lt_of_le k0_t6.isLt k0_t6_abs.2.1
    have h_arg27 : Affine.IsInt _ ((k0_t6.val : Int)) := Affine.iv h_c0_i32_185 h_c1_i32_187 k0_t6.val (by omega)
    have c_arg27 : (k0_t6.val : Int) ≤ 64 - 1 := Affine.iv_lt k0_t6_abs.1 k0_t6.isLt k0_t6_abs.2.2 h_arg27
    have h_c1_i32_193 : Affine.IsInt 1#32 (1) := Affine.ofNat _ (by omega)
    have h_v337 : Affine.IsInt _ ((k0_t6.val : Int)) := Affine.muli h_arg27 h_c1_i32_193 (by omega)
    have h_v338 : Affine.IsInt _ ((k0_t6.val : Int)) := Affine.addi h_c0_i32_194 h_v337 (by omega)
    have h_v339 : Affine.IsInt _ (64 * (k0_t4.val : Int) + (k0_t6.val : Int)) := Affine.addi h_v334 h_v338 (by omega)
    have h_v342 : Affine.IsInt _ (64 * (k0_t4.val : Int) + (k0_t6.val : Int)) := Affine.indexCast h_v339
    exact Affine.vec_cons h_v340 (by omega) <| Affine.vec_cons h_v341 (by omega) <| Affine.vec_cons h_v342 (by omega) <| Affine.vec_nil
  · have h_v1 : Affine.Holds _ := Affine.sgt_holds h_arg0 h_c0_i32 (by omega)
    have h_v2 : Affine.IsInt _ (1) := Affine.extui_holds h_v1 (by omega)
    have h_c0_i32_0 : Affine.IsInt 0#32 (0) := Affine.ofNat _ (by omega)
    have h_v3 : Affine.Fails _ := Affine.slt_fails h_arg0 h_c0_i32_0 (by omega)
    have h_v4 : Affine.IsInt _ (0) := Affine.extui_fails h_v3 (by omega)
    have h_v5 : Affine.IsInt _ (1) := Affine.subi h_v2 h_v4 (by omega)
    have h_c4_i32 : Affine.IsInt 4#32 (4) := Affine.ofNat _ (by omega)
    have h_c0_i32_1 : Affine.IsInt 0#32 (0) := Affine.ofNat _ (by omega)
    have h_v6 : Affine.Holds _ := Affine.sgt_holds h_c4_i32 h_c0_i32_1 (by omega)
    have h_v7 : Affine.IsInt _ (1) := Affine.extui_holds h_v6 (by omega)
    have h_c0_i32_2 : Affine.IsInt 0#32 (0) := Affine.ofNat _ (by omega)
    have h_v8 : Affine.Fails _ := Affine.slt_fails h_c4_i32 h_c0_i32_2 (by omega)
    have h_v9 : Affine.IsInt _ (0) := Affine.extui_fails h_v8 (by omega)
    have h_v10 : Affine.IsInt _ (1) := Affine.subi h_v7 h_v9 (by omega)
    have h_v11 : Affine.Fails _ := Affine.ne_fails h_v5 h_v10 (by omega)
    have h_v12 : Affine.IsInt _ ((((i 0).val : Int) % 4)) := Affine.remsi h_arg0 h_c4_i32 (by omega)
    have h_c0_i32_3 : Affine.IsInt 0#32 (0) := Affine.ofNat _ (by omega)
    have h_v13 : Affine.Term _ := Affine.cmpi_term .ne h_v12 h_c0_i32_3
    have h_v14 : Affine.Fails _ := Affine.andi_fails_left h_v11 h_v13
    have h_v0 : Affine.IsInt _ ((((i 0).val : Int) / 4)) := Affine.divsi h_arg0 h_c4_i32 (by omega)
    have h_c1_i32 : Affine.IsInt 1#32 (1) := Affine.ofNat _ (by omega)
    have h_v15 : Affine.IsInt _ ((((i 0).val : Int) / 4) - 1) := Affine.subi h_v0 h_c1_i32 (by omega)
    have h_v16 : Affine.IsInt _ ((((i 0).val : Int) / 4)) := Affine.select_fails h_v14 h_v15 h_v0 (by omega)
    have h_v340 : Affine.IsInt _ ((((i 0).val : Int) / 4)) := Affine.indexCast h_v16
    have h_c4_i32_4 : Affine.IsInt 4#32 (4) := Affine.ofNat _ (by omega)
    have h_c0_i32_5 : Affine.IsInt 0#32 (0) := Affine.ofNat _ (by omega)
    have h_v17 : Affine.Fails _ := Affine.eq_fails h_c4_i32_4 h_c0_i32_5 (by omega)
    have h_c1_i32_6 : Affine.IsInt 1#32 (1) := Affine.ofNat _ (by omega)
    have h_v18 : Affine.IsInt _ (4) := Affine.select_fails h_v17 h_c1_i32_6 h_c4_i32_4 (by omega)
    have h_v19 : Affine.IsInt _ ((((i 0).val : Int) % 4)) := Affine.remsi h_arg0 h_v18 (by omega)
    have h_c0_i32_8 : Affine.IsInt 0#32 (0) := Affine.ofNat _ (by omega)
    have h_v21 : Affine.Fails _ := Affine.slt_fails h_v19 h_c0_i32_8 (by omega)
    have h_c0_i32_9 : Affine.IsInt 0#32 (0) := Affine.ofNat _ (by omega)
    have h_v22 : Affine.Fails _ := Affine.slt_fails h_v18 h_c0_i32_9 (by omega)
    have h_v23 : Affine.Fails _ := Affine.xori_ff h_v21 h_v22
    have h_c0_i32_7 : Affine.IsInt 0#32 (0) := Affine.ofNat _ (by omega)
    have h_v20 : Affine.Term _ := Affine.cmpi_term .ne h_v19 h_c0_i32_7
    have h_v24 : Affine.Fails _ := Affine.andi_fails_left h_v23 h_v20
    have h_v25 : Affine.IsInt _ ((((i 0).val : Int) % 4) + 4) := Affine.addi h_v19 h_v18 (by omega)
    have h_v26 : Affine.IsInt _ ((((i 0).val : Int) % 4)) := Affine.select_fails h_v24 h_v25 h_v19 (by omega)
    have h_v341 : Affine.IsInt _ ((((i 0).val : Int) % 4)) := Affine.indexCast h_v26
    have h_c0_i32_181 : Affine.IsInt 0#32 (0) := Affine.ofNat _ (by omega)
    have h_c0_i32_38 : Affine.IsInt 0#32 (0) := Affine.ofNat _ (by omega)
    have h_c1_i32_40 : Affine.IsInt 1#32 (1) := Affine.ofNat _ (by omega)
    have r_k0_t4 : k0_t4.val < 7 := Nat.lt_of_lt_of_le k0_t4.isLt k0_t4_abs.2.1
    have h_arg26 : Affine.IsInt _ ((k0_t4.val : Int)) := Affine.iv h_c0_i32_38 h_c1_i32_40 k0_t4.val (by omega)
    have c_arg26 : (k0_t4.val : Int) ≤ 7 - 1 := Affine.iv_lt k0_t4_abs.1 k0_t4.isLt k0_t4_abs.2.2 h_arg26
    have h_c1_i32_180 : Affine.IsInt 1#32 (1) := Affine.ofNat _ (by omega)
    have h_v328 : Affine.IsInt _ ((k0_t4.val : Int)) := Affine.muli h_arg26 h_c1_i32_180 (by omega)
    have h_v329 : Affine.IsInt _ ((k0_t4.val : Int)) := Affine.addi h_c0_i32_181 h_v328 (by omega)
    have h_c64_i32_184 : Affine.IsInt 64#32 (64) := Affine.ofNat _ (by omega)
    have h_v334 : Affine.IsInt _ (64 * (k0_t4.val : Int)) := Affine.muli h_v329 h_c64_i32_184 (by omega)
    have h_c0_i32_194 : Affine.IsInt 0#32 (0) := Affine.ofNat _ (by omega)
    have h_c0_i32_185 : Affine.IsInt 0#32 (0) := Affine.ofNat _ (by omega)
    have h_c1_i32_187 : Affine.IsInt 1#32 (1) := Affine.ofNat _ (by omega)
    have r_k0_t6 : k0_t6.val < 64 := Nat.lt_of_lt_of_le k0_t6.isLt k0_t6_abs.2.1
    have h_arg27 : Affine.IsInt _ ((k0_t6.val : Int)) := Affine.iv h_c0_i32_185 h_c1_i32_187 k0_t6.val (by omega)
    have c_arg27 : (k0_t6.val : Int) ≤ 64 - 1 := Affine.iv_lt k0_t6_abs.1 k0_t6.isLt k0_t6_abs.2.2 h_arg27
    have h_c1_i32_193 : Affine.IsInt 1#32 (1) := Affine.ofNat _ (by omega)
    have h_v337 : Affine.IsInt _ ((k0_t6.val : Int)) := Affine.muli h_arg27 h_c1_i32_193 (by omega)
    have h_v338 : Affine.IsInt _ ((k0_t6.val : Int)) := Affine.addi h_c0_i32_194 h_v337 (by omega)
    have h_v339 : Affine.IsInt _ (64 * (k0_t4.val : Int) + (k0_t6.val : Int)) := Affine.addi h_v334 h_v338 (by omega)
    have h_v342 : Affine.IsInt _ (64 * (k0_t4.val : Int) + (k0_t6.val : Int)) := Affine.indexCast h_v339
    exact Affine.vec_cons h_v340 (by omega) <| Affine.vec_cons h_v341 (by omega) <| Affine.vec_cons h_v342 (by omega) <| Affine.vec_nil

theorem k0_off27_closed : ∀ (i : grid0.Coords) (k0_t8 : Fin k0_t8_loop.trips) (r : Fin 4), k0_off27 i k0_t8 (BitVec.ofNat 32 (128 * r.val)) = ![(i 0).val % 2, 512 * k0_t8.val + 128 * r.val, (i 0).val % 4, 0] := by
  intro i k0_t8 r
  have r_r : r.val < 4 := r.isLt
  have h_c0_i32_180 : Affine.IsInt (BitVec.ofNat 32 (128 * r.val)) (128 * (r.val : Int)) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v331 : Affine.IsInt _ ((((i 0).val : Int) % 2)) := Affine.indexCast h_v36
  have h_c0_i32_151 : Affine.IsInt 0#32 (0) := Affine.ofNat _ (by omega)
  have h_c1_i32_153 : Affine.IsInt 1#32 (1) := Affine.ofNat _ (by omega)
  have r_k0_t8 : k0_t8.val < 7 := Nat.lt_of_lt_of_le k0_t8.isLt k0_t8_abs.2.1
  have h_arg26 : Affine.IsInt _ ((k0_t8.val : Int)) := Affine.iv h_c0_i32_151 h_c1_i32_153 k0_t8.val (by omega)
  have c_arg26 : (k0_t8.val : Int) ≤ 7 - 1 := Affine.iv_lt k0_t8_abs.1 k0_t8.isLt k0_t8_abs.2.2 h_arg26
  have h_c512_i32 : Affine.IsInt 512#32 (512) := Affine.ofNat _ (by omega)
  have h_v328 : Affine.IsInt _ (512 * (k0_t8.val : Int)) := Affine.muli h_arg26 h_c512_i32 (by omega)
  have h_v329 : Affine.IsInt _ (512 * (k0_t8.val : Int) + 128 * (r.val : Int)) := Affine.addi h_v328 h_c0_i32_180 (by omega)
  have h_v332 : Affine.IsInt _ (512 * (k0_t8.val : Int) + 128 * (r.val : Int)) := Affine.indexCast h_v329
  have h_c4_i32_4 : Affine.IsInt 4#32 (4) := Affine.ofNat _ (by omega)
  have h_c0_i32_5 : Affine.IsInt 0#32 (0) := Affine.ofNat _ (by omega)
  have h_v17 : Affine.Fails _ := Affine.eq_fails h_c4_i32_4 h_c0_i32_5 (by omega)
  have h_c1_i32_6 : Affine.IsInt 1#32 (1) := Affine.ofNat _ (by omega)
  have h_v18 : Affine.IsInt _ (4) := Affine.select_fails h_v17 h_c1_i32_6 h_c4_i32_4 (by omega)
  have h_v19 : Affine.IsInt _ ((((i 0).val : Int) % 4)) := Affine.remsi h_arg0 h_v18 (by omega)
  have h_c0_i32_8 : Affine.IsInt 0#32 (0) := Affine.ofNat _ (by omega)
  have h_v21 : Affine.Fails _ := Affine.slt_fails h_v19 h_c0_i32_8 (by omega)
  have h_c0_i32_9 : Affine.IsInt 0#32 (0) := Affine.ofNat _ (by omega)
  have h_v22 : Affine.Fails _ := Affine.slt_fails h_v18 h_c0_i32_9 (by omega)
  have h_v23 : Affine.Fails _ := Affine.xori_ff h_v21 h_v22
  have h_c0_i32_7 : Affine.IsInt 0#32 (0) := Affine.ofNat _ (by omega)
  have h_v20 : Affine.Term _ := Affine.cmpi_term .ne h_v19 h_c0_i32_7
  have h_v24 : Affine.Fails _ := Affine.andi_fails_left h_v23 h_v20
  have h_v25 : Affine.IsInt _ ((((i 0).val : Int) % 4) + 4) := Affine.addi h_v19 h_v18 (by omega)
  have h_v26 : Affine.IsInt _ ((((i 0).val : Int) % 4)) := Affine.select_fails h_v24 h_v25 h_v19 (by omega)
  have h_v333 : Affine.IsInt _ ((((i 0).val : Int) % 4)) := Affine.indexCast h_v26
  have h_c0_181 : Affine.IsInt 0#32 (0) := Affine.ofNat _ (by omega)
  exact Affine.vec_cons h_v331 (by omega) <| Affine.vec_cons h_v332 (by omega) <| Affine.vec_cons h_v333 (by omega) <| Affine.vec_cons (Affine.ofNat 0 (by omega) : Affine.IsInt 0#32 0) (by omega) <| Affine.vec_nil

theorem off9_closed : ∀ i : grid0.Coords, k0_off9 i = ![(i 0).val % 2] := by decide +kernel
theorem off12_closed : ∀ i : grid0.Coords, k0_off12 i = ![1 - (i 0).val % 2] := by decide +kernel
theorem off25_closed : ∀ i : grid0.Coords, k0_off25 i = ![(i 0).val % 2] := by decide +kernel
theorem off26_closed : ∀ i : grid0.Coords, k0_off26 i = ![(i 0).val % 2, 0, 0, 0] := by decide +kernel
theorem off6_closed : ∀ i : grid0.Coords, k0_off6 i = ![(i 0).val / 4] := by decide +kernel
theorem off7_closed : ∀ i : grid0.Coords, k0_off7 i = ![7 * ((i 0).val % 4), (i 0).val / 4, 0] := by decide +kernel
theorem off8_closed : ∀ i : grid0.Coords, k0_off8 i = ![(i 0).val / 4, 0, 0] := by decide +kernel
theorem cond1_iff : ∀ i : grid0.Coords, k0_cond1 i = 1#1 ↔ (i 0).val = 0 := by decide +kernel
theorem cond2_iff : ∀ i : grid0.Coords, k0_cond2 i = 1#1 ↔ (i 0).val + 1 < 24 := by decide +kernel
set_option maxRecDepth 100000 in
theorem off11_closed : ∀ (i : grid0.Coords) (k0_t4 : Fin k0_t4_loop.trips) (k0_t5 : Fin k0_t5_loop.trips), k0_cond2 i = 1#1 →
    k0_off11 i k0_t4 k0_t5 = ![((i 0).val + 1) / 4, ((i 0).val + 1) % 4, 64 * k0_t4.val + k0_t5.val] := by decide +kernel

/-- The chunk a transfer reads for a table word: the word where it names one, the transfer's own number where it is -1. -/
def chunkW (w : BitVec 32) (t : ℕ) : ℕ := if 0 ≤ w.toInt then w.toInt.toNat else t

theorem chunkW_lt {w : BitVec 32} {t : ℕ} (ht : t < 448) (h : w.toInt < 8192) : chunkW w t < 8192 := by
  unfold chunkW; split <;> omega

/-- The row word computed from a table word and the transfer's own number. -/
theorem rowWord {w v : BitVec 32} {t : ℕ} (hv : Affine.IsInt v t) (ht : t < 448) (h : w.toInt < 8192) :
    (Scalar.muli (Scalar.select (Scalar.cmpi .sge w 0#32) w v) 8#32).toNat = 8 * chunkW w t := by
  have h0 : Affine.IsInt 0#32 (0) := Affine.ofNat _ (by omega)
  have h8 : Affine.IsInt 8#32 (8) := Affine.ofNat _ (by omega)
  have hw := Affine.word w
  unfold chunkW
  split
  · rename_i hp
    have hc : Affine.Holds _ := Affine.sge_holds hw h0 hp
    have hs : Affine.IsInt _ (w.toInt) := Affine.select_holds hc hw hv rfl
    have hm : Affine.IsInt _ (w.toInt * 8) := Affine.muli hs h8 (by omega)
    have := Affine.toNat_of hm (by omega); omega
  · rename_i hp
    have hc : Affine.Fails _ := Affine.sge_fails hw h0 hp
    have hs : Affine.IsInt _ (t : Int) := Affine.select_fails hc hw hv rfl
    have hm : Affine.IsInt _ ((t : Int) * 8) := Affine.muli hs h8 (by omega)
    have := Affine.toNat_of hm (by omega); omega

/-- The transfer's number as the loops compute it. -/
theorem ownWord (a b : ℕ) (ha : a < 7) (hb : b < 64) :
    Affine.IsInt (Scalar.addi (Scalar.muli (Scalar.addi 0#32 (Scalar.muli (Scf.iv 0#32 1#32 a) 1#32)) 64#32)
      (Scalar.addi 0#32 (Scalar.muli (Scf.iv 0#32 1#32 b) 1#32))) ((64 * a + b : ℕ) : Int) := by
  have h0 : Affine.IsInt 0#32 (0) := Affine.ofNat _ (by omega)
  have h1 : Affine.IsInt 1#32 (1) := Affine.ofNat _ (by omega)
  have h64 : Affine.IsInt 64#32 (64) := Affine.ofNat _ (by omega)
  have ia : Affine.IsInt _ ((a : Int)) := Affine.iv h0 h1 a (by omega)
  have ib : Affine.IsInt _ ((b : Int)) := Affine.iv h0 h1 b (by omega)
  have ma : Affine.IsInt _ ((a : Int)) := Affine.muli ia h1 (by omega)
  have aa : Affine.IsInt _ ((a : Int)) := Affine.addi h0 ma (by omega)
  have sa : Affine.IsInt _ (64 * (a : Int)) := Affine.muli aa h64 (by omega)
  have mb : Affine.IsInt _ ((b : Int)) := Affine.muli ib h1 (by omega)
  have ab : Affine.IsInt _ ((b : Int)) := Affine.addi h0 mb (by omega)
  exact Affine.addi sa ab (by omega)

theorem t1_lt (k : Fin k0_t1_loop.trips) : k.val < 7 := Nat.lt_of_lt_of_le k.isLt k0_t1_abs.2.1
theorem t2_lt (k : Fin k0_t2_loop.trips) : k.val < 64 := Nat.lt_of_lt_of_le k.isLt k0_t2_abs.2.1
theorem t3_lt (k : Fin k0_t3_loop.trips) : k.val < 448 := Nat.lt_of_lt_of_le k.isLt k0_t3_abs.2.1
theorem t4_lt (k : Fin k0_t4_loop.trips) : k.val < 7 := Nat.lt_of_lt_of_le k.isLt k0_t4_abs.2.1
theorem t5_lt (k : Fin k0_t5_loop.trips) : k.val < 64 := Nat.lt_of_lt_of_le k.isLt k0_t5_abs.2.1
theorem t6_lt (k : Fin k0_t6_loop.trips) : k.val < 64 := Nat.lt_of_lt_of_le k.isLt k0_t6_abs.2.1
theorem t7_lt (k : Fin k0_t7_loop.trips) : k.val < 4 := Nat.lt_of_lt_of_le k.isLt k0_t7_abs.2.1
theorem t8_lt (k : Fin k0_t8_loop.trips) : k.val < 7 := Nat.lt_of_lt_of_le k.isLt k0_t8_abs.2.1

theorem off3_closed (k0_t1 : Fin k0_t1_loop.trips) (k0_t2 : Fin k0_t2_loop.trips) (w : BitVec 32) (h : w.toInt < 8192) :
    k0_off3 k0_t1 k0_t2 w = ![0, 8 * chunkW w (64 * k0_t1.val + k0_t2.val), 0] := by
  have h1 := t1_lt k0_t1; have h2 := t2_lt k0_t2
  have e := rowWord (ownWord k0_t1.val k0_t2.val h1 h2) (by omega) h
  rw [← e]; rfl

theorem off5_closed (k0_t1 : Fin k0_t1_loop.trips) (k0_t2 : Fin k0_t2_loop.trips) (w : BitVec 32) (h : w.toInt < 8192) :
    k0_off5 k0_t1 k0_t2 w = ![0, 8 * chunkW w (64 * k0_t1.val + k0_t2.val), 0, 0] := by
  have h1 := t1_lt k0_t1; have h2 := t2_lt k0_t2
  have e := rowWord (ownWord k0_t1.val k0_t2.val h1 h2) (by omega) h
  rw [← e]; rfl

theorem off14_closed (i : grid0.Coords) (k0_t4 : Fin k0_t4_loop.trips) (k0_t5 : Fin k0_t5_loop.trips) (hc : k0_cond2 i = 1#1)
    (w : BitVec 32) (h : w.toInt < 8192) :
    k0_off14 i k0_t4 k0_t5 w = ![((i 0).val + 1) / 4, 8 * chunkW w (64 * k0_t4.val + k0_t5.val), 0] := by
  have h1 := t4_lt k0_t4; have h2 := t5_lt k0_t5
  have e := rowWord (ownWord k0_t4.val k0_t5.val h1 h2) (by omega) h
  have e0 : k0_off11 i k0_t4 k0_t5 0 = ((i 0).val + 1) / 4 := congrFun (off11_closed i k0_t4 k0_t5 hc) 0
  rw [← e, ← e0]; rfl

theorem off16_closed (i : grid0.Coords) (k0_t4 : Fin k0_t4_loop.trips) (k0_t5 : Fin k0_t5_loop.trips) (hc : k0_cond2 i = 1#1)
    (w : BitVec 32) (h : w.toInt < 8192) :
    k0_off16 i k0_t4 k0_t5 w = ![((i 0).val + 1) / 4, 8 * chunkW w (64 * k0_t4.val + k0_t5.val), 0, 0] := by
  have h1 := t4_lt k0_t4; have h2 := t5_lt k0_t5
  have e := rowWord (ownWord k0_t4.val k0_t5.val h1 h2) (by omega) h
  have e0 : k0_off11 i k0_t4 k0_t5 0 = ((i 0).val + 1) / 4 := congrFun (off11_closed i k0_t4 k0_t5 hc) 0
  rw [← e, ← e0]; rfl

/-- Eight rows at a chunk's rows lie in the array and are whole words. -/
theorem rowsK (b c : ℕ) (hb : b < 6) (hc : c < 8192) (off : Fin 3 → ℕ) (h : off = ![b, 8 * c, 0]) :
    (∀ a, off a + S1x8x160.size a ≤ S6x65536x160.size a)
    ∧ ∀ hinb : ∀ a, off a + S1x8x160.size a ≤ S6x65536x160.size a,
        (Rect.unit (s := S6x65536x160) off S1x8x160.size hinb).WholeWords (EltTy.packing .bf16) := by
  subst h
  refine ⟨fun a => ?_, fun hinb => Affine.words_of_packed <| Affine.packed_dvd (of_decide_eq_true rfl) (?_ : 2 ∣ 8 * c) (by decide)⟩
  · fin_cases a
    · show b + 1 ≤ 6; omega
    · show 8 * c + 8 ≤ 65536; omega
    · show 0 + 160 ≤ 160; omega
  · omega

theorem rowsV (b c : ℕ) (hb : b < 6) (hc : c < 8192) (off : Fin 4 → ℕ) (h : off = ![b, 8 * c, 0, 0]) :
    (∀ a, off a + S1x8x4x128.size a ≤ S6x65536x4x128.size a)
    ∧ ∀ hinb : ∀ a, off a + S1x8x4x128.size a ≤ S6x65536x4x128.size a,
        (Rect.unit (s := S6x65536x4x128) off S1x8x4x128.size hinb).WholeWords (EltTy.packing .fp8e4m3) := by
  subst h
  refine ⟨fun a => ?_, fun hinb => Affine.words_rows (of_decide_eq_true rfl) rfl (by decide)⟩
  fin_cases a
  · show b + 1 ≤ 6; omega
  · show 8 * c + 8 ≤ 65536; omega
  · show 0 + 4 ≤ 4; omega
  · show 0 + 128 ≤ 128; omega

theorem chk1_holds (i : grid0.Coords) (k0_t1 : Fin k0_t1_loop.trips) (k0_t2 : Fin k0_t2_loop.trips) (w : BitVec 32)
    (h : w.toInt < 8192) : k0_chk1 i k0_t1 k0_t2 w := by
  have h1 := t1_lt k0_t1; have h2 := t2_lt k0_t2
  have hl : chunkW w (64 * k0_t1.val + k0_t2.val) < 8192 := chunkW_lt (by omega) h
  have hm : (k0_mult1 k0_t1 k0_t2 w).toNat = 8 * chunkW w (64 * k0_t1.val + k0_t2.val) :=
    rowWord (ownWord k0_t1.val k0_t2.val h1 h2) (by omega) h
  have hK := rowsK 0 _ (by omega) hl _ (off3_closed k0_t1 k0_t2 w h)
  have hV := rowsV 0 _ (by omega) hl _ (off5_closed k0_t1 k0_t2 w h)
  exact ⟨fun _ => hm ▸ Dvd.intro _ rfl, fun _ => hK.1, fun _ => hK.2, fun _ => hV.1, fun _ => hV.2⟩

theorem chk2_holds (i : grid0.Coords) (k0_t4 : Fin k0_t4_loop.trips) (k0_t5 : Fin k0_t5_loop.trips) (w : BitVec 32)
    (h : w.toInt < 8192) : k0_chk2 i k0_t4 k0_t5 w := by
  have h1 := t4_lt k0_t4; have h2 := t5_lt k0_t5
  have hl : chunkW w (64 * k0_t4.val + k0_t5.val) < 8192 := chunkW_lt (by omega) h
  have hm : (k0_mult4 k0_t4 k0_t5 w).toNat = 8 * chunkW w (64 * k0_t4.val + k0_t5.val) :=
    rowWord (ownWord k0_t4.val k0_t5.val h1 h2) (by omega) h
  have hi : (i 0).val < 24 := (i 0).isLt
  have hb : k0_cond2 i = 1#1 → ((i 0).val + 1) / 4 < 6 := fun hc => by have := (cond2_iff i).mp hc; omega
  refine ⟨fun _ => hm ▸ Dvd.intro _ rfl, fun hc => (rowsK _ _ (hb hc) hl _ (off14_closed i k0_t4 k0_t5 hc w h)).1,
    fun hc => (rowsK _ _ (hb hc) hl _ (off14_closed i k0_t4 k0_t5 hc w h)).2,
    fun hc => (rowsV _ _ (hb hc) hl _ (off16_closed i k0_t4 k0_t5 hc w h)).1,
    fun hc => (rowsV _ _ (hb hc) hl _ (off16_closed i k0_t4 k0_t5 hc w h)).2⟩

/-- The row of the scale table a word names: its chunk's sixteenth, 0 for -1. -/
def tblRow (w : BitVec 32) : ℕ := w.toInt.toNat / 16

/-- The table row as the body computes it from the word. -/
def tblWord (v343 : BitVec 32) : BitVec 32 :=
  let v344 : BitVec 32 := Scalar.maxsi v343 0#32
  let v350 : BitVec 32 := Scalar.subi (Scalar.extui (Scalar.cmpi .sgt v344 0#32)) (Scalar.extui (Scalar.cmpi .slt v344 0#32))
  let v355 : BitVec 32 := Scalar.subi (Scalar.extui (Scalar.cmpi .sgt 16#32 0#32)) (Scalar.extui (Scalar.cmpi .slt 16#32 0#32))
  let v359 : BitVec 1 := Scalar.andi (Scalar.cmpi .ne v350 v355) (Scalar.cmpi .ne (Scalar.remsi v344 16#32) 0#32)
  let v345 : BitVec 32 := Scalar.divsi v344 16#32
  Scalar.select v359 (Scalar.subi v345 1#32) v345

set_option maxRecDepth 100000 in
theorem tblWord_num : ∀ (a : Fin 64) (b : Fin 128), (tblWord (BitVec.ofNat 32 (128 * a.val + b.val))).toNat = (128 * a.val + b.val) / 16 := by
  decide +kernel

theorem tblWord_neg : (tblWord (BitVec.ofInt 32 (-1))).toNat = 0 := by decide +kernel

theorem tblWord_row {w : BitVec 32} (hl : -1 ≤ w.toInt) (h : w.toInt < 8192) : (tblWord w).toNat = tblRow w := by
  unfold tblRow
  by_cases hp : 0 ≤ w.toInt
  · have e : w = BitVec.ofNat 32 (128 * (w.toInt.toNat / 128) + w.toInt.toNat % 128) := by
      apply BitVec.eq_of_toNat_eq
      have h1 := BitVec.toInt_eq_toNat_of_lt (x := w)
      have h2 : w.toInt.toNat = w.toNat := by
        rw [BitVec.toInt_eq_toNat_cond] at hp h ⊢; split at hp <;> omega
      rw [BitVec.toNat_ofNat]; omega
    have := tblWord_num ⟨w.toInt.toNat / 128, by omega⟩ ⟨w.toInt.toNat % 128, by omega⟩
    simp only at this; rw [← e] at this; rw [this]; omega
  · have e : w = BitVec.ofInt 32 (-1) := by apply BitVec.eq_of_toInt_eq; show w.toInt = -1; omega
    have := tblWord_neg; rw [← e] at this; rw [this]; omega

theorem off18_head : ∀ i : grid0.Coords, k0_off18 i 0#32 2 = (i 0).val % 4 := by decide +kernel

theorem off18_closed (i : grid0.Coords) (w : BitVec 32) (hl : -1 ≤ w.toInt) (h : w.toInt < 8192) :
    k0_off18 i w = ![0, tblRow w, (i 0).val % 4, 0] := by
  have e0 : k0_off18 i w 2 = (i 0).val % 4 := off18_head i
  rw [← tblWord_row hl h, ← e0]; rfl

theorem chk3_holds (i : grid0.Coords) (w : BitVec 32) (hl : -1 ≤ w.toInt) (h : w.toInt < 8192) : k0_chk3 i w := by
  unfold k0_chk3
  rw [off18_closed i w hl h]
  intro a
  have : tblRow w < 512 := by unfold tblRow; omega
  fin_cases a
  · show 0 + 1 ≤ 1; omega
  · show tblRow w + 1 ≤ 512; omega
  · show (i 0).val % 4 + 1 ≤ 4; omega
  · show 0 + 128 ≤ 128; omega

end Cert.Kernel.Hand

end
-- ==== Proof.Batch.lean ====
/- The kernel's own transfers: the blocks they fill, the rows they read, what each delivers, and the rules by which the
   body issues one and waits for all of an item's. -/
module

public import proofs.«01_k».proof.Proof.Offs
public import Idealize.ShloMosaic.Lib.Pipeline.FrameBody
public import Idealize.ShloMosaic.Lib.Batch
public import Idealize.ShloMosaic.Lib.Ring
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A points-to of a memref's buffer may be stored in a cell's invariant. -/
theorem storable_pt {sp : Space} {s : Shape} {e : EltTy} (c : Dev nD) (M : Memref sig .tc sp s e) (I : Finset (Idx (M.view.loc (c : Thread nD τ))))
    (q : PosShare TreeShare) (f : Buf (Elt F) (M.view.loc (c : Thread nD τ))) :
    BI.Storable (upEmb : UEmb _ 𝕄) (M.view.loc (c : Thread nD τ) ↦[I]{q} f : sProp 𝕄) := inferInstance

/-- One issue into a batch, the row, the hole and the delivery by name. -/
theorem wp_issue {s : Shape} {e : EltTy} {α : Type} {Q : α → sProp 𝕄} (c : Dev nD) {src : Memref sig .tc .hbm s e} {dst : Memref sig .tc .vmem s e} {sm : DmaSem sig}
    {hsrc : src.view.WordExact} {hdst : dst.view.WordExact}
    {hsem : DmaTarget.Typed (nD := nD) (τ := τ) (p := (c : Thread nD τ).2) .hbm (SemLoc.dma sm) (.here dst)}
    {k : PUnit → Prog (TpuEff nD τ sig (Elt F) Λ₀ .tc) α} (N : ℕ) (hN : dst.view.amount (SemLoc.dma sm) = N)
    (R H : sProp 𝕄) {n : ℕ} (D : Fin n → sProp 𝕄) (j : ℕ) (hj : j < n) (q : PosShare TreeShare)
    (fs : Buf (Elt F) (src.view.loc (c : Thread nD τ))) (g : Buf (Elt F) (dst.view.loc (c : Thread nD τ)))
    (hR : R = (src.view.loc (c : Thread nD τ) ↦[src.view.set]{q} fs)) (hH : H = (dst.view.loc (c : Thread nD τ) ↦[dst.view.set]{fullShare} g))
    (hD : iprop((dst.view.loc (c : Thread nD τ) ↦[dst.view.set]{fullShare} (dst.view.write (Elt F) g (ReadAs.same.apply (src.view.read (Elt F) fs)) Finset.univ)) ∗ R) ⊢ D ⟨j, hj⟩) :
    iprop(R ∗ H ∗ Transfers.Batch (countersEmb (U := Pipeline.UD sig nD τ)) (c : Thread nD τ) (.dma sm) () N D j 0)
      ⊢ iprop((Transfers.Batch (countersEmb (U := Pipeline.UD sig nD τ)) (c : Thread nD τ) (.dma sm) () N D (j + 1) 0
          -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hR hH
  exact Transfers.wp_dmaBatch (countersEmb (U := Pipeline.UD sig nD τ)) Variants.none (c : Thread nD τ) none
    (D := D) (fs := fs) (fd := g) () N hN (Finset.Subset.refl _) hj (Nat.zero_le _) hD

/-! ## Items -/

/-- Item `it`'s slot, batch row and head. -/
def slotOf (it : Fin 24) : Fin 2 := ⟨it.val % 2, by omega⟩
def rowOf (it : Fin 24) : Fin 6 := ⟨it.val / 4, by omega⟩
def headOf (it : Fin 24) : Fin 4 := ⟨it.val % 4, by omega⟩

abbrev tabM : Memref sig .tc .smem S6x4x448 .i32 := Memref.whole main_arg7

theorem sel_inb (b : Fin 6) (h : Fin 4) (t : Fin 448) : ∀ a, (![b.val, h.val, t.val] : Fin 3 → Nat) a + S1x1x1.size a ≤ S6x4x448.size a := by
  have := b.isLt; have := h.isLt; have := t.isLt; intro a; fin_cases a
  · show b.val + 1 ≤ 6; omega
  · show h.val + 1 ≤ 4; omega
  · show t.val + 1 ≤ 448; omega

/-- The table word of item `it`'s transfer `t`, as the body reads it. -/
def selW (sel : S6x4x448.Idx → Elt F .i32) (it : Fin 24) (t : Fin 448) : BitVec 32 :=
  tabM.view.readAt (Elt F) (Rect.unit (s := S6x4x448) ![(rowOf it).val, (headOf it).val, t.val] S1x1x1.size (sel_inb _ _ t)).toLoadRect sel (Shape.Idx.first (numel1_S1x1x1.symm ▸ Nat.one_pos))

/-- Every word of the table names a chunk or is -1. -/
def SelOK (sel : S6x4x448.Idx → Elt F .i32) : Prop := ∀ y, -1 ≤ (show BitVec 32 from sel y).toInt ∧ (show BitVec 32 from sel y).toInt < 8192

theorem selW_range {sel : S6x4x448.Idx → Elt F .i32} (h : SelOK (F := F) sel) (it : Fin 24) (t : Fin 448) :
    -1 ≤ (selW (F := F) sel it t).toInt ∧ (selW (F := F) sel it t).toInt < 8192 := h _

/-- The chunk item `it`'s transfer `t` reads. -/
def chunkOf (sel : S6x4x448.Idx → Elt F .i32) (it : Fin 24) (t : Fin 448) : Fin 8192 :=
  ⟨chunkW (selW (F := F) sel it t) t.val % 8192, Nat.mod_lt _ (by decide)⟩

theorem chunkOf_val {sel : S6x4x448.Idx → Elt F .i32} (h : SelOK (F := F) sel) (it : Fin 24) (t : Fin 448) :
    (chunkOf (F := F) sel it t).val = chunkW (selW (F := F) sel it t) t.val :=
  Nat.mod_eq_of_lt (chunkW_lt t.isLt (selW_range h it t).2)

/-! ## The transfers of K -/

section K

theorem kDst_inb (s : Fin 2) (t : Fin 448) : ∀ a, (![s.val, 8 * t.val, 0] : Fin 3 → Nat) a + S1x8x160.size a ≤ S2x3584x160.size a := by
  have := s.isLt; have := t.isLt; intro a; fin_cases a
  · show s.val + 1 ≤ 2; omega
  · show 8 * t.val + 8 ≤ 3584; omega
  · show 0 + 160 ≤ 160; omega
theorem kSrc_inb (b : Fin 6) (r : Fin 8192) : ∀ a, (![b.val, 8 * r.val, 0] : Fin 3 → Nat) a + S1x8x160.size a ≤ S6x65536x160.size a := by
  have := b.isLt; have := r.isLt; intro a; fin_cases a
  · show b.val + 1 ≤ 6; omega
  · show 8 * r.val + 8 ≤ 65536; omega
  · show 0 + 160 ≤ 160; omega
theorem kCell_inb (s : Fin 2) : ∀ a, (![s.val] : Fin 1 → Nat) a + S1.size a ≤ S2.size a := by
  have := s.isLt; intro a; fin_cases a; show s.val + 1 ≤ 2; omega

/-- The block transfer `t` fills in slot `s`. -/
def kDst (s : Fin 2) (t : Fin 448) : Memref sig .tc .vmem S8x160 .bf16 :=
  ((Memref.whole cc0_scratch0).slice (Rect.unit (s := S2x3584x160) ![s.val, 8 * t.val, 0] S1x8x160.size (kDst_inb s t)) (fun _ => rfl)).squeeze S8x160 squeezes_S1x8x160_S8x160
/-- The rows of chunk `r` of batch row `b`. -/
def kSrc (b : Fin 6) (r : Fin 8192) : Memref sig .tc .hbm S8x160 .bf16 :=
  ((Memref.whole main_arg3).slice (Rect.unit (s := S6x65536x160) ![b.val, 8 * r.val, 0] S1x8x160.size (kSrc_inb b r)) (fun _ => rfl)).squeeze S8x160 squeezes_S1x8x160_S8x160
/-- Slot `s`'s cell. -/
def kCell (s : Fin 2) : DmaSem sig := ((cc0_scratch7.slice (Rect.unit (s := S2) ![s.val] S1.size (kCell_inb s))).squeeze S_ squeezes_S1_S_).sem

abbrev kN : ℕ := 128

theorem k_amount (s s' : Fin 2) (t : Fin 448) : (kDst s t).view.amount (SemLoc.dma (kCell s')) = kN := rfl

/-- What transfer `t` leaves in its block (elsewhere arbitrary). -/
def kLand (s : Fin 2) (t : Fin 448) (b : Fin 6) (r : Fin 8192) (ka : S6x65536x160.Idx → Elt F .bf16) : S2x3584x160.Idx → Elt F .bf16 :=
  (kDst s t).view.write (Elt F) (fun _ => Classical.arbitrary _) (ReadAs.same.apply ((kSrc b r).view.read (Elt F) ka)) Finset.univ

theorem kDst_set (s : Fin 2) (t : Fin 448) : (kDst s t).view.set = (Rect.unit (s := S2x3584x160) ![s.val, 8 * t.val, 0] S1x8x160.size (kDst_inb s t)).set := by
  unfold kDst; exact (View.set_reshape _ _).trans (View.set_slice_whole _ _)

/-- Block `t` of slot `s`: eight rows. -/
def kBlk (s : Fin 2) (t : Fin 448) : Finset S2x3584x160.Idx := (Rect.unit (s := S2x3584x160) ![s.val, 8 * t.val, 0] S1x8x160.size (kDst_inb s t)).set
theorem mem_kBlk (s : Fin 2) (t : Fin 448) (y : S2x3584x160.Idx) : y ∈ kBlk s t ↔ (y 0).val = s.val ∧ (y 1).val / 8 = t.val := by
  unfold kBlk
  rw [Rect.mem_set_unit]
  have h2 : (y 2).val < 160 := (y 2).isLt
  constructor
  · intro H
    have a0 : s.val ≤ (y 0).val ∧ (y 0).val < s.val + 1 := H 0
    have a1 : 8 * t.val ≤ (y 1).val ∧ (y 1).val < 8 * t.val + 8 := H 1
    omega
  · intro H a; fin_cases a
    · show s.val ≤ (y 0).val ∧ (y 0).val < s.val + 1; omega
    · show 8 * t.val ≤ (y 1).val ∧ (y 1).val < 8 * t.val + 8; omega
    · show 0 ≤ (y 2).val ∧ (y 2).val < 0 + 160; omega
theorem kBlk_disjoint (s : Fin 2) : ∀ t t' : Fin 448, t ≠ t' → Disjoint (kBlk s t) (kBlk s t') := fun t t' hne => by
  rw [Finset.disjoint_left]; intro y hy hy'; rw [mem_kBlk] at hy hy'; exact hne (Fin.ext (by omega))
/-- Slot `s`. -/
def kSlot (s : Fin 2) : Finset S2x3584x160.Idx := Finset.univ.filter fun y => (y 0).val = s.val
theorem kBlk_cover (s : Fin 2) : Finset.univ.biUnion (kBlk s) = kSlot s := by
  ext y; simp only [Finset.mem_biUnion, Finset.mem_univ, true_and, kSlot, Finset.mem_filter, mem_kBlk]
  have h1 : (y 1).val < 3584 := (y 1).isLt
  constructor
  · rintro ⟨t, h, -⟩; exact h
  · intro h; exact ⟨⟨(y 1).val / 8, by omega⟩, h, rfl⟩
theorem kSlot_disjoint : ∀ s s' : Fin 2, s ≠ s' → Disjoint (kSlot s) (kSlot s') := fun s s' hne => by
  rw [Finset.disjoint_left]; intro y hy hy'; simp only [kSlot, Finset.mem_filter] at hy hy'; exact hne (Fin.ext (by omega))
theorem kSlot_cover : Finset.univ.biUnion kSlot = (Finset.univ : Finset S2x3584x160.Idx) := by
  ext y; simp only [Finset.mem_biUnion, Finset.mem_univ, true_and, iff_true, kSlot, Finset.mem_filter]
  exact ⟨y 0, rfl⟩

variable (c : Dev nD) (sel : S6x4x448.Idx → Elt F .i32) (ka : S6x65536x160.Idx → Elt F .bf16) (it : Fin 24)

/-- What item `it`'s slot holds once its transfers have landed. -/
def kFull : S2x3584x160.Idx → Elt F .bf16 := fun y =>
  kLand (slotOf it) ⟨(y 1).val / 8, by have : (y 1).val < 3584 := (y 1).isLt; omega⟩ (rowOf it)
    (chunkOf (F := F) sel it ⟨(y 1).val / 8, by have : (y 1).val < 3584 := (y 1).isLt; omega⟩) ka y

/-- Read token number `n` of the array. -/
abbrev kTok (n : ℕ) : sProp 𝕄 :=
  (Memref.whole main_arg3 : Memref sig .tc .hbm S6x65536x160 .bf16).view.loc (c : Thread nD τ) ↦[Finset.univ]{Transfers.shareTokN fullShare n} ka
/-- The token transfer `t` of item `it` reads by. -/
abbrev kNum (t : Fin 448) : ℕ := 448 * (slotOf it).val + t.val
/-- The rows transfer `t` reads, and the rest of its token. -/
def kRow (t : Fin 448) : sProp 𝕄 :=
  (kSrc (rowOf it) (chunkOf (F := F) sel it t)).view.loc (c : Thread nD τ)
    ↦[(kSrc (rowOf it) (chunkOf (F := F) sel it t)).view.set]{Transfers.shareTokN fullShare (kNum it t)} ka
def kRest (t : Fin 448) : sProp 𝕄 :=
  (kSrc (rowOf it) (chunkOf (F := F) sel it t)).view.loc (c : Thread nD τ)
    ↦[Finset.univ \ (kSrc (rowOf it) (chunkOf (F := F) sel it t)).view.set]{Transfers.shareTokN fullShare (kNum it t)} ka
theorem kTok_split (t : Fin 448) : (kTok c ka (kNum it t) : sProp 𝕄) ⊣⊢ iprop(kRow c sel ka it t ∗ kRest c sel ka it t) :=
  pointsTo_split_subset (Finset.subset_univ _)

/-- Block `t` of slot `s` at some contents. -/
def kHole (s : Fin 2) (t : Fin 448) : sProp 𝕄 := iprop(∃ g, (kDst s t).view.loc (c : Thread nD τ) ↦[(kDst s t).view.set]{fullShare} g)
/-- Block `t` of item `it` landed. -/
def kDone (t : Fin 448) : sProp 𝕄 :=
  (kDst (slotOf it) t).view.loc (c : Thread nD τ) ↦[(kDst (slotOf it) t).view.set]{fullShare} kFull (F := F) sel ka it

/-- What transfer `t` delivers. -/
def kDeliv (t : Fin 448) : sProp 𝕄 := iprop(kDone c sel ka it t ∗ kRow c sel ka it t)
instance kDeliv_storable (t : Fin 448) : BI.Storable (upEmb : UEmb _ 𝕄) (kDeliv c sel ka it t) := by
  have h1 : BI.Storable (upEmb : UEmb _ 𝕄) (kDone c sel ka it t) := storable_pt c (kDst (slotOf it) t) _ _ _
  have h2 : BI.Storable (upEmb : UEmb _ 𝕄) (kRow c sel ka it t) := storable_pt c (kSrc (rowOf it) (chunkOf (F := F) sel it t)) _ _ _
  unfold kDeliv; infer_instance

/-- Item `it`'s transfers: `j` issued, `u` consumed. -/
def kBatch (j u : ℕ) : sProp 𝕄 :=
  Transfers.Batch (countersEmb (U := Pipeline.UD sig nD τ)) (c : Thread nD τ) (.dma (kCell (slotOf it))) () kN (kDeliv c sel ka it) j u

/-- Item `it`'s transfers as the issue loop leaves them after `j`: the batch, the blocks and tokens still in hand, the rests. -/
def kIss (j : ℕ) : sProp 𝕄 :=
  iprop(kBatch c sel ka it j 0 ∗ bigSep (Ring.rangeSet 448 j 448) (kHole (F := F) c (slotOf it))
    ∗ bigSep (Ring.rangeSet 448 j 448) (fun t => kTok c ka (kNum it t)) ∗ bigSep (Ring.rangeSet 448 0 j) (kRest c sel ka it))

theorem kLand_on (t : Fin 448) (g : S2x3584x160.Idx → Elt F .bf16) :
    ∀ y : S2x3584x160.Idx, y ∈ (kDst (slotOf it) t).view.set → (kDst (slotOf it) t).view.write (Elt F) g (ReadAs.same.apply ((kSrc (rowOf it) (chunkOf (F := F) sel it t)).view.read (Elt F) ka)) Finset.univ y
      = kFull (F := F) sel ka it y := by
  intro y hy
  have hy' := hy
  rw [kDst_set] at hy'
  have e : (⟨(y 1).val / 8, by have : (y 1).val < 3584 := (y 1).isLt; omega⟩ : Fin 448) = t := Fin.ext ((mem_kBlk _ _ _).mp hy').2
  unfold kFull kLand
  rw [e]
  obtain ⟨x, -, rfl⟩ := Finset.mem_map.mp hy
  exact (View.write_emb_of_mem (v := (kDst (slotOf it) t).view) _ _ (Finset.mem_univ x)).trans (View.write_emb_of_mem (v := (kDst (slotOf it) t).view) _ _ (Finset.mem_univ x)).symm

theorem kDeliv_intro (t : Fin 448) (g : S2x3584x160.Idx → Elt F .bf16) :
    iprop(((kDst (slotOf it) t).view.loc (c : Thread nD τ) ↦[(kDst (slotOf it) t).view.set]{fullShare}
        ((kDst (slotOf it) t).view.write (Elt F) g (ReadAs.same.apply ((kSrc (rowOf it) (chunkOf (F := F) sel it t)).view.read (Elt F) ka)) Finset.univ))
      ∗ kRow c sel ka it t) ⊢ (kDeliv c sel ka it t : sProp 𝕄) := by
  unfold kDeliv kDone
  rw [pointsTo_congr (kLand_on sel ka it t g)]

/-- Issue item `it`'s transfer `j`. -/
theorem wp_kIssue {α : Type} {Q : α → sProp 𝕄} (j : ℕ) (hj : j < 448) (offd : Fin 3 → ℕ) (offs : Fin 3 → ℕ) (offc : Fin 1 → ℕ)
    (hd : offd = ![(slotOf it).val, 8 * j, 0]) (hs : offs = ![(rowOf it).val, 8 * (chunkOf (F := F) sel it ⟨j, hj⟩).val, 0])
    (hc : offc = ![(slotOf it).val])
    (inbd : ∀ a, offd a + S1x8x160.size a ≤ S2x3584x160.size a) (inbs : ∀ a, offs a + S1x8x160.size a ≤ S6x65536x160.size a) (inbc : ∀ a, offc a + S1.size a ≤ S2.size a)
    {src : Memref sig .tc .hbm S8x160 .bf16} {dst : Memref sig .tc .vmem S8x160 .bf16} {sm : DmaSem sig}
    (esrc : src = ((Memref.whole main_arg3).slice (Rect.unit (s := S6x65536x160) offs S1x8x160.size inbs) (fun _ => rfl)).squeeze S8x160 squeezes_S1x8x160_S8x160)
    (edst : dst = ((Memref.whole cc0_scratch0).slice (Rect.unit (s := S2x3584x160) offd S1x8x160.size inbd) (fun _ => rfl)).squeeze S8x160 squeezes_S1x8x160_S8x160)
    (esm : sm = ((cc0_scratch7.slice (Rect.unit (s := S2) offc S1.size inbc)).squeeze S_ squeezes_S1_S_).sem)
    {hsrc : src.view.WordExact} {hdst : dst.view.WordExact} {hsem : DmaTarget.Typed (nD := nD) (τ := τ) (p := (c : Thread nD τ).2) .hbm (SemLoc.dma sm) (.here dst)}
    {k : PUnit → Prog (TpuEff nD τ sig (Elt F) Λ₀ .tc) α} :
    kIss c sel ka it j
      ⊢ iprop((kIss c sel ka it (j + 1) -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hd hs hc
  have e1 : src = kSrc (rowOf it) (chunkOf (F := F) sel it ⟨j, hj⟩) := esrc
  have e2 : dst = kDst (slotOf it) ⟨j, hj⟩ := edst
  have e3 : sm = kCell (slotOf it) := esm
  subst e1 e2 e3
  unfold kIss
  rw [Ring.bigSep_rangeSet_head (lo := j) (hi := 448) hj hj, Ring.bigSep_rangeSet_head (lo := j) (hi := 448) hj hj,
    Ring.bigSep_rangeSet_last (NB := 448) (lo := 0) (hi := j + 1) (by omega) (by omega)]
  iintro ⟨HB, ⟨HH, HHs⟩, ⟨HT, HTs⟩, HR⟩ Hk
  ihave HT' := (kTok_split c sel ka it ⟨j, hj⟩).1 $$ HT
  icases HT' with ⟨HRow, HRest⟩
  unfold kHole
  icases HH with ⟨%g, HH⟩
  have hw := wp_issue (Q := Q) c (src := kSrc (rowOf it) (chunkOf (F := F) sel it ⟨j, hj⟩)) (dst := kDst (slotOf it) ⟨j, hj⟩) (sm := kCell (slotOf it))
    (hsrc := hsrc) (hdst := hdst) (hsem := hsem) (k := k) kN (k_amount (slotOf it) (slotOf it) ⟨j, hj⟩) (kRow c sel ka it ⟨j, hj⟩)
    ((kDst (slotOf it) ⟨j, hj⟩).view.loc (c : Thread nD τ) ↦[(kDst (slotOf it) ⟨j, hj⟩).view.set]{fullShare} g) (kDeliv c sel ka it) j hj
    (Transfers.shareTokN fullShare (kNum it ⟨j, hj⟩)) ka g rfl rfl (kDeliv_intro c sel ka it ⟨j, hj⟩ g)
  unfold kBatch
  iapply hw $$ [HRow HH HB]
  · isplitl [HRow]; · iexact HRow
    isplitl [HH]; · iexact HH
    iexact HB
  iintro HB
  iapply Hk
  isplitl [HB]; · iexact HB
  isplitl [HHs]; · iexact HHs
  isplitl [HTs]; · iexact HTs
  isplitl [HRest]; · iexact HRest
  iexact HR

end K

/-! ## The transfers of V -/

section V

theorem vDst_inb (s : Fin 2) (t : Fin 448) : ∀ a, (![s.val, 8 * t.val, 0, 0] : Fin 4 → Nat) a + S1x8x4x128.size a ≤ S2x3584x4x128.size a := by
  have := s.isLt; have := t.isLt; intro a; fin_cases a
  · show s.val + 1 ≤ 2; omega
  · show 8 * t.val + 8 ≤ 3584; omega
  · show 0 + 4 ≤ 4; omega
  · show 0 + 128 ≤ 128; omega
theorem vSrc_inb (b : Fin 6) (r : Fin 8192) : ∀ a, (![b.val, 8 * r.val, 0, 0] : Fin 4 → Nat) a + S1x8x4x128.size a ≤ S6x65536x4x128.size a := by
  have := b.isLt; have := r.isLt; intro a; fin_cases a
  · show b.val + 1 ≤ 6; omega
  · show 8 * r.val + 8 ≤ 65536; omega
  · show 0 + 4 ≤ 4; omega
  · show 0 + 128 ≤ 128; omega
theorem vCell_inb (s : Fin 2) : ∀ a, (![s.val] : Fin 1 → Nat) a + S1.size a ≤ S2.size a := by
  have := s.isLt; intro a; fin_cases a; show s.val + 1 ≤ 2; omega

/-- The block transfer `t` fills in slot `s`. -/
def vDst (s : Fin 2) (t : Fin 448) : Memref sig .tc .vmem S8x4x128 .fp8e4m3 :=
  ((Memref.whole cc0_scratch1).slice (Rect.unit (s := S2x3584x4x128) ![s.val, 8 * t.val, 0, 0] S1x8x4x128.size (vDst_inb s t)) (fun _ => rfl)).squeeze S8x4x128 squeezes_S1x8x4x128_S8x4x128
/-- The rows of chunk `r` of batch row `b`. -/
def vSrc (b : Fin 6) (r : Fin 8192) : Memref sig .tc .hbm S8x4x128 .fp8e4m3 :=
  ((Memref.whole main_arg5).slice (Rect.unit (s := S6x65536x4x128) ![b.val, 8 * r.val, 0, 0] S1x8x4x128.size (vSrc_inb b r)) (fun _ => rfl)).squeeze S8x4x128 squeezes_S1x8x4x128_S8x4x128
/-- Slot `s`'s cell. -/
def vCell (s : Fin 2) : DmaSem sig := ((cc0_scratch8.slice (Rect.unit (s := S2) ![s.val] S1.size (vCell_inb s))).squeeze S_ squeezes_S1_S_).sem

abbrev vN : ℕ := 1024

theorem v_amount (s s' : Fin 2) (t : Fin 448) : (vDst s t).view.amount (SemLoc.dma (vCell s')) = vN := rfl

/-- What transfer `t` leaves in its block (elsewhere arbitrary). -/
def vLand (s : Fin 2) (t : Fin 448) (b : Fin 6) (r : Fin 8192) (ka : S6x65536x4x128.Idx → Elt F .fp8e4m3) : S2x3584x4x128.Idx → Elt F .fp8e4m3 :=
  (vDst s t).view.write (Elt F) (fun _ => Classical.arbitrary _) (ReadAs.same.apply ((vSrc b r).view.read (Elt F) ka)) Finset.univ

theorem vDst_set (s : Fin 2) (t : Fin 448) : (vDst s t).view.set = (Rect.unit (s := S2x3584x4x128) ![s.val, 8 * t.val, 0, 0] S1x8x4x128.size (vDst_inb s t)).set := by
  unfold vDst; exact (View.set_reshape _ _).trans (View.set_slice_whole _ _)

/-- Block `t` of slot `s`: eight rows. -/
def vBlk (s : Fin 2) (t : Fin 448) : Finset S2x3584x4x128.Idx := (Rect.unit (s := S2x3584x4x128) ![s.val, 8 * t.val, 0, 0] S1x8x4x128.size (vDst_inb s t)).set
theorem mem_vBlk (s : Fin 2) (t : Fin 448) (y : S2x3584x4x128.Idx) : y ∈ vBlk s t ↔ (y 0).val = s.val ∧ (y 1).val / 8 = t.val := by
  unfold vBlk
  rw [Rect.mem_set_unit]
  have h2 : (y 2).val < 4 := (y 2).isLt
  have h3 : (y 3).val < 128 := (y 3).isLt
  constructor
  · intro H
    have a0 : s.val ≤ (y 0).val ∧ (y 0).val < s.val + 1 := H 0
    have a1 : 8 * t.val ≤ (y 1).val ∧ (y 1).val < 8 * t.val + 8 := H 1
    omega
  · intro H a; fin_cases a
    · show s.val ≤ (y 0).val ∧ (y 0).val < s.val + 1; omega
    · show 8 * t.val ≤ (y 1).val ∧ (y 1).val < 8 * t.val + 8; omega
    · show 0 ≤ (y 2).val ∧ (y 2).val < 0 + 4; omega
    · show 0 ≤ (y 3).val ∧ (y 3).val < 0 + 128; omega
theorem vBlk_disjoint (s : Fin 2) : ∀ t t' : Fin 448, t ≠ t' → Disjoint (vBlk s t) (vBlk s t') := fun t t' hne => by
  rw [Finset.disjoint_left]; intro y hy hy'; rw [mem_vBlk] at hy hy'; exact hne (Fin.ext (by omega))
/-- Slot `s`. -/
def vSlot (s : Fin 2) : Finset S2x3584x4x128.Idx := Finset.univ.filter fun y => (y 0).val = s.val
theorem vBlk_cover (s : Fin 2) : Finset.univ.biUnion (vBlk s) = vSlot s := by
  ext y; simp only [Finset.mem_biUnion, Finset.mem_univ, true_and, vSlot, Finset.mem_filter, mem_vBlk]
  have h1 : (y 1).val < 3584 := (y 1).isLt
  constructor
  · rintro ⟨t, h, -⟩; exact h
  · intro h; exact ⟨⟨(y 1).val / 8, by omega⟩, h, rfl⟩
theorem vSlot_disjoint : ∀ s s' : Fin 2, s ≠ s' → Disjoint (vSlot s) (vSlot s') := fun s s' hne => by
  rw [Finset.disjoint_left]; intro y hy hy'; simp only [vSlot, Finset.mem_filter] at hy hy'; exact hne (Fin.ext (by omega))
theorem vSlot_cover : Finset.univ.biUnion vSlot = (Finset.univ : Finset S2x3584x4x128.Idx) := by
  ext y; simp only [Finset.mem_biUnion, Finset.mem_univ, true_and, iff_true, vSlot, Finset.mem_filter]
  exact ⟨y 0, rfl⟩

variable (c : Dev nD) (sel : S6x4x448.Idx → Elt F .i32) (ka : S6x65536x4x128.Idx → Elt F .fp8e4m3) (it : Fin 24)

/-- What item `it`'s slot holds once its transfers have landed. -/
def vFull : S2x3584x4x128.Idx → Elt F .fp8e4m3 := fun y =>
  vLand (slotOf it) ⟨(y 1).val / 8, by have : (y 1).val < 3584 := (y 1).isLt; omega⟩ (rowOf it)
    (chunkOf (F := F) sel it ⟨(y 1).val / 8, by have : (y 1).val < 3584 := (y 1).isLt; omega⟩) ka y

/-- Read token number `n` of the array. -/
abbrev vTok (n : ℕ) : sProp 𝕄 :=
  (Memref.whole main_arg5 : Memref sig .tc .hbm S6x65536x4x128 .fp8e4m3).view.loc (c : Thread nD τ) ↦[Finset.univ]{Transfers.shareTokN fullShare n} ka
/-- The token transfer `t` of item `it` reads by. -/
abbrev vNum (t : Fin 448) : ℕ := 448 * (slotOf it).val + t.val
/-- The rows transfer `t` reads, and the rest of its token. -/
def vRow (t : Fin 448) : sProp 𝕄 :=
  (vSrc (rowOf it) (chunkOf (F := F) sel it t)).view.loc (c : Thread nD τ)
    ↦[(vSrc (rowOf it) (chunkOf (F := F) sel it t)).view.set]{Transfers.shareTokN fullShare (vNum it t)} ka
def vRest (t : Fin 448) : sProp 𝕄 :=
  (vSrc (rowOf it) (chunkOf (F := F) sel it t)).view.loc (c : Thread nD τ)
    ↦[Finset.univ \ (vSrc (rowOf it) (chunkOf (F := F) sel it t)).view.set]{Transfers.shareTokN fullShare (vNum it t)} ka
theorem vTok_split (t : Fin 448) : (vTok c ka (vNum it t) : sProp 𝕄) ⊣⊢ iprop(vRow c sel ka it t ∗ vRest c sel ka it t) :=
  pointsTo_split_subset (Finset.subset_univ _)

/-- Block `t` of slot `s` at some contents. -/
def vHole (s : Fin 2) (t : Fin 448) : sProp 𝕄 := iprop(∃ g, (vDst s t).view.loc (c : Thread nD τ) ↦[(vDst s t).view.set]{fullShare} g)
/-- Block `t` of item `it` landed. -/
def vDone (t : Fin 448) : sProp 𝕄 :=
  (vDst (slotOf it) t).view.loc (c : Thread nD τ) ↦[(vDst (slotOf it) t).view.set]{fullShare} vFull (F := F) sel ka it

/-- What transfer `t` delivers. -/
def vDeliv (t : Fin 448) : sProp 𝕄 := iprop(vDone c sel ka it t ∗ vRow c sel ka it t)
instance vDeliv_storable (t : Fin 448) : BI.Storable (upEmb : UEmb _ 𝕄) (vDeliv c sel ka it t) := by
  have h1 : BI.Storable (upEmb : UEmb _ 𝕄) (vDone c sel ka it t) := storable_pt c (vDst (slotOf it) t) _ _ _
  have h2 : BI.Storable (upEmb : UEmb _ 𝕄) (vRow c sel ka it t) := storable_pt c (vSrc (rowOf it) (chunkOf (F := F) sel it t)) _ _ _
  unfold vDeliv; infer_instance

/-- Item `it`'s transfers: `j` issued, `u` consumed. -/
def vBatch (j u : ℕ) : sProp 𝕄 :=
  Transfers.Batch (countersEmb (U := Pipeline.UD sig nD τ)) (c : Thread nD τ) (.dma (vCell (slotOf it))) () vN (vDeliv c sel ka it) j u

/-- Item `it`'s transfers as the issue loop leaves them after `j`: the batch, the blocks and tokens still in hand, the rests. -/
def vIss (j : ℕ) : sProp 𝕄 :=
  iprop(vBatch c sel ka it j 0 ∗ bigSep (Ring.rangeSet 448 j 448) (vHole (F := F) c (slotOf it))
    ∗ bigSep (Ring.rangeSet 448 j 448) (fun t => vTok c ka (vNum it t)) ∗ bigSep (Ring.rangeSet 448 0 j) (vRest c sel ka it))

theorem vLand_on (t : Fin 448) (g : S2x3584x4x128.Idx → Elt F .fp8e4m3) :
    ∀ y : S2x3584x4x128.Idx, y ∈ (vDst (slotOf it) t).view.set → (vDst (slotOf it) t).view.write (Elt F) g (ReadAs.same.apply ((vSrc (rowOf it) (chunkOf (F := F) sel it t)).view.read (Elt F) ka)) Finset.univ y
      = vFull (F := F) sel ka it y := by
  intro y hy
  have hy' := hy
  rw [vDst_set] at hy'
  have e : (⟨(y 1).val / 8, by have : (y 1).val < 3584 := (y 1).isLt; omega⟩ : Fin 448) = t := Fin.ext ((mem_vBlk _ _ _).mp hy').2
  unfold vFull vLand
  rw [e]
  obtain ⟨x, -, rfl⟩ := Finset.mem_map.mp hy
  exact (View.write_emb_of_mem (v := (vDst (slotOf it) t).view) _ _ (Finset.mem_univ x)).trans (View.write_emb_of_mem (v := (vDst (slotOf it) t).view) _ _ (Finset.mem_univ x)).symm

theorem vDeliv_intro (t : Fin 448) (g : S2x3584x4x128.Idx → Elt F .fp8e4m3) :
    iprop(((vDst (slotOf it) t).view.loc (c : Thread nD τ) ↦[(vDst (slotOf it) t).view.set]{fullShare}
        ((vDst (slotOf it) t).view.write (Elt F) g (ReadAs.same.apply ((vSrc (rowOf it) (chunkOf (F := F) sel it t)).view.read (Elt F) ka)) Finset.univ))
      ∗ vRow c sel ka it t) ⊢ (vDeliv c sel ka it t : sProp 𝕄) := by
  unfold vDeliv vDone
  rw [pointsTo_congr (vLand_on sel ka it t g)]

/-- Issue item `it`'s transfer `j`. -/
theorem wp_vIssue {α : Type} {Q : α → sProp 𝕄} (j : ℕ) (hj : j < 448) (offd : Fin 4 → ℕ) (offs : Fin 4 → ℕ) (offc : Fin 1 → ℕ)
    (hd : offd = ![(slotOf it).val, 8 * j, 0, 0]) (hs : offs = ![(rowOf it).val, 8 * (chunkOf (F := F) sel it ⟨j, hj⟩).val, 0, 0])
    (hc : offc = ![(slotOf it).val])
    (inbd : ∀ a, offd a + S1x8x4x128.size a ≤ S2x3584x4x128.size a) (inbs : ∀ a, offs a + S1x8x4x128.size a ≤ S6x65536x4x128.size a) (inbc : ∀ a, offc a + S1.size a ≤ S2.size a)
    {src : Memref sig .tc .hbm S8x4x128 .fp8e4m3} {dst : Memref sig .tc .vmem S8x4x128 .fp8e4m3} {sm : DmaSem sig}
    (esrc : src = ((Memref.whole main_arg5).slice (Rect.unit (s := S6x65536x4x128) offs S1x8x4x128.size inbs) (fun _ => rfl)).squeeze S8x4x128 squeezes_S1x8x4x128_S8x4x128)
    (edst : dst = ((Memref.whole cc0_scratch1).slice (Rect.unit (s := S2x3584x4x128) offd S1x8x4x128.size inbd) (fun _ => rfl)).squeeze S8x4x128 squeezes_S1x8x4x128_S8x4x128)
    (esm : sm = ((cc0_scratch8.slice (Rect.unit (s := S2) offc S1.size inbc)).squeeze S_ squeezes_S1_S_).sem)
    {hsrc : src.view.WordExact} {hdst : dst.view.WordExact} {hsem : DmaTarget.Typed (nD := nD) (τ := τ) (p := (c : Thread nD τ).2) .hbm (SemLoc.dma sm) (.here dst)}
    {k : PUnit → Prog (TpuEff nD τ sig (Elt F) Λ₀ .tc) α} :
    vIss c sel ka it j
      ⊢ iprop((vIss c sel ka it (j + 1) -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hd hs hc
  have e1 : src = vSrc (rowOf it) (chunkOf (F := F) sel it ⟨j, hj⟩) := esrc
  have e2 : dst = vDst (slotOf it) ⟨j, hj⟩ := edst
  have e3 : sm = vCell (slotOf it) := esm
  subst e1 e2 e3
  unfold vIss
  rw [Ring.bigSep_rangeSet_head (lo := j) (hi := 448) hj hj, Ring.bigSep_rangeSet_head (lo := j) (hi := 448) hj hj,
    Ring.bigSep_rangeSet_last (NB := 448) (lo := 0) (hi := j + 1) (by omega) (by omega)]
  iintro ⟨HB, ⟨HH, HHs⟩, ⟨HT, HTs⟩, HR⟩ Hk
  ihave HT' := (vTok_split c sel ka it ⟨j, hj⟩).1 $$ HT
  icases HT' with ⟨HRow, HRest⟩
  unfold vHole
  icases HH with ⟨%g, HH⟩
  have hw := wp_issue (Q := Q) c (src := vSrc (rowOf it) (chunkOf (F := F) sel it ⟨j, hj⟩)) (dst := vDst (slotOf it) ⟨j, hj⟩) (sm := vCell (slotOf it))
    (hsrc := hsrc) (hdst := hdst) (hsem := hsem) (k := k) vN (v_amount (slotOf it) (slotOf it) ⟨j, hj⟩) (vRow c sel ka it ⟨j, hj⟩)
    ((vDst (slotOf it) ⟨j, hj⟩).view.loc (c : Thread nD τ) ↦[(vDst (slotOf it) ⟨j, hj⟩).view.set]{fullShare} g) (vDeliv c sel ka it) j hj
    (Transfers.shareTokN fullShare (vNum it ⟨j, hj⟩)) ka g rfl rfl (vDeliv_intro c sel ka it ⟨j, hj⟩ g)
  unfold vBatch
  iapply hw $$ [HRow HH HB]
  · isplitl [HRow]; · iexact HRow
    isplitl [HH]; · iexact HH
    iexact HB
  iintro HB
  iapply Hk
  isplitl [HB]; · iexact HB
  isplitl [HHs]; · iexact HHs
  isplitl [HTs]; · iexact HTs
  isplitl [HRest]; · iexact HRest
  iexact HR

end V

end Cert.Kernel.Hand

end
-- ==== Proof.Flight.lean ====
/- An item's transfers from start to finish: the blocks, tokens and cell the issue loop starts from, the waits, and what
   the last wait gives back. -/
module

public import proofs.«01_k».proof.Proof.Batch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Some waits recorded, nothing owed. -/
abbrev owesAny (c : Dev nD) : sProp 𝕄 := iprop(∃ W, owes (c : Thread nD τ) 0 W)

/-- One wait for `q` of a batch's transfers. -/
theorem wp_wait {α : Type} {Q : α → sProp 𝕄} (c : Dev nD) {s s' : Shape} {e e' : EltTy} {sem : DmaSem sig}
    {srcw : Memref sig .tc .hbm s' e'} {dstw : Memref sig .tc .vmem s e} {hsrc : srcw.view.WordExact} {hdst : dstw.view.WordExact}
    {k : PUnit → Prog (TpuEff nD τ sig (Elt F) Λ₀ .tc) α} (N q : ℕ) (hJ : dstw.view.dmaCredit = q * N) {n : ℕ} (D : Fin n → sProp 𝕄) (u : ℕ)
    (hu : u + q * N ≤ N * n) :
    iprop(Transfers.Batch (countersEmb (U := Pipeline.UD sig nD τ)) (c : Thread nD τ) (.dma sem) () N D n u ∗ owesAny c)
      ⊢ iprop((iprop(Transfers.Batch (countersEmb (U := Pipeline.UD sig nD τ)) (c : Thread nD τ) (.dma sem) () N D n (u + q * N) ∗ owesAny c)
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  iintro ⟨HB, ⟨%W, HO⟩⟩ Hk
  iapply (Transfers.wp_waitBatchMul (countersEmb (U := Pipeline.UD sig nD τ)) Variants.none (c : Thread nD τ) none () q hJ hu) $$ [HB HO]
  · isplitl [HB]; · iexact HB
    iexact HO
  iintro ⟨HB, HO⟩
  iapply Hk
  isplitl [HB]; · iexact HB
  iexists _; iexact HO

section K

variable (c : Dev nD) (sel : S6x4x448.Idx → Elt F .i32) (ka : S6x65536x160.Idx → Elt F .bf16) (it : Fin 24)

abbrev kBuf : Memref sig .tc .vmem S2x3584x160 .bf16 := Memref.whole cc0_scratch0

/-- Slot `s` at some contents. -/
def kFree (s : Fin 2) : sProp 𝕄 := iprop(∃ f, kBuf.view.loc (c : Thread nD τ) ↦[kSlot s]{fullShare} f)
/-- Slot `s` filled with item `it`'s rows. -/
def kHeld : sProp 𝕄 := kBuf.view.loc (c : Thread nD τ) ↦[kSlot (slotOf it)]{fullShare} kFull (F := F) sel ka it
def kSem0 (s : Fin 2) : sProp 𝕄 := semVal ((c : Thread nD τ), SemLoc.dma (kCell s)) 0
/-- The read tokens of slot `s`'s transfers. -/
def kToks (s : Fin 2) : sProp 𝕄 := bigSep Finset.univ fun t : Fin 448 => kTok c ka (448 * s.val + t.val)

/-- All issued, `u` consumed. -/
def kDrain (u : ℕ) : sProp 𝕄 := iprop(kBatch c sel ka it 448 u ∗ bigSep Finset.univ (kRest c sel ka it))

theorem kHole_intro (s : Fin 2) (t : Fin 448) (f : S2x3584x160.Idx → Elt F .bf16) :
    (kBuf.view.loc (c : Thread nD τ) ↦[kBlk s t]{fullShare} f : sProp 𝕄) ⊢ kHole (F := F) c s t := by
  unfold kHole
  rw [kDst_set]
  iintro H; iexists f; iexact H

theorem kFree_blocks (s : Fin 2) : (kFree c s : sProp 𝕄) ⊢ bigSep Finset.univ (kHole (F := F) c s) := by
  unfold kFree
  iintro ⟨%f, H⟩
  iapply (show (kBuf.view.loc (c : Thread nD τ) ↦[kSlot s]{fullShare} f : sProp 𝕄) ⊢ bigSep Finset.univ (kHole (F := F) c s) from
    (Entails.of_eq (Ring.pointsTo_sub_blocks (ℓ := kBuf.view.loc (c : Thread nD τ)) (q := fullShare) (kBlk s) (kBlk_disjoint s) (kSlot s) (kBlk_cover s) f)).trans
      (BI.bigSep_mono fun t _ => kHole_intro c s t f)) $$ H

theorem kBegin : iprop(kFree c (slotOf it) ∗ kSem0 c (slotOf it) ∗ kToks c ka (slotOf it)) ⊢ (|={Set.univ}=> kIss c sel ka it 0 : sProp 𝕄) := by
  unfold kIss kBatch kSem0 kToks
  iintro ⟨HF, HS, HT⟩
  imod (Transfers.batch_alloc' (countersEmb (U := Pipeline.UD sig nD τ)) (c : Thread nD τ) () kN (kDeliv c sel ka it)) $$ HS with HB
  imodintro
  rw [Ring.rangeSet_univ, Ring.bigSep_rangeSet_empty (lo := 0) (hi := 0) (Nat.le_refl 0)]
  isplitl [HB]; · iexact HB
  isplitl [HF]; · iapply (kFree_blocks c (slotOf it)) $$ HF
  isplitl [HT]; · iexact HT
  iempintro

theorem kIss_all : (kIss c sel ka it 448 : sProp 𝕄) ⊢ kDrain c sel ka it 0 := by
  unfold kIss kDrain
  rw [Ring.rangeSet_univ, Ring.bigSep_rangeSet_empty (lo := 448) (hi := 448) (Nat.le_refl _), Ring.bigSep_rangeSet_empty (lo := 448) (hi := 448) (Nat.le_refl _)]
  iintro ⟨HB, -, -, HR⟩
  isplitl [HB]; · iexact HB
  iexact HR

theorem kDone_all : (bigSep Finset.univ (kDone c sel ka it) : sProp 𝕄) = kHeld c sel ka it := by
  unfold kHeld
  rw [Ring.pointsTo_sub_blocks (ℓ := kBuf.view.loc (c : Thread nD τ)) (q := fullShare) (kBlk (slotOf it)) (kBlk_disjoint (slotOf it)) (kSlot (slotOf it)) (kBlk_cover (slotOf it))]
  refine congrArg (fun Φ => bigSep Finset.univ Φ) (funext fun t => ?_)
  unfold kDone
  rw [kDst_set]
  rfl

theorem kToks_all : iprop(bigSep Finset.univ (kRow c sel ka it) ∗ bigSep Finset.univ (kRest c sel ka it)) ⊢ (kToks c ka (slotOf it) : sProp 𝕄) := by
  unfold kToks
  rw [← BI.bigSep_sep']
  exact BI.bigSep_mono fun t _ => (kTok_split c sel ka it t).2

theorem kCollect : (kDrain c sel ka it (kN * 448) : sProp 𝕄)
    ⊢ |={Set.univ}=> iprop(kHeld c sel ka it ∗ kSem0 c (slotOf it) ∗ kToks c ka (slotOf it)) := by
  unfold kDrain kBatch kSem0
  iintro ⟨HB, HR⟩
  imod (Transfers.batch_collect' (countersEmb (U := Pipeline.UD sig nD τ)) (c : Thread nD τ) (show 0 < kN by decide)) $$ HB with ⟨HD, HS⟩
  imodintro
  ihave HD' := (show (bigSep Finset.univ (kDeliv c sel ka it) : sProp 𝕄) ⊢ iprop(bigSep Finset.univ (kDone c sel ka it) ∗ bigSep Finset.univ (kRow c sel ka it))
    from Entails.of_eq (BI.bigSep_sep' _ _ _)) $$ HD
  icases HD' with ⟨HD1, HD2⟩
  isplitl [HD1]
  · rw [← kDone_all]; iexact HD1
  isplitl [HS]; · iexact HS
  iapply (kToks_all c sel ka it)
  isplitl [HD2]; · iexact HD2
  iexact HR

/-- Waiting for `q` of item `it`'s transfers. -/
theorem wp_kWait {α : Type} {Q : α → sProp 𝕄} (u q : ℕ) (hu : u + q * kN ≤ kN * 448) {s s' : Shape} {e e' : EltTy} {sem : DmaSem sig}
    {srcw : Memref sig .tc .hbm s' e'} {dstw : Memref sig .tc .vmem s e} {hsrc : srcw.view.WordExact} {hdst : dstw.view.WordExact}
    (offc : Fin 1 → ℕ) (hc : offc = ![(slotOf it).val]) (inbc : ∀ a, offc a + S1.size a ≤ S2.size a)
    (esm : sem = ((cc0_scratch7.slice (Rect.unit (s := S2) offc S1.size inbc)).squeeze S_ squeezes_S1_S_).sem)
    (hJ : dstw.view.dmaCredit = q * kN)
    {k : PUnit → Prog (TpuEff nD τ sig (Elt F) Λ₀ .tc) α} :
    iprop(kDrain c sel ka it u ∗ owesAny c)
      ⊢ iprop((iprop(kDrain c sel ka it (u + q * kN) ∗ owesAny c) -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  subst hc
  have e3 : sem = kCell (slotOf it) := esm
  subst e3
  have hw := wp_wait (Q := Q) c (sem := kCell (slotOf it)) (srcw := srcw) (dstw := dstw) (hsrc := hsrc) (hdst := hdst) (k := k) kN q hJ (kDeliv c sel ka it) u hu
  unfold kDrain kBatch
  iintro ⟨⟨HB, HR⟩, HO⟩ Hk
  iapply hw $$ [HB HO]
  · isplitl [HB]; · iexact HB
    iexact HO
  iintro ⟨HB, HO⟩
  iapply Hk
  isplitl [HB HR]
  · isplitl [HB]; · iexact HB
    iexact HR
  iexact HO

end K

section V

variable (c : Dev nD) (sel : S6x4x448.Idx → Elt F .i32) (ka : S6x65536x4x128.Idx → Elt F .fp8e4m3) (it : Fin 24)

abbrev vBuf : Memref sig .tc .vmem S2x3584x4x128 .fp8e4m3 := Memref.whole cc0_scratch1

/-- Slot `s` at some contents. -/
def vFree (s : Fin 2) : sProp 𝕄 := iprop(∃ f, vBuf.view.loc (c : Thread nD τ) ↦[vSlot s]{fullShare} f)
/-- Slot `s` filled with item `it`'s rows. -/
def vHeld : sProp 𝕄 := vBuf.view.loc (c : Thread nD τ) ↦[vSlot (slotOf it)]{fullShare} vFull (F := F) sel ka it
def vSem0 (s : Fin 2) : sProp 𝕄 := semVal ((c : Thread nD τ), SemLoc.dma (vCell s)) 0
/-- The read tokens of slot `s`'s transfers. -/
def vToks (s : Fin 2) : sProp 𝕄 := bigSep Finset.univ fun t : Fin 448 => vTok c ka (448 * s.val + t.val)

/-- All issued, `u` consumed. -/
def vDrain (u : ℕ) : sProp 𝕄 := iprop(vBatch c sel ka it 448 u ∗ bigSep Finset.univ (vRest c sel ka it))

theorem vHole_intro (s : Fin 2) (t : Fin 448) (f : S2x3584x4x128.Idx → Elt F .fp8e4m3) :
    (vBuf.view.loc (c : Thread nD τ) ↦[vBlk s t]{fullShare} f : sProp 𝕄) ⊢ vHole (F := F) c s t := by
  unfold vHole
  rw [vDst_set]
  iintro H; iexists f; iexact H

theorem vFree_blocks (s : Fin 2) : (vFree c s : sProp 𝕄) ⊢ bigSep Finset.univ (vHole (F := F) c s) := by
  unfold vFree
  iintro ⟨%f, H⟩
  iapply (show (vBuf.view.loc (c : Thread nD τ) ↦[vSlot s]{fullShare} f : sProp 𝕄) ⊢ bigSep Finset.univ (vHole (F := F) c s) from
    (Entails.of_eq (Ring.pointsTo_sub_blocks (ℓ := vBuf.view.loc (c : Thread nD τ)) (q := fullShare) (vBlk s) (vBlk_disjoint s) (vSlot s) (vBlk_cover s) f)).trans
      (BI.bigSep_mono fun t _ => vHole_intro c s t f)) $$ H

theorem vBegin : iprop(vFree c (slotOf it) ∗ vSem0 c (slotOf it) ∗ vToks c ka (slotOf it)) ⊢ (|={Set.univ}=> vIss c sel ka it 0 : sProp 𝕄) := by
  unfold vIss vBatch vSem0 vToks
  iintro ⟨HF, HS, HT⟩
  imod (Transfers.batch_alloc' (countersEmb (U := Pipeline.UD sig nD τ)) (c : Thread nD τ) () vN (vDeliv c sel ka it)) $$ HS with HB
  imodintro
  rw [Ring.rangeSet_univ, Ring.bigSep_rangeSet_empty (lo := 0) (hi := 0) (Nat.le_refl 0)]
  isplitl [HB]; · iexact HB
  isplitl [HF]; · iapply (vFree_blocks c (slotOf it)) $$ HF
  isplitl [HT]; · iexact HT
  iempintro

theorem vIss_all : (vIss c sel ka it 448 : sProp 𝕄) ⊢ vDrain c sel ka it 0 := by
  unfold vIss vDrain
  rw [Ring.rangeSet_univ, Ring.bigSep_rangeSet_empty (lo := 448) (hi := 448) (Nat.le_refl _), Ring.bigSep_rangeSet_empty (lo := 448) (hi := 448) (Nat.le_refl _)]
  iintro ⟨HB, -, -, HR⟩
  isplitl [HB]; · iexact HB
  iexact HR

theorem vDone_all : (bigSep Finset.univ (vDone c sel ka it) : sProp 𝕄) = vHeld c sel ka it := by
  unfold vHeld
  rw [Ring.pointsTo_sub_blocks (ℓ := vBuf.view.loc (c : Thread nD τ)) (q := fullShare) (vBlk (slotOf it)) (vBlk_disjoint (slotOf it)) (vSlot (slotOf it)) (vBlk_cover (slotOf it))]
  refine congrArg (fun Φ => bigSep Finset.univ Φ) (funext fun t => ?_)
  unfold vDone
  rw [vDst_set]
  rfl

theorem vToks_all : iprop(bigSep Finset.univ (vRow c sel ka it) ∗ bigSep Finset.univ (vRest c sel ka it)) ⊢ (vToks c ka (slotOf it) : sProp 𝕄) := by
  unfold vToks
  rw [← BI.bigSep_sep']
  exact BI.bigSep_mono fun t _ => (vTok_split c sel ka it t).2

theorem vCollect : (vDrain c sel ka it (vN * 448) : sProp 𝕄)
    ⊢ |={Set.univ}=> iprop(vHeld c sel ka it ∗ vSem0 c (slotOf it) ∗ vToks c ka (slotOf it)) := by
  unfold vDrain vBatch vSem0
  iintro ⟨HB, HR⟩
  imod (Transfers.batch_collect' (countersEmb (U := Pipeline.UD sig nD τ)) (c : Thread nD τ) (show 0 < vN by decide)) $$ HB with ⟨HD, HS⟩
  imodintro
  ihave HD' := (show (bigSep Finset.univ (vDeliv c sel ka it) : sProp 𝕄) ⊢ iprop(bigSep Finset.univ (vDone c sel ka it) ∗ bigSep Finset.univ (vRow c sel ka it))
    from Entails.of_eq (BI.bigSep_sep' _ _ _)) $$ HD
  icases HD' with ⟨HD1, HD2⟩
  isplitl [HD1]
  · rw [← vDone_all]; iexact HD1
  isplitl [HS]; · iexact HS
  iapply (vToks_all c sel ka it)
  isplitl [HD2]; · iexact HD2
  iexact HR

/-- Waiting for `q` of item `it`'s transfers. -/
theorem wp_vWait {α : Type} {Q : α → sProp 𝕄} (u q : ℕ) (hu : u + q * vN ≤ vN * 448) {s s' : Shape} {e e' : EltTy} {sem : DmaSem sig}
    {srcw : Memref sig .tc .hbm s' e'} {dstw : Memref sig .tc .vmem s e} {hsrc : srcw.view.WordExact} {hdst : dstw.view.WordExact}
    (offc : Fin 1 → ℕ) (hc : offc = ![(slotOf it).val]) (inbc : ∀ a, offc a + S1.size a ≤ S2.size a)
    (esm : sem = ((cc0_scratch8.slice (Rect.unit (s := S2) offc S1.size inbc)).squeeze S_ squeezes_S1_S_).sem)
    (hJ : dstw.view.dmaCredit = q * vN)
    {k : PUnit → Prog (TpuEff nD τ sig (Elt F) Λ₀ .tc) α} :
    iprop(vDrain c sel ka it u ∗ owesAny c)
      ⊢ iprop((iprop(vDrain c sel ka it (u + q * vN) ∗ owesAny c) -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  subst hc
  have e3 : sem = vCell (slotOf it) := esm
  subst e3
  have hw := wp_wait (Q := Q) c (sem := vCell (slotOf it)) (srcw := srcw) (dstw := dstw) (hsrc := hsrc) (hdst := hdst) (k := k) vN q hJ (vDeliv c sel ka it) u hu
  unfold vDrain vBatch
  iintro ⟨⟨HB, HR⟩, HO⟩ Hk
  iapply hw $$ [HB HO]
  · isplitl [HB]; · iexact HB
    iexact HO
  iintro ⟨HB, HO⟩
  iapply Hk
  isplitl [HB HR]
  · isplitl [HB]; · iexact HB
    iexact HR
  iexact HO

end V

end Cert.Kernel.Hand

end
-- ==== Proof.Issue.lean ====
/- The issue loops and the wait loop over an item's transfers. -/
module

public import proofs.«01_k».proof.Proof.Flight
public import proofs.«01_k».proof.Proof.Gen.Kernel.Loops

@[expose] public section

set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The item of a grid point, and the next one. -/
def itOf (i : grid0.Coords) : Fin 24 := ⟨(i 0).val, (i 0).isLt⟩
def nxtOf (i : grid0.Coords) : Fin 24 := ⟨((i 0).val + 1) % 24, Nat.mod_lt _ (by decide)⟩

set_option maxRecDepth 100000 in
theorem off1_closed : ∀ (k0_t1 : Fin k0_t1_loop.trips) (k0_t2 : Fin k0_t2_loop.trips), k0_off1 k0_t1 k0_t2 = ![0, 0, 64 * k0_t1.val + k0_t2.val] := by decide +kernel
set_option maxRecDepth 100000 in
theorem off2_closed : ∀ (k0_t1 : Fin k0_t1_loop.trips) (k0_t2 : Fin k0_t2_loop.trips), k0_off2 k0_t1 k0_t2 = ![0, 8 * (64 * k0_t1.val + k0_t2.val), 0] := by decide +kernel
set_option maxRecDepth 100000 in
theorem off4_closed : ∀ (k0_t1 : Fin k0_t1_loop.trips) (k0_t2 : Fin k0_t2_loop.trips), k0_off4 k0_t1 k0_t2 = ![0, 8 * (64 * k0_t1.val + k0_t2.val), 0, 0] := by decide +kernel

/-- The word a scalar load at an item's own offsets reads is the item's word. -/
theorem selW_read (sel : S6x4x448.Idx → Elt F .i32) (it : Fin 24) (t : Fin 448) (off : Fin 3 → ℕ) (h : off = ![(rowOf it).val, (headOf it).val, t.val])
    (inb : ∀ a, off a + S1x1x1.size a ≤ S6x4x448.size a) (hne : 0 < S1x1x1.numel) :
    tabM.view.readAt (Elt F) (Rect.unit (s := S6x4x448) off S1x1x1.size inb).toLoadRect sel (Shape.Idx.first hne) = selW (F := F) sel it t := by
  subst h; rfl

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)

/-- The table, readable. -/
abbrev tabPt : sProp 𝕄 := tabM.view.loc (c : Thread nD τ) ↦{q} sel

/-- `j` of item `it`'s transfers of either array issued. -/
def issInv (it : Fin 24) (j : ℕ) : sProp 𝕄 := iprop(kIss c sel ka it j ∗ vIss c sel va it j ∗ tabPt (F := F) c sel q)

theorem t2_step (hsel : SelOK (F := F) sel) (h1 : k0_cond1 i = 1#1) (t1 : Fin k0_t1_loop.trips) (k : Fin k0_t2_loop.trips) (acc : Unit) :
    issInv c sel ka va q 0 (64 * t1.val + k.val) ⊢ wp frame (wpE (defs₀ (F := F)) Variants.none (c : Thread nD τ) none) Set.univ
      (k0_t2_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1 t1 k acc) (fun _ => issInv c sel ka va q 0 (64 * t1.val + (k.val + 1))) := by
  have ht1 := t1_lt t1; have hk := t2_lt k
  have hj : 64 * t1.val + k.val < 448 := by omega
  unfold issInv
  iintro ⟨HK, HV, HT⟩
  dsimp only [k0_t2_body]
  sl_exec
  have hr : t2_step.sl.r i sel h1 t1 k = selW (F := F) sel 0 ⟨64 * t1.val + k.val, hj⟩ := by
    unfold t2_step.sl.r
    exact selW_read sel 0 ⟨64 * t1.val + k.val, hj⟩ _ (off1_closed t1 k) _ _
  have hlt := (selW_range hsel 0 ⟨64 * t1.val + k.val, hj⟩).2
  generalize t2_step.sl.r i sel h1 t1 k = w at *
  subst hr
  iapply (wp_assume Variants.none (c : Thread nD τ) none Set.univ (chk1_holds i t1 k _ hlt))
  iapply (wp_kIssue c sel ka 0 (64 * t1.val + k.val) hj _ _ _ (off2_closed t1 k)
    ((off3_closed t1 k _ hlt).trans (by rw [chunkOf_val hsel]; rfl)) rfl _ _ _ rfl rfl rfl) $$ HK
  iintro HK
  iapply (wp_vIssue c sel va 0 (64 * t1.val + k.val) hj _ _ _ (off4_closed t1 k)
    ((off5_closed t1 k _ hlt).trans (by rw [chunkOf_val hsel]; rfl)) rfl _ _ _ rfl rfl rfl) $$ HV
  iintro HV
  dsimp only [Prog.bind, Pure.pure]
  sl_step
  isplitl [HK]; · iexact HK
  isplitl [HV]; · iexact HV
  iexact HT

theorem t1_step (hsel : SelOK (F := F) sel) (h1 : k0_cond1 i = 1#1) (k : Fin k0_t1_loop.trips) (acc : Unit) :
    issInv c sel ka va q 0 (64 * k.val) ⊢ wp frame (wpE (defs₀ (F := F)) Variants.none (c : Thread nD τ) none) Set.univ
      (k0_t1_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1 k acc) (fun _ => issInv c sel ka va q 0 (64 * (k.val + 1))) := by
  iintro H
  dsimp only [k0_t1_body]
  sl_for (fun k' _ => issInv c sel ka va q 0 (64 * k.val + k')) $$ [H]
  · intro k' acc'; exact t2_step c i h4 h5 h6 h7 h8 h9 h10 h11 h14 h15 h16 sel ka va q hsel h1 k k' acc'
  · rw [Nat.add_zero]; iexact H
  iintro %acc H
  dsimp only [Prog.bind, Pure.pure]
  sl_step
  rw [show 64 * k.val + Scf.trips k0_t2_loop.lb k0_t2_loop.ub k0_t2_loop.st = 64 * (k.val + 1) by rw [show Scf.trips k0_t2_loop.lb k0_t2_loop.ub k0_t2_loop.st = 64 by decide]; omega]
  iexact H

set_option warn.classDefReducibility false in
@[sl_loop] def t1Inv (hsel : SelOK (F := F) sel) (h1 : k0_cond1 i = 1#1) :
    LoopInv (M := 𝕄) frame (wpE (defs₀ (F := F)) Variants.none (c : Thread nD τ) none) Set.univ k0_t1_loop.lb k0_t1_loop.ub k0_t1_loop.st (k0_t1_ok i h1) ()
      (k0_t1_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1) where
  inv := fun k _ => issInv c sel ka va q 0 (64 * k)
  step := t1_step c i h4 h5 h6 h7 h8 h9 h10 h11 h14 h15 h16 sel ka va q hsel h1

/-! The same for the next item, from the middle of an item's computation. -/

theorem nxt_val (h2 : k0_cond2 i = 1#1) : (nxtOf i).val = (i 0).val + 1 := Nat.mod_eq_of_lt ((cond2_iff i).mp h2)

variable (g0 g16 g26 g36 : BitVec 32) (w41 w43 : Elt F .i32) (w71 : FVec F S8x128 .bf16) (w82 : FVec F S4x128 .bf16)

theorem t5_step (hsel : SelOK (F := F) sel) (h2 : k0_cond2 i = 1#1) (t4 : Fin k0_t4_loop.trips) (k : Fin k0_t5_loop.trips) (acc : Unit) :
    issInv c sel ka va q (nxtOf i) (64 * t4.val + k.val) ⊢ wp frame (wpE (defs₀ (F := F)) Variants.none (c : Thread nD τ) none) Set.univ
      (k0_t5_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4 h2 k acc) (fun _ => issInv c sel ka va q (nxtOf i) (64 * t4.val + (k.val + 1))) := by
  have ht1 := t4_lt t4; have hk := t5_lt k
  have hj : 64 * t4.val + k.val < 448 := by omega
  have hn := nxt_val i h2
  have hlt24 : (i 0).val < 24 := (i 0).isLt
  have hs : (slotOf (nxtOf i)).val = 1 - (i 0).val % 2 := by show (nxtOf i).val % 2 = _; omega
  have hrow : (rowOf (nxtOf i)).val = ((i 0).val + 1) / 4 := by show (nxtOf i).val / 4 = _; omega
  have hhead : (headOf (nxtOf i)).val = ((i 0).val + 1) % 4 := by show (nxtOf i).val % 4 = _; omega
  unfold issInv
  iintro ⟨HK, HV, HT⟩
  dsimp only [k0_t5_body]
  sl_exec
  have hr : t5_step.sl.r i sel h2 t4 k = selW (F := F) sel (nxtOf i) ⟨64 * t4.val + k.val, hj⟩ := by
    unfold t5_step.sl.r
    exact selW_read sel (nxtOf i) ⟨64 * t4.val + k.val, hj⟩ _ ((off11_closed i t4 k h2).trans (by rw [hrow, hhead])) _ _
  have hlt := (selW_range hsel (nxtOf i) ⟨64 * t4.val + k.val, hj⟩).2
  generalize t5_step.sl.r i sel h2 t4 k = w at *
  subst hr
  iapply (wp_assume Variants.none (c : Thread nD τ) none Set.univ (chk2_holds i t4 k _ hlt))
  iapply (wp_kIssue c sel ka (nxtOf i) (64 * t4.val + k.val) hj _ _ _ ((k0_off13_closed i t4 k).trans (by rw [hs]))
    ((off14_closed i t4 k h2 _ hlt).trans (by rw [chunkOf_val hsel, hrow])) ((off12_closed i).trans (by rw [hs])) _ _ _ rfl rfl rfl) $$ HK
  iintro HK
  iapply (wp_vIssue c sel va (nxtOf i) (64 * t4.val + k.val) hj _ _ _ ((k0_off15_closed i t4 k).trans (by rw [hs]))
    ((off16_closed i t4 k h2 _ hlt).trans (by rw [chunkOf_val hsel, hrow])) ((off12_closed i).trans (by rw [hs])) _ _ _ rfl rfl rfl) $$ HV
  iintro HV
  dsimp only [Prog.bind, Pure.pure]
  sl_step
  isplitl [HK]; · iexact HK
  isplitl [HV]; · iexact HV
  iexact HT

/-- Waiting for item `it`'s transfers of K, one at a time. -/
theorem t3_step (k : Fin k0_t3_loop.trips) (acc : Unit) :
    iprop(kDrain c sel ka (itOf i) (k.val * kN) ∗ owesAny c) ⊢ wp frame (wpE (defs₀ (F := F)) Variants.none (c : Thread nD τ) none) Set.univ
      (k0_t3_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 k acc) (fun _ => iprop(kDrain c sel ka (itOf i) ((k.val + 1) * kN) ∗ owesAny c)) := by
  have hk := t3_lt k
  iintro H
  dsimp only [k0_t3_body]
  iapply (wp_kWait c sel ka (itOf i) (k.val * kN) 1 (by simp only [kN]; omega) _ (off9_closed i) _ rfl rfl) $$ H
  iintro H
  dsimp only [Prog.bind, Pure.pure]
  sl_step
  rw [show (k.val + 1) * kN = k.val * kN + 1 * kN by simp only [kN]; omega]
  iexact H

set_option warn.classDefReducibility false in
@[sl_loop] def t3Inv :
    LoopInv (M := 𝕄) frame (wpE (defs₀ (F := F)) Variants.none (c : Thread nD τ) none) Set.univ k0_t3_loop.lb k0_t3_loop.ub k0_t3_loop.st k0_t3_ok ()
      (k0_t3_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82) where
  inv := fun k _ => iprop(kDrain c sel ka (itOf i) (k * kN) ∗ owesAny c)
  step := t3_step c i h4 h5 h6 h7 h8 h9 h10 h11 h14 h15 h16 sel ka g0 g16 g26 g36 w41 w43 w71 w82

end Cert.Kernel.Hand

end
-- ==== Proof.Stage.lean ====
/- The loops of one item: its angle rows, its scores and its weighted sum. -/
module

public import proofs.«01_k».proof.Proof.Issue

@[expose] public section

set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem kLoad_sub (s : Fin 2) (off : Fin S2x3584x160.rank → ℕ) (sz : Shape) (hr : sz.rank = S2x3584x160.rank) (size : Fin S2x3584x160.rank → ℕ) (inb : ∀ a, off a + size a ≤ S2x3584x160.size a)
    (h0 : off 0 = s.val) (h1 : size 0 = 1) : (kBuf.access (Rect.unit (s := S2x3584x160) off size inb)).set ⊆ kSlot s := by
  intro y hy
  rw [show (kBuf.access (Rect.unit (s := S2x3584x160) off size inb)).set = (Rect.unit (s := S2x3584x160) off size inb).set from View.set_slice_whole _ _, Rect.mem_set_unit] at hy
  have a0 := hy 0
  rw [h0, h1] at a0
  simp only [kSlot, Finset.mem_filter, Finset.mem_univ, true_and]
  omega

theorem wp_kLoad {α : Type} {Q : α → sProp 𝕄} (c : Dev nD) (s : Fin 2) (f : S2x3584x160.Idx → Elt F .bf16) (off : Fin S2x3584x160.rank → ℕ) (inb : ∀ a, off a + S1x128x160.size a ≤ S2x3584x160.size a)
    (h0 : off 0 = s.val) (hl : kBuf.view.LoadsAt (Rect.unit (s := S2x3584x160) off S1x128x160.size inb).toLoadRect)
    (k : (S1x128x160.Idx → Elt F .bf16) → Prog (TpuEff nD τ sig (Elt F) Λ₀ .tc) α) :
    (kBuf.view.loc (c : Thread nD τ) ↦[kSlot s]{fullShare} f)
      ⊢ iprop(((kBuf.view.loc (c : Thread nD τ) ↦[kSlot s]{fullShare} f)
          -∗ wp frame (wpE (defs₀ (F := F)) Variants.none (c : Thread nD τ) none) Set.univ (k (kBuf.view.readAt (Elt F) (Rect.unit (s := S2x3584x160) off S1x128x160.size inb).toLoadRect f)) Q)
        -∗ wp frame (wpE (defs₀ (F := F)) Variants.none (c : Thread nD τ) none) Set.univ (.op (.load kBuf (Rect.unit (s := S2x3584x160) off S1x128x160.size inb).toLoadRect hl) k) Q) :=
  wp_load_rect Variants.none (c : Thread nD τ) none Set.univ (m := kBuf) (r := Rect.unit (s := S2x3584x160) off S1x128x160.size inb) (hl := hl) (k := k) (kLoad_sub s off S1x128x160 rfl S1x128x160.size inb h0 rfl)

theorem vLoad_sub (s : Fin 2) (off : Fin S2x3584x4x128.rank → ℕ) (sz : Shape) (hr : sz.rank = S2x3584x4x128.rank) (size : Fin S2x3584x4x128.rank → ℕ) (inb : ∀ a, off a + size a ≤ S2x3584x4x128.size a)
    (h0 : off 0 = s.val) (h1 : size 0 = 1) : (vBuf.access (Rect.unit (s := S2x3584x4x128) off size inb)).set ⊆ vSlot s := by
  intro y hy
  rw [show (vBuf.access (Rect.unit (s := S2x3584x4x128) off size inb)).set = (Rect.unit (s := S2x3584x4x128) off size inb).set from View.set_slice_whole _ _, Rect.mem_set_unit] at hy
  have a0 := hy 0
  rw [h0, h1] at a0
  simp only [vSlot, Finset.mem_filter, Finset.mem_univ, true_and]
  omega

theorem wp_vLoad {α : Type} {Q : α → sProp 𝕄} (c : Dev nD) (s : Fin 2) (f : S2x3584x4x128.Idx → Elt F .fp8e4m3) (off : Fin S2x3584x4x128.rank → ℕ) (inb : ∀ a, off a + S1x128x1x128.size a ≤ S2x3584x4x128.size a)
    (h0 : off 0 = s.val) (hl : vBuf.view.LoadsAt (Rect.unit (s := S2x3584x4x128) off S1x128x1x128.size inb).toLoadRect)
    (k : (S1x128x1x128.Idx → Elt F .fp8e4m3) → Prog (TpuEff nD τ sig (Elt F) Λ₀ .tc) α) :
    (vBuf.view.loc (c : Thread nD τ) ↦[vSlot s]{fullShare} f)
      ⊢ iprop(((vBuf.view.loc (c : Thread nD τ) ↦[vSlot s]{fullShare} f)
          -∗ wp frame (wpE (defs₀ (F := F)) Variants.none (c : Thread nD τ) none) Set.univ (k (vBuf.view.readAt (Elt F) (Rect.unit (s := S2x3584x4x128) off S1x128x1x128.size inb).toLoadRect f)) Q)
        -∗ wp frame (wpE (defs₀ (F := F)) Variants.none (c : Thread nD τ) none) Set.univ (.op (.load vBuf (Rect.unit (s := S2x3584x4x128) off S1x128x1x128.size inb).toLoadRect hl) k) Q) :=
  wp_load_rect Variants.none (c : Thread nD τ) none Set.univ (m := vBuf) (r := Rect.unit (s := S2x3584x4x128) off S1x128x1x128.size inb) (hl := hl) (k := k) (vLoad_sub s off S1x128x1x128 rfl S1x128x1x128.size inb h0 rfl)

/-- A bind in the notation the executor reads. -/
theorem prog_bind {α β : Type} (p : Prog (TpuEff nD τ sig (Elt F) Λ₀ .tc) α) (k : α → Prog (TpuEff nD τ sig (Elt F) Λ₀ .tc) β) : p.bind k = (p >>= k) := rfl

/-- A memref whole at contents `f`, and at some contents. -/
abbrev pt (c : Dev nD) {p : Space} {s : Shape} {ty : EltTy} (m : Memref sig .tc p s ty) (f : Buf (Elt F) (m.view.loc (c : Thread nD τ))) : sProp 𝕄 :=
  m.view.loc (c : Thread nD τ) ↦[m.view.set]{fullShare} f
abbrev anyPt (c : Dev nD) {p : Space} {s : Shape} {ty : EltTy} (m : Memref sig .tc p s ty) : sProp 𝕄 := iprop(∃ f, pt (F := F) c m f)

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)
variable (g0 g16 g26 g36 : BitVec 32) (w41 w43 : Elt F .i32) (w71 : FVec F S8x128 .bf16) (w82 : FVec F S4x128 .bf16)

/-- What the angle rows' loop holds. -/
def rowInv (f9 : Buf (Elt F) (a9.view.loc (c : Thread nD τ))) : sProp 𝕄 :=
  iprop(tabPt (F := F) c sel q ∗ pt (F := F) c a9 f9 ∗ anyPt (F := F) c (Memref.whole cc0_scratch4))

theorem t6_step (hsel : SelOK (F := F) sel) (f9 : Buf (Elt F) (a9.view.loc (c : Thread nD τ))) (t4 : Fin k0_t4_loop.trips) (k : Fin k0_t6_loop.trips) (acc : Unit) :
    rowInv c (a9 := a9) sel q f9 ⊢ wp frame (wpE (defs₀ (F := F)) Variants.none (c : Thread nD τ) none) Set.univ
      (k0_t6_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4 k acc) (fun _ => rowInv c (a9 := a9) sel q f9) := by
  have ht4 := t4_lt t4; have hk := t6_lt k
  have hj : 64 * t4.val + k.val < 448 := by omega
  unfold rowInv
  iintro ⟨HT, H9, ⟨%f21, H21⟩⟩
  dsimp only [k0_t6_body]
  sl_exec
  have hr : t6_step.sl.r i sel t4 k = selW (F := F) sel (itOf i) ⟨64 * t4.val + k.val, hj⟩ := by
    unfold t6_step.sl.r
    exact selW_read sel (itOf i) ⟨64 * t4.val + k.val, hj⟩ _ (k0_off17_closed i t4 k) _ _
  have hlt := selW_range hsel (itOf i) ⟨64 * t4.val + k.val, hj⟩
  generalize t6_step.sl.r i sel t4 k = w at *
  subst hr
  iapply (wp_assume Variants.none (c : Thread nD τ) none Set.univ (chk3_holds i _ hlt.1 hlt.2))
  sl_exec
  sl_step
  isplitl [HT]; · iexact HT
  isplitl [H9]; · iexact H9
  iexists _; iexact H21

/-- What the scores' loop holds: the item's K, the constants and the scratch it works in. -/
def scoInv (f10 : Buf (Elt F) (a10.view.loc (c : Thread nD τ))) : sProp 𝕄 :=
  iprop(kHeld c sel ka (itOf i) ∗ pt (F := F) c a10 f10 ∗ anyPt (F := F) c (Memref.whole cc0_scratch2) ∗ anyPt (F := F) c (Memref.whole cc0_scratch3)
    ∗ anyPt (F := F) c (Memref.whole cc0_scratch4) ∗ anyPt (F := F) c (Memref.whole cc0_scratch5))

theorem t7_step (f10 : Buf (Elt F) (a10.view.loc (c : Thread nD τ))) (v102 : FVec F S1x160x128 .bf16) (v104 v105 : IVec S8x128 32) (v329 : BitVec 32) (t4 : Fin k0_t4_loop.trips) (k : Fin k0_t7_loop.trips) (acc : Unit) :
    scoInv c i (a10 := a10) sel ka f10 ⊢ wp frame (wpE (defs₀ (F := F)) Variants.none (c : Thread nD τ) none) Set.univ
      (k0_t7_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 t4 v329 k acc) (fun _ => scoInv c i (a10 := a10) sel ka f10) := by
  unfold scoInv kHeld
  iintro ⟨HK, H10, ⟨%f19, H19⟩, ⟨%f20, H20⟩, ⟨%f21, H21⟩, ⟨%f22, H22⟩⟩
  dsimp only [k0_t7_body]
  simp only [k0_part12_eq_skeleton, k0_part13_eq_skeleton, k0_part14_eq_skeleton, k0_part15_eq_skeleton, k0_part16_eq_skeleton]
  unfold k0_part12_skel k0_part13_skel k0_part14_skel k0_part15_skel k0_part16_skel
  iapply (wp_kLoad c (slotOf (itOf i)) _ _ _ (by rw [k0_off20_closed]; rfl) _ _) $$ HK
  iintro HK
  simp only [prog_bind]
  sl_exec
  sl_step
  isplitl [HK]; · iexact HK
  isplitl [H10]; · iexact H10
  isplitl [H19]; · iexists _; iexact H19
  isplitl [H20]; · iexists _; iexact H20
  isplitl [H21]; · iexists _; iexact H21
  iexists _; iexact H22

/-- What the stages' loop holds before stage `k`: the transfers of the next item issued so far (when there is a next item), the angle table and what the scores' loop holds. -/
def nxtInv (k : ℕ) : sProp 𝕄 := if k0_cond2 i = 1#1 then issInv c sel ka va q (nxtOf i) (64 * k) else tabPt (F := F) c sel q
def stgInv (f9 : Buf (Elt F) (a9.view.loc (c : Thread nD τ))) (f10 : Buf (Elt F) (a10.view.loc (c : Thread nD τ))) (k : ℕ) : sProp 𝕄 :=
  iprop(nxtInv c i sel ka va q k ∗ pt (F := F) c a9 f9 ∗ scoInv c i (a10 := a10) sel ka f10)

/-- A stage after the issue loop: the angle rows and the scores. -/
theorem t67_run (hsel : SelOK (F := F) sel) (f9 : Buf (Elt F) (a9.view.loc (c : Thread nD τ))) (f10 : Buf (Elt F) (a10.view.loc (c : Thread nD τ))) (v102 : FVec F S1x160x128 .bf16) (v104 v105 : IVec S8x128 32) (v329 : BitVec 32) (t4 : Fin k0_t4_loop.trips) (Q : Unit → sProp 𝕄) :
    iprop((tabPt (F := F) c sel q ∗ pt (F := F) c a9 f9 ∗ scoInv c i (a10 := a10) sel ka f10) ∗ ((tabPt (F := F) c sel q ∗ pt (F := F) c a9 f9 ∗ scoInv c i (a10 := a10) sel ka f10) -∗ Q ⟨⟩)) ⊢ wp frame (wpE (defs₀ (F := F)) Variants.none (c : Thread nD τ) none) Set.univ
      (do
        Scf.Loop.for k0_t6_loop k0_t6_ok ⟨⟩ (k0_t6_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4)
        Scf.Loop.for k0_t7_loop k0_t7_ok ⟨⟩ (k0_t7_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 t4 v329)
        pure ⟨⟩) Q := by
  iintro ⟨⟨HT, H9, HS⟩, HQ⟩
  unfold scoInv
  icases HS with ⟨HK, H10, H19, H20, H21, H22⟩
  sl_for (fun _ _ => rowInv c (a9 := a9) sel q f9) $$ [HT H9 H21]
  · intro k acc; exact t6_step c i h4 h5 h6 h7 h8 h9 h10 h11 h14 h15 h16 sel q g0 g16 g26 g36 w41 w43 w71 w82 hsel f9 t4 k acc
  · unfold rowInv
    isplitl [HT]; · iexact HT
    isplitl [H9]; · iexact H9
    iexact H21
  iintro %acc HR
  unfold rowInv
  icases HR with ⟨HT, H9, H21⟩
  sl_for (fun _ _ => scoInv c i (a10 := a10) sel ka f10) $$ [HK H10 H19 H20 H21 H22]
  · intro k acc; exact t7_step c i h4 h5 h6 h7 h8 h9 h10 h11 h14 h15 h16 sel ka g0 g16 g26 g36 w41 w43 w71 w82 f10 v102 v104 v105 v329 t4 k acc
  · unfold scoInv
    isplitl [HK]; · iexact HK
    isplitl [H10]; · iexact H10
    isplitl [H19]; · iexact H19
    isplitl [H20]; · iexact H20
    isplitl [H21]; · iexact H21
    iexact H22
  iintro %acc' HS
  simp only [prog_bind]
  sl_step
  iapply HQ
  isplitl [HT]; · iexact HT
  isplitl [H9]; · iexact H9
  unfold scoInv
  iexact HS

theorem t4_step (hsel : SelOK (F := F) sel) (f9 : Buf (Elt F) (a9.view.loc (c : Thread nD τ))) (f10 : Buf (Elt F) (a10.view.loc (c : Thread nD τ))) (v102 : FVec F S1x160x128 .bf16) (v104 v105 : IVec S8x128 32) (k : Fin k0_t4_loop.trips) (acc : Unit) :
    stgInv c i (a9 := a9) (a10 := a10) sel ka va q f9 f10 k.val ⊢ wp frame (wpE (defs₀ (F := F)) Variants.none (c : Thread nD τ) none) Set.univ
      (k0_t4_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 k acc) (fun _ => stgInv c i (a9 := a9) (a10 := a10) sel ka va q f9 f10 (k.val + 1)) := by
  unfold stgInv nxtInv
  dsimp only [k0_t4_body]
  by_cases h2 : k0_cond2 i = 1#1
  · rw [dif_pos h2, if_pos h2, if_pos h2]
    iintro ⟨HN, H9, HS⟩
    sl_for (fun k' _ => issInv c sel ka va q (nxtOf i) (64 * k.val + k')) $$ [HN]
    · intro k' acc'; exact t5_step c i h4 h5 h6 h7 h8 h9 h10 h11 h14 h15 h16 sel ka va q g0 g16 g26 g36 w41 w43 w71 w82 hsel h2 k k' acc'
    · rw [Nat.add_zero]; iexact HN
    iintro %acc' HN
    rw [show 64 * k.val + Scf.trips k0_t5_loop.lb k0_t5_loop.ub k0_t5_loop.st = 64 * (k.val + 1) by rw [show Scf.trips k0_t5_loop.lb k0_t5_loop.ub k0_t5_loop.st = 64 by decide]; omega]
    unfold issInv
    icases HN with ⟨HIK, HIV, HT⟩
    simp only [prog_bind]
    iapply (t67_run c i h4 h5 h6 h7 h8 h9 h10 h11 h14 h15 h16 sel ka q g0 g16 g26 g36 w41 w43 w71 w82 hsel f9 f10 v102 v104 v105 _ k)
    isplitl [HT H9 HS]
    · isplitl [HT]; · iexact HT
      isplitl [H9]; · iexact H9
      iexact HS
    iintro ⟨HT, H9, HS⟩
    isplitl [HIK HIV HT]
    · isplitl [HIK]; · iexact HIK
      isplitl [HIV]; · iexact HIV
      iexact HT
    isplitl [H9]; · iexact H9
    iexact HS
  · rw [dif_neg h2, if_neg h2, if_neg h2]
    iintro ⟨HN, H9, HS⟩
    iapply (t67_run c i h4 h5 h6 h7 h8 h9 h10 h11 h14 h15 h16 sel ka q g0 g16 g26 g36 w41 w43 w71 w82 hsel f9 f10 v102 v104 v105 _ k)
    isplitl [HN H9 HS]
    · isplitl [HN]; · iexact HN
      isplitl [H9]; · iexact H9
      iexact HS
    iintro ⟨HT, H9, HS⟩
    isplitl [HT]; · iexact HT
    isplitl [H9]; · iexact H9
    iexact HS

set_option warn.classDefReducibility false in
@[sl_loop] def t4Inv (hsel : SelOK (F := F) sel) (f9 : Buf (Elt F) (a9.view.loc (c : Thread nD τ))) (f10 : Buf (Elt F) (a10.view.loc (c : Thread nD τ))) (v102 : FVec F S1x160x128 .bf16) (v104 v105 : IVec S8x128 32) :
    LoopInv (M := 𝕄) frame (wpE (defs₀ (F := F)) Variants.none (c : Thread nD τ) none) Set.univ k0_t4_loop.lb k0_t4_loop.ub k0_t4_loop.st k0_t4_ok ()
      (k0_t4_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105) where
  inv := fun k _ => stgInv c i (a9 := a9) (a10 := a10) sel ka va q f9 f10 k
  step := t4_step c i h4 h5 h6 h7 h8 h9 h10 h11 h14 h15 h16 sel ka va q g0 g16 g26 g36 w41 w43 w71 w82 hsel f9 f10 v102 v104 v105

/-! The weighted sum of V. -/

def sumInv : sProp 𝕄 := iprop(vHeld c sel va (itOf i) ∗ anyPt (F := F) c (Memref.whole cc0_scratch3))

theorem t8_step (v88 : IVec S4x128 1) (v124 : FVec F S28x8x128 .f32) (v125 : FVec F S8x1 .f32) (k : Fin k0_t8_loop.trips) (acc : FVec F S8x128 .f32) :
    sumInv c i sel va ⊢ wp frame (wpE (defs₀ (F := F)) Variants.none (c : Thread nD τ) none) Set.univ
      (k0_t8_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125 k acc) (fun _ => sumInv c i sel va) := by
  unfold sumInv vHeld
  iintro ⟨HV, ⟨%f20, H20⟩⟩
  dsimp only [k0_t8_body]
  simp only [k0_part17_eq_skeleton]
  unfold k0_part17_skel
  iapply (wp_vLoad c (slotOf (itOf i)) _ _ _ (by exact (congrFun (k0_off27_closed i k 0) 0)) _ _) $$ HV
  iintro HV
  simp only [prog_bind]
  sl_exec
  iapply (wp_vLoad c (slotOf (itOf i)) _ _ _ (by exact (congrFun (k0_off27_closed i k 1) 0)) _ _) $$ HV
  iintro HV
  simp only [prog_bind]
  sl_exec
  iapply (wp_vLoad c (slotOf (itOf i)) _ _ _ (by exact (congrFun (k0_off27_closed i k 2) 0)) _ _) $$ HV
  iintro HV
  simp only [prog_bind]
  sl_exec
  iapply (wp_vLoad c (slotOf (itOf i)) _ _ _ (by exact (congrFun (k0_off27_closed i k 3) 0)) _ _) $$ HV
  iintro HV
  simp only [prog_bind]
  sl_exec
  sl_step
  isplitl [HV]; · iexact HV
  iexists _; iexact H20

set_option warn.classDefReducibility false in
@[sl_loop] def t8Inv (v88 : IVec S4x128 1) (v124 : FVec F S28x8x128 .f32) (v125 : FVec F S8x1 .f32) :
    LoopInv (M := 𝕄) frame (wpE (defs₀ (F := F)) Variants.none (c : Thread nD τ) none) Set.univ k0_t8_loop.lb k0_t8_loop.ub k0_t8_loop.st k0_t8_ok (k0_pay197 (F := F))
      (k0_t8_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125) where
  inv := fun _ _ => sumInv c i sel va
  step := t8_step c i h4 h5 h6 h7 h8 h9 h10 h11 h14 h15 h16 sel va g16 g26 g36 v88 v124 v125

end Cert.Kernel.Hand

end
-- ==== Proof.Body.lean ====
/- One item: the whole body. -/
module

public import proofs.«01_k».proof.Proof.Stage

@[expose] public section

set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance closedOff7 (i : grid0.Coords) : ClosedOff (k0_off7 i) := ⟨![7 * ((i 0).val % 4), (i 0).val / 4, 0], off7_closed i⟩

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)
variable (len pos : S6.Idx → Elt F .i32)
variable (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ)))

/-- The other two tables, readable. -/
abbrev lenPt (c : Dev nD) (q : PosShare TreeShare) (f : S6.Idx → Elt F .i32) : sProp 𝕄 := (Memref.whole main_arg8 : Memref sig .tc _ _ _).view.loc (c : Thread nD τ) ↦{q} f
abbrev posPt (c : Dev nD) (q : PosShare TreeShare) (f : S6.Idx → Elt F .i32) : sProp 𝕄 := (Memref.whole main_arg9 : Memref sig .tc _ _ _).view.loc (c : Thread nD τ) ↦{q} f

/-- The words of the item's row, the row's angles and the rotated new key. -/
def lenW (i : grid0.Coords) (f : S6.Idx → Elt F .i32) : Elt F .i32 :=
  (Memref.whole main_arg8 : Memref sig .tc _ _ _).view.readAt (Elt F) (Rect.unit (s := S6) (k0_off6 i) S1.size (k0_off6_inb i)).toLoadRect f (Shape.Idx.first (numel1_S1.symm ▸ Nat.one_pos))
def posW (i : grid0.Coords) (f : S6.Idx → Elt F .i32) : Elt F .i32 :=
  (Memref.whole main_arg9 : Memref sig .tc _ _ _).view.readAt (Elt F) (Rect.unit (s := S6) (k0_off6 i) S1.size (k0_off6_inb i)).toLoadRect f (Shape.Idx.first (numel1_S1.symm ▸ Nat.one_pos))
def rotK (i : grid0.Coords) (a6 : Memref sig .tc .vmem S6x4x128 .bf16) (a11 : Memref sig .tc .vmem S1x128 .f32) (len pos : S6.Idx → Elt F .i32)
    (f6 : Buf (Elt F) (a6.view.loc (c : Thread nD τ))) (f11 : Buf (Elt F) (a11.view.loc (c : Thread nD τ))) : FVec F S4x128 .bf16 :=
  k0_pay150 (lenW i len) (posW i pos)
    (View.readAt (Elt F) a11.view (Rect.unit (s := S1x128) ![0, 0] S1x128.size inb_S1x128_S1x128_0_0).toLoadRect f11)
    (View.readAt (Elt F) a6.view (Rect.unit (s := S6x4x128) (k0_off8 i) S1x4x128.size (k0_off8_inb i)).toLoadRect f6)

/-- What the preparation works with. -/
def prepRes : sProp 𝕄 := iprop(pt (F := F) c a4 f4 ∗ pt (F := F) c a5 f5 ∗ anyPt (F := F) c (Memref.whole cc0_scratch2) ∗ anyPt (F := F) c (Memref.whole cc0_scratch6))

theorem part19_run1 (hsel : SelOK (F := F) sel) (h1 : k0_cond1 i = 1#1) (g16 g26 g38 : BitVec 32) (Q : _ → sProp 𝕄) :
    iprop((issInv c sel ka va q 0 0 ∗ prepRes c (a4 := a4) (a5 := a5) f4 f5 ∗ lenPt c q len ∗ posPt c q pos ∗ pt (F := F) c a6 f6 ∗ pt (F := F) c a11 f11) ∗
      (∀ x, (⌜x.1 = lenW i len ∧ x.2.1 = posW i pos ∧ x.2.2.2 = rotK c i a6 a11 len pos f6 f11⌝ ∗ issInv c sel ka va q 0 448 ∗ prepRes c (a4 := a4) (a5 := a5) f4 f5 ∗ lenPt c q len ∗ posPt c q pos ∗ pt (F := F) c a6 f6 ∗ pt (F := F) c a11 f11) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  simp only [k0_part19_eq_skeleton]; unfold k0_part19_skel
  rw [dif_pos h1]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold prepRes
  iintro ⟨⟨HI, ⟨H4, H5, ⟨%f19, H19⟩, ⟨%f23, H23⟩⟩, HL, HP, H6, H11⟩, HQ⟩
  iapply (Entails.of_eq (wp_bind _ _ _ _ _ _).symm)
  iapply (Entails.of_eq (wp_bind _ _ _ _ _ _).symm)
  sl_for (fun k _ => issInv c sel ka va q 0 (64 * k)) $$ [HI H4 H5 H19 H23 HL HP H6 H11 HQ]
  · intro k acc; exact t1_step c i h4 h5 h6 h7 h8 h9 h10 h11 h14 h15 h16 sel ka va q hsel h1 k acc
  isplitl [HI]
  · iexact HI
  iintro %acc HI
  sl_exec
  sl_step
  iapply HQ
  isplitr; · ipureintro; exact ⟨rfl, rfl, rfl⟩
  isplitl [HI]; · iexact HI
  isplitl [H4 H5 H19 H23]
  · isplitl [H4]; · iexact H4
    isplitl [H5]; · iexact H5
    isplitl [H19]; · iexists _; iexact H19
    iexists _; iexact H23
  isplitl [HL]; · iexact HL
  isplitl [HP]; · iexact HP
  isplitl [H6]; · iexact H6
  iexact H11

theorem part19_run0 (h1 : ¬ k0_cond1 i = 1#1) (g16 g26 g38 : BitVec 32) (Q : _ → sProp 𝕄) :
    iprop((anyPt (F := F) c (Memref.whole cc0_scratch6) ∗ lenPt c q len ∗ posPt c q pos ∗ pt (F := F) c a6 f6 ∗ pt (F := F) c a11 f11) ∗
      (∀ x, (⌜x.1 = lenW i len ∧ x.2.1 = posW i pos ∧ x.2.2.2 = rotK c i a6 a11 len pos f6 f11⌝ ∗ anyPt (F := F) c (Memref.whole cc0_scratch6) ∗ lenPt c q len ∗ posPt c q pos ∗ pt (F := F) c a6 f6 ∗ pt (F := F) c a11 f11) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  simp only [k0_part19_eq_skeleton]; unfold k0_part19_skel
  rw [dif_neg h1]
  iintro ⟨⟨⟨%f23, H23⟩, HL, HP, H6, H11⟩, HQ⟩
  sl_exec
  sl_step
  iapply HQ
  isplitr; · ipureintro; exact ⟨rfl, rfl, rfl⟩
  isplitl [H23]; · iexists _; iexact H23
  isplitl [HL]; · iexact HL
  isplitl [HP]; · iexact HP
  isplitl [H6]; · iexact H6
  iexact H11

/-- What the scores part works with, beside the flights. -/
def scoRes : sProp 𝕄 := iprop(anyPt (F := F) c (Memref.whole cc0_scratch2) ∗ anyPt (F := F) c (Memref.whole cc0_scratch3) ∗ anyPt (F := F) c (Memref.whole cc0_scratch4) ∗ anyPt (F := F) c (Memref.whole cc0_scratch5))
def winRes : sProp 𝕄 := iprop(pt (F := F) c a8 f8 ∗ pt (F := F) c a9 f9 ∗ pt (F := F) c a10 f10)

/-- What the window of the rotated key holds once stored. -/
def knrPt (w : FVec F S4x128 .bf16) : sProp 𝕄 := iprop(∃ f, pt (F := F) c a16 (a16.view.writes (Elt F) f [⟨Rect.unit (s := S1x1x4x128) ![0, 0, 0, 0] S1x1x4x128.size inb_S1x1x4x128_S1x1x4x128_0_0_0_0, k0_pay151 w⟩]))

theorem part20_run (hsel : SelOK (F := F) sel) (g0 g16 g26 g36 : BitVec 32) (w41 w43 : Elt F .i32) (w71 : FVec F S8x128 .bf16) (w82 : FVec F S4x128 .bf16) (Q : _ → sProp 𝕄) :
    iprop((anyPt (F := F) c a16 ∗ kDrain c sel ka (itOf i) 0 ∗ owesAny c ∗ winRes c (a8 := a8) (a9 := a9) (a10 := a10) f8 f9 f10 ∗ nxtInv c i sel ka va q 0 ∗ scoRes (F := F) c) ∗
      (∀ x, (knrPt c (a16 := a16) w82 ∗ (kHeld c sel ka (itOf i) ∗ kSem0 c (slotOf (itOf i)) ∗ kToks c ka (slotOf (itOf i))) ∗ owesAny c ∗ winRes c (a8 := a8) (a9 := a9) (a10 := a10) f8 f9 f10 ∗ nxtInv c i sel ka va q 7 ∗ scoRes (F := F) c) -∗ Q x))
    ⊢ wp frame (wpE (defs₀ (F := F)) Variants.none (c : Thread nD τ) none) Set.univ (k0_part20 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82) Q := by
  simp only [k0_part20_eq_skeleton]; unfold k0_part20_skel
  unfold winRes scoRes
  iintro ⟨⟨⟨%f16, H16⟩, HD, HW, ⟨H8, H9, H10⟩, HN, ⟨H19, H20, H21, H22⟩⟩, HQ⟩
  sl_exec
  sl_for (fun k _ => iprop(kDrain c sel ka (itOf i) (k * kN) ∗ owesAny c)) $$ [HD HW]
  · intro k acc; exact t3_step c i h4 h5 h6 h7 h8 h9 h10 h11 h14 h15 h16 sel ka g0 g16 g26 g36 w41 w43 w71 w82 k acc
  · rw [Nat.zero_mul]
    isplitl [HD]; · iexact HD
    iexact HW
  iintro %acc ⟨HD, HW⟩
  rw [show Scf.trips k0_t3_loop.lb k0_t3_loop.ub k0_t3_loop.st * kN = kN * 448 by rw [show Scf.trips k0_t3_loop.lb k0_t3_loop.ub k0_t3_loop.st = 448 by decide]; exact Nat.mul_comm _ _]
  imod (kCollect c sel ka (itOf i)) $$ HD with ⟨HK, HS0, HTk⟩
  sl_exec
  sl_for (fun k _ => stgInv c i (a9 := a9) (a10 := a10) sel ka va q f9 f10 k) $$ [HN H9 HK H10 H19 H20 H21 H22]
  · intro k acc; exact t4_step c i h4 h5 h6 h7 h8 h9 h10 h11 h14 h15 h16 sel ka va q g0 g16 g26 g36 w41 w43 w71 w82 hsel f9 f10 _ _ _ k acc
  · unfold stgInv scoInv
    isplitl [HN]; · iexact HN
    isplitl [H9]; · iexact H9
    isplitl [HK]; · iexact HK
    isplitl [H10]; · iexact H10
    isplitl [H19]; · iexact H19
    isplitl [H20]; · iexact H20
    isplitl [H21]; · iexact H21
    iexact H22
  iintro %acc' HS
  rw [show Scf.trips k0_t4_loop.lb k0_t4_loop.ub k0_t4_loop.st = 7 by decide]
  unfold stgInv scoInv
  icases HS with ⟨HN, H9, HK, H10, H19, ⟨%f20, H20⟩, H21, H22⟩
  sl_exec
  sl_step
  iapply HQ
  isplitl [H16]; · unfold knrPt; iexists _; iexact H16
  isplitl [HK HS0 HTk]
  · isplitl [HK]; · iexact HK
    isplitl [HS0]; · iexact HS0
    iexact HTk
  isplitl [HW]; · iexact HW
  isplitl [H8 H9 H10]
  · isplitl [H8]; · iexact H8
    isplitl [H9]; · iexact H9
    iexact H10
  isplitl [HN]; · iexact HN
  isplitl [H19]; · iexact H19
  isplitl [H20]; · iexists _; iexact H20
  isplitl [H21]; · iexact H21
  iexact H22

/-! The probabilities' stores. -/
theorem part21_run (v115 : FVec F S28x8x128 .f32) (v117 : FVec F S8x1 .f32) (Q : _ → sProp 𝕄) :
    iprop(anyPt (F := F) c a15 ∗ (∀ x, anyPt (F := F) c a15 -∗ Q x))
    ⊢ wp frame (wpE (defs₀ (F := F)) Variants.none (c : Thread nD τ) none) Set.univ (k0_part21 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v115 v117) Q := by
  simp only [k0_part21_eq_skeleton]; unfold k0_part21_skel
  iintro ⟨⟨%f15, H15⟩, HQ⟩
  sl_exec
  sl_step
  iapply HQ
  iexists _; iexact H15

theorem part22_run (v124 : FVec F S28x8x128 .f32) (v151 : FVec F S1x7x128 .f32) (Q : _ → sProp 𝕄) :
    iprop(anyPt (F := F) c a15 ∗ (∀ x, anyPt (F := F) c a15 -∗ Q x))
    ⊢ wp frame (wpE (defs₀ (F := F)) Variants.none (c : Thread nD τ) none) Set.univ (k0_part22 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part22_eq_skeleton]; unfold k0_part22_skel
  iintro ⟨⟨%f15, H15⟩, HQ⟩
  sl_exec
  sl_step
  iapply HQ
  iexists _; iexact H15

theorem part23_run (v124 : FVec F S28x8x128 .f32) (v151 : FVec F S1x7x128 .f32) (Q : _ → sProp 𝕄) :
    iprop(anyPt (F := F) c a15 ∗ (∀ x, anyPt (F := F) c a15 -∗ Q x))
    ⊢ wp frame (wpE (defs₀ (F := F)) Variants.none (c : Thread nD τ) none) Set.univ (k0_part23 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part23_eq_skeleton]; unfold k0_part23_skel
  iintro ⟨⟨%f15, H15⟩, HQ⟩
  sl_exec
  sl_step
  iapply HQ
  iexists _; iexact H15

theorem part24_run (v124 : FVec F S28x8x128 .f32) (v151 : FVec F S1x7x128 .f32) (Q : _ → sProp 𝕄) :
    iprop(anyPt (F := F) c a15 ∗ (∀ x, anyPt (F := F) c a15 -∗ Q x))
    ⊢ wp frame (wpE (defs₀ (F := F)) Variants.none (c : Thread nD τ) none) Set.univ (k0_part24 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part24_eq_skeleton]; unfold k0_part24_skel
  iintro ⟨⟨%f15, H15⟩, HQ⟩
  sl_exec
  sl_step
  iapply HQ
  iexists _; iexact H15

theorem part25_run (v124 : FVec F S28x8x128 .f32) (v125 : FVec F S8x1 .f32) (v151 : FVec F S1x7x128 .f32) (Q : _ → sProp 𝕄) :
    iprop(anyPt (F := F) c a15 ∗ (∀ x, anyPt (F := F) c a15 -∗ Q x))
    ⊢ wp frame (wpE (defs₀ (F := F)) Variants.none (c : Thread nD τ) none) Set.univ (k0_part25 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v125 v151) Q := by
  simp only [k0_part25_eq_skeleton]; unfold k0_part25_skel
  iintro ⟨⟨%f15, H15⟩, HQ⟩
  sl_exec
  sl_step
  iapply HQ
  iexists _; iexact H15

/-- The weighted sum and the output's first store. -/
theorem part26_run (g16 g26 g36 : BitVec 32) (v88 : IVec S4x128 1) (v124 : FVec F S28x8x128 .f32) (v125 : FVec F S8x1 .f32) (Q : _ → sProp 𝕄) :
    iprop((anyPt (F := F) c a14 ∗ vDrain c sel va (itOf i) 0 ∗ owesAny c ∗ pt (F := F) c a7 f7 ∗ anyPt (F := F) c (Memref.whole cc0_scratch3) ∗ anyPt (F := F) c (Memref.whole cc0_scratch5)) ∗
      (∀ x, (anyPt (F := F) c a14 ∗ (vHeld c sel va (itOf i) ∗ vSem0 c (slotOf (itOf i)) ∗ vToks c va (slotOf (itOf i))) ∗ owesAny c ∗ pt (F := F) c a7 f7 ∗ anyPt (F := F) c (Memref.whole cc0_scratch3) ∗ anyPt (F := F) c (Memref.whole cc0_scratch5)) -∗ Q x))
    ⊢ wp frame (wpE (defs₀ (F := F)) Variants.none (c : Thread nD τ) none) Set.univ (k0_part26 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125) Q := by
  simp only [k0_part26_eq_skeleton]; unfold k0_part26_skel
  iintro ⟨⟨⟨%f14, H14⟩, HD, HW, H7, ⟨%f20, H20⟩, ⟨%f22, H22⟩⟩, HQ⟩
  sl_exec
  ihave HDW : iprop(vDrain c sel va (itOf i) 0 ∗ owesAny c) $$ [HD HW]
  · isplitl [HD]; · iexact HD
    iexact HW
  iapply (wp_vWait c sel va (itOf i) 0 448 (by simp only [vN]; omega) _ (off25_closed i) _ rfl rfl) $$ HDW
  iintro ⟨HD, HW⟩
  rw [show 0 + 448 * vN = vN * 448 by rw [Nat.zero_add, Nat.mul_comm]]
  imod (vCollect c sel va (itOf i)) $$ HD with ⟨HV, HS0, HTk⟩
  simp only [prog_bind]
  sl_for (fun _ _ => sumInv c i sel va) $$ [HV H20]
  · intro k acc; exact t8_step c i h4 h5 h6 h7 h8 h9 h10 h11 h14 h15 h16 sel va g16 g26 g36 v88 v124 v125 k acc
  · unfold sumInv
    isplitl [HV]; · iexact HV
    iexists _; iexact H20
  iintro %acc HS
  unfold sumInv
  icases HS with ⟨HV, H20⟩
  sl_exec
  sl_step
  iapply HQ
  isplitl [H14]; · iexists _; iexact H14
  isplitl [HV HS0 HTk]
  · isplitl [HV]; · iexact HV
    isplitl [HS0]; · iexact HS0
    iexact HTk
  isplitl [HW]; · iexact HW
  isplitl [H7]; · iexact H7
  isplitl [H20]; · iexact H20
  iexists _; iexact H22

/-! ## The flights between items -/

/-- Slot `s` of both buffers with nothing in flight. -/
def freeS (s : Fin 2) : sProp 𝕄 := iprop((kFree (F := F) c s ∗ kSem0 c s ∗ kToks c ka s) ∗ (vFree (F := F) c s ∗ vSem0 c s ∗ vToks c va s))

/-- Before item `k`: its transfers in flight into its slot and the other slot free; before the first and after the last both slots free. -/
def flight (k : ℕ) : sProp 𝕄 :=
  if h : 0 < k ∧ k < 24 then iprop(kIss c sel ka ⟨k, h.2⟩ 448 ∗ vIss c sel va ⟨k, h.2⟩ 448 ∗ freeS c ka va (slotOf ⟨(k + 1) % 24, Nat.mod_lt _ (by decide)⟩))
  else iprop(freeS c ka va 0 ∗ freeS c ka va 1)

theorem flight_mid (h1 : ¬ k0_cond1 i = 1#1) : flight c sel ka va (i 0).val = iprop(kIss c sel ka (itOf i) 448 ∗ vIss c sel va (itOf i) 448 ∗ freeS c ka va (slotOf (nxtOf i))) := by
  have h0 : (i 0).val ≠ 0 := fun e => h1 ((cond1_iff i).mpr e)
  unfold flight
  rw [dif_pos ⟨Nat.pos_of_ne_zero h0, (i 0).isLt⟩]; rfl

theorem flight_first (h1 : k0_cond1 i = 1#1) : flight c sel ka va (i 0).val = iprop(freeS c ka va (slotOf (0 : Fin 24)) ∗ freeS c ka va (slotOf (nxtOf i))) := by
  have h0 := (cond1_iff i).mp h1
  have hn : nxtOf i = (1 : Fin 24) := by unfold nxtOf; simp only [h0]; rfl
  rw [h0, hn]; unfold flight
  rw [dif_neg (by omega)]; rfl

/-- Starting an item's transfers in its free slot. -/
theorem begin_both (it : Fin 24) : freeS c ka va (slotOf it) ⊢ (|={Set.univ}=> iprop(kIss c sel ka it 0 ∗ vIss c sel va it 0) : sProp 𝕄) := by
  unfold freeS
  iintro ⟨HK, HV⟩
  imod (kBegin c sel ka it) $$ HK with HK
  imod (vBegin c sel va it) $$ HV with HV
  imodintro
  isplitl [HK]; · iexact HK
  iexact HV

/-- Beside the stages' loop: the other slot when there is no next item. -/
def nxtSpare : sProp 𝕄 := if k0_cond2 i = 1#1 then iprop(⌜True⌝) else freeS c ka va (slotOf (nxtOf i))

theorem nxt_start : iprop(tabPt (F := F) c sel q ∗ freeS c ka va (slotOf (nxtOf i))) ⊢ (|={Set.univ}=> iprop(nxtInv c i sel ka va q 0 ∗ nxtSpare c i ka va) : sProp 𝕄) := by
  unfold nxtInv nxtSpare
  by_cases h2 : k0_cond2 i = 1#1
  · rw [if_pos h2, if_pos h2]
    iintro ⟨HT, HF⟩
    imod (begin_both c sel ka va (nxtOf i)) $$ HF with ⟨HK, HV⟩
    imodintro
    isplitl
    · unfold issInv
      isplitl [HK]; · iexact HK
      isplitl [HV]; · iexact HV
      iexact HT
    ipureintro; trivial
  · rw [if_neg h2, if_neg h2]
    iintro H
    imodintro
    iexact H

theorem nxt_end : iprop(nxtInv c i sel ka va q 7 ∗ nxtSpare c i ka va ∗ freeS c ka va (slotOf (itOf i))) ⊢ (iprop(tabPt (F := F) c sel q ∗ flight c sel ka va ((i 0).val + 1)) : sProp 𝕄) := by
  unfold nxtInv nxtSpare
  have hlt : (i 0).val < 24 := (i 0).isLt
  by_cases h2 : k0_cond2 i = 1#1
  · have hl := (cond2_iff i).mp h2
    have hn : nxtOf i = ⟨(i 0).val + 1, hl⟩ := Fin.ext (Nat.mod_eq_of_lt hl)
    have hs : slotOf (itOf i) = slotOf ⟨((i 0).val + 1 + 1) % 24, Nat.mod_lt _ (by decide)⟩ := Fin.ext (by show (i 0).val % 2 = ((i 0).val + 1 + 1) % 24 % 2; omega)
    rw [if_pos h2, if_pos h2, hn, hs]
    unfold flight issInv
    rw [dif_pos ⟨Nat.succ_pos _, hl⟩]
    iintro ⟨⟨HK, HV, HT⟩, -, HF⟩
    isplitl [HT]; · iexact HT
    isplitl [HK]; · iexact HK
    isplitl [HV]; · iexact HV
    iexact HF
  · have hl : ¬ (i 0).val + 1 < 24 := fun e => h2 ((cond2_iff i).mpr e)
    have e23 : (i 0).val = 23 := by omega
    have hs : slotOf (itOf i) = 1 := Fin.ext (by show (i 0).val % 2 = 1; omega)
    have hn : slotOf (nxtOf i) = 0 := Fin.ext (by show ((i 0).val + 1) % 24 % 2 = 0; omega)
    rw [if_neg h2, if_neg h2, hs, hn]
    unfold flight
    rw [dif_neg (by omega)]

theorem kHeld_free (it : Fin 24) : (kHeld c sel ka it : sProp 𝕄) ⊢ kFree (F := F) c (slotOf it) := by
  unfold kHeld kFree; iintro H; iexists _; iexact H
theorem vHeld_free (it : Fin 24) : (vHeld c sel va it : sProp 𝕄) ⊢ vFree (F := F) c (slotOf it) := by
  unfold vHeld vFree; iintro H; iexists _; iexact H

/-! ## The body -/

/-- What the first part works with at every item. -/
def rowRes : sProp 𝕄 := iprop(prepRes c (a4 := a4) (a5 := a5) f4 f5 ∗ lenPt c q len ∗ posPt c q pos ∗ pt (F := F) c a6 f6 ∗ pt (F := F) c a11 f11)

theorem part19_run (hsel : SelOK (F := F) sel) (g16 g26 g38 : BitVec 32) (Q : _ → sProp 𝕄) :
    iprop((flight c sel ka va (i 0).val ∗ tabPt (F := F) c sel q ∗ rowRes c (a4 := a4) (a5 := a5) (a6 := a6) (a11 := a11) q len pos f4 f5 f6 f11) ∗
      (∀ x, (⌜x.1 = lenW i len ∧ x.2.1 = posW i pos ∧ x.2.2.2 = rotK c i a6 a11 len pos f6 f11⌝ ∗ kDrain c sel ka (itOf i) 0 ∗ vDrain c sel va (itOf i) 0 ∗ freeS c ka va (slotOf (nxtOf i)) ∗ tabPt (F := F) c sel q
          ∗ rowRes c (a4 := a4) (a5 := a5) (a6 := a6) (a11 := a11) q len pos f4 f5 f6 f11) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  by_cases h1 : k0_cond1 i = 1#1
  · rw [flight_first c i sel ka va h1]
    have hit : itOf i = (0 : Fin 24) := Fin.ext ((cond1_iff i).mp h1)
    rw [hit]
    unfold rowRes
    iintro ⟨⟨⟨HF, HF'⟩, HT, HR, HL, HP, H6, H11⟩, HQ⟩
    imod (begin_both c sel ka va 0) $$ HF with ⟨HK, HV⟩
    iapply (part19_run1 c i h4 h5 h6 h7 h8 h9 h10 h11 h14 h15 h16 sel ka va q len pos f4 f5 f6 f11 hsel h1 g16 g26 g38 Q)
    isplitl [HK HV HT HR HL HP H6 H11]
    · isplitl [HK HV HT]
      · unfold issInv
        isplitl [HK]; · iexact HK
        isplitl [HV]; · iexact HV
        iexact HT
      isplitl [HR]; · iexact HR
      isplitl [HL]; · iexact HL
      isplitl [HP]; · iexact HP
      isplitl [H6]; · iexact H6
      iexact H11
    iintro %x ⟨He, HI, HR, HL, HP, H6, H11⟩
    unfold issInv
    icases HI with ⟨HK, HV, HT⟩
    iapply HQ
    isplitl [He]; · iexact He
    isplitl [HK]; · iapply (kIss_all c sel ka 0) $$ HK
    isplitl [HV]; · iapply (vIss_all c sel va 0) $$ HV
    isplitl [HF']; · iexact HF'
    isplitl [HT]; · iexact HT
    isplitl [HR]; · iexact HR
    isplitl [HL]; · iexact HL
    isplitl [HP]; · iexact HP
    isplitl [H6]; · iexact H6
    iexact H11
  · rw [flight_mid c i sel ka va h1]
    unfold rowRes prepRes
    iintro ⟨⟨⟨HK, HV, HF'⟩, HT, ⟨H4, H5, H19, H23⟩, HL, HP, H6, H11⟩, HQ⟩
    iapply (part19_run0 c i h4 h5 h6 h7 h8 h9 h10 h11 h14 h15 h16 q len pos f6 f11 h1 g16 g26 g38 Q)
    isplitl [H23 HL HP H6 H11]
    · isplitl [H23]; · iexact H23
      isplitl [HL]; · iexact HL
      isplitl [HP]; · iexact HP
      isplitl [H6]; · iexact H6
      iexact H11
    iintro %x ⟨He, H23, HL, HP, H6, H11⟩
    iapply HQ
    isplitl [He]; · iexact He
    isplitl [HK]; · iapply (kIss_all c sel ka (itOf i)) $$ HK
    isplitl [HV]; · iapply (vIss_all c sel va (itOf i)) $$ HV
    isplitl [HF']; · iexact HF'
    isplitl [HT]; · iexact HT
    isplitl [H4 H5 H19 H23]
    · isplitl [H4]; · iexact H4
      isplitl [H5]; · iexact H5
      isplitl [H19]; · iexact H19
      iexact H23
    isplitl [HL]; · iexact HL
    isplitl [HP]; · iexact HP
    isplitl [H6]; · iexact H6
    iexact H11

/-- What the body holds at an item's start (`k` its number) and at its end (`k` the next), beside the three written windows. -/
def bodyRes (k : ℕ) : sProp 𝕄 :=
  iprop(flight c sel ka va k ∗ tabPt (F := F) c sel q ∗ rowRes c (a4 := a4) (a5 := a5) (a6 := a6) (a11 := a11) q len pos f4 f5 f6 f11 ∗ pt (F := F) c a7 f7 ∗ winRes c (a8 := a8) (a9 := a9) (a10 := a10) f8 f9 f10
    ∗ anyPt (F := F) c (Memref.whole cc0_scratch3) ∗ anyPt (F := F) c (Memref.whole cc0_scratch4) ∗ anyPt (F := F) c (Memref.whole cc0_scratch5) ∗ owesAny c)

theorem body_run (hsel : SelOK (F := F) sel) (Q : PUnit → sProp 𝕄) :
    iprop((bodyRes c (a4 := a4) (a5 := a5) (a6 := a6) (a7 := a7) (a8 := a8) (a9 := a9) (a10 := a10) (a11 := a11) sel ka va q len pos f4 f5 f6 f7 f8 f9 f10 f11 (i 0).val ∗ anyPt (F := F) c a14 ∗ anyPt (F := F) c a15 ∗ anyPt (F := F) c a16) ∗
      ((bodyRes c (a4 := a4) (a5 := a5) (a6 := a6) (a7 := a7) (a8 := a8) (a9 := a9) (a10 := a10) (a11 := a11) sel ka va q len pos f4 f5 f6 f7 f8 f9 f10 f11 ((i 0).val + 1) ∗ anyPt (F := F) c a14 ∗ anyPt (F := F) c a15
          ∗ knrPt c (a16 := a16) (rotK c i a6 a11 len pos f6 f11)) -∗ Q ⟨⟩))
    ⊢ wp frame (wpE (defs₀ (F := F)) Variants.none (c : Thread nD τ) none) Set.univ (cc0__body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q := by
  simp only [cc0__body_eq_skeleton]; unfold cc0__body_skel
  simp only [k0_part18_eq_skeleton]; unfold k0_part18_skel
  unfold bodyRes
  iintro ⟨⟨⟨HF, HT, HR, H7, HWn, H20, H21, H22, HW⟩, H14, H15, H16⟩, HQ⟩
  iapply (Entails.of_eq (wp_bind _ _ _ _ _ _).symm)
  dsimp only
  sl_step
  iapply (Entails.of_eq (wp_bind _ _ _ _ _ _).symm)
  iapply (part19_run c i h4 h5 h6 h7 h8 h9 h10 h11 h14 h15 h16 sel ka va q len pos f4 f5 f6 f11 hsel _ _ _ _)
  isplitl [HF HT HR]
  · isplitl [HF]; · iexact HF
    isplitl [HT]; · iexact HT
    iexact HR
  iintro %x ⟨%hx, HDK, HDV, HF, HT, HR⟩
  imod (nxt_start c i sel ka va q) $$ [HT HF] with ⟨HN, HSp⟩
  · isplitl [HT]; · iexact HT
    iexact HF
  unfold rowRes prepRes
  icases HR with ⟨⟨H4, H5, H19, H23⟩, HL, HP, H6, H11⟩
  iapply (Entails.of_eq (wp_bind _ _ _ _ _ _).symm)
  iapply (part20_run c i h4 h5 h6 h7 h8 h9 h10 h11 h14 h15 h16 sel ka va q f8 f9 f10 hsel _ _ _ _ _ _ _ _ _)
  isplitl [H16 HDK HW HWn HN H19 H20 H21 H22]
  · isplitl [H16]; · iexact H16
    isplitl [HDK]; · iexact HDK
    isplitl [HW]; · iexact HW
    isplitl [HWn]; · iexact HWn
    isplitl [HN]; · iexact HN
    unfold scoRes
    isplitl [H19]; · iexact H19
    isplitl [H20]; · iexact H20
    isplitl [H21]; · iexact H21
    iexact H22
  iintro %y ⟨H16, ⟨HHk, HSk, HTk⟩, HW, HWn, HN, HSc⟩
  unfold scoRes
  icases HSc with ⟨H19, H20, H21, H22⟩
  iapply (Entails.of_eq (wp_bind _ _ _ _ _ _).symm)
  iapply (part21_run c i h4 h5 h6 h7 h8 h9 h10 h11 h14 h15 h16 _ _ _)
  isplitl [H15]; · iexact H15
  iintro %z21 H15
  iapply (Entails.of_eq (wp_bind _ _ _ _ _ _).symm)
  iapply (part22_run c i h4 h5 h6 h7 h8 h9 h10 h11 h14 h15 h16 _ _ _)
  isplitl [H15]; · iexact H15
  iintro %z22 H15
  iapply (Entails.of_eq (wp_bind _ _ _ _ _ _).symm)
  iapply (part23_run c i h4 h5 h6 h7 h8 h9 h10 h11 h14 h15 h16 _ _ _)
  isplitl [H15]; · iexact H15
  iintro %z23 H15
  iapply (Entails.of_eq (wp_bind _ _ _ _ _ _).symm)
  iapply (part24_run c i h4 h5 h6 h7 h8 h9 h10 h11 h14 h15 h16 _ _ _)
  isplitl [H15]; · iexact H15
  iintro %z24 H15
  iapply (Entails.of_eq (wp_bind _ _ _ _ _ _).symm)
  iapply (part25_run c i h4 h5 h6 h7 h8 h9 h10 h11 h14 h15 h16 _ _ _ _)
  isplitl [H15]; · iexact H15
  iintro %z25 H15
  iapply (Entails.of_eq (wp_bind _ _ _ _ _ _).symm)
  iapply (part26_run c i h4 h5 h6 h7 h8 h9 h10 h11 h14 h15 h16 sel va f7 _ _ _ _ _ _ _)
  isplitl [H14 HDV HW H7 H20 H22]
  · isplitl [H14]; · iexact H14
    isplitl [HDV]; · iexact HDV
    isplitl [HW]; · iexact HW
    isplitl [H7]; · iexact H7
    isplitl [H20]; · iexact H20
    iexact H22
  iintro %w ⟨⟨%f14, H14⟩, ⟨HHv, HSv, HTv⟩, HW, H7, H20, H22⟩
  sl_exec
  sl_step
  iapply HQ
  ihave HE : iprop(nxtInv c i sel ka va q 7 ∗ nxtSpare c i ka va ∗ freeS c ka va (slotOf (itOf i))) $$ [HN HSp HHk HSk HTk HHv HSv HTv]
  · isplitl [HN]; · iexact HN
    isplitl [HSp]; · iexact HSp
    unfold freeS
    isplitl [HHk HSk HTk]
    · isplitl [HHk]; · iapply (kHeld_free c sel ka (itOf i)) $$ HHk
      isplitl [HSk]; · iexact HSk
      iexact HTk
    isplitl [HHv]; · iapply (vHeld_free c sel va (itOf i)) $$ HHv
    isplitl [HSv]; · iexact HSv
    iexact HTv
  ihave HE' := (nxt_end c i sel ka va q) $$ HE
  icases HE' with ⟨HT, HF⟩
  isplitl [HF HT H4 H5 H19 H23 HL HP H6 H11 H7 HWn H20 H21 H22 HW]
  · isplitl [HF]; · iexact HF
    isplitl [HT]; · iexact HT
    isplitl [H4 H5 H19 H23 HL HP H6 H11]
    · isplitl [H4 H5 H19 H23]
      · isplitl [H4]; · iexact H4
        isplitl [H5]; · iexact H5
        isplitl [H19]; · iexact H19
        iexact H23
      isplitl [HL]; · iexact HL
      isplitl [HP]; · iexact HP
      isplitl [H6]; · iexact H6
      iexact H11
    isplitl [H7]; · iexact H7
    isplitl [HWn]; · iexact HWn
    isplitl [H20]; · iexact H20
    isplitl [H21]; · iexact H21
    isplitl [H22]; · iexact H22
    iexact HW
  isplitl [H14]; · iexists _; iexact H14
  isplitl [H15]; · iexact H15
  obtain ⟨-, -, e⟩ := hx
  rw [← e]
  iexact H16

end Cert.Kernel.Hand

end
-- ==== Proof.Entry.lean ====
/- Entering and leaving the pipeline: the invariant of the whole run, from what the launch hands over and back to it. -/
module

public import proofs.«01_k».proof.Proof.Body
public import proofs.«01_k».proof.Proof.Gen.Kernel.Launch
public import Idealize.ShloMosaic.Lib.Pipeline.FrameBody
public import Idealize.ShloMosaic.Lib.Ring

@[expose] public section

set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-- The arrays once the host operations have run. -/
abbrev V (c : Dev nD) (b : Ref sig .tc) : Buf (Elt F) ((c : Thread nD τ).loc b) := StableHlo.after hostOps0 (fun b => m (c, b)) b

abbrev selOf (c : Dev nD) : S6x4x448.Idx → Elt F .i32 := V m c main_arg7
abbrev lenOf (c : Dev nD) : S6.Idx → Elt F .i32 := V m c main_arg8
abbrev posOf (c : Dev nD) : S6.Idx → Elt F .i32 := V m c main_arg9
abbrev kaOf (c : Dev nD) : S6x65536x160.Idx → Elt F .bf16 := V m c main_arg3
abbrev vaOf (c : Dev nD) : S6x65536x4x128.Idx → Elt F .fp8e4m3 := V m c main_arg5

/-- The prefetched tables. -/
abbrev tbl : pre0.Contents (Elt F) := fun k => V m 0 (pre0.ref k)
abbrev adm : (p : Fin 1) → (pcfgs (F := F) p).Adm := fun _ => ⟨tbl m, trivial⟩

/-- The four DMA cells of the body: two for K, two for V. -/
abbrev osem0 : Fin 4 → SemLoc sig := fun j => (![SemLoc.dma (kCell 0), SemLoc.dma (kCell 1), SemLoc.dma (vCell 0), SemLoc.dma (vCell 1)] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(kSem0 (F := F) c 0 ∗ kSem0 (F := F) c 1 ∗ vSem0 (F := F) c 0 ∗ vSem0 (F := F) c 1) := by
  rw [Pipeline.ownSems0_eq_of_list c osem0 [0, 1, 2, 3] (by decide) (by decide)]; rfl

/-- The arrays the body's transfers read. -/
def H0 : Finset (Ref sig .tc) := {main_arg3, main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)) := by
  rw [BI.bigSep_eq_bigSepL_of_eq [main_arg3, main_arg5] (by decide) (by decide)]; rfl

/-- 896 tokens in two lots. -/
theorem lots (Φ : ℕ → sProp 𝕄) : bigSep (Finset.range 896) Φ
    = iprop((bigSep Finset.univ fun t : Fin 448 => Φ (448 * (0 : Fin 2).val + t.val)) ∗ bigSep Finset.univ fun t : Fin 448 => Φ (448 * (1 : Fin 2).val + t.val)) := by
  have e : Finset.range 896 = (Finset.univ.map (⟨fun t : Fin 448 => 448 * (0 : Fin 2).val + t.val, fun a b h => Fin.ext (Nat.add_left_cancel h)⟩ : Fin 448 ↪ ℕ))
      ∪ (Finset.univ.map (⟨fun t : Fin 448 => 448 * (1 : Fin 2).val + t.val, fun a b h => Fin.ext (Nat.add_left_cancel h)⟩ : Fin 448 ↪ ℕ)) := by
    ext x
    simp only [Finset.mem_range, Finset.mem_union, Finset.mem_map, Finset.mem_univ, true_and, Function.Embedding.coeFn_mk]
    constructor
    · intro hx
      by_cases h : x < 448
      · exact .inl ⟨⟨x, h⟩, by simp⟩
      · exact .inr ⟨⟨x - 448, by omega⟩, by simp; omega⟩
    · rintro (⟨t, rfl⟩ | ⟨t, rfl⟩) <;> have := t.isLt <;> simp <;> omega
  rw [e, bigSep_union, bigSep_map, bigSep_map]; rfl
  rw [Finset.disjoint_left]
  intro x hx hy
  simp only [Finset.mem_map, Finset.mem_univ, true_and, Function.Embedding.coeFn_mk] at hx hy
  obtain ⟨a, rfl⟩ := hx; obtain ⟨b, hb⟩ := hy
  have := a.isLt; simp at hb; omega

variable (c : Dev nD)

/-- What is left of an array once its read tokens are taken. -/
abbrev kRem (ka : S6x65536x160.Idx → Elt F .bf16) : sProp 𝕄 := ((c : Thread nD τ).loc main_arg3) ↦{Transfers.shareDrop fullShare 896} ka
abbrev vRem (va : S6x65536x4x128.Idx → Elt F .fp8e4m3) : sProp 𝕄 := ((c : Thread nD τ).loc main_arg5) ↦{Transfers.shareDrop fullShare 896} va

theorem kArr_toks (ka : S6x65536x160.Idx → Elt F .bf16) :
    (((c : Thread nD τ).loc main_arg3) ↦{fullShare} ka : sProp 𝕄) ⊣⊢ iprop(kRem c ka ∗ kToks c ka 0 ∗ kToks c ka 1) := by
  unfold kToks
  rw [← lots (fun n => kTok c ka n)]
  exact Transfers.pointsTo_toks_range fullShare 896
theorem vArr_toks (va : S6x65536x4x128.Idx → Elt F .fp8e4m3) :
    (((c : Thread nD τ).loc main_arg5) ↦{fullShare} va : sProp 𝕄) ⊣⊢ iprop(vRem c va ∗ vToks c va 0 ∗ vToks c va 1) := by
  unfold vToks
  rw [← lots (fun n => vTok c va n)]
  exact Transfers.pointsTo_toks_range fullShare 896

theorem two {Φ : Fin 2 → sProp 𝕄} : bigSep Finset.univ Φ = iprop(Φ 0 ∗ Φ 1) := bigSep_univ_eq_bigSepL [(0 : Fin 2), (1 : Fin 2)] (by decide) (by decide) Φ

theorem kBuf_split (f : Buf (Elt F) ((c : Thread nD τ).loc cc0_scratch0)) :
    (((c : Thread nD τ).loc cc0_scratch0) ↦{fullShare} f : sProp 𝕄) ⊢ iprop(kFree (F := F) c 0 ∗ kFree (F := F) c 1) := by
  rw [Ring.pointsTo_blocks (ℓ := (c : Thread nD τ).loc cc0_scratch0) kSlot kSlot_disjoint kSlot_cover f, two]
  unfold kFree
  iintro ⟨H0, H1⟩
  isplitl [H0]
  · iexists f; iexact H0
  iexists f; iexact H1
theorem kBuf_join : iprop(kFree (F := F) c 0 ∗ kFree (F := F) c 1)
    ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Val := Elt F) (Name := ℕ) (U := Pipeline.UD sig nD τ) (Lvl := ℕ) (ℓ := (c : Thread nD τ).loc cc0_scratch0) kSlot kSlot_disjoint kSlot_cover (q := fullShare) (fun _ => Classical.arbitrary _)
  rw [two] at h
  exact h
theorem vBuf_split (f : Buf (Elt F) ((c : Thread nD τ).loc cc0_scratch1)) :
    (((c : Thread nD τ).loc cc0_scratch1) ↦{fullShare} f : sProp 𝕄) ⊢ iprop(vFree (F := F) c 0 ∗ vFree (F := F) c 1) := by
  rw [Ring.pointsTo_blocks (ℓ := (c : Thread nD τ).loc cc0_scratch1) vSlot vSlot_disjoint vSlot_cover f, two]
  unfold vFree
  iintro ⟨H0, H1⟩
  isplitl [H0]
  · iexists f; iexact H0
  iexists f; iexact H1
theorem vBuf_join : iprop(vFree (F := F) c 0 ∗ vFree (F := F) c 1)
    ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Val := Elt F) (Name := ℕ) (U := Pipeline.UD sig nD τ) (Lvl := ℕ) (ℓ := (c : Thread nD τ).loc cc0_scratch1) vSlot vSlot_disjoint vSlot_cover (q := fullShare) (fun _ => Classical.arbitrary _)
  rw [two] at h
  exact h

/-- A buffer held whole at some contents, either way of writing it. -/
theorem anyPt_whole (b : Ref sig .tc) :
    (iprop(∃ f : Buf (Elt F) ((c : Thread nD τ).loc b), ((c : Thread nD τ).loc b) ↦{fullShare} f) : sProp 𝕄) = anyPt (F := F) c (Memref.whole b) := by
  unfold anyPt pt
  rw [show (Memref.whole b).view.set = Finset.univ from View.set_whole b]

/-- The invariant before item `k`. -/
def phi (k : ℕ) : sProp 𝕄 :=
  iprop(flight c (selOf m c) (kaOf m c) (vaOf m c) k
    ∗ (tabPt (F := F) c (selOf m c) fullShare.right ∗ lenPt (F := F) c fullShare.right (lenOf m c) ∗ posPt (F := F) c fullShare.right (posOf m c))
    ∗ (anyPt (F := F) c (Memref.whole cc0_scratch2) ∗ anyPt (F := F) c (Memref.whole cc0_scratch3) ∗ anyPt (F := F) c (Memref.whole cc0_scratch4) ∗ anyPt (F := F) c (Memref.whole cc0_scratch5) ∗ anyPt (F := F) c (Memref.whole cc0_scratch6))
    ∗ (kRem c (kaOf m c) ∗ vRem c (vaOf m c)) ∗ ∃ r, prngReg c r)

theorem tabs_eq (v : pre0.Contents (Elt F)) : (Pipeline.ΦT (U := Pipeline.UD sig nD τ) pre0 v c : sProp 𝕄)
    = iprop(tabPt (F := F) c (v 0) fullShare.right ∗ lenPt (F := F) c fullShare.right (v 1) ∗ posPt (F := F) c fullShare.right (v 2)) := by
  show Pipeline.prefHeld _ _ _ _ = _
  unfold Pipeline.prefHeld
  exact bigSep_univ_eq_bigSepL [(0 : Fin 3), (1 : Fin 3), (2 : Fin 3)] (by decide) (by decide) _

theorem phi_in : iprop(Pipeline.ΦD osem0 spec0 H0 (V m) c ∗ Pipeline.ΦT (U := Pipeline.UD sig nD τ) pre0 (tbl m) c) ⊢ (phi m c 0 : sProp 𝕄) := by
  rw [tabs_eq, Pipeline.ΦD_eq, scopedRest0_eq, ownSems00_eq, hbmPts0_eq]
  unfold phi flight freeS
  rw [dif_neg (by omega)]
  obtain rfl : c = 0 := Subsingleton.elim _ _
  simp only [anyPt_whole]
  rw [← anyPt_whole 0 cc0_scratch0, ← anyPt_whole 0 cc0_scratch1]
  iintro ⟨⟨⟨⟨%f0, S0⟩, ⟨%f1, S1⟩, S2, S3, S4, S5, S6⟩, HG, ⟨Q0, Q1, Q2, Q3⟩, ⟨HK, HV⟩⟩, HT⟩
  ihave HKs := (kArr_toks 0 (kaOf m 0)).1 $$ HK
  ihave HVs := (vArr_toks 0 (vaOf m 0)).1 $$ HV
  ihave S0 := (kBuf_split 0 f0) $$ S0
  ihave S1 := (vBuf_split 0 f1) $$ S1
  icases HKs with ⟨HKr, K0, K1⟩
  icases HVs with ⟨HVr, V0, V1⟩
  icases S0 with ⟨A0, A1⟩
  icases S1 with ⟨B0, B1⟩
  isplitl [Q0 Q1 Q2 Q3 K0 K1 V0 V1 A0 A1 B0 B1]
  · isplitl [Q0 Q2 K0 V0 A0 B0]
    · isplitl [Q0 K0 A0]
      · isplitl [A0]; · iexact A0
        isplitl [Q0]; · iexact Q0
        iexact K0
      isplitl [B0]; · iexact B0
      isplitl [Q2]; · iexact Q2
      iexact V0
    isplitl [Q1 K1 A1]
    · isplitl [A1]; · iexact A1
      isplitl [Q1]; · iexact Q1
      iexact K1
    isplitl [B1]; · iexact B1
    isplitl [Q3]; · iexact Q3
    iexact V1
  isplitl [HT]; · iexact HT
  isplitl [S2 S3 S4 S5 S6]
  · isplitl [S2]; · iexact S2
    isplitl [S3]; · iexact S3
    isplitl [S4]; · iexact S4
    isplitl [S5]; · iexact S5
    iexact S6
  isplitl [HKr HVr]
  · isplitl [HKr]; · iexact HKr
    iexact HVr
  iexact HG

theorem phi_out : (phi m c 24 : sProp 𝕄) ⊢ Pipeline.ΦD osem0 spec0 H0 (V m) c := by
  rw [Pipeline.ΦD_eq, scopedRest0_eq, ownSems00_eq, hbmPts0_eq]
  unfold phi flight freeS
  rw [dif_neg (by omega)]
  simp only [anyPt_whole]
  rw [← anyPt_whole c cc0_scratch0, ← anyPt_whole c cc0_scratch1]
  iintro ⟨⟨⟨⟨A0, Q0, K0⟩, ⟨B0, Q2, V0⟩⟩, ⟨⟨A1, Q1, K1⟩, ⟨B1, Q3, V1⟩⟩⟩, -, ⟨S2, S3, S4, S5, S6⟩, ⟨HKr, HVr⟩, HG⟩
  ihave KB := (kBuf_join (F := F) c) $$ [A0 A1]
  · isplitl [A0]; · iexact A0
    iexact A1
  ihave VB := (vBuf_join (F := F) c) $$ [B0 B1]
  · isplitl [B0]; · iexact B0
    iexact B1
  ihave KA := (kArr_toks c (kaOf m c)).2 $$ [HKr K0 K1]
  · isplitl [HKr]; · iexact HKr
    isplitl [K0]; · iexact K0
    iexact K1
  ihave VA := (vArr_toks c (vaOf m c)).2 $$ [HVr V0 V1]
  · isplitl [HVr]; · iexact HVr
    isplitl [V0]; · iexact V0
    iexact V1
  isplitl [KB VB S2 S3 S4 S5 S6]
  · isplitl [KB]
    · iexact KB
    isplitl [VB]
    · iexact VB
    isplitl [S2]; · iexact S2
    isplitl [S3]; · iexact S3
    isplitl [S4]; · iexact S4
    isplitl [S5]; · iexact S5
    iexact S6
  isplitl [HG]; · iexact HG
  isplitl [Q0 Q1 Q2 Q3]
  · isplitl [Q0]; · iexact Q0
    isplitl [Q1]; · iexact Q1
    isplitl [Q2]; · iexact Q2
    iexact Q3
  isplitl [KA]
  · iexact KA
  iexact VA

end Cert.Kernel.Hand

end
-- ==== Proof.Frame.lean ====
/- The run: the body at each grid point, the launch, the frame. -/
module

public import proofs.«01_k».proof.Proof.Entry
public import Idealize.ShloMosaic.Lib.VecWindow
public import Idealize.ShloMosaic.Lib.StableHlo.RunRead
public import Idealize.ShloMosaic.Lib.Pipeline.FrameBody
public import Idealize.ShloMosaic.Lib.Ring

@[expose] public section

set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

section Item
variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (X4 : Vec F S24x448 .i32) (X5 : Vec F S6x3584 .bf16) (X6 : Vec F S6x4x128 .bf16) (X7 : Vec F S6x4x128 .bf16) (X8 : Vec F S1x160x128 .bf16) (X9 : Vec F S1x512x4x128 .f32) (X10 : Vec F S64x128 .f32) (X11 : Vec F S1x128 .f32)

/-- The rotated new key of an item from the window's contents, as the window of the third result holds it. -/
def knrX (i : grid0.Coords) (len pos : S6.Idx → Elt F .i32) (X6 : Vec F S6x4x128 .bf16) (X11 : Vec F S1x128 .f32) : Vec F S1x1x4x128 .bf16 :=
  k0_pay151 (k0_pay150 (lenW i len) (posW i pos)
    (fun y => X11 ((Rect.unit (s := S1x128) ![0, 0] S1x128.size inb_S1x128_S1x128_0_0).toLoadRect.idx y))
    (fun y => X6 ((Rect.unit (s := S6x4x128) (k0_off8 i) S1x4x128.size (k0_off8_inb i)).toLoadRect.idx y)))

/-- The body at a grid point, its windows owned by their contents. -/
theorem item_run (hsel : SelOK (F := F) (selOf m c)) :
    iprop(phi m c (i 0).val ∗ owesAny c ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11
      ∗ (∃ d, owns (c : Thread nD τ) a14 fullShare d) ∗ (∃ d, owns (c : Thread nD τ) a15 fullShare d) ∗ (∃ d, owns (c : Thread nD τ) a16 fullShare d))
    ⊢ wp frame (wpE (defs₀ (F := F)) Variants.none (c : Thread nD τ) none) Set.univ (cc0__body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) (fun _ =>
      iprop(phi m c ((i 0).val + 1) ∗ owesAny c ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11
      ∗ (∃ d, owns (c : Thread nD τ) a14 fullShare d) ∗ (∃ d, owns (c : Thread nD τ) a15 fullShare d) ∗ owns (c : Thread nD τ) a16 fullShare (knrX i (lenOf m c) (posOf m c) X6 X11))) := by
  unfold phi
  unfold owns
  iintro ⟨⟨HF, ⟨HT, HL, HP⟩, ⟨S2, S3, S4, S5, S6⟩, HR, HG⟩, HW, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d14, %f14, -, H14⟩, ⟨%d15, %f15, -, H15⟩, ⟨%d16, %f16, -, H16⟩⟩
  subst e4 e5 e6 e7 e8 e9 e10 e11
  iapply (body_run c i h4 h5 h6 h7 h8 h9 h10 h11 h14 h15 h16 (selOf m c) (kaOf m c) (vaOf m c) fullShare.right (lenOf m c) (posOf m c) f4 f5 f6 f7 f8 f9 f10 f11 hsel _)
  isplitl [HF HT HL HP S2 S3 S4 S5 S6 HW H4 H5 H6 H7 H8 H9 H10 H11 H14 H15 H16]
  · isplitl [HF HT HL HP S2 S3 S4 S5 S6 HW H4 H5 H6 H7 H8 H9 H10 H11]
    · unfold bodyRes rowRes prepRes winRes
      isplitl [HF]; · iexact HF
      isplitl [HT]; · iexact HT
      isplitl [HL HP S2 S6 H4 H5 H6 H11]
      · isplitl [H4 H5 S2 S6]
        · isplitl [H4]; · iexact H4
          isplitl [H5]; · iexact H5
          isplitl [S2]; · iexact S2
          iexact S6
        isplitl [HL]; · iexact HL
        isplitl [HP]; · iexact HP
        isplitl [H6]; · iexact H6
        iexact H11
      isplitl [H7]; · iexact H7
      isplitl [H8 H9 H10]
      · isplitl [H8]; · iexact H8
        isplitl [H9]; · iexact H9
        iexact H10
      isplitl [S3]; · iexact S3
      isplitl [S4]; · iexact S4
      isplitl [S5]; · iexact S5
      iexact HW
    isplitl [H14]; · iexists f14; iexact H14
    isplitl [H15]; · iexists f15; iexact H15
    iexists f16; iexact H16
  unfold bodyRes rowRes prepRes winRes knrPt
  iintro ⟨⟨HF, HT, ⟨⟨H4, H5, S2, S6⟩, HL, HP, H6, H11⟩, H7, ⟨H8, H9, H10⟩, S3, S4, S5, HW⟩, ⟨%g14, H14⟩, ⟨%g15, H15⟩, ⟨%g16, H16⟩⟩
  isplitl [HF HT HL HP S2 S3 S4 S5 S6 HR HG]
  · isplitl [HF]; · iexact HF
    isplitl [HT HL HP]
    · isplitl [HT]; · iexact HT
      isplitl [HL]; · iexact HL
      iexact HP
    isplitl [S2 S3 S4 S5 S6]
    · isplitl [S2]; · iexact S2
      isplitl [S3]; · iexact S3
      isplitl [S4]; · iexact S4
      isplitl [S5]; · iexact S5
      iexact S6
    isplitl [HR]; · iexact HR
    iexact HG
  isplitl [HW]; · iexact HW
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists _; iexists g14; isplitr; · ipureintro; rfl
    iexact H14
  isplitl [H15]
  · iexists _; iexists g15; isplitr; · ipureintro; rfl
    iexact H15
  iexists _; isplitr
  swap; · iexact H16
  ipureintro
  exact View.read_writes_full a16.view g16 inb_S1x1x4x128_S1x1x4x128_0_0_0_0 _ []

end Item

/-! ## The proof data -/

/-- The first two results' windows are forgotten. -/
def forgets0 : Fin 11 → Bool := fun w => w == 8 || w == 9

abbrev cfgm : Cfg sig Λ₀ := Pipeline.pin (pcfgs (F := F)) (adm m) 0

/-- What an input window holds at a grid point. -/
abbrev held (c : Dev nD) (w : Fin 11) (t : Fin (cfgm m).N) : ((cfgm m).win w).block.Idx → Elt F ((cfgm m).win w).elt :=
  Pipeline.heldIn (c := c) (cfgm m) (fun w => V m c (Pipeline.arrRef spec0 w)) w t.val t.isLt

/-- The third result's window after the body at a grid point. -/
def knrAt (c : Dev nD) (t : Fin (cfgm m).N) : Vec F S1x1x4x128 .bf16 := knrX (grid0.coords t) (lenOf m c) (posOf m c) (held m c 2 t) (held m c 7 t)

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => held m c 0 t
    | ⟨1, _⟩ => held m c 1 t
    | ⟨2, _⟩ => held m c 2 t
    | ⟨3, _⟩ => held m c 3 t
    | ⟨4, _⟩ => held m c 4 t
    | ⟨5, _⟩ => held m c 5 t
    | ⟨6, _⟩ => held m c 6 t
    | ⟨7, _⟩ => held m c 7 t
    | ⟨8, h⟩ => Pipeline.Dat.unnamed (cfg := cfgm m) ⟨8, h⟩ t
    | ⟨9, h⟩ => Pipeline.Dat.unnamed (cfg := cfgm m) ⟨9, h⟩ t
    | ⟨10, _⟩ => knrAt m c t
    | ⟨_ + 11, h⟩ => absurd h (Nat.not_lt.2 (Nat.le_add_left _ _))
  Φ t := phi m c t.val
  q _ := fullShare
  owed _ := 0

theorem A_eq (c : Dev nD) (w : Fin 11) : (dats m 0 c).A w = V m c (Pipeline.arrRef spec0 w) := by dsimp only [dats]

abbrev mst (t : Fin (cfgm m).N) (w : Fin 11) := ((cfgm m).win w).stage ((cfgm m).slots t w)

theorem after0 (c : Dev nD) (t : Fin (cfgm m).N) : (dats m 0 c).after 0 t = held m c 0 t := rfl
theorem before0 (c : Dev nD) (t : Fin (cfgm m).N) (d) : (dats m 0 c).before 0 t d = held m c 0 t :=
  (dats m 0 c).before_eq_heldIn 0 rfl (fun _ => rfl) (fun _ _ => rfl) (after0 m c) t d
theorem after1 (c : Dev nD) (t : Fin (cfgm m).N) : (dats m 0 c).after 1 t = held m c 1 t := rfl
theorem before1 (c : Dev nD) (t : Fin (cfgm m).N) (d) : (dats m 0 c).before 1 t d = held m c 1 t :=
  (dats m 0 c).before_eq_heldIn 1 rfl (fun _ => rfl) (fun _ _ => rfl) (after1 m c) t d
theorem after2 (c : Dev nD) (t : Fin (cfgm m).N) : (dats m 0 c).after 2 t = held m c 2 t := rfl
theorem before2 (c : Dev nD) (t : Fin (cfgm m).N) (d) : (dats m 0 c).before 2 t d = held m c 2 t :=
  (dats m 0 c).before_eq_heldIn 2 rfl (fun _ => rfl) (fun _ _ => rfl) (after2 m c) t d
theorem after3 (c : Dev nD) (t : Fin (cfgm m).N) : (dats m 0 c).after 3 t = held m c 3 t := rfl
theorem before3 (c : Dev nD) (t : Fin (cfgm m).N) (d) : (dats m 0 c).before 3 t d = held m c 3 t :=
  (dats m 0 c).before_eq_heldIn 3 rfl (fun _ => rfl) (fun _ _ => rfl) (after3 m c) t d
theorem after4 (c : Dev nD) (t : Fin (cfgm m).N) : (dats m 0 c).after 4 t = held m c 4 t := rfl
theorem before4 (c : Dev nD) (t : Fin (cfgm m).N) (d) : (dats m 0 c).before 4 t d = held m c 4 t :=
  (dats m 0 c).before_eq_heldIn 4 rfl (fun _ => rfl) (fun _ _ => rfl) (after4 m c) t d
theorem after5 (c : Dev nD) (t : Fin (cfgm m).N) : (dats m 0 c).after 5 t = held m c 5 t := rfl
theorem before5 (c : Dev nD) (t : Fin (cfgm m).N) (d) : (dats m 0 c).before 5 t d = held m c 5 t :=
  (dats m 0 c).before_eq_heldIn 5 rfl (fun _ => rfl) (fun _ _ => rfl) (after5 m c) t d
theorem after6 (c : Dev nD) (t : Fin (cfgm m).N) : (dats m 0 c).after 6 t = held m c 6 t := rfl
theorem before6 (c : Dev nD) (t : Fin (cfgm m).N) (d) : (dats m 0 c).before 6 t d = held m c 6 t :=
  (dats m 0 c).before_eq_heldIn 6 rfl (fun _ => rfl) (fun _ _ => rfl) (after6 m c) t d
theorem after7 (c : Dev nD) (t : Fin (cfgm m).N) : (dats m 0 c).after 7 t = held m c 7 t := rfl
theorem before7 (c : Dev nD) (t : Fin (cfgm m).N) (d) : (dats m 0 c).before 7 t d = held m c 7 t :=
  (dats m 0 c).before_eq_heldIn 7 rfl (fun _ => rfl) (fun _ _ => rfl) (after7 m c) t d
theorem after10 (c : Dev nD) (t : Fin (cfgm m).N) : (dats m 0 c).after 10 t = knrAt m c t := rfl

abbrev bodyAt0 (t : Fin (cfgm m).N) : Prog (TpuEff nD τ sig (Elt F) Λ₀ .tc) PUnit :=
  cc0__body (grid0.coords t) (Memref.whole main_arg7) (Memref.isWhole_whole _) (Memref.whole main_arg8) (Memref.isWhole_whole _) (Memref.whole main_arg9) (Memref.isWhole_whole _) (spec0_0.stage ((cfgm m).slots t 0)) (hstage0_0 (((cfgm m).slots t 0).cast nbuf0_0)) (spec0_1.stage ((cfgm m).slots t 1)) (hstage0_1 (((cfgm m).slots t 1).cast nbuf0_1)) (spec0_2.stage ((cfgm m).slots t 2)) (hstage0_2 (((cfgm m).slots t 2).cast nbuf0_2)) (spec0_3.stage ((cfgm m).slots t 3)) (hstage0_3 (((cfgm m).slots t 3).cast nbuf0_3)) (spec0_4.stage ((cfgm m).slots t 4)) (hstage0_4 (((cfgm m).slots t 4).cast nbuf0_4)) (spec0_5.stage ((cfgm m).slots t 5)) (hstage0_5 (((cfgm m).slots t 5).cast nbuf0_5)) (spec0_6.stage ((cfgm m).slots t 6)) (hstage0_6 (((cfgm m).slots t 6).cast nbuf0_6)) (spec0_7.stage ((cfgm m).slots t 7)) (hstage0_7 (((cfgm m).slots t 7).cast nbuf0_7)) (Memref.whole main_arg3) (Memref.isWhole_whole _) (Memref.whole main_arg5) (Memref.isWhole_whole _) (spec0_8.stage ((cfgm m).slots t 8)) (hstage0_8 (((cfgm m).slots t 8).cast nbuf0_8)) (spec0_9.stage ((cfgm m).slots t 9)) (hstage0_9 (((cfgm m).slots t 9).cast nbuf0_9)) (spec0_10.stage ((cfgm m).slots t 10)) (hstage0_10 (((cfgm m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8

def bodyPre (c : Dev nD) (t : Fin (cfgm m).N) : sProp 𝕄 :=
  iprop((dats m 0 c).Φ t.castSucc ∗ (dats m 0 c).owesAt () t.castSucc ∗ (∃ d, owns (c : Thread nD τ) (spec0_0.stage ((cfgm m).slots t 0)) fullShare ((dats m 0 c).before 0 t d)) ∗ (∃ d, owns (c : Thread nD τ) (spec0_1.stage ((cfgm m).slots t 1)) fullShare ((dats m 0 c).before 1 t d)) ∗ (∃ d, owns (c : Thread nD τ) (spec0_2.stage ((cfgm m).slots t 2)) fullShare ((dats m 0 c).before 2 t d)) ∗ (∃ d, owns (c : Thread nD τ) (spec0_3.stage ((cfgm m).slots t 3)) fullShare ((dats m 0 c).before 3 t d)) ∗ (∃ d, owns (c : Thread nD τ) (spec0_4.stage ((cfgm m).slots t 4)) fullShare ((dats m 0 c).before 4 t d)) ∗ (∃ d, owns (c : Thread nD τ) (spec0_5.stage ((cfgm m).slots t 5)) fullShare ((dats m 0 c).before 5 t d)) ∗ (∃ d, owns (c : Thread nD τ) (spec0_6.stage ((cfgm m).slots t 6)) fullShare ((dats m 0 c).before 6 t d)) ∗ (∃ d, owns (c : Thread nD τ) (spec0_7.stage ((cfgm m).slots t 7)) fullShare ((dats m 0 c).before 7 t d)) ∗ (∃ d, owns (c : Thread nD τ) (spec0_8.stage ((cfgm m).slots t 8)) fullShare d) ∗ (∃ d, owns (c : Thread nD τ) (spec0_9.stage ((cfgm m).slots t 9)) fullShare d) ∗ (∃ d, owns (c : Thread nD τ) (spec0_10.stage ((cfgm m).slots t 10)) fullShare ((dats m 0 c).before 10 t d)))
def bodyPost (c : Dev nD) (t : Fin (cfgm m).N) : sProp 𝕄 :=
  iprop((dats m 0 c).Φ t.succ ∗ (dats m 0 c).owesAt () t.succ ∗ owns (c : Thread nD τ) (spec0_0.stage ((cfgm m).slots t 0)) fullShare ((dats m 0 c).after 0 t) ∗ owns (c : Thread nD τ) (spec0_1.stage ((cfgm m).slots t 1)) fullShare ((dats m 0 c).after 1 t) ∗ owns (c : Thread nD τ) (spec0_2.stage ((cfgm m).slots t 2)) fullShare ((dats m 0 c).after 2 t) ∗ owns (c : Thread nD τ) (spec0_3.stage ((cfgm m).slots t 3)) fullShare ((dats m 0 c).after 3 t) ∗ owns (c : Thread nD τ) (spec0_4.stage ((cfgm m).slots t 4)) fullShare ((dats m 0 c).after 4 t) ∗ owns (c : Thread nD τ) (spec0_5.stage ((cfgm m).slots t 5)) fullShare ((dats m 0 c).after 5 t) ∗ owns (c : Thread nD τ) (spec0_6.stage ((cfgm m).slots t 6)) fullShare ((dats m 0 c).after 6 t) ∗ owns (c : Thread nD τ) (spec0_7.stage ((cfgm m).slots t 7)) fullShare ((dats m 0 c).after 7 t) ∗ (∃ d, owns (c : Thread nD τ) (spec0_8.stage ((cfgm m).slots t 8)) fullShare d) ∗ (∃ d, owns (c : Thread nD τ) (spec0_9.stage ((cfgm m).slots t 9)) fullShare d) ∗ owns (c : Thread nD τ) (spec0_10.stage ((cfgm m).slots t 10)) fullShare ((dats m 0 c).after 10 t))

theorem coords_val (t : Fin (cfgm m).N) : (grid0.coords t 0).val = t.val := by
  have h : ∀ t : Fin grid0.N, (grid0.coords t 0).val = t.val := by decide
  exact h t

theorem sound_body (c : Dev nD) (hsel : SelOK (F := F) (selOf m c)) (t : Fin (cfgm m).N) :
    bodyPre m c t ⊢ wp frame (wpE (defs₀ (F := F)) Variants.none c none) Set.univ (bodyAt0 m t) (fun _ => bodyPost m c t) := by
  unfold bodyPre bodyPost bodyAt0
  rw [show (dats m 0 c).Φ t.succ = phi m c ((grid0.coords t 0).val + 1) by rw [coords_val]; rfl,
    show (dats m 0 c).Φ t.castSucc = phi m c (grid0.coords t 0).val by rw [coords_val]; rfl]
  unfold Dat.owesAt Pipeline.owesWithin
  rw [show (dats m 0 c).owed t.castSucc = 0 from rfl, show (dats m 0 c).owed t.succ = 0 from rfl]
  rw [after0, after1, after2, after3, after4, after5, after6, after7, after10]
  simp only [before0, before1, before2, before3, before4, before5, before6, before7]
  refine triple_restated (item_run m c (grid0.coords t) (hstage0_0 (((cfgm m).slots t 0).cast nbuf0_0)) (hstage0_1 (((cfgm m).slots t 1).cast nbuf0_1)) (hstage0_2 (((cfgm m).slots t 2).cast nbuf0_2)) (hstage0_3 (((cfgm m).slots t 3).cast nbuf0_3)) (hstage0_4 (((cfgm m).slots t 4).cast nbuf0_4)) (hstage0_5 (((cfgm m).slots t 5).cast nbuf0_5)) (hstage0_6 (((cfgm m).slots t 6).cast nbuf0_6)) (hstage0_7 (((cfgm m).slots t 7).cast nbuf0_7)) (hstage0_8 (((cfgm m).slots t 8).cast nbuf0_8)) (hstage0_9 (((cfgm m).slots t 9).cast nbuf0_9)) (hstage0_10 (((cfgm m).slots t 10).cast nbuf0_10)) (held m c 0 t) (held m c 1 t) (held m c 2 t) (held m c 3 t) (held m c 4 t) (held m c 5 t) (held m c 6 t) (held m c 7 t) hsel) rfl ?_ fun _ => ?_
  · iintro ⟨HF, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [HF]; · iexact HF
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexists d9; iexact H9
    iexists _; iexact H10
  iintro ⟨HF, ⟨%W', HW⟩, H0, H1, H2, H3, H4, H5, H6, H7, H8, H9, H10⟩
  isplitl [HF]; · iexact HF
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfgm m).N) :
    defs₀ (F := F) .tc (cfgm m).body ((cfgm m).bodyArgs t ((cfgm m).slots t)) = bodyAt0 m t := by
  unfold defs₀; rw [Defs.onTc_tc]

theorem body_obligation (c : Dev nD) (hsel : SelOK (F := F) (selOf m c)) :
    BodyObligationLoose (dats (F := F) m 0 c) (defs₀ (F := F)) Variants.none () Set.univ forgets0 := fun t => by
  rw [bigSep_W0, bigSep_W0, defs₀_row]
  exact triple_restated (sound_body m c hsel t) rfl .rfl fun _ => .rfl

/-! ## The run and the frame -/

theorem hfresh : (hostOps0 : List (HloOp τ sig (Elt F))).Forall fun op => op.fresh = ∅ := by
  simp only [hostOps0, List.forall_cons, List.Forall]
  repeat' constructor

set_option backward.isDefEq.respectTransparency.types false in
theorem run_main (hsel : ∀ c, SelOK (F := F) (selOf m c)) : θ_run defs (onTc (τ := τ) (main (F := F))) (s₀ m ρ)
    (fun r => Pipeline.RDat.FramePost (cfgm m) (fun c => (dats m 0 c).toRForget forgets0) (V m) r ∧ r.2.sem = fun _ => 0) :=
  Pipeline.θ_run_frameP_dma_forget (Q' := _) pcfgs (adm m) (dats m) (0 : Fin 1) launch0 osem0 defs₀ Variants.none forgets0 ownSemFacts0 H0 H0_sub m ρ main
    (hbody := fun c => body_obligation m c (hsel c)) (hshare := fun c => (dats m 0 c).share_full fun _ => rfl)
    (howed := fun _ _ => rfl) (V := V m)
    (hmain := Pipeline.hmainP_prefix pcfgs 0 defs₀ Variants.none m main hostOps0 hostOps0_sub hfresh main_chain) (hA := A_eq m)
    (hpf := fun c k => by obtain rfl : c = 0 := Subsingleton.elim _ _; rfl)
    (hin := fun c => phi_in m c) (hout := fun c => phi_out m c)

/-- The buffers @main's host operations write, none of them an argument. -/
abbrev hostWrites : List (Ref sig .tc) :=
  [main_v0, main_cst, main_v1, main_v2, main_cst_0, main_v3, main_v4, main_v5, main_cst_1, main_v6, main_v7, main_cst_2, main_v8, main_v9,
    main_v10, main_v11, main_v12, main_v13, main_v14, main_v15, main_v16, main_v17, main_v18, main_v19]

/-- A buffer the host operations do not write reaches the region as launched. -/
theorem V_kept (c : Dev nD) (b : Ref sig .tc) (hb : b ∉ hostWrites) : V m c b = m ((c.tc : Thread nD τ).loc b) :=
  StableHlo.after_unwritten (ops := hostOps0) hostWrites rfl hb _

theorem selOf_eq (c : Dev nD) : selOf m c = m ((c.tc : Thread nD τ).loc main_arg7) := V_kept m c main_arg7 (by decide)

/-- The frame: from any launch memory whose selection is in range the run ends, its semaphores at zero and its arguments as they were. -/
theorem frame_of (hsel : ∀ c, SelOK (F := F) (selOf m c)) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) := by
  refine (θ_run defs _ _).mono (fun r hr => ⟨fun c => ?_, hr.2⟩) (run_main m ρ hsel)
  have hrest : ∀ b (hb : b ∈ Pipeline.restRefs sig spec0) (_ : b ∉ hostWrites), r.2.mem ((c.tc : Thread nD τ).loc b) = m ((c.tc : Thread nD τ).loc b) :=
    fun b hb hw => ((hr.1 c).2 b hb).trans (V_kept m c b hw)
  refine ⟨hrest main_arg0 (Pipeline.mem_restRefs_of main_arg0 (by decide) (by decide)) (by decide), hrest main_arg1 (Pipeline.mem_restRefs_of main_arg1 (by decide) (by decide)) (by decide), hrest main_arg2 (Pipeline.mem_restRefs_of main_arg2 (by decide) (by decide)) (by decide), hrest main_arg3 (Pipeline.mem_restRefs_of main_arg3 (by decide) (by decide)) (by decide), (Pipeline.RDat.FramePost.arr_in hr.1 c 4 rfl).trans ((A_eq m c 4).trans (V_kept m c main_arg4 (by decide))), hrest main_arg5 (Pipeline.mem_restRefs_of main_arg5 (by decide) (by decide)) (by decide), hrest main_arg6 (Pipeline.mem_restRefs_of main_arg6 (by decide) (by decide)) (by decide), hrest main_arg7 (Pipeline.mem_restRefs_of main_arg7 (by decide) (by decide)) (by decide), hrest main_arg8 (Pipeline.mem_restRefs_of main_arg8 (by decide) (by decide)) (by decide), hrest main_arg9 (Pipeline.mem_restRefs_of main_arg9 (by decide) (by decide)) (by decide)⟩

end Cert.Kernel.Hand

end
-- ==== Proof.IOffs.lean ====
/- The places of the kernel's own transfers and loads in closed form: slot, chunk row and item, as functions of the
   grid point and the trip; and the side conditions the body assumes of a table word, from the word's range. -/
module

public import proofs.«01_k».proof.Proof.Gen.KernelIdeal
public import Idealize.ShloMosaic.Lib.Affine

@[expose] public section

noncomputable section

namespace Cert.KernelIdeal.Hand

open Cert.KernelIdeal Cert.KernelIdeal.Gen
open Idealize.ShloMosaic Idealize.SL.Sem

theorem k0_off10_closed : ∀ (i : grid0.Coords) (k0_t3 : Fin k0_t3_loop.trips), k0_off10 i k0_t3 = ![(i 0).val % 2, 8 * k0_t3.val, 0] := by
  intro i k0_t3
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_c0_i32_181 : Affine.IsInt 0#32 (0) := Affine.ofNat _ (by omega)
  have h_c0_i32_32 : Affine.IsInt 0#32 (0) := Affine.ofNat _ (by omega)
  have h_c1_i32_33 : Affine.IsInt 1#32 (1) := Affine.ofNat _ (by omega)
  have r_k0_t3 : k0_t3.val < 448 := Nat.lt_of_lt_of_le k0_t3.isLt k0_t3_abs.2.1
  have h_arg26 : Affine.IsInt _ ((k0_t3.val : Int)) := Affine.iv h_c0_i32_32 h_c1_i32_33 k0_t3.val (by omega)
  have c_arg26 : (k0_t3.val : Int) ≤ 448 - 1 := Affine.iv_lt k0_t3_abs.1 k0_t3.isLt k0_t3_abs.2.2 h_arg26
  have h_c1_i32_180 : Affine.IsInt 1#32 (1) := Affine.ofNat _ (by omega)
  have h_v328 : Affine.IsInt _ ((k0_t3.val : Int)) := Affine.muli h_arg26 h_c1_i32_180 (by omega)
  have h_v329 : Affine.IsInt _ ((k0_t3.val : Int)) := Affine.addi h_c0_i32_181 h_v328 (by omega)
  have h_c8_i32 : Affine.IsInt 8#32 (8) := Affine.ofNat _ (by omega)
  have h_v330 : Affine.IsInt _ (8 * (k0_t3.val : Int)) := Affine.muli h_v329 h_c8_i32 (by omega)
  have h_c0_i32_183 : Affine.IsInt 0#32 (0) := Affine.ofNat _ (by omega)
  exact Affine.vec_cons h_v36 (by omega) <| Affine.vec_cons h_v330 (by omega) <| Affine.vec_cons (Affine.ofNat 0 (by omega) : Affine.IsInt 0#32 0) (by omega) <| Affine.vec_nil

theorem k0_off13_closed : ∀ (i : grid0.Coords) (k0_t4 : Fin k0_t4_loop.trips) (k0_t5 : Fin k0_t5_loop.trips), k0_off13 i k0_t4 k0_t5 = ![1 - (i 0).val % 2, 8 * (64 * k0_t4.val + k0_t5.val), 0] := by
  intro i k0_t4 k0_t5
  have h_c1_i32_194 : Affine.IsInt 1#32 (1) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v338 : Affine.IsInt _ (-(((i 0).val : Int) % 2) + 1) := Affine.subi h_c1_i32_194 h_v36 (by omega)
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c64_i32_208 : Affine.IsInt 64#32 (64) := Affine.ofNat _ (by omega)
  have h_v366 : Affine.IsInt _ (64 * (k0_t4.val : Int)) := Affine.muli h_v329 h_c64_i32_208 (by omega)
  have h_c0_i32_214 : Affine.IsInt 0#32 (0) := Affine.ofNat _ (by omega)
  have h_c0_i32_209 : Affine.IsInt 0#32 (0) := Affine.ofNat _ (by omega)
  have h_c1_i32_211 : Affine.IsInt 1#32 (1) := Affine.ofNat _ (by omega)
  have r_k0_t5 : k0_t5.val < 64 := Nat.lt_of_lt_of_le k0_t5.isLt k0_t5_abs.2.1
  have h_arg27 : Affine.IsInt _ ((k0_t5.val : Int)) := Affine.iv h_c0_i32_209 h_c1_i32_211 k0_t5.val (by omega)
  have c_arg27 : (k0_t5.val : Int) ≤ 64 - 1 := Affine.iv_lt k0_t5_abs.1 k0_t5.isLt k0_t5_abs.2.2 h_arg27
  have h_c1_i32_213 : Affine.IsInt 1#32 (1) := Affine.ofNat _ (by omega)
  have h_v368 : Affine.IsInt _ ((k0_t5.val : Int)) := Affine.muli h_arg27 h_c1_i32_213 (by omega)
  have h_v369 : Affine.IsInt _ ((k0_t5.val : Int)) := Affine.addi h_c0_i32_214 h_v368 (by omega)
  have h_v380 : Affine.IsInt _ (64 * (k0_t4.val : Int) + (k0_t5.val : Int)) := Affine.addi h_v366 h_v369 (by omega)
  have h_c8_i32_216 : Affine.IsInt 8#32 (8) := Affine.ofNat _ (by omega)
  have h_v381 : Affine.IsInt _ (512 * (k0_t4.val : Int) + 8 * (k0_t5.val : Int)) := Affine.muli h_v380 h_c8_i32_216 (by omega)
  have h_c0_i32_217 : Affine.IsInt 0#32 (0) := Affine.ofNat _ (by omega)
  exact Affine.vec_cons h_v338 (by omega) <| Affine.vec_cons h_v381 (by omega) <| Affine.vec_cons (Affine.ofNat 0 (by omega) : Affine.IsInt 0#32 0) (by omega) <| Affine.vec_nil

theorem k0_off15_closed : ∀ (i : grid0.Coords) (k0_t4 : Fin k0_t4_loop.trips) (k0_t5 : Fin k0_t5_loop.trips), k0_off15 i k0_t4 k0_t5 = ![1 - (i 0).val % 2, 8 * (64 * k0_t4.val + k0_t5.val), 0, 0] := by
  intro i k0_t4 k0_t5
  have h_c1_i32_194 : Affine.IsInt 1#32 (1) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v338 : Affine.IsInt _ (-(((i 0).val : Int) % 2) + 1) := Affine.subi h_c1_i32_194 h_v36 (by omega)
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c64_i32_208 : Affine.IsInt 64#32 (64) := Affine.ofNat _ (by omega)
  have h_v366 : Affine.IsInt _ (64 * (k0_t4.val : Int)) := Affine.muli h_v329 h_c64_i32_208 (by omega)
  have h_c0_i32_214 : Affine.IsInt 0#32 (0) := Affine.ofNat _ (by omega)
  have h_c0_i32_209 : Affine.IsInt 0#32 (0) := Affine.ofNat _ (by omega)
  have h_c1_i32_211 : Affine.IsInt 1#32 (1) := Affine.ofNat _ (by omega)
  have r_k0_t5 : k0_t5.val < 64 := Nat.lt_of_lt_of_le k0_t5.isLt k0_t5_abs.2.1
  have h_arg27 : Affine.IsInt _ ((k0_t5.val : Int)) := Affine.iv h_c0_i32_209 h_c1_i32_211 k0_t5.val (by omega)
  have c_arg27 : (k0_t5.val : Int) ≤ 64 - 1 := Affine.iv_lt k0_t5_abs.1 k0_t5.isLt k0_t5_abs.2.2 h_arg27
  have h_c1_i32_213 : Affine.IsInt 1#32 (1) := Affine.ofNat _ (by omega)
  have h_v368 : Affine.IsInt _ ((k0_t5.val : Int)) := Affine.muli h_arg27 h_c1_i32_213 (by omega)
  have h_v369 : Affine.IsInt _ ((k0_t5.val : Int)) := Affine.addi h_c0_i32_214 h_v368 (by omega)
  have h_v380 : Affine.IsInt _ (64 * (k0_t4.val : Int) + (k0_t5.val : Int)) := Affine.addi h_v366 h_v369 (by omega)
  have h_c8_i32_216 : Affine.IsInt 8#32 (8) := Affine.ofNat _ (by omega)
  have h_v381 : Affine.IsInt _ (512 * (k0_t4.val : Int) + 8 * (k0_t5.val : Int)) := Affine.muli h_v380 h_c8_i32_216 (by omega)
  have h_c0_i32_219 : Affine.IsInt 0#32 (0) := Affine.ofNat _ (by omega)
  have h_c0_i32_220 : Affine.IsInt 0#32 (0) := Affine.ofNat _ (by omega)
  exact Affine.vec_cons h_v338 (by omega) <| Affine.vec_cons h_v381 (by omega) <| Affine.vec_cons (Affine.ofNat 0 (by omega) : Affine.IsInt 0#32 0) (by omega) <| Affine.vec_cons (Affine.ofNat 0 (by omega) : Affine.IsInt 0#32 0) (by omega) <| Affine.vec_nil

theorem k0_off20_closed : ∀ (i : grid0.Coords) (k0_t4 : Fin k0_t4_loop.trips) (k0_t7 : Fin k0_t7_loop.trips), k0_off20 i k0_t4 k0_t7 = ![(i 0).val % 2, 128 * (4 * k0_t4.val + k0_t7.val), 0] := by
  intro i k0_t4 k0_t7
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v343 : Affine.IsInt _ ((((i 0).val : Int) % 2)) := Affine.indexCast h_v36
  have h_c0_i32_181 : Affine.IsInt 0#32 (0) := Affine.ofNat _ (by omega)
  have h_c0_i32_38 : Affine.IsInt 0#32 (0) := Affine.ofNat _ (by omega)
  have h_c1_i32_40 : Affine.IsInt 1#32 (1) := Affine.ofNat _ (by omega)
  have r_k0_t4 : k0_t4.val < 7 := Nat.lt_of_lt_of_le k0_t4.isLt k0_t4_abs.2.1
  have h_arg26 : Affine.IsInt _ ((k0_t4.val : Int)) := Affine.iv h_c0_i32_38 h_c1_i32_40 k0_t4.val (by omega)
  have c_arg26 : (k0_t4.val : Int) ≤ 7 - 1 := Affine.iv_lt k0_t4_abs.1 k0_t4.isLt k0_t4_abs.2.2 h_arg26
  have h_c1_i32_180 : Affine.IsInt 1#32 (1) := Affine.ofNat _ (by omega)
  have h_v328 : Affine.IsInt _ ((k0_t4.val : Int)) := Affine.muli h_arg26 h_c1_i32_180 (by omega)
  have h_v329 : Affine.IsInt _ ((k0_t4.val : Int)) := Affine.addi h_c0_i32_181 h_v328 (by omega)
  have h_c512_i32 : Affine.IsInt 512#32 (512) := Affine.ofNat _ (by omega)
  have h_v339 : Affine.IsInt _ (512 * (k0_t4.val : Int)) := Affine.muli h_v329 h_c512_i32 (by omega)
  have h_c0_i32_194 : Affine.IsInt 0#32 (0) := Affine.ofNat _ (by omega)
  have h_c0_i32_189 : Affine.IsInt 0#32 (0) := Affine.ofNat _ (by omega)
  have h_c1_i32_191 : Affine.IsInt 1#32 (1) := Affine.ofNat _ (by omega)
  have r_k0_t7 : k0_t7.val < 4 := Nat.lt_of_lt_of_le k0_t7.isLt k0_t7_abs.2.1
  have h_arg27 : Affine.IsInt _ ((k0_t7.val : Int)) := Affine.iv h_c0_i32_189 h_c1_i32_191 k0_t7.val (by omega)
  have c_arg27 : (k0_t7.val : Int) ≤ 4 - 1 := Affine.iv_lt k0_t7_abs.1 k0_t7.isLt k0_t7_abs.2.2 h_arg27
  have h_c1_i32_193 : Affine.IsInt 1#32 (1) := Affine.ofNat _ (by omega)
  have h_v337 : Affine.IsInt _ ((k0_t7.val : Int)) := Affine.muli h_arg27 h_c1_i32_193 (by omega)
  have h_v338 : Affine.IsInt _ ((k0_t7.val : Int)) := Affine.addi h_c0_i32_194 h_v337 (by omega)
  have h_c128_i32 : Affine.IsInt 128#32 (128) := Affine.ofNat _ (by omega)
  have h_v340 : Affine.IsInt _ (128 * (k0_t7.val : Int)) := Affine.muli h_v338 h_c128_i32 (by omega)
  have h_v341 : Affine.IsInt _ (512 * (k0_t4.val : Int) + 128 * (k0_t7.val : Int)) := Affine.addi h_v339 h_v340 (by omega)
  have h_v344 : Affine.IsInt _ (512 * (k0_t4.val : Int) + 128 * (k0_t7.val : Int)) := Affine.indexCast h_v341
  have h_c0_195 : Affine.IsInt 0#32 (0) := Affine.ofNat _ (by omega)
  exact Affine.vec_cons h_v343 (by omega) <| Affine.vec_cons h_v344 (by omega) <| Affine.vec_cons (Affine.ofNat 0 (by omega) : Affine.IsInt 0#32 0) (by omega) <| Affine.vec_nil

theorem k0_off17_closed : ∀ (i : grid0.Coords) (k0_t4 : Fin k0_t4_loop.trips) (k0_t6 : Fin k0_t6_loop.trips), k0_off17 i k0_t4 k0_t6 = ![(i 0).val / 4, (i 0).val % 4, 64 * k0_t4.val + k0_t6.val] := by
  intro i k0_t4 k0_t6
  have r_i0 : (i 0).val < 24 := (i 0).isLt
  have h_arg0 : Affine.IsInt (BitVec.ofNat 32 (i 0).val) (((i 0).val : Int)) := Affine.ofNat _ (by omega)
  have h_c0_i32 : Affine.IsInt 0#32 (0) := Affine.ofNat _ (by omega)
  rcases (show ((i 0).val : Int) ≤ 0 ∨ 1 ≤ ((i 0).val : Int) by omega) with hs | hs
  · have h_v1 : Affine.Fails _ := Affine.sgt_fails h_arg0 h_c0_i32 (by omega)
    have h_v2 : Affine.IsInt _ (0) := Affine.extui_fails h_v1 (by omega)
    have h_c0_i32_0 : Affine.IsInt 0#32 (0) := Affine.ofNat _ (by omega)
    have h_v3 : Affine.Fails _ := Affine.slt_fails h_arg0 h_c0_i32_0 (by omega)
    have h_v4 : Affine.IsInt _ (0) := Affine.extui_fails h_v3 (by omega)
    have h_v5 : Affine.IsInt _ (0) := Affine.subi h_v2 h_v4 (by omega)
    have h_c4_i32 : Affine.IsInt 4#32 (4) := Affine.ofNat _ (by omega)
    have h_c0_i32_1 : Affine.IsInt 0#32 (0) := Affine.ofNat _ (by omega)
    have h_v6 : Affine.Holds _ := Affine.sgt_holds h_c4_i32 h_c0_i32_1 (by omega)
    have h_v7 : Affine.IsInt _ (1) := Affine.extui_holds h_v6 (by omega)
    have h_c0_i32_2 : Affine.IsInt 0#32 (0) := Affine.ofNat _ (by omega)
    have h_v8 : Affine.Fails _ := Affine.slt_fails h_c4_i32 h_c0_i32_2 (by omega)
    have h_v9 : Affine.IsInt _ (0) := Affine.extui_fails h_v8 (by omega)
    have h_v10 : Affine.IsInt _ (1) := Affine.subi h_v7 h_v9 (by omega)
    have h_v11 : Affine.Holds _ := Affine.ne_holds h_v5 h_v10 (by omega)
    have h_v12 : Affine.IsInt _ (((i 0).val : Int)) := Affine.remsi h_arg0 h_c4_i32 (by omega)
    have h_c0_i32_3 : Affine.IsInt 0#32 (0) := Affine.ofNat _ (by omega)
    have h_v13 : Affine.Fails _ := Affine.ne_fails h_v12 h_c0_i32_3 (by omega)
    have h_v14 : Affine.Fails _ := Affine.andi_fails_right (Affine.tH h_v11) h_v13
    have h_v0 : Affine.IsInt _ ((((i 0).val : Int) / 4)) := Affine.divsi h_arg0 h_c4_i32 (by omega)
    have h_c1_i32 : Affine.IsInt 1#32 (1) := Affine.ofNat _ (by omega)
    have h_v15 : Affine.IsInt _ ((((i 0).val : Int) / 4) - 1) := Affine.subi h_v0 h_c1_i32 (by omega)
    have h_v16 : Affine.IsInt _ ((((i 0).val : Int) / 4)) := Affine.select_fails h_v14 h_v15 h_v0 (by omega)
    have h_v340 : Affine.IsInt _ ((((i 0).val : Int) / 4)) := Affine.indexCast h_v16
    have h_c4_i32_4 : Affine.IsInt 4#32 (4) := Affine.ofNat _ (by omega)
    have h_c0_i32_5 : Affine.IsInt 0#32 (0) := Affine.ofNat _ (by omega)
    have h_v17 : Affine.Fails _ := Affine.eq_fails h_c4_i32_4 h_c0_i32_5 (by omega)
    have h_c1_i32_6 : Affine.IsInt 1#32 (1) := Affine.ofNat _ (by omega)
    have h_v18 : Affine.IsInt _ (4) := Affine.select_fails h_v17 h_c1_i32_6 h_c4_i32_4 (by omega)
    have h_v19 : Affine.IsInt _ (((i 0).val : Int)) := Affine.remsi h_arg0 h_v18 (by omega)
    have h_c0_i32_8 : Affine.IsInt 0#32 (0) := Affine.ofNat _ (by omega)
    have h_v21 : Affine.Fails _ := Affine.slt_fails h_v19 h_c0_i32_8 (by omega)
    have h_c0_i32_9 : Affine.IsInt 0#32 (0) := Affine.ofNat _ (by omega)
    have h_v22 : Affine.Fails _ := Affine.slt_fails h_v18 h_c0_i32_9 (by omega)
    have h_v23 : Affine.Fails _ := Affine.xori_ff h_v21 h_v22
    have h_c0_i32_7 : Affine.IsInt 0#32 (0) := Affine.ofNat _ (by omega)
    have h_v20 : Affine.Fails _ := Affine.ne_fails h_v19 h_c0_i32_7 (by omega)
    have h_v24 : Affine.Fails _ := Affine.andi_fails_left h_v23 (Affine.tF h_v20)
    have h_v25 : Affine.IsInt _ (((i 0).val : Int) + 4) := Affine.addi h_v19 h_v18 (by omega)
    have h_v26 : Affine.IsInt _ (((i 0).val : Int)) := Affine.select_fails h_v24 h_v25 h_v19 (by omega)
    have h_v341 : Affine.IsInt _ (((i 0).val : Int)) := Affine.indexCast h_v26
    have h_c0_i32_181 : Affine.IsInt 0#32 (0) := Affine.ofNat _ (by omega)
    have h_c0_i32_38 : Affine.IsInt 0#32 (0) := Affine.ofNat _ (by omega)
    have h_c1_i32_40 : Affine.IsInt 1#32 (1) := Affine.ofNat _ (by omega)
    have r_k0_t4 : k0_t4.val < 7 := Nat.lt_of_lt_of_le k0_t4.isLt k0_t4_abs.2.1
    have h_arg26 : Affine.IsInt _ ((k0_t4.val : Int)) := Affine.iv h_c0_i32_38 h_c1_i32_40 k0_t4.val (by omega)
    have c_arg26 : (k0_t4.val : Int) ≤ 7 - 1 := Affine.iv_lt k0_t4_abs.1 k0_t4.isLt k0_t4_abs.2.2 h_arg26
    have h_c1_i32_180 : Affine.IsInt 1#32 (1) := Affine.ofNat _ (by omega)
    have h_v328 : Affine.IsInt _ ((k0_t4.val : Int)) := Affine.muli h_arg26 h_c1_i32_180 (by omega)
    have h_v329 : Affine.IsInt _ ((k0_t4.val : Int)) := Affine.addi h_c0_i32_181 h_v328 (by omega)
    have h_c64_i32_184 : Affine.IsInt 64#32 (64) := Affine.ofNat _ (by omega)
    have h_v334 : Affine.IsInt _ (64 * (k0_t4.val : Int)) := Affine.muli h_v329 h_c64_i32_184 (by omega)
    have h_c0_i32_194 : Affine.IsInt 0#32 (0) := Affine.ofNat _ (by omega)
    have h_c0_i32_185 : Affine.IsInt 0#32 (0) := Affine.ofNat _ (by omega)
    have h_c1_i32_187 : Affine.IsInt 1#32 (1) := Affine.ofNat _ (by omega)
    have r_k0_t6 : k0_t6.val < 64 := Nat.lt_of_lt_of_le k0_t6.isLt k0_t6_abs.2.1
    have h_arg27 : Affine.IsInt _ ((k0_t6.val : Int)) := Affine.iv h_c0_i32_185 h_c1_i32_187 k0_t6.val (by omega)
    have c_arg27 : (k0_t6.val : Int) ≤ 64 - 1 := Affine.iv_lt k0_t6_abs.1 k0_t6.isLt k0_t6_abs.2.2 h_arg27
    have h_c1_i32_193 : Affine.IsInt 1#32 (1) := Affine.ofNat _ (by omega)
    have h_v337 : Affine.IsInt _ ((k0_t6.val : Int)) := Affine.muli h_arg27 h_c1_i32_193 (by omega)
    have h_v338 : Affine.IsInt _ ((k0_t6.val : Int)) := Affine.addi h_c0_i32_194 h_v337 (by omega)
    have h_v339 : Affine.IsInt _ (64 * (k0_t4.val : Int) + (k0_t6.val : Int)) := Affine.addi h_v334 h_v338 (by omega)
    have h_v342 : Affine.IsInt _ (64 * (k0_t4.val : Int) + (k0_t6.val : Int)) := Affine.indexCast h_v339
    exact Affine.vec_cons h_v340 (by omega) <| Affine.vec_cons h_v341 (by omega) <| Affine.vec_cons h_v342 (by omega) <| Affine.vec_nil
  · have h_v1 : Affine.Holds _ := Affine.sgt_holds h_arg0 h_c0_i32 (by omega)
    have h_v2 : Affine.IsInt _ (1) := Affine.extui_holds h_v1 (by omega)
    have h_c0_i32_0 : Affine.IsInt 0#32 (0) := Affine.ofNat _ (by omega)
    have h_v3 : Affine.Fails _ := Affine.slt_fails h_arg0 h_c0_i32_0 (by omega)
    have h_v4 : Affine.IsInt _ (0) := Affine.extui_fails h_v3 (by omega)
    have h_v5 : Affine.IsInt _ (1) := Affine.subi h_v2 h_v4 (by omega)
    have h_c4_i32 : Affine.IsInt 4#32 (4) := Affine.ofNat _ (by omega)
    have h_c0_i32_1 : Affine.IsInt 0#32 (0) := Affine.ofNat _ (by omega)
    have h_v6 : Affine.Holds _ := Affine.sgt_holds h_c4_i32 h_c0_i32_1 (by omega)
    have h_v7 : Affine.IsInt _ (1) := Affine.extui_holds h_v6 (by omega)
    have h_c0_i32_2 : Affine.IsInt 0#32 (0) := Affine.ofNat _ (by omega)
    have h_v8 : Affine.Fails _ := Affine.slt_fails h_c4_i32 h_c0_i32_2 (by omega)
    have h_v9 : Affine.IsInt _ (0) := Affine.extui_fails h_v8 (by omega)
    have h_v10 : Affine.IsInt _ (1) := Affine.subi h_v7 h_v9 (by omega)
    have h_v11 : Affine.Fails _ := Affine.ne_fails h_v5 h_v10 (by omega)
    have h_v12 : Affine.IsInt _ ((((i 0).val : Int) % 4)) := Affine.remsi h_arg0 h_c4_i32 (by omega)
    have h_c0_i32_3 : Affine.IsInt 0#32 (0) := Affine.ofNat _ (by omega)
    have h_v13 : Affine.Term _ := Affine.cmpi_term .ne h_v12 h_c0_i32_3
    have h_v14 : Affine.Fails _ := Affine.andi_fails_left h_v11 h_v13
    have h_v0 : Affine.IsInt _ ((((i 0).val : Int) / 4)) := Affine.divsi h_arg0 h_c4_i32 (by omega)
    have h_c1_i32 : Affine.IsInt 1#32 (1) := Affine.ofNat _ (by omega)
    have h_v15 : Affine.IsInt _ ((((i 0).val : Int) / 4) - 1) := Affine.subi h_v0 h_c1_i32 (by omega)
    have h_v16 : Affine.IsInt _ ((((i 0).val : Int) / 4)) := Affine.select_fails h_v14 h_v15 h_v0 (by omega)
    have h_v340 : Affine.IsInt _ ((((i 0).val : Int) / 4)) := Affine.indexCast h_v16
    have h_c4_i32_4 : Affine.IsInt 4#32 (4) := Affine.ofNat _ (by omega)
    have h_c0_i32_5 : Affine.IsInt 0#32 (0) := Affine.ofNat _ (by omega)
    have h_v17 : Affine.Fails _ := Affine.eq_fails h_c4_i32_4 h_c0_i32_5 (by omega)
    have h_c1_i32_6 : Affine.IsInt 1#32 (1) := Affine.ofNat _ (by omega)
    have h_v18 : Affine.IsInt _ (4) := Affine.select_fails h_v17 h_c1_i32_6 h_c4_i32_4 (by omega)
    have h_v19 : Affine.IsInt _ ((((i 0).val : Int) % 4)) := Affine.remsi h_arg0 h_v18 (by omega)
    have h_c0_i32_8 : Affine.IsInt 0#32 (0) := Affine.ofNat _ (by omega)
    have h_v21 : Affine.Fails _ := Affine.slt_fails h_v19 h_c0_i32_8 (by omega)
    have h_c0_i32_9 : Affine.IsInt 0#32 (0) := Affine.ofNat _ (by omega)
    have h_v22 : Affine.Fails _ := Affine.slt_fails h_v18 h_c0_i32_9 (by omega)
    have h_v23 : Affine.Fails _ := Affine.xori_ff h_v21 h_v22
    have h_c0_i32_7 : Affine.IsInt 0#32 (0) := Affine.ofNat _ (by omega)
    have h_v20 : Affine.Term _ := Affine.cmpi_term .ne h_v19 h_c0_i32_7
    have h_v24 : Affine.Fails _ := Affine.andi_fails_left h_v23 h_v20
    have h_v25 : Affine.IsInt _ ((((i 0).val : Int) % 4) + 4) := Affine.addi h_v19 h_v18 (by omega)
    have h_v26 : Affine.IsInt _ ((((i 0).val : Int) % 4)) := Affine.select_fails h_v24 h_v25 h_v19 (by omega)
    have h_v341 : Affine.IsInt _ ((((i 0).val : Int) % 4)) := Affine.indexCast h_v26
    have h_c0_i32_181 : Affine.IsInt 0#32 (0) := Affine.ofNat _ (by omega)
    have h_c0_i32_38 : Affine.IsInt 0#32 (0) := Affine.ofNat _ (by omega)
    have h_c1_i32_40 : Affine.IsInt 1#32 (1) := Affine.ofNat _ (by omega)
    have r_k0_t4 : k0_t4.val < 7 := Nat.lt_of_lt_of_le k0_t4.isLt k0_t4_abs.2.1
    have h_arg26 : Affine.IsInt _ ((k0_t4.val : Int)) := Affine.iv h_c0_i32_38 h_c1_i32_40 k0_t4.val (by omega)
    have c_arg26 : (k0_t4.val : Int) ≤ 7 - 1 := Affine.iv_lt k0_t4_abs.1 k0_t4.isLt k0_t4_abs.2.2 h_arg26
    have h_c1_i32_180 : Affine.IsInt 1#32 (1) := Affine.ofNat _ (by omega)
    have h_v328 : Affine.IsInt _ ((k0_t4.val : Int)) := Affine.muli h_arg26 h_c1_i32_180 (by omega)
    have h_v329 : Affine.IsInt _ ((k0_t4.val : Int)) := Affine.addi h_c0_i32_181 h_v328 (by omega)
    have h_c64_i32_184 : Affine.IsInt 64#32 (64) := Affine.ofNat _ (by omega)
    have h_v334 : Affine.IsInt _ (64 * (k0_t4.val : Int)) := Affine.muli h_v329 h_c64_i32_184 (by omega)
    have h_c0_i32_194 : Affine.IsInt 0#32 (0) := Affine.ofNat _ (by omega)
    have h_c0_i32_185 : Affine.IsInt 0#32 (0) := Affine.ofNat _ (by omega)
    have h_c1_i32_187 : Affine.IsInt 1#32 (1) := Affine.ofNat _ (by omega)
    have r_k0_t6 : k0_t6.val < 64 := Nat.lt_of_lt_of_le k0_t6.isLt k0_t6_abs.2.1
    have h_arg27 : Affine.IsInt _ ((k0_t6.val : Int)) := Affine.iv h_c0_i32_185 h_c1_i32_187 k0_t6.val (by omega)
    have c_arg27 : (k0_t6.val : Int) ≤ 64 - 1 := Affine.iv_lt k0_t6_abs.1 k0_t6.isLt k0_t6_abs.2.2 h_arg27
    have h_c1_i32_193 : Affine.IsInt 1#32 (1) := Affine.ofNat _ (by omega)
    have h_v337 : Affine.IsInt _ ((k0_t6.val : Int)) := Affine.muli h_arg27 h_c1_i32_193 (by omega)
    have h_v338 : Affine.IsInt _ ((k0_t6.val : Int)) := Affine.addi h_c0_i32_194 h_v337 (by omega)
    have h_v339 : Affine.IsInt _ (64 * (k0_t4.val : Int) + (k0_t6.val : Int)) := Affine.addi h_v334 h_v338 (by omega)
    have h_v342 : Affine.IsInt _ (64 * (k0_t4.val : Int) + (k0_t6.val : Int)) := Affine.indexCast h_v339
    exact Affine.vec_cons h_v340 (by omega) <| Affine.vec_cons h_v341 (by omega) <| Affine.vec_cons h_v342 (by omega) <| Affine.vec_nil

theorem k0_off27_closed : ∀ (i : grid0.Coords) (k0_t8 : Fin k0_t8_loop.trips) (r : Fin 4), k0_off27 i k0_t8 (BitVec.ofNat 32 (128 * r.val)) = ![(i 0).val % 2, 512 * k0_t8.val + 128 * r.val, (i 0).val % 4, 0] := by
  intro i k0_t8 r
  have r_r : r.val < 4 := r.isLt
  have h_c0_i32_180 : Affine.IsInt (BitVec.ofNat 32 (128 * r.val)) (128 * (r.val : Int)) := Affine.ofNat _ (by omega)
  have r_i0 : (i 0).val < 24 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_10 : Affine.IsInt 0#32 (0) := Affine.ofNat _ (by omega)
  have h_v27 : Affine.Fails _ := Affine.eq_fails h_c2_i32 h_c0_i32_10 (by omega)
  have h_c1_i32_11 : Affine.IsInt 1#32 (1) := Affine.ofNat _ (by omega)
  have h_v28 : Affine.IsInt _ (2) := Affine.select_fails h_v27 h_c1_i32_11 h_c2_i32 (by omega)
  have h_v29 : Affine.IsInt _ ((((i 0).val : Int) % 2)) := Affine.remsi h_arg0 h_v28 (by omega)
  have h_c0_i32_13 : Affine.IsInt 0#32 (0) := Affine.ofNat _ (by omega)
  have h_v31 : Affine.Fails _ := Affine.slt_fails h_v29 h_c0_i32_13 (by omega)
  have h_c0_i32_14 : Affine.IsInt 0#32 (0) := Affine.ofNat _ (by omega)
  have h_v32 : Affine.Fails _ := Affine.slt_fails h_v28 h_c0_i32_14 (by omega)
  have h_v33 : Affine.Fails _ := Affine.xori_ff h_v31 h_v32
  have h_c0_i32_12 : Affine.IsInt 0#32 (0) := Affine.ofNat _ (by omega)
  have h_v30 : Affine.Term _ := Affine.cmpi_term .ne h_v29 h_c0_i32_12
  have h_v34 : Affine.Fails _ := Affine.andi_fails_left h_v33 h_v30
  have h_v35 : Affine.IsInt _ ((((i 0).val : Int) % 2) + 2) := Affine.addi h_v29 h_v28 (by omega)
  have h_v36 : Affine.IsInt _ ((((i 0).val : Int) % 2)) := Affine.select_fails h_v34 h_v35 h_v29 (by omega)
  have h_v331 : Affine.IsInt _ ((((i 0).val : Int) % 2)) := Affine.indexCast h_v36
  have h_c0_i32_151 : Affine.IsInt 0#32 (0) := Affine.ofNat _ (by omega)
  have h_c1_i32_153 : Affine.IsInt 1#32 (1) := Affine.ofNat _ (by omega)
  have r_k0_t8 : k0_t8.val < 7 := Nat.lt_of_lt_of_le k0_t8.isLt k0_t8_abs.2.1
  have h_arg26 : Affine.IsInt _ ((k0_t8.val : Int)) := Affine.iv h_c0_i32_151 h_c1_i32_153 k0_t8.val (by omega)
  have c_arg26 : (k0_t8.val : Int) ≤ 7 - 1 := Affine.iv_lt k0_t8_abs.1 k0_t8.isLt k0_t8_abs.2.2 h_arg26
  have h_c512_i32 : Affine.IsInt 512#32 (512) := Affine.ofNat _ (by omega)
  have h_v328 : Affine.IsInt _ (512 * (k0_t8.val : Int)) := Affine.muli h_arg26 h_c512_i32 (by omega)
  have h_v329 : Affine.IsInt _ (512 * (k0_t8.val : Int) + 128 * (r.val : Int)) := Affine.addi h_v328 h_c0_i32_180 (by omega)
  have h_v332 : Affine.IsInt _ (512 * (k0_t8.val : Int) + 128 * (r.val : Int)) := Affine.indexCast h_v329
  have h_c4_i32_4 : Affine.IsInt 4#32 (4) := Affine.ofNat _ (by omega)
  have h_c0_i32_5 : Affine.IsInt 0#32 (0) := Affine.ofNat _ (by omega)
  have h_v17 : Affine.Fails _ := Affine.eq_fails h_c4_i32_4 h_c0_i32_5 (by omega)
  have h_c1_i32_6 : Affine.IsInt 1#32 (1) := Affine.ofNat _ (by omega)
  have h_v18 : Affine.IsInt _ (4) := Affine.select_fails h_v17 h_c1_i32_6 h_c4_i32_4 (by omega)
  have h_v19 : Affine.IsInt _ ((((i 0).val : Int) % 4)) := Affine.remsi h_arg0 h_v18 (by omega)
  have h_c0_i32_8 : Affine.IsInt 0#32 (0) := Affine.ofNat _ (by omega)
  have h_v21 : Affine.Fails _ := Affine.slt_fails h_v19 h_c0_i32_8 (by omega)
  have h_c0_i32_9 : Affine.IsInt 0#32 (0) := Affine.ofNat _ (by omega)
  have h_v22 : Affine.Fails _ := Affine.slt_fails h_v18 h_c0_i32_9 (by omega)
  have h_v23 : Affine.Fails _ := Affine.xori_ff h_v21 h_v22
  have h_c0_i32_7 : Affine.IsInt 0#32 (0) := Affine.ofNat _ (by omega)
  have h_v20 : Affine.Term _ := Affine.cmpi_term .ne h_v19 h_c0_i32_7
  have h_v24 : Affine.Fails _ := Affine.andi_fails_left h_v23 h_v20
  have h_v25 : Affine.IsInt _ ((((i 0).val : Int) % 4) + 4) := Affine.addi h_v19 h_v18 (by omega)
  have h_v26 : Affine.IsInt _ ((((i 0).val : Int) % 4)) := Affine.select_fails h_v24 h_v25 h_v19 (by omega)
  have h_v333 : Affine.IsInt _ ((((i 0).val : Int) % 4)) := Affine.indexCast h_v26
  have h_c0_181 : Affine.IsInt 0#32 (0) := Affine.ofNat _ (by omega)
  exact Affine.vec_cons h_v331 (by omega) <| Affine.vec_cons h_v332 (by omega) <| Affine.vec_cons h_v333 (by omega) <| Affine.vec_cons (Affine.ofNat 0 (by omega) : Affine.IsInt 0#32 0) (by omega) <| Affine.vec_nil

theorem off9_closed : ∀ i : grid0.Coords, k0_off9 i = ![(i 0).val % 2] := by decide +kernel
theorem off12_closed : ∀ i : grid0.Coords, k0_off12 i = ![1 - (i 0).val % 2] := by decide +kernel
theorem off25_closed : ∀ i : grid0.Coords, k0_off25 i = ![(i 0).val % 2] := by decide +kernel
theorem off26_closed : ∀ i : grid0.Coords, k0_off26 i = ![(i 0).val % 2, 0, 0, 0] := by decide +kernel
theorem off6_closed : ∀ i : grid0.Coords, k0_off6 i = ![(i 0).val / 4] := by decide +kernel
theorem off7_closed : ∀ i : grid0.Coords, k0_off7 i = ![7 * ((i 0).val % 4), (i 0).val / 4, 0] := by decide +kernel
theorem off8_closed : ∀ i : grid0.Coords, k0_off8 i = ![(i 0).val / 4, 0, 0] := by decide +kernel
theorem cond1_iff : ∀ i : grid0.Coords, k0_cond1 i = 1#1 ↔ (i 0).val = 0 := by decide +kernel
theorem cond2_iff : ∀ i : grid0.Coords, k0_cond2 i = 1#1 ↔ (i 0).val + 1 < 24 := by decide +kernel
set_option maxRecDepth 100000 in
theorem off11_closed : ∀ (i : grid0.Coords) (k0_t4 : Fin k0_t4_loop.trips) (k0_t5 : Fin k0_t5_loop.trips), k0_cond2 i = 1#1 →
    k0_off11 i k0_t4 k0_t5 = ![((i 0).val + 1) / 4, ((i 0).val + 1) % 4, 64 * k0_t4.val + k0_t5.val] := by decide +kernel

/-- The chunk a transfer reads for a table word: the word where it names one, the transfer's own number where it is -1. -/
def chunkW (w : BitVec 32) (t : ℕ) : ℕ := if 0 ≤ w.toInt then w.toInt.toNat else t

theorem chunkW_lt {w : BitVec 32} {t : ℕ} (ht : t < 448) (h : w.toInt < 8192) : chunkW w t < 8192 := by
  unfold chunkW; split <;> omega

/-- The row word computed from a table word and the transfer's own number. -/
theorem rowWord {w v : BitVec 32} {t : ℕ} (hv : Affine.IsInt v t) (ht : t < 448) (h : w.toInt < 8192) :
    (Scalar.muli (Scalar.select (Scalar.cmpi .sge w 0#32) w v) 8#32).toNat = 8 * chunkW w t := by
  have h0 : Affine.IsInt 0#32 (0) := Affine.ofNat _ (by omega)
  have h8 : Affine.IsInt 8#32 (8) := Affine.ofNat _ (by omega)
  have hw := Affine.word w
  unfold chunkW
  split
  · rename_i hp
    have hc : Affine.Holds _ := Affine.sge_holds hw h0 hp
    have hs : Affine.IsInt _ (w.toInt) := Affine.select_holds hc hw hv rfl
    have hm : Affine.IsInt _ (w.toInt * 8) := Affine.muli hs h8 (by omega)
    have := Affine.toNat_of hm (by omega); omega
  · rename_i hp
    have hc : Affine.Fails _ := Affine.sge_fails hw h0 hp
    have hs : Affine.IsInt _ (t : Int) := Affine.select_fails hc hw hv rfl
    have hm : Affine.IsInt _ ((t : Int) * 8) := Affine.muli hs h8 (by omega)
    have := Affine.toNat_of hm (by omega); omega

/-- The transfer's number as the loops compute it. -/
theorem ownWord (a b : ℕ) (ha : a < 7) (hb : b < 64) :
    Affine.IsInt (Scalar.addi (Scalar.muli (Scalar.addi 0#32 (Scalar.muli (Scf.iv 0#32 1#32 a) 1#32)) 64#32)
      (Scalar.addi 0#32 (Scalar.muli (Scf.iv 0#32 1#32 b) 1#32))) ((64 * a + b : ℕ) : Int) := by
  have h0 : Affine.IsInt 0#32 (0) := Affine.ofNat _ (by omega)
  have h1 : Affine.IsInt 1#32 (1) := Affine.ofNat _ (by omega)
  have h64 : Affine.IsInt 64#32 (64) := Affine.ofNat _ (by omega)
  have ia : Affine.IsInt _ ((a : Int)) := Affine.iv h0 h1 a (by omega)
  have ib : Affine.IsInt _ ((b : Int)) := Affine.iv h0 h1 b (by omega)
  have ma : Affine.IsInt _ ((a : Int)) := Affine.muli ia h1 (by omega)
  have aa : Affine.IsInt _ ((a : Int)) := Affine.addi h0 ma (by omega)
  have sa : Affine.IsInt _ (64 * (a : Int)) := Affine.muli aa h64 (by omega)
  have mb : Affine.IsInt _ ((b : Int)) := Affine.muli ib h1 (by omega)
  have ab : Affine.IsInt _ ((b : Int)) := Affine.addi h0 mb (by omega)
  exact Affine.addi sa ab (by omega)

theorem t1_lt (k : Fin k0_t1_loop.trips) : k.val < 7 := Nat.lt_of_lt_of_le k.isLt k0_t1_abs.2.1
theorem t2_lt (k : Fin k0_t2_loop.trips) : k.val < 64 := Nat.lt_of_lt_of_le k.isLt k0_t2_abs.2.1
theorem t3_lt (k : Fin k0_t3_loop.trips) : k.val < 448 := Nat.lt_of_lt_of_le k.isLt k0_t3_abs.2.1
theorem t4_lt (k : Fin k0_t4_loop.trips) : k.val < 7 := Nat.lt_of_lt_of_le k.isLt k0_t4_abs.2.1
theorem t5_lt (k : Fin k0_t5_loop.trips) : k.val < 64 := Nat.lt_of_lt_of_le k.isLt k0_t5_abs.2.1
theorem t6_lt (k : Fin k0_t6_loop.trips) : k.val < 64 := Nat.lt_of_lt_of_le k.isLt k0_t6_abs.2.1
theorem t7_lt (k : Fin k0_t7_loop.trips) : k.val < 4 := Nat.lt_of_lt_of_le k.isLt k0_t7_abs.2.1
theorem t8_lt (k : Fin k0_t8_loop.trips) : k.val < 7 := Nat.lt_of_lt_of_le k.isLt k0_t8_abs.2.1

theorem off3_closed (k0_t1 : Fin k0_t1_loop.trips) (k0_t2 : Fin k0_t2_loop.trips) (w : BitVec 32) (h : w.toInt < 8192) :
    k0_off3 k0_t1 k0_t2 w = ![0, 8 * chunkW w (64 * k0_t1.val + k0_t2.val), 0] := by
  have h1 := t1_lt k0_t1; have h2 := t2_lt k0_t2
  have e := rowWord (ownWord k0_t1.val k0_t2.val h1 h2) (by omega) h
  rw [← e]; rfl

theorem off5_closed (k0_t1 : Fin k0_t1_loop.trips) (k0_t2 : Fin k0_t2_loop.trips) (w : BitVec 32) (h : w.toInt < 8192) :
    k0_off5 k0_t1 k0_t2 w = ![0, 8 * chunkW w (64 * k0_t1.val + k0_t2.val), 0, 0] := by
  have h1 := t1_lt k0_t1; have h2 := t2_lt k0_t2
  have e := rowWord (ownWord k0_t1.val k0_t2.val h1 h2) (by omega) h
  rw [← e]; rfl

theorem off14_closed (i : grid0.Coords) (k0_t4 : Fin k0_t4_loop.trips) (k0_t5 : Fin k0_t5_loop.trips) (hc : k0_cond2 i = 1#1)
    (w : BitVec 32) (h : w.toInt < 8192) :
    k0_off14 i k0_t4 k0_t5 w = ![((i 0).val + 1) / 4, 8 * chunkW w (64 * k0_t4.val + k0_t5.val), 0] := by
  have h1 := t4_lt k0_t4; have h2 := t5_lt k0_t5
  have e := rowWord (ownWord k0_t4.val k0_t5.val h1 h2) (by omega) h
  have e0 : k0_off11 i k0_t4 k0_t5 0 = ((i 0).val + 1) / 4 := congrFun (off11_closed i k0_t4 k0_t5 hc) 0
  rw [← e, ← e0]; rfl

theorem off16_closed (i : grid0.Coords) (k0_t4 : Fin k0_t4_loop.trips) (k0_t5 : Fin k0_t5_loop.trips) (hc : k0_cond2 i = 1#1)
    (w : BitVec 32) (h : w.toInt < 8192) :
    k0_off16 i k0_t4 k0_t5 w = ![((i 0).val + 1) / 4, 8 * chunkW w (64 * k0_t4.val + k0_t5.val), 0, 0] := by
  have h1 := t4_lt k0_t4; have h2 := t5_lt k0_t5
  have e := rowWord (ownWord k0_t4.val k0_t5.val h1 h2) (by omega) h
  have e0 : k0_off11 i k0_t4 k0_t5 0 = ((i 0).val + 1) / 4 := congrFun (off11_closed i k0_t4 k0_t5 hc) 0
  rw [← e, ← e0]; rfl

/-- Eight rows at a chunk's rows lie in the array and are whole words. -/
theorem rowsK (b c : ℕ) (hb : b < 6) (hc : c < 8192) (off : Fin 3 → ℕ) (h : off = ![b, 8 * c, 0]) :
    (∀ a, off a + S1x8x160.size a ≤ S6x65536x160.size a)
    ∧ ∀ hinb : ∀ a, off a + S1x8x160.size a ≤ S6x65536x160.size a,
        (Rect.unit (s := S6x65536x160) off S1x8x160.size hinb).WholeWords (EltTy.packing .bf16) := by
  subst h
  refine ⟨fun a => ?_, fun hinb => Affine.words_of_packed <| Affine.packed_dvd (of_decide_eq_true rfl) (?_ : 2 ∣ 8 * c) (by decide)⟩
  · fin_cases a
    · show b + 1 ≤ 6; omega
    · show 8 * c + 8 ≤ 65536; omega
    · show 0 + 160 ≤ 160; omega
  · omega

theorem rowsV (b c : ℕ) (hb : b < 6) (hc : c < 8192) (off : Fin 4 → ℕ) (h : off = ![b, 8 * c, 0, 0]) :
    (∀ a, off a + S1x8x4x128.size a ≤ S6x65536x4x128.size a)
    ∧ ∀ hinb : ∀ a, off a + S1x8x4x128.size a ≤ S6x65536x4x128.size a,
        (Rect.unit (s := S6x65536x4x128) off S1x8x4x128.size hinb).WholeWords (EltTy.packing .fp8e4m3) := by
  subst h
  refine ⟨fun a => ?_, fun hinb => Affine.words_rows (of_decide_eq_true rfl) rfl (by decide)⟩
  fin_cases a
  · show b + 1 ≤ 6; omega
  · show 8 * c + 8 ≤ 65536; omega
  · show 0 + 4 ≤ 4; omega
  · show 0 + 128 ≤ 128; omega

theorem chk1_holds (i : grid0.Coords) (k0_t1 : Fin k0_t1_loop.trips) (k0_t2 : Fin k0_t2_loop.trips) (w : BitVec 32)
    (h : w.toInt < 8192) : k0_chk1 i k0_t1 k0_t2 w := by
  have h1 := t1_lt k0_t1; have h2 := t2_lt k0_t2
  have hl : chunkW w (64 * k0_t1.val + k0_t2.val) < 8192 := chunkW_lt (by omega) h
  have hm : (k0_mult1 k0_t1 k0_t2 w).toNat = 8 * chunkW w (64 * k0_t1.val + k0_t2.val) :=
    rowWord (ownWord k0_t1.val k0_t2.val h1 h2) (by omega) h
  have hK := rowsK 0 _ (by omega) hl _ (off3_closed k0_t1 k0_t2 w h)
  have hV := rowsV 0 _ (by omega) hl _ (off5_closed k0_t1 k0_t2 w h)
  exact ⟨fun _ => hm ▸ Dvd.intro _ rfl, fun _ => hK.1, fun _ => hK.2, fun _ => hV.1, fun _ => hV.2⟩

theorem chk2_holds (i : grid0.Coords) (k0_t4 : Fin k0_t4_loop.trips) (k0_t5 : Fin k0_t5_loop.trips) (w : BitVec 32)
    (h : w.toInt < 8192) : k0_chk2 i k0_t4 k0_t5 w := by
  have h1 := t4_lt k0_t4; have h2 := t5_lt k0_t5
  have hl : chunkW w (64 * k0_t4.val + k0_t5.val) < 8192 := chunkW_lt (by omega) h
  have hm : (k0_mult4 k0_t4 k0_t5 w).toNat = 8 * chunkW w (64 * k0_t4.val + k0_t5.val) :=
    rowWord (ownWord k0_t4.val k0_t5.val h1 h2) (by omega) h
  have hi : (i 0).val < 24 := (i 0).isLt
  have hb : k0_cond2 i = 1#1 → ((i 0).val + 1) / 4 < 6 := fun hc => by have := (cond2_iff i).mp hc; omega
  refine ⟨fun _ => hm ▸ Dvd.intro _ rfl, fun hc => (rowsK _ _ (hb hc) hl _ (off14_closed i k0_t4 k0_t5 hc w h)).1,
    fun hc => (rowsK _ _ (hb hc) hl _ (off14_closed i k0_t4 k0_t5 hc w h)).2,
    fun hc => (rowsV _ _ (hb hc) hl _ (off16_closed i k0_t4 k0_t5 hc w h)).1,
    fun hc => (rowsV _ _ (hb hc) hl _ (off16_closed i k0_t4 k0_t5 hc w h)).2⟩

/-- The row of the scale table a word names: its chunk's sixteenth, 0 for -1. -/
def tblRow (w : BitVec 32) : ℕ := w.toInt.toNat / 16

/-- The table row as the body computes it from the word. -/
def tblWord (v343 : BitVec 32) : BitVec 32 :=
  let v344 : BitVec 32 := Scalar.maxsi v343 0#32
  let v350 : BitVec 32 := Scalar.subi (Scalar.extui (Scalar.cmpi .sgt v344 0#32)) (Scalar.extui (Scalar.cmpi .slt v344 0#32))
  let v355 : BitVec 32 := Scalar.subi (Scalar.extui (Scalar.cmpi .sgt 16#32 0#32)) (Scalar.extui (Scalar.cmpi .slt 16#32 0#32))
  let v359 : BitVec 1 := Scalar.andi (Scalar.cmpi .ne v350 v355) (Scalar.cmpi .ne (Scalar.remsi v344 16#32) 0#32)
  let v345 : BitVec 32 := Scalar.divsi v344 16#32
  Scalar.select v359 (Scalar.subi v345 1#32) v345

set_option maxRecDepth 100000 in
theorem tblWord_num : ∀ (a : Fin 64) (b : Fin 128), (tblWord (BitVec.ofNat 32 (128 * a.val + b.val))).toNat = (128 * a.val + b.val) / 16 := by
  decide +kernel

theorem tblWord_neg : (tblWord (BitVec.ofInt 32 (-1))).toNat = 0 := by decide +kernel

theorem tblWord_row {w : BitVec 32} (hl : -1 ≤ w.toInt) (h : w.toInt < 8192) : (tblWord w).toNat = tblRow w := by
  unfold tblRow
  by_cases hp : 0 ≤ w.toInt
  · have e : w = BitVec.ofNat 32 (128 * (w.toInt.toNat / 128) + w.toInt.toNat % 128) := by
      apply BitVec.eq_of_toNat_eq
      have h1 := BitVec.toInt_eq_toNat_of_lt (x := w)
      have h2 : w.toInt.toNat = w.toNat := by
        rw [BitVec.toInt_eq_toNat_cond] at hp h ⊢; split at hp <;> omega
      rw [BitVec.toNat_ofNat]; omega
    have := tblWord_num ⟨w.toInt.toNat / 128, by omega⟩ ⟨w.toInt.toNat % 128, by omega⟩
    simp only at this; rw [← e] at this; rw [this]; omega
  · have e : w = BitVec.ofInt 32 (-1) := by apply BitVec.eq_of_toInt_eq; show w.toInt = -1; omega
    have := tblWord_neg; rw [← e] at this; rw [this]; omega

theorem off18_head : ∀ i : grid0.Coords, k0_off18 i 0#32 2 = (i 0).val % 4 := by decide +kernel

theorem off18_closed (i : grid0.Coords) (w : BitVec 32) (hl : -1 ≤ w.toInt) (h : w.toInt < 8192) :
    k0_off18 i w = ![0, tblRow w, (i 0).val % 4, 0] := by
  have e0 : k0_off18 i w 2 = (i 0).val % 4 := off18_head i
  rw [← tblWord_row hl h, ← e0]; rfl

theorem chk3_holds (i : grid0.Coords) (w : BitVec 32) (hl : -1 ≤ w.toInt) (h : w.toInt < 8192) : k0_chk3 i w := by
  unfold k0_chk3
  rw [off18_closed i w hl h]
  intro a
  have : tblRow w < 512 := by unfold tblRow; omega
  fin_cases a
  · show 0 + 1 ≤ 1; omega
  · show tblRow w + 1 ≤ 512; omega
  · show (i 0).val % 4 + 1 ≤ 4; omega
  · show 0 + 128 ≤ 128; omega

end Cert.KernelIdeal.Hand

end
-- ==== Proof.IBatch.lean ====
/- The kernel's own transfers: the blocks they fill, the rows they read, what each delivers, and the rules by which the
   body issues one and waits for all of an item's. -/
module

public import proofs.«01_k».proof.Proof.IOffs
public import Idealize.ShloMosaic.Lib.Pipeline.FrameBody
public import Idealize.ShloMosaic.Lib.Batch
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A points-to of a memref's buffer may be stored in a cell's invariant. -/
theorem storable_pt {sp : Space} {s : Shape} {e : EltTy} (c : Dev nD) (M : Memref sig .tc sp s e) (I : Finset (Idx (M.view.loc (c : Thread nD τ))))
    (q : PosShare TreeShare) (f : Buf (Elt F) (M.view.loc (c : Thread nD τ))) :
    BI.Storable (upEmb : UEmb _ 𝕄) (M.view.loc (c : Thread nD τ) ↦[I]{q} f : sProp 𝕄) := inferInstance

/-- One issue into a batch, the row, the hole and the delivery by name. -/
theorem wp_issue {s : Shape} {e : EltTy} {α : Type} {Q : α → sProp 𝕄} (c : Dev nD) {src : Memref sig .tc .hbm s e} {dst : Memref sig .tc .vmem s e} {sm : DmaSem sig}
    {hsrc : src.view.WordExact} {hdst : dst.view.WordExact}
    {hsem : DmaTarget.Typed (nD := nD) (τ := τ) (p := (c : Thread nD τ).2) .hbm (SemLoc.dma sm) (.here dst)}
    {k : PUnit → Prog (TpuEff nD τ sig (Elt F) Λ₀ .tc) α} (N : ℕ) (hN : dst.view.amount (SemLoc.dma sm) = N)
    (R H : sProp 𝕄) {n : ℕ} (D : Fin n → sProp 𝕄) (j : ℕ) (hj : j < n) (q : PosShare TreeShare)
    (fs : Buf (Elt F) (src.view.loc (c : Thread nD τ))) (g : Buf (Elt F) (dst.view.loc (c : Thread nD τ)))
    (hR : R = (src.view.loc (c : Thread nD τ) ↦[src.view.set]{q} fs)) (hH : H = (dst.view.loc (c : Thread nD τ) ↦[dst.view.set]{fullShare} g))
    (hD : iprop((dst.view.loc (c : Thread nD τ) ↦[dst.view.set]{fullShare} (dst.view.write (Elt F) g (ReadAs.same.apply (src.view.read (Elt F) fs)) Finset.univ)) ∗ R) ⊢ D ⟨j, hj⟩) :
    iprop(R ∗ H ∗ Transfers.Batch (countersEmb (U := Pipeline.UD sig nD τ)) (c : Thread nD τ) (.dma sm) () N D j 0)
      ⊢ iprop((Transfers.Batch (countersEmb (U := Pipeline.UD sig nD τ)) (c : Thread nD τ) (.dma sm) () N D (j + 1) 0
          -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hR hH
  exact Transfers.wp_dmaBatch (countersEmb (U := Pipeline.UD sig nD τ)) Variants.none (c : Thread nD τ) none
    (D := D) (fs := fs) (fd := g) () N hN (Finset.Subset.refl _) hj (Nat.zero_le _) hD

/-! ## Items -/

/-- Item `it`'s slot, batch row and head. -/
def slotOf (it : Fin 24) : Fin 2 := ⟨it.val % 2, by omega⟩
def rowOf (it : Fin 24) : Fin 6 := ⟨it.val / 4, by omega⟩
def headOf (it : Fin 24) : Fin 4 := ⟨it.val % 4, by omega⟩

abbrev tabM : Memref sig .tc .smem S6x4x448 .i32 := Memref.whole main_arg7

theorem sel_inb (b : Fin 6) (h : Fin 4) (t : Fin 448) : ∀ a, (![b.val, h.val, t.val] : Fin 3 → Nat) a + S1x1x1.size a ≤ S6x4x448.size a := by
  have := b.isLt; have := h.isLt; have := t.isLt; intro a; fin_cases a
  · show b.val + 1 ≤ 6; omega
  · show h.val + 1 ≤ 4; omega
  · show t.val + 1 ≤ 448; omega

/-- The table word of item `it`'s transfer `t`, as the body reads it. -/
def selW (sel : S6x4x448.Idx → Elt F .i32) (it : Fin 24) (t : Fin 448) : BitVec 32 :=
  tabM.view.readAt (Elt F) (Rect.unit (s := S6x4x448) ![(rowOf it).val, (headOf it).val, t.val] S1x1x1.size (sel_inb _ _ t)).toLoadRect sel (Shape.Idx.first (numel1_S1x1x1.symm ▸ Nat.one_pos))

/-- Every word of the table names a chunk or is -1. -/
def SelOK (sel : S6x4x448.Idx → Elt F .i32) : Prop := ∀ y, -1 ≤ (show BitVec 32 from sel y).toInt ∧ (show BitVec 32 from sel y).toInt < 8192

theorem selW_range {sel : S6x4x448.Idx → Elt F .i32} (h : SelOK (F := F) sel) (it : Fin 24) (t : Fin 448) :
    -1 ≤ (selW (F := F) sel it t).toInt ∧ (selW (F := F) sel it t).toInt < 8192 := h _

/-- The chunk item `it`'s transfer `t` reads. -/
def chunkOf (sel : S6x4x448.Idx → Elt F .i32) (it : Fin 24) (t : Fin 448) : Fin 8192 :=
  ⟨chunkW (selW (F := F) sel it t) t.val % 8192, Nat.mod_lt _ (by decide)⟩

theorem chunkOf_val {sel : S6x4x448.Idx → Elt F .i32} (h : SelOK (F := F) sel) (it : Fin 24) (t : Fin 448) :
    (chunkOf (F := F) sel it t).val = chunkW (selW (F := F) sel it t) t.val :=
  Nat.mod_eq_of_lt (chunkW_lt t.isLt (selW_range h it t).2)

/-! ## The transfers of K -/

section K

theorem kDst_inb (s : Fin 2) (t : Fin 448) : ∀ a, (![s.val, 8 * t.val, 0] : Fin 3 → Nat) a + S1x8x160.size a ≤ S2x3584x160.size a := by
  have := s.isLt; have := t.isLt; intro a; fin_cases a
  · show s.val + 1 ≤ 2; omega
  · show 8 * t.val + 8 ≤ 3584; omega
  · show 0 + 160 ≤ 160; omega
theorem kSrc_inb (b : Fin 6) (r : Fin 8192) : ∀ a, (![b.val, 8 * r.val, 0] : Fin 3 → Nat) a + S1x8x160.size a ≤ S6x65536x160.size a := by
  have := b.isLt; have := r.isLt; intro a; fin_cases a
  · show b.val + 1 ≤ 6; omega
  · show 8 * r.val + 8 ≤ 65536; omega
  · show 0 + 160 ≤ 160; omega
theorem kCell_inb (s : Fin 2) : ∀ a, (![s.val] : Fin 1 → Nat) a + S1.size a ≤ S2.size a := by
  have := s.isLt; intro a; fin_cases a; show s.val + 1 ≤ 2; omega

/-- The block transfer `t` fills in slot `s`. -/
def kDst (s : Fin 2) (t : Fin 448) : Memref sig .tc .vmem S8x160 .bf16 :=
  ((Memref.whole cc0_scratch0).slice (Rect.unit (s := S2x3584x160) ![s.val, 8 * t.val, 0] S1x8x160.size (kDst_inb s t)) (fun _ => rfl)).squeeze S8x160 squeezes_S1x8x160_S8x160
/-- The rows of chunk `r` of batch row `b`. -/
def kSrc (b : Fin 6) (r : Fin 8192) : Memref sig .tc .hbm S8x160 .bf16 :=
  ((Memref.whole main_arg3).slice (Rect.unit (s := S6x65536x160) ![b.val, 8 * r.val, 0] S1x8x160.size (kSrc_inb b r)) (fun _ => rfl)).squeeze S8x160 squeezes_S1x8x160_S8x160
/-- Slot `s`'s cell. -/
def kCell (s : Fin 2) : DmaSem sig := ((cc0_scratch7.slice (Rect.unit (s := S2) ![s.val] S1.size (kCell_inb s))).squeeze S_ squeezes_S1_S_).sem

abbrev kN : ℕ := 128

theorem k_amount (s s' : Fin 2) (t : Fin 448) : (kDst s t).view.amount (SemLoc.dma (kCell s')) = kN := rfl

/-- What transfer `t` leaves in its block (elsewhere arbitrary). -/
def kLand (s : Fin 2) (t : Fin 448) (b : Fin 6) (r : Fin 8192) (ka : S6x65536x160.Idx → Elt F .bf16) : S2x3584x160.Idx → Elt F .bf16 :=
  (kDst s t).view.write (Elt F) (fun _ => Classical.arbitrary _) (ReadAs.same.apply ((kSrc b r).view.read (Elt F) ka)) Finset.univ

theorem kDst_set (s : Fin 2) (t : Fin 448) : (kDst s t).view.set = (Rect.unit (s := S2x3584x160) ![s.val, 8 * t.val, 0] S1x8x160.size (kDst_inb s t)).set := by
  unfold kDst; exact (View.set_reshape _ _).trans (View.set_slice_whole _ _)

/-- Block `t` of slot `s`: eight rows. -/
def kBlk (s : Fin 2) (t : Fin 448) : Finset S2x3584x160.Idx := (Rect.unit (s := S2x3584x160) ![s.val, 8 * t.val, 0] S1x8x160.size (kDst_inb s t)).set
theorem mem_kBlk (s : Fin 2) (t : Fin 448) (y : S2x3584x160.Idx) : y ∈ kBlk s t ↔ (y 0).val = s.val ∧ (y 1).val / 8 = t.val := by
  unfold kBlk
  rw [Rect.mem_set_unit]
  have h2 : (y 2).val < 160 := (y 2).isLt
  constructor
  · intro H
    have a0 : s.val ≤ (y 0).val ∧ (y 0).val < s.val + 1 := H 0
    have a1 : 8 * t.val ≤ (y 1).val ∧ (y 1).val < 8 * t.val + 8 := H 1
    omega
  · intro H a; fin_cases a
    · show s.val ≤ (y 0).val ∧ (y 0).val < s.val + 1; omega
    · show 8 * t.val ≤ (y 1).val ∧ (y 1).val < 8 * t.val + 8; omega
    · show 0 ≤ (y 2).val ∧ (y 2).val < 0 + 160; omega
theorem kBlk_disjoint (s : Fin 2) : ∀ t t' : Fin 448, t ≠ t' → Disjoint (kBlk s t) (kBlk s t') := fun t t' hne => by
  rw [Finset.disjoint_left]; intro y hy hy'; rw [mem_kBlk] at hy hy'; exact hne (Fin.ext (by omega))
/-- Slot `s`. -/
def kSlot (s : Fin 2) : Finset S2x3584x160.Idx := Finset.univ.filter fun y => (y 0).val = s.val
theorem kBlk_cover (s : Fin 2) : Finset.univ.biUnion (kBlk s) = kSlot s := by
  ext y; simp only [Finset.mem_biUnion, Finset.mem_univ, true_and, kSlot, Finset.mem_filter, mem_kBlk]
  have h1 : (y 1).val < 3584 := (y 1).isLt
  constructor
  · rintro ⟨t, h, -⟩; exact h
  · intro h; exact ⟨⟨(y 1).val / 8, by omega⟩, h, rfl⟩
theorem kSlot_disjoint : ∀ s s' : Fin 2, s ≠ s' → Disjoint (kSlot s) (kSlot s') := fun s s' hne => by
  rw [Finset.disjoint_left]; intro y hy hy'; simp only [kSlot, Finset.mem_filter] at hy hy'; exact hne (Fin.ext (by omega))
theorem kSlot_cover : Finset.univ.biUnion kSlot = (Finset.univ : Finset S2x3584x160.Idx) := by
  ext y; simp only [Finset.mem_biUnion, Finset.mem_univ, true_and, iff_true, kSlot, Finset.mem_filter]
  exact ⟨y 0, rfl⟩

variable (c : Dev nD) (sel : S6x4x448.Idx → Elt F .i32) (ka : S6x65536x160.Idx → Elt F .bf16) (it : Fin 24)

/-- What item `it`'s slot holds once its transfers have landed. -/
def kFull : S2x3584x160.Idx → Elt F .bf16 := fun y =>
  kLand (slotOf it) ⟨(y 1).val / 8, by have : (y 1).val < 3584 := (y 1).isLt; omega⟩ (rowOf it)
    (chunkOf (F := F) sel it ⟨(y 1).val / 8, by have : (y 1).val < 3584 := (y 1).isLt; omega⟩) ka y

/-- Read token number `n` of the array. -/
abbrev kTok (n : ℕ) : sProp 𝕄 :=
  (Memref.whole main_arg3 : Memref sig .tc .hbm S6x65536x160 .bf16).view.loc (c : Thread nD τ) ↦[Finset.univ]{Transfers.shareTokN fullShare n} ka
/-- The token transfer `t` of item `it` reads by. -/
abbrev kNum (t : Fin 448) : ℕ := 448 * (slotOf it).val + t.val
/-- The rows transfer `t` reads, and the rest of its token. -/
def kRow (t : Fin 448) : sProp 𝕄 :=
  (kSrc (rowOf it) (chunkOf (F := F) sel it t)).view.loc (c : Thread nD τ)
    ↦[(kSrc (rowOf it) (chunkOf (F := F) sel it t)).view.set]{Transfers.shareTokN fullShare (kNum it t)} ka
def kRest (t : Fin 448) : sProp 𝕄 :=
  (kSrc (rowOf it) (chunkOf (F := F) sel it t)).view.loc (c : Thread nD τ)
    ↦[Finset.univ \ (kSrc (rowOf it) (chunkOf (F := F) sel it t)).view.set]{Transfers.shareTokN fullShare (kNum it t)} ka
theorem kTok_split (t : Fin 448) : (kTok c ka (kNum it t) : sProp 𝕄) ⊣⊢ iprop(kRow c sel ka it t ∗ kRest c sel ka it t) :=
  pointsTo_split_subset (Finset.subset_univ _)

/-- Block `t` of slot `s` at some contents. -/
def kHole (s : Fin 2) (t : Fin 448) : sProp 𝕄 := iprop(∃ g, (kDst s t).view.loc (c : Thread nD τ) ↦[(kDst s t).view.set]{fullShare} g)
/-- Block `t` of item `it` landed. -/
def kDone (t : Fin 448) : sProp 𝕄 :=
  (kDst (slotOf it) t).view.loc (c : Thread nD τ) ↦[(kDst (slotOf it) t).view.set]{fullShare} kFull (F := F) sel ka it

/-- What transfer `t` delivers. -/
def kDeliv (t : Fin 448) : sProp 𝕄 := iprop(kDone c sel ka it t ∗ kRow c sel ka it t)
instance kDeliv_storable (t : Fin 448) : BI.Storable (upEmb : UEmb _ 𝕄) (kDeliv c sel ka it t) := by
  have h1 : BI.Storable (upEmb : UEmb _ 𝕄) (kDone c sel ka it t) := storable_pt c (kDst (slotOf it) t) _ _ _
  have h2 : BI.Storable (upEmb : UEmb _ 𝕄) (kRow c sel ka it t) := storable_pt c (kSrc (rowOf it) (chunkOf (F := F) sel it t)) _ _ _
  unfold kDeliv; infer_instance

/-- Item `it`'s transfers: `j` issued, `u` consumed. -/
def kBatch (j u : ℕ) : sProp 𝕄 :=
  Transfers.Batch (countersEmb (U := Pipeline.UD sig nD τ)) (c : Thread nD τ) (.dma (kCell (slotOf it))) () kN (kDeliv c sel ka it) j u

/-- Item `it`'s transfers as the issue loop leaves them after `j`: the batch, the blocks and tokens still in hand, the rests. -/
def kIss (j : ℕ) : sProp 𝕄 :=
  iprop(kBatch c sel ka it j 0 ∗ bigSep (Ring.rangeSet 448 j 448) (kHole (F := F) c (slotOf it))
    ∗ bigSep (Ring.rangeSet 448 j 448) (fun t => kTok c ka (kNum it t)) ∗ bigSep (Ring.rangeSet 448 0 j) (kRest c sel ka it))

theorem kLand_on (t : Fin 448) (g : S2x3584x160.Idx → Elt F .bf16) :
    ∀ y : S2x3584x160.Idx, y ∈ (kDst (slotOf it) t).view.set → (kDst (slotOf it) t).view.write (Elt F) g (ReadAs.same.apply ((kSrc (rowOf it) (chunkOf (F := F) sel it t)).view.read (Elt F) ka)) Finset.univ y
      = kFull (F := F) sel ka it y := by
  intro y hy
  have hy' := hy
  rw [kDst_set] at hy'
  have e : (⟨(y 1).val / 8, by have : (y 1).val < 3584 := (y 1).isLt; omega⟩ : Fin 448) = t := Fin.ext ((mem_kBlk _ _ _).mp hy').2
  unfold kFull kLand
  rw [e]
  obtain ⟨x, -, rfl⟩ := Finset.mem_map.mp hy
  exact (View.write_emb_of_mem (v := (kDst (slotOf it) t).view) _ _ (Finset.mem_univ x)).trans (View.write_emb_of_mem (v := (kDst (slotOf it) t).view) _ _ (Finset.mem_univ x)).symm

theorem kDeliv_intro (t : Fin 448) (g : S2x3584x160.Idx → Elt F .bf16) :
    iprop(((kDst (slotOf it) t).view.loc (c : Thread nD τ) ↦[(kDst (slotOf it) t).view.set]{fullShare}
        ((kDst (slotOf it) t).view.write (Elt F) g (ReadAs.same.apply ((kSrc (rowOf it) (chunkOf (F := F) sel it t)).view.read (Elt F) ka)) Finset.univ))
      ∗ kRow c sel ka it t) ⊢ (kDeliv c sel ka it t : sProp 𝕄) := by
  unfold kDeliv kDone
  rw [pointsTo_congr (kLand_on sel ka it t g)]

/-- Issue item `it`'s transfer `j`. -/
theorem wp_kIssue {α : Type} {Q : α → sProp 𝕄} (j : ℕ) (hj : j < 448) (offd : Fin 3 → ℕ) (offs : Fin 3 → ℕ) (offc : Fin 1 → ℕ)
    (hd : offd = ![(slotOf it).val, 8 * j, 0]) (hs : offs = ![(rowOf it).val, 8 * (chunkOf (F := F) sel it ⟨j, hj⟩).val, 0])
    (hc : offc = ![(slotOf it).val])
    (inbd : ∀ a, offd a + S1x8x160.size a ≤ S2x3584x160.size a) (inbs : ∀ a, offs a + S1x8x160.size a ≤ S6x65536x160.size a) (inbc : ∀ a, offc a + S1.size a ≤ S2.size a)
    {src : Memref sig .tc .hbm S8x160 .bf16} {dst : Memref sig .tc .vmem S8x160 .bf16} {sm : DmaSem sig}
    (esrc : src = ((Memref.whole main_arg3).slice (Rect.unit (s := S6x65536x160) offs S1x8x160.size inbs) (fun _ => rfl)).squeeze S8x160 squeezes_S1x8x160_S8x160)
    (edst : dst = ((Memref.whole cc0_scratch0).slice (Rect.unit (s := S2x3584x160) offd S1x8x160.size inbd) (fun _ => rfl)).squeeze S8x160 squeezes_S1x8x160_S8x160)
    (esm : sm = ((cc0_scratch7.slice (Rect.unit (s := S2) offc S1.size inbc)).squeeze S_ squeezes_S1_S_).sem)
    {hsrc : src.view.WordExact} {hdst : dst.view.WordExact} {hsem : DmaTarget.Typed (nD := nD) (τ := τ) (p := (c : Thread nD τ).2) .hbm (SemLoc.dma sm) (.here dst)}
    {k : PUnit → Prog (TpuEff nD τ sig (Elt F) Λ₀ .tc) α} :
    kIss c sel ka it j
      ⊢ iprop((kIss c sel ka it (j + 1) -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hd hs hc
  have e1 : src = kSrc (rowOf it) (chunkOf (F := F) sel it ⟨j, hj⟩) := esrc
  have e2 : dst = kDst (slotOf it) ⟨j, hj⟩ := edst
  have e3 : sm = kCell (slotOf it) := esm
  subst e1 e2 e3
  unfold kIss
  rw [Ring.bigSep_rangeSet_head (lo := j) (hi := 448) hj hj, Ring.bigSep_rangeSet_head (lo := j) (hi := 448) hj hj,
    Ring.bigSep_rangeSet_last (NB := 448) (lo := 0) (hi := j + 1) (by omega) (by omega)]
  iintro ⟨HB, ⟨HH, HHs⟩, ⟨HT, HTs⟩, HR⟩ Hk
  ihave HT' := (kTok_split c sel ka it ⟨j, hj⟩).1 $$ HT
  icases HT' with ⟨HRow, HRest⟩
  unfold kHole
  icases HH with ⟨%g, HH⟩
  have hw := wp_issue (Q := Q) c (src := kSrc (rowOf it) (chunkOf (F := F) sel it ⟨j, hj⟩)) (dst := kDst (slotOf it) ⟨j, hj⟩) (sm := kCell (slotOf it))
    (hsrc := hsrc) (hdst := hdst) (hsem := hsem) (k := k) kN (k_amount (slotOf it) (slotOf it) ⟨j, hj⟩) (kRow c sel ka it ⟨j, hj⟩)
    ((kDst (slotOf it) ⟨j, hj⟩).view.loc (c : Thread nD τ) ↦[(kDst (slotOf it) ⟨j, hj⟩).view.set]{fullShare} g) (kDeliv c sel ka it) j hj
    (Transfers.shareTokN fullShare (kNum it ⟨j, hj⟩)) ka g rfl rfl (kDeliv_intro c sel ka it ⟨j, hj⟩ g)
  unfold kBatch
  iapply hw $$ [HRow HH HB]
  · isplitl [HRow]; · iexact HRow
    isplitl [HH]; · iexact HH
    iexact HB
  iintro HB
  iapply Hk
  isplitl [HB]; · iexact HB
  isplitl [HHs]; · iexact HHs
  isplitl [HTs]; · iexact HTs
  isplitl [HRest]; · iexact HRest
  iexact HR

end K

/-! ## The transfers of V -/

section V

theorem vDst_inb (s : Fin 2) (t : Fin 448) : ∀ a, (![s.val, 8 * t.val, 0, 0] : Fin 4 → Nat) a + S1x8x4x128.size a ≤ S2x3584x4x128.size a := by
  have := s.isLt; have := t.isLt; intro a; fin_cases a
  · show s.val + 1 ≤ 2; omega
  · show 8 * t.val + 8 ≤ 3584; omega
  · show 0 + 4 ≤ 4; omega
  · show 0 + 128 ≤ 128; omega
theorem vSrc_inb (b : Fin 6) (r : Fin 8192) : ∀ a, (![b.val, 8 * r.val, 0, 0] : Fin 4 → Nat) a + S1x8x4x128.size a ≤ S6x65536x4x128.size a := by
  have := b.isLt; have := r.isLt; intro a; fin_cases a
  · show b.val + 1 ≤ 6; omega
  · show 8 * r.val + 8 ≤ 65536; omega
  · show 0 + 4 ≤ 4; omega
  · show 0 + 128 ≤ 128; omega
theorem vCell_inb (s : Fin 2) : ∀ a, (![s.val] : Fin 1 → Nat) a + S1.size a ≤ S2.size a := by
  have := s.isLt; intro a; fin_cases a; show s.val + 1 ≤ 2; omega

/-- The block transfer `t` fills in slot `s`. -/
def vDst (s : Fin 2) (t : Fin 448) : Memref sig .tc .vmem S8x4x128 .fp8e4m3 :=
  ((Memref.whole cc0_scratch1).slice (Rect.unit (s := S2x3584x4x128) ![s.val, 8 * t.val, 0, 0] S1x8x4x128.size (vDst_inb s t)) (fun _ => rfl)).squeeze S8x4x128 squeezes_S1x8x4x128_S8x4x128
/-- The rows of chunk `r` of batch row `b`. -/
def vSrc (b : Fin 6) (r : Fin 8192) : Memref sig .tc .hbm S8x4x128 .fp8e4m3 :=
  ((Memref.whole main_arg5).slice (Rect.unit (s := S6x65536x4x128) ![b.val, 8 * r.val, 0, 0] S1x8x4x128.size (vSrc_inb b r)) (fun _ => rfl)).squeeze S8x4x128 squeezes_S1x8x4x128_S8x4x128
/-- Slot `s`'s cell. -/
def vCell (s : Fin 2) : DmaSem sig := ((cc0_scratch8.slice (Rect.unit (s := S2) ![s.val] S1.size (vCell_inb s))).squeeze S_ squeezes_S1_S_).sem

abbrev vN : ℕ := 1024

theorem v_amount (s s' : Fin 2) (t : Fin 448) : (vDst s t).view.amount (SemLoc.dma (vCell s')) = vN := rfl

/-- What transfer `t` leaves in its block (elsewhere arbitrary). -/
def vLand (s : Fin 2) (t : Fin 448) (b : Fin 6) (r : Fin 8192) (ka : S6x65536x4x128.Idx → Elt F .fp8e4m3) : S2x3584x4x128.Idx → Elt F .fp8e4m3 :=
  (vDst s t).view.write (Elt F) (fun _ => Classical.arbitrary _) (ReadAs.same.apply ((vSrc b r).view.read (Elt F) ka)) Finset.univ

theorem vDst_set (s : Fin 2) (t : Fin 448) : (vDst s t).view.set = (Rect.unit (s := S2x3584x4x128) ![s.val, 8 * t.val, 0, 0] S1x8x4x128.size (vDst_inb s t)).set := by
  unfold vDst; exact (View.set_reshape _ _).trans (View.set_slice_whole _ _)

/-- Block `t` of slot `s`: eight rows. -/
def vBlk (s : Fin 2) (t : Fin 448) : Finset S2x3584x4x128.Idx := (Rect.unit (s := S2x3584x4x128) ![s.val, 8 * t.val, 0, 0] S1x8x4x128.size (vDst_inb s t)).set
theorem mem_vBlk (s : Fin 2) (t : Fin 448) (y : S2x3584x4x128.Idx) : y ∈ vBlk s t ↔ (y 0).val = s.val ∧ (y 1).val / 8 = t.val := by
  unfold vBlk
  rw [Rect.mem_set_unit]
  have h2 : (y 2).val < 4 := (y 2).isLt
  have h3 : (y 3).val < 128 := (y 3).isLt
  constructor
  · intro H
    have a0 : s.val ≤ (y 0).val ∧ (y 0).val < s.val + 1 := H 0
    have a1 : 8 * t.val ≤ (y 1).val ∧ (y 1).val < 8 * t.val + 8 := H 1
    omega
  · intro H a; fin_cases a
    · show s.val ≤ (y 0).val ∧ (y 0).val < s.val + 1; omega
    · show 8 * t.val ≤ (y 1).val ∧ (y 1).val < 8 * t.val + 8; omega
    · show 0 ≤ (y 2).val ∧ (y 2).val < 0 + 4; omega
    · show 0 ≤ (y 3).val ∧ (y 3).val < 0 + 128; omega
theorem vBlk_disjoint (s : Fin 2) : ∀ t t' : Fin 448, t ≠ t' → Disjoint (vBlk s t) (vBlk s t') := fun t t' hne => by
  rw [Finset.disjoint_left]; intro y hy hy'; rw [mem_vBlk] at hy hy'; exact hne (Fin.ext (by omega))
/-- Slot `s`. -/
def vSlot (s : Fin 2) : Finset S2x3584x4x128.Idx := Finset.univ.filter fun y => (y 0).val = s.val
theorem vBlk_cover (s : Fin 2) : Finset.univ.biUnion (vBlk s) = vSlot s := by
  ext y; simp only [Finset.mem_biUnion, Finset.mem_univ, true_and, vSlot, Finset.mem_filter, mem_vBlk]
  have h1 : (y 1).val < 3584 := (y 1).isLt
  constructor
  · rintro ⟨t, h, -⟩; exact h
  · intro h; exact ⟨⟨(y 1).val / 8, by omega⟩, h, rfl⟩
theorem vSlot_disjoint : ∀ s s' : Fin 2, s ≠ s' → Disjoint (vSlot s) (vSlot s') := fun s s' hne => by
  rw [Finset.disjoint_left]; intro y hy hy'; simp only [vSlot, Finset.mem_filter] at hy hy'; exact hne (Fin.ext (by omega))
theorem vSlot_cover : Finset.univ.biUnion vSlot = (Finset.univ : Finset S2x3584x4x128.Idx) := by
  ext y; simp only [Finset.mem_biUnion, Finset.mem_univ, true_and, iff_true, vSlot, Finset.mem_filter]
  exact ⟨y 0, rfl⟩

variable (c : Dev nD) (sel : S6x4x448.Idx → Elt F .i32) (ka : S6x65536x4x128.Idx → Elt F .fp8e4m3) (it : Fin 24)

/-- What item `it`'s slot holds once its transfers have landed. -/
def vFull : S2x3584x4x128.Idx → Elt F .fp8e4m3 := fun y =>
  vLand (slotOf it) ⟨(y 1).val / 8, by have : (y 1).val < 3584 := (y 1).isLt; omega⟩ (rowOf it)
    (chunkOf (F := F) sel it ⟨(y 1).val / 8, by have : (y 1).val < 3584 := (y 1).isLt; omega⟩) ka y

/-- Read token number `n` of the array. -/
abbrev vTok (n : ℕ) : sProp 𝕄 :=
  (Memref.whole main_arg5 : Memref sig .tc .hbm S6x65536x4x128 .fp8e4m3).view.loc (c : Thread nD τ) ↦[Finset.univ]{Transfers.shareTokN fullShare n} ka
/-- The token transfer `t` of item `it` reads by. -/
abbrev vNum (t : Fin 448) : ℕ := 448 * (slotOf it).val + t.val
/-- The rows transfer `t` reads, and the rest of its token. -/
def vRow (t : Fin 448) : sProp 𝕄 :=
  (vSrc (rowOf it) (chunkOf (F := F) sel it t)).view.loc (c : Thread nD τ)
    ↦[(vSrc (rowOf it) (chunkOf (F := F) sel it t)).view.set]{Transfers.shareTokN fullShare (vNum it t)} ka
def vRest (t : Fin 448) : sProp 𝕄 :=
  (vSrc (rowOf it) (chunkOf (F := F) sel it t)).view.loc (c : Thread nD τ)
    ↦[Finset.univ \ (vSrc (rowOf it) (chunkOf (F := F) sel it t)).view.set]{Transfers.shareTokN fullShare (vNum it t)} ka
theorem vTok_split (t : Fin 448) : (vTok c ka (vNum it t) : sProp 𝕄) ⊣⊢ iprop(vRow c sel ka it t ∗ vRest c sel ka it t) :=
  pointsTo_split_subset (Finset.subset_univ _)

/-- Block `t` of slot `s` at some contents. -/
def vHole (s : Fin 2) (t : Fin 448) : sProp 𝕄 := iprop(∃ g, (vDst s t).view.loc (c : Thread nD τ) ↦[(vDst s t).view.set]{fullShare} g)
/-- Block `t` of item `it` landed. -/
def vDone (t : Fin 448) : sProp 𝕄 :=
  (vDst (slotOf it) t).view.loc (c : Thread nD τ) ↦[(vDst (slotOf it) t).view.set]{fullShare} vFull (F := F) sel ka it

/-- What transfer `t` delivers. -/
def vDeliv (t : Fin 448) : sProp 𝕄 := iprop(vDone c sel ka it t ∗ vRow c sel ka it t)
instance vDeliv_storable (t : Fin 448) : BI.Storable (upEmb : UEmb _ 𝕄) (vDeliv c sel ka it t) := by
  have h1 : BI.Storable (upEmb : UEmb _ 𝕄) (vDone c sel ka it t) := storable_pt c (vDst (slotOf it) t) _ _ _
  have h2 : BI.Storable (upEmb : UEmb _ 𝕄) (vRow c sel ka it t) := storable_pt c (vSrc (rowOf it) (chunkOf (F := F) sel it t)) _ _ _
  unfold vDeliv; infer_instance

/-- Item `it`'s transfers: `j` issued, `u` consumed. -/
def vBatch (j u : ℕ) : sProp 𝕄 :=
  Transfers.Batch (countersEmb (U := Pipeline.UD sig nD τ)) (c : Thread nD τ) (.dma (vCell (slotOf it))) () vN (vDeliv c sel ka it) j u

/-- Item `it`'s transfers as the issue loop leaves them after `j`: the batch, the blocks and tokens still in hand, the rests. -/
def vIss (j : ℕ) : sProp 𝕄 :=
  iprop(vBatch c sel ka it j 0 ∗ bigSep (Ring.rangeSet 448 j 448) (vHole (F := F) c (slotOf it))
    ∗ bigSep (Ring.rangeSet 448 j 448) (fun t => vTok c ka (vNum it t)) ∗ bigSep (Ring.rangeSet 448 0 j) (vRest c sel ka it))

theorem vLand_on (t : Fin 448) (g : S2x3584x4x128.Idx → Elt F .fp8e4m3) :
    ∀ y : S2x3584x4x128.Idx, y ∈ (vDst (slotOf it) t).view.set → (vDst (slotOf it) t).view.write (Elt F) g (ReadAs.same.apply ((vSrc (rowOf it) (chunkOf (F := F) sel it t)).view.read (Elt F) ka)) Finset.univ y
      = vFull (F := F) sel ka it y := by
  intro y hy
  have hy' := hy
  rw [vDst_set] at hy'
  have e : (⟨(y 1).val / 8, by have : (y 1).val < 3584 := (y 1).isLt; omega⟩ : Fin 448) = t := Fin.ext ((mem_vBlk _ _ _).mp hy').2
  unfold vFull vLand
  rw [e]
  obtain ⟨x, -, rfl⟩ := Finset.mem_map.mp hy
  exact (View.write_emb_of_mem (v := (vDst (slotOf it) t).view) _ _ (Finset.mem_univ x)).trans (View.write_emb_of_mem (v := (vDst (slotOf it) t).view) _ _ (Finset.mem_univ x)).symm

theorem vDeliv_intro (t : Fin 448) (g : S2x3584x4x128.Idx → Elt F .fp8e4m3) :
    iprop(((vDst (slotOf it) t).view.loc (c : Thread nD τ) ↦[(vDst (slotOf it) t).view.set]{fullShare}
        ((vDst (slotOf it) t).view.write (Elt F) g (ReadAs.same.apply ((vSrc (rowOf it) (chunkOf (F := F) sel it t)).view.read (Elt F) ka)) Finset.univ))
      ∗ vRow c sel ka it t) ⊢ (vDeliv c sel ka it t : sProp 𝕄) := by
  unfold vDeliv vDone
  rw [pointsTo_congr (vLand_on sel ka it t g)]

/-- Issue item `it`'s transfer `j`. -/
theorem wp_vIssue {α : Type} {Q : α → sProp 𝕄} (j : ℕ) (hj : j < 448) (offd : Fin 4 → ℕ) (offs : Fin 4 → ℕ) (offc : Fin 1 → ℕ)
    (hd : offd = ![(slotOf it).val, 8 * j, 0, 0]) (hs : offs = ![(rowOf it).val, 8 * (chunkOf (F := F) sel it ⟨j, hj⟩).val, 0, 0])
    (hc : offc = ![(slotOf it).val])
    (inbd : ∀ a, offd a + S1x8x4x128.size a ≤ S2x3584x4x128.size a) (inbs : ∀ a, offs a + S1x8x4x128.size a ≤ S6x65536x4x128.size a) (inbc : ∀ a, offc a + S1.size a ≤ S2.size a)
    {src : Memref sig .tc .hbm S8x4x128 .fp8e4m3} {dst : Memref sig .tc .vmem S8x4x128 .fp8e4m3} {sm : DmaSem sig}
    (esrc : src = ((Memref.whole main_arg5).slice (Rect.unit (s := S6x65536x4x128) offs S1x8x4x128.size inbs) (fun _ => rfl)).squeeze S8x4x128 squeezes_S1x8x4x128_S8x4x128)
    (edst : dst = ((Memref.whole cc0_scratch1).slice (Rect.unit (s := S2x3584x4x128) offd S1x8x4x128.size inbd) (fun _ => rfl)).squeeze S8x4x128 squeezes_S1x8x4x128_S8x4x128)
    (esm : sm = ((cc0_scratch8.slice (Rect.unit (s := S2) offc S1.size inbc)).squeeze S_ squeezes_S1_S_).sem)
    {hsrc : src.view.WordExact} {hdst : dst.view.WordExact} {hsem : DmaTarget.Typed (nD := nD) (τ := τ) (p := (c : Thread nD τ).2) .hbm (SemLoc.dma sm) (.here dst)}
    {k : PUnit → Prog (TpuEff nD τ sig (Elt F) Λ₀ .tc) α} :
    vIss c sel ka it j
      ⊢ iprop((vIss c sel ka it (j + 1) -∗ wp frame (wpE (defs₀ (F := F)) Variants.none (c : Thread nD τ) none) Set.univ (k ⟨⟩) Q)
        -∗ wp frame (wpE (defs₀ (F := F)) Variants.none (c : Thread nD τ) none) Set.univ
            (.op (.enqueueDmaAs src (.here dst) .same (.dma sm) hsrc hdst hsem) k) Q) := by
  subst hd hs hc
  have e1 : src = vSrc (rowOf it) (chunkOf (F := F) sel it ⟨j, hj⟩) := esrc
  have e2 : dst = vDst (slotOf it) ⟨j, hj⟩ := edst
  have e3 : sm = vCell (slotOf it) := esm
  subst e1 e2 e3
  unfold vIss
  rw [Ring.bigSep_rangeSet_head (lo := j) (hi := 448) hj hj, Ring.bigSep_rangeSet_head (lo := j) (hi := 448) hj hj,
    Ring.bigSep_rangeSet_last (NB := 448) (lo := 0) (hi := j + 1) (by omega) (by omega)]
  iintro ⟨HB, ⟨HH, HHs⟩, ⟨HT, HTs⟩, HR⟩ Hk
  ihave HT' := (vTok_split c sel ka it ⟨j, hj⟩).1 $$ HT
  icases HT' with ⟨HRow, HRest⟩
  unfold vHole
  icases HH with ⟨%g, HH⟩
  have hw := wp_issue (Q := Q) c (src := vSrc (rowOf it) (chunkOf (F := F) sel it ⟨j, hj⟩)) (dst := vDst (slotOf it) ⟨j, hj⟩) (sm := vCell (slotOf it))
    (hsrc := hsrc) (hdst := hdst) (hsem := hsem) (k := k) vN (v_amount (slotOf it) (slotOf it) ⟨j, hj⟩) (vRow c sel ka it ⟨j, hj⟩)
    ((vDst (slotOf it) ⟨j, hj⟩).view.loc (c : Thread nD τ) ↦[(vDst (slotOf it) ⟨j, hj⟩).view.set]{fullShare} g) (vDeliv c sel ka it) j hj
    (Transfers.shareTokN fullShare (vNum it ⟨j, hj⟩)) ka g rfl rfl (vDeliv_intro c sel ka it ⟨j, hj⟩ g)
  unfold vBatch
  iapply hw $$ [HRow HH HB]
  · isplitl [HRow]; · iexact HRow
    isplitl [HH]; · iexact HH
    iexact HB
  iintro HB
  iapply Hk
  isplitl [HB]; · iexact HB
  isplitl [HHs]; · iexact HHs
  isplitl [HTs]; · iexact HTs
  isplitl [HRest]; · iexact HRest
  iexact HR

end V

end Cert.KernelIdeal.Hand

end
-- ==== Proof.IFlight.lean ====
/- An item's transfers from start to finish: the blocks, tokens and cell the issue loop starts from, the waits, and what
   the last wait gives back. -/
module

public import proofs.«01_k».proof.Proof.IBatch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Some waits recorded, nothing owed. -/
abbrev owesAny (c : Dev nD) : sProp 𝕄 := iprop(∃ W, owes (c : Thread nD τ) 0 W)

/-- One wait for `q` of a batch's transfers. -/
theorem wp_wait {α : Type} {Q : α → sProp 𝕄} (c : Dev nD) {s s' : Shape} {e e' : EltTy} {sem : DmaSem sig}
    {srcw : Memref sig .tc .hbm s' e'} {dstw : Memref sig .tc .vmem s e} {hsrc : srcw.view.WordExact} {hdst : dstw.view.WordExact}
    {k : PUnit → Prog (TpuEff nD τ sig (Elt F) Λ₀ .tc) α} (N q : ℕ) (hJ : dstw.view.dmaCredit = q * N) {n : ℕ} (D : Fin n → sProp 𝕄) (u : ℕ)
    (hu : u + q * N ≤ N * n) :
    iprop(Transfers.Batch (countersEmb (U := Pipeline.UD sig nD τ)) (c : Thread nD τ) (.dma sem) () N D n u ∗ owesAny c)
      ⊢ iprop((iprop(Transfers.Batch (countersEmb (U := Pipeline.UD sig nD τ)) (c : Thread nD τ) (.dma sem) () N D n (u + q * N) ∗ owesAny c)
          -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  iintro ⟨HB, ⟨%W, HO⟩⟩ Hk
  iapply (Transfers.wp_waitBatchMul (countersEmb (U := Pipeline.UD sig nD τ)) Variants.none (c : Thread nD τ) none () q hJ hu) $$ [HB HO]
  · isplitl [HB]; · iexact HB
    iexact HO
  iintro ⟨HB, HO⟩
  iapply Hk
  isplitl [HB]; · iexact HB
  iexists _; iexact HO

section K

variable (c : Dev nD) (sel : S6x4x448.Idx → Elt F .i32) (ka : S6x65536x160.Idx → Elt F .bf16) (it : Fin 24)

abbrev kBuf : Memref sig .tc .vmem S2x3584x160 .bf16 := Memref.whole cc0_scratch0

/-- Slot `s` at some contents. -/
def kFree (s : Fin 2) : sProp 𝕄 := iprop(∃ f, kBuf.view.loc (c : Thread nD τ) ↦[kSlot s]{fullShare} f)
/-- Slot `s` filled with item `it`'s rows. -/
def kHeld : sProp 𝕄 := kBuf.view.loc (c : Thread nD τ) ↦[kSlot (slotOf it)]{fullShare} kFull (F := F) sel ka it
def kSem0 (s : Fin 2) : sProp 𝕄 := semVal ((c : Thread nD τ), SemLoc.dma (kCell s)) 0
/-- The read tokens of slot `s`'s transfers. -/
def kToks (s : Fin 2) : sProp 𝕄 := bigSep Finset.univ fun t : Fin 448 => kTok c ka (448 * s.val + t.val)

/-- All issued, `u` consumed. -/
def kDrain (u : ℕ) : sProp 𝕄 := iprop(kBatch c sel ka it 448 u ∗ bigSep Finset.univ (kRest c sel ka it))

theorem kHole_intro (s : Fin 2) (t : Fin 448) (f : S2x3584x160.Idx → Elt F .bf16) :
    (kBuf.view.loc (c : Thread nD τ) ↦[kBlk s t]{fullShare} f : sProp 𝕄) ⊢ kHole (F := F) c s t := by
  unfold kHole
  rw [kDst_set]
  iintro H; iexists f; iexact H

theorem kFree_blocks (s : Fin 2) : (kFree c s : sProp 𝕄) ⊢ bigSep Finset.univ (kHole (F := F) c s) := by
  unfold kFree
  iintro ⟨%f, H⟩
  iapply (show (kBuf.view.loc (c : Thread nD τ) ↦[kSlot s]{fullShare} f : sProp 𝕄) ⊢ bigSep Finset.univ (kHole (F := F) c s) from
    (Entails.of_eq (Ring.pointsTo_sub_blocks (ℓ := kBuf.view.loc (c : Thread nD τ)) (q := fullShare) (kBlk s) (kBlk_disjoint s) (kSlot s) (kBlk_cover s) f)).trans
      (BI.bigSep_mono fun t _ => kHole_intro c s t f)) $$ H

theorem kBegin : iprop(kFree c (slotOf it) ∗ kSem0 c (slotOf it) ∗ kToks c ka (slotOf it)) ⊢ (|={Set.univ}=> kIss c sel ka it 0 : sProp 𝕄) := by
  unfold kIss kBatch kSem0 kToks
  iintro ⟨HF, HS, HT⟩
  imod (Transfers.batch_alloc' (countersEmb (U := Pipeline.UD sig nD τ)) (c : Thread nD τ) () kN (kDeliv c sel ka it)) $$ HS with HB
  imodintro
  rw [Ring.rangeSet_univ, Ring.bigSep_rangeSet_empty (lo := 0) (hi := 0) (Nat.le_refl 0)]
  isplitl [HB]; · iexact HB
  isplitl [HF]; · iapply (kFree_blocks c (slotOf it)) $$ HF
  isplitl [HT]; · iexact HT
  iempintro

theorem kIss_all : (kIss c sel ka it 448 : sProp 𝕄) ⊢ kDrain c sel ka it 0 := by
  unfold kIss kDrain
  rw [Ring.rangeSet_univ, Ring.bigSep_rangeSet_empty (lo := 448) (hi := 448) (Nat.le_refl _), Ring.bigSep_rangeSet_empty (lo := 448) (hi := 448) (Nat.le_refl _)]
  iintro ⟨HB, -, -, HR⟩
  isplitl [HB]; · iexact HB
  iexact HR

theorem kDone_all : (bigSep Finset.univ (kDone c sel ka it) : sProp 𝕄) = kHeld c sel ka it := by
  unfold kHeld
  rw [Ring.pointsTo_sub_blocks (ℓ := kBuf.view.loc (c : Thread nD τ)) (q := fullShare) (kBlk (slotOf it)) (kBlk_disjoint (slotOf it)) (kSlot (slotOf it)) (kBlk_cover (slotOf it))]
  refine congrArg (fun Φ => bigSep Finset.univ Φ) (funext fun t => ?_)
  unfold kDone
  rw [kDst_set]
  rfl

theorem kToks_all : iprop(bigSep Finset.univ (kRow c sel ka it) ∗ bigSep Finset.univ (kRest c sel ka it)) ⊢ (kToks c ka (slotOf it) : sProp 𝕄) := by
  unfold kToks
  rw [← BI.bigSep_sep']
  exact BI.bigSep_mono fun t _ => (kTok_split c sel ka it t).2

theorem kCollect : (kDrain c sel ka it (kN * 448) : sProp 𝕄)
    ⊢ |={Set.univ}=> iprop(kHeld c sel ka it ∗ kSem0 c (slotOf it) ∗ kToks c ka (slotOf it)) := by
  unfold kDrain kBatch kSem0
  iintro ⟨HB, HR⟩
  imod (Transfers.batch_collect' (countersEmb (U := Pipeline.UD sig nD τ)) (c : Thread nD τ) (show 0 < kN by decide)) $$ HB with ⟨HD, HS⟩
  imodintro
  ihave HD' := (show (bigSep Finset.univ (kDeliv c sel ka it) : sProp 𝕄) ⊢ iprop(bigSep Finset.univ (kDone c sel ka it) ∗ bigSep Finset.univ (kRow c sel ka it))
    from Entails.of_eq (BI.bigSep_sep' _ _ _)) $$ HD
  icases HD' with ⟨HD1, HD2⟩
  isplitl [HD1]
  · rw [← kDone_all]; iexact HD1
  isplitl [HS]; · iexact HS
  iapply (kToks_all c sel ka it)
  isplitl [HD2]; · iexact HD2
  iexact HR

/-- Waiting for `q` of item `it`'s transfers. -/
theorem wp_kWait {α : Type} {Q : α → sProp 𝕄} (u q : ℕ) (hu : u + q * kN ≤ kN * 448) {s s' : Shape} {e e' : EltTy} {sem : DmaSem sig}
    {srcw : Memref sig .tc .hbm s' e'} {dstw : Memref sig .tc .vmem s e} {hsrc : srcw.view.WordExact} {hdst : dstw.view.WordExact}
    (offc : Fin 1 → ℕ) (hc : offc = ![(slotOf it).val]) (inbc : ∀ a, offc a + S1.size a ≤ S2.size a)
    (esm : sem = ((cc0_scratch7.slice (Rect.unit (s := S2) offc S1.size inbc)).squeeze S_ squeezes_S1_S_).sem)
    (hJ : dstw.view.dmaCredit = q * kN)
    {k : PUnit → Prog (TpuEff nD τ sig (Elt F) Λ₀ .tc) α} :
    iprop(kDrain c sel ka it u ∗ owesAny c)
      ⊢ iprop((iprop(kDrain c sel ka it (u + q * kN) ∗ owesAny c) -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  subst hc
  have e3 : sem = kCell (slotOf it) := esm
  subst e3
  have hw := wp_wait (Q := Q) c (sem := kCell (slotOf it)) (srcw := srcw) (dstw := dstw) (hsrc := hsrc) (hdst := hdst) (k := k) kN q hJ (kDeliv c sel ka it) u hu
  unfold kDrain kBatch
  iintro ⟨⟨HB, HR⟩, HO⟩ Hk
  iapply hw $$ [HB HO]
  · isplitl [HB]; · iexact HB
    iexact HO
  iintro ⟨HB, HO⟩
  iapply Hk
  isplitl [HB HR]
  · isplitl [HB]; · iexact HB
    iexact HR
  iexact HO

end K

section V

variable (c : Dev nD) (sel : S6x4x448.Idx → Elt F .i32) (ka : S6x65536x4x128.Idx → Elt F .fp8e4m3) (it : Fin 24)

abbrev vBuf : Memref sig .tc .vmem S2x3584x4x128 .fp8e4m3 := Memref.whole cc0_scratch1

/-- Slot `s` at some contents. -/
def vFree (s : Fin 2) : sProp 𝕄 := iprop(∃ f, vBuf.view.loc (c : Thread nD τ) ↦[vSlot s]{fullShare} f)
/-- Slot `s` filled with item `it`'s rows. -/
def vHeld : sProp 𝕄 := vBuf.view.loc (c : Thread nD τ) ↦[vSlot (slotOf it)]{fullShare} vFull (F := F) sel ka it
def vSem0 (s : Fin 2) : sProp 𝕄 := semVal ((c : Thread nD τ), SemLoc.dma (vCell s)) 0
/-- The read tokens of slot `s`'s transfers. -/
def vToks (s : Fin 2) : sProp 𝕄 := bigSep Finset.univ fun t : Fin 448 => vTok c ka (448 * s.val + t.val)

/-- All issued, `u` consumed. -/
def vDrain (u : ℕ) : sProp 𝕄 := iprop(vBatch c sel ka it 448 u ∗ bigSep Finset.univ (vRest c sel ka it))

theorem vHole_intro (s : Fin 2) (t : Fin 448) (f : S2x3584x4x128.Idx → Elt F .fp8e4m3) :
    (vBuf.view.loc (c : Thread nD τ) ↦[vBlk s t]{fullShare} f : sProp 𝕄) ⊢ vHole (F := F) c s t := by
  unfold vHole
  rw [vDst_set]
  iintro H; iexists f; iexact H

theorem vFree_blocks (s : Fin 2) : (vFree c s : sProp 𝕄) ⊢ bigSep Finset.univ (vHole (F := F) c s) := by
  unfold vFree
  iintro ⟨%f, H⟩
  iapply (show (vBuf.view.loc (c : Thread nD τ) ↦[vSlot s]{fullShare} f : sProp 𝕄) ⊢ bigSep Finset.univ (vHole (F := F) c s) from
    (Entails.of_eq (Ring.pointsTo_sub_blocks (ℓ := vBuf.view.loc (c : Thread nD τ)) (q := fullShare) (vBlk s) (vBlk_disjoint s) (vSlot s) (vBlk_cover s) f)).trans
      (BI.bigSep_mono fun t _ => vHole_intro c s t f)) $$ H

theorem vBegin : iprop(vFree c (slotOf it) ∗ vSem0 c (slotOf it) ∗ vToks c ka (slotOf it)) ⊢ (|={Set.univ}=> vIss c sel ka it 0 : sProp 𝕄) := by
  unfold vIss vBatch vSem0 vToks
  iintro ⟨HF, HS, HT⟩
  imod (Transfers.batch_alloc' (countersEmb (U := Pipeline.UD sig nD τ)) (c : Thread nD τ) () vN (vDeliv c sel ka it)) $$ HS with HB
  imodintro
  rw [Ring.rangeSet_univ, Ring.bigSep_rangeSet_empty (lo := 0) (hi := 0) (Nat.le_refl 0)]
  isplitl [HB]; · iexact HB
  isplitl [HF]; · iapply (vFree_blocks c (slotOf it)) $$ HF
  isplitl [HT]; · iexact HT
  iempintro

theorem vIss_all : (vIss c sel ka it 448 : sProp 𝕄) ⊢ vDrain c sel ka it 0 := by
  unfold vIss vDrain
  rw [Ring.rangeSet_univ, Ring.bigSep_rangeSet_empty (lo := 448) (hi := 448) (Nat.le_refl _), Ring.bigSep_rangeSet_empty (lo := 448) (hi := 448) (Nat.le_refl _)]
  iintro ⟨HB, -, -, HR⟩
  isplitl [HB]; · iexact HB
  iexact HR

theorem vDone_all : (bigSep Finset.univ (vDone c sel ka it) : sProp 𝕄) = vHeld c sel ka it := by
  unfold vHeld
  rw [Ring.pointsTo_sub_blocks (ℓ := vBuf.view.loc (c : Thread nD τ)) (q := fullShare) (vBlk (slotOf it)) (vBlk_disjoint (slotOf it)) (vSlot (slotOf it)) (vBlk_cover (slotOf it))]
  refine congrArg (fun Φ => bigSep Finset.univ Φ) (funext fun t => ?_)
  unfold vDone
  rw [vDst_set]
  rfl

theorem vToks_all : iprop(bigSep Finset.univ (vRow c sel ka it) ∗ bigSep Finset.univ (vRest c sel ka it)) ⊢ (vToks c ka (slotOf it) : sProp 𝕄) := by
  unfold vToks
  rw [← BI.bigSep_sep']
  exact BI.bigSep_mono fun t _ => (vTok_split c sel ka it t).2

theorem vCollect : (vDrain c sel ka it (vN * 448) : sProp 𝕄)
    ⊢ |={Set.univ}=> iprop(vHeld c sel ka it ∗ vSem0 c (slotOf it) ∗ vToks c ka (slotOf it)) := by
  unfold vDrain vBatch vSem0
  iintro ⟨HB, HR⟩
  imod (Transfers.batch_collect' (countersEmb (U := Pipeline.UD sig nD τ)) (c : Thread nD τ) (show 0 < vN by decide)) $$ HB with ⟨HD, HS⟩
  imodintro
  ihave HD' := (show (bigSep Finset.univ (vDeliv c sel ka it) : sProp 𝕄) ⊢ iprop(bigSep Finset.univ (vDone c sel ka it) ∗ bigSep Finset.univ (vRow c sel ka it))
    from Entails.of_eq (BI.bigSep_sep' _ _ _)) $$ HD
  icases HD' with ⟨HD1, HD2⟩
  isplitl [HD1]
  · rw [← vDone_all]; iexact HD1
  isplitl [HS]; · iexact HS
  iapply (vToks_all c sel ka it)
  isplitl [HD2]; · iexact HD2
  iexact HR

/-- Waiting for `q` of item `it`'s transfers. -/
theorem wp_vWait {α : Type} {Q : α → sProp 𝕄} (u q : ℕ) (hu : u + q * vN ≤ vN * 448) {s s' : Shape} {e e' : EltTy} {sem : DmaSem sig}
    {srcw : Memref sig .tc .hbm s' e'} {dstw : Memref sig .tc .vmem s e} {hsrc : srcw.view.WordExact} {hdst : dstw.view.WordExact}
    (offc : Fin 1 → ℕ) (hc : offc = ![(slotOf it).val]) (inbc : ∀ a, offc a + S1.size a ≤ S2.size a)
    (esm : sem = ((cc0_scratch8.slice (Rect.unit (s := S2) offc S1.size inbc)).squeeze S_ squeezes_S1_S_).sem)
    (hJ : dstw.view.dmaCredit = q * vN)
    {k : PUnit → Prog (TpuEff nD τ sig (Elt F) Λ₀ .tc) α} :
    iprop(vDrain c sel ka it u ∗ owesAny c)
      ⊢ iprop((iprop(vDrain c sel ka it (u + q * vN) ∗ owesAny c) -∗ wp frame (wpE (defs₀ (F := F)) Variants.none (c : Thread nD τ) none) Set.univ (k ⟨⟩) Q)
        -∗ wp frame (wpE (defs₀ (F := F)) Variants.none (c : Thread nD τ) none) Set.univ
            (.op (.waitDma2 sem srcw dstw hsrc hdst) k) Q) := by
  subst hc
  have e3 : sem = vCell (slotOf it) := esm
  subst e3
  have hw := wp_wait (Q := Q) c (sem := vCell (slotOf it)) (srcw := srcw) (dstw := dstw) (hsrc := hsrc) (hdst := hdst) (k := k) vN q hJ (vDeliv c sel ka it) u hu
  unfold vDrain vBatch
  iintro ⟨⟨HB, HR⟩, HO⟩ Hk
  iapply hw $$ [HB HO]
  · isplitl [HB]; · iexact HB
    iexact HO
  iintro ⟨HB, HO⟩
  iapply Hk
  isplitl [HB HR]
  · isplitl [HB]; · iexact HB
    iexact HR
  iexact HO

end V

end Cert.KernelIdeal.Hand

end
-- ==== Proof.IIssue.lean ====
/- The issue loops and the wait loop over an item's transfers. -/
module

public import proofs.«01_k».proof.Proof.IFlight
public import proofs.«01_k».proof.Proof.Gen.KernelIdeal.Loops

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The item of a grid point, and the next one. -/
def itOf (i : grid0.Coords) : Fin 24 := ⟨(i 0).val, (i 0).isLt⟩
def nxtOf (i : grid0.Coords) : Fin 24 := ⟨((i 0).val + 1) % 24, Nat.mod_lt _ (by decide)⟩

set_option maxRecDepth 100000 in
theorem off1_closed : ∀ (k0_t1 : Fin k0_t1_loop.trips) (k0_t2 : Fin k0_t2_loop.trips), k0_off1 k0_t1 k0_t2 = ![0, 0, 64 * k0_t1.val + k0_t2.val] := by decide +kernel
set_option maxRecDepth 100000 in
theorem off2_closed : ∀ (k0_t1 : Fin k0_t1_loop.trips) (k0_t2 : Fin k0_t2_loop.trips), k0_off2 k0_t1 k0_t2 = ![0, 8 * (64 * k0_t1.val + k0_t2.val), 0] := by decide +kernel
set_option maxRecDepth 100000 in
theorem off4_closed : ∀ (k0_t1 : Fin k0_t1_loop.trips) (k0_t2 : Fin k0_t2_loop.trips), k0_off4 k0_t1 k0_t2 = ![0, 8 * (64 * k0_t1.val + k0_t2.val), 0, 0] := by decide +kernel

/-- The word a scalar load at an item's own offsets reads is the item's word. -/
theorem selW_read (sel : S6x4x448.Idx → Elt F .i32) (it : Fin 24) (t : Fin 448) (off : Fin 3 → ℕ) (h : off = ![(rowOf it).val, (headOf it).val, t.val])
    (inb : ∀ a, off a + S1x1x1.size a ≤ S6x4x448.size a) (hne : 0 < S1x1x1.numel) :
    tabM.view.readAt (Elt F) (Rect.unit (s := S6x4x448) off S1x1x1.size inb).toLoadRect sel (Shape.Idx.first hne) = selW (F := F) sel it t := by
  subst h; rfl

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)

/-- The table, readable. -/
abbrev tabPt : sProp 𝕄 := tabM.view.loc (c : Thread nD τ) ↦{q} sel

/-- `j` of item `it`'s transfers of either array issued. -/
def issInv (it : Fin 24) (j : ℕ) : sProp 𝕄 := iprop(kIss c sel ka it j ∗ vIss c sel va it j ∗ tabPt (F := F) c sel q)

theorem t2_step (hsel : SelOK (F := F) sel) (h1 : k0_cond1 i = 1#1) (t1 : Fin k0_t1_loop.trips) (k : Fin k0_t2_loop.trips) (acc : Unit) :
    issInv c sel ka va q 0 (64 * t1.val + k.val) ⊢ wp frame (wpE (defs₀ (F := F)) Variants.none (c : Thread nD τ) none) Set.univ
      (k0_t2_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1 t1 k acc) (fun _ => issInv c sel ka va q 0 (64 * t1.val + (k.val + 1))) := by
  have ht1 := t1_lt t1; have hk := t2_lt k
  have hj : 64 * t1.val + k.val < 448 := by omega
  unfold issInv
  iintro ⟨HK, HV, HT⟩
  dsimp only [k0_t2_body]
  sl_exec
  have hr : t2_step.sl.r i sel h1 t1 k = selW (F := F) sel 0 ⟨64 * t1.val + k.val, hj⟩ := by
    unfold t2_step.sl.r
    exact selW_read sel 0 ⟨64 * t1.val + k.val, hj⟩ _ (off1_closed t1 k) _ _
  have hlt := (selW_range hsel 0 ⟨64 * t1.val + k.val, hj⟩).2
  generalize t2_step.sl.r i sel h1 t1 k = w at *
  subst hr
  iapply (wp_assume Variants.none (c : Thread nD τ) none Set.univ (chk1_holds i t1 k _ hlt))
  iapply (wp_kIssue c sel ka 0 (64 * t1.val + k.val) hj _ _ _ (off2_closed t1 k)
    ((off3_closed t1 k _ hlt).trans (by rw [chunkOf_val hsel]; rfl)) rfl _ _ _ rfl rfl rfl) $$ HK
  iintro HK
  iapply (wp_vIssue c sel va 0 (64 * t1.val + k.val) hj _ _ _ (off4_closed t1 k)
    ((off5_closed t1 k _ hlt).trans (by rw [chunkOf_val hsel]; rfl)) rfl _ _ _ rfl rfl rfl) $$ HV
  iintro HV
  dsimp only [Prog.bind, Pure.pure]
  sl_step
  isplitl [HK]; · iexact HK
  isplitl [HV]; · iexact HV
  iexact HT

theorem t1_step (hsel : SelOK (F := F) sel) (h1 : k0_cond1 i = 1#1) (k : Fin k0_t1_loop.trips) (acc : Unit) :
    issInv c sel ka va q 0 (64 * k.val) ⊢ wp frame (wpE (defs₀ (F := F)) Variants.none (c : Thread nD τ) none) Set.univ
      (k0_t1_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1 k acc) (fun _ => issInv c sel ka va q 0 (64 * (k.val + 1))) := by
  iintro H
  dsimp only [k0_t1_body]
  sl_for (fun k' _ => issInv c sel ka va q 0 (64 * k.val + k')) $$ [H]
  · intro k' acc'; exact t2_step c i h4 h5 h6 h7 h8 h9 h10 h11 h14 h15 h16 sel ka va q hsel h1 k k' acc'
  · rw [Nat.add_zero]; iexact H
  iintro %acc H
  dsimp only [Prog.bind, Pure.pure]
  sl_step
  rw [show 64 * k.val + Scf.trips k0_t2_loop.lb k0_t2_loop.ub k0_t2_loop.st = 64 * (k.val + 1) by rw [show Scf.trips k0_t2_loop.lb k0_t2_loop.ub k0_t2_loop.st = 64 by decide]; omega]
  iexact H

set_option warn.classDefReducibility false in
@[sl_loop] def t1Inv (hsel : SelOK (F := F) sel) (h1 : k0_cond1 i = 1#1) :
    LoopInv (M := 𝕄) frame (wpE (defs₀ (F := F)) Variants.none (c : Thread nD τ) none) Set.univ k0_t1_loop.lb k0_t1_loop.ub k0_t1_loop.st (k0_t1_ok i h1) ()
      (k0_t1_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 h1) where
  inv := fun k _ => issInv c sel ka va q 0 (64 * k)
  step := t1_step c i h4 h5 h6 h7 h8 h9 h10 h11 h14 h15 h16 sel ka va q hsel h1

/-! The same for the next item, from the middle of an item's computation. -/

theorem nxt_val (h2 : k0_cond2 i = 1#1) : (nxtOf i).val = (i 0).val + 1 := Nat.mod_eq_of_lt ((cond2_iff i).mp h2)

variable (g0 g16 g26 g36 : BitVec 32) (w41 w43 : Elt F .i32) (w71 : FVec F S8x128 .bf16) (w82 : FVec F S4x128 .bf16)

theorem t5_step (hsel : SelOK (F := F) sel) (h2 : k0_cond2 i = 1#1) (t4 : Fin k0_t4_loop.trips) (k : Fin k0_t5_loop.trips) (acc : Unit) :
    issInv c sel ka va q (nxtOf i) (64 * t4.val + k.val) ⊢ wp frame (wpE (defs₀ (F := F)) Variants.none (c : Thread nD τ) none) Set.univ
      (k0_t5_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4 h2 k acc) (fun _ => issInv c sel ka va q (nxtOf i) (64 * t4.val + (k.val + 1))) := by
  have ht1 := t4_lt t4; have hk := t5_lt k
  have hj : 64 * t4.val + k.val < 448 := by omega
  have hn := nxt_val i h2
  have hlt24 : (i 0).val < 24 := (i 0).isLt
  have hs : (slotOf (nxtOf i)).val = 1 - (i 0).val % 2 := by show (nxtOf i).val % 2 = _; omega
  have hrow : (rowOf (nxtOf i)).val = ((i 0).val + 1) / 4 := by show (nxtOf i).val / 4 = _; omega
  have hhead : (headOf (nxtOf i)).val = ((i 0).val + 1) % 4 := by show (nxtOf i).val % 4 = _; omega
  unfold issInv
  iintro ⟨HK, HV, HT⟩
  dsimp only [k0_t5_body]
  sl_exec
  have hr : t5_step.sl.r i sel h2 t4 k = selW (F := F) sel (nxtOf i) ⟨64 * t4.val + k.val, hj⟩ := by
    unfold t5_step.sl.r
    exact selW_read sel (nxtOf i) ⟨64 * t4.val + k.val, hj⟩ _ ((off11_closed i t4 k h2).trans (by rw [hrow, hhead])) _ _
  have hlt := (selW_range hsel (nxtOf i) ⟨64 * t4.val + k.val, hj⟩).2
  generalize t5_step.sl.r i sel h2 t4 k = w at *
  subst hr
  iapply (wp_assume Variants.none (c : Thread nD τ) none Set.univ (chk2_holds i t4 k _ hlt))
  iapply (wp_kIssue c sel ka (nxtOf i) (64 * t4.val + k.val) hj _ _ _ ((k0_off13_closed i t4 k).trans (by rw [hs]))
    ((off14_closed i t4 k h2 _ hlt).trans (by rw [chunkOf_val hsel, hrow])) ((off12_closed i).trans (by rw [hs])) _ _ _ rfl rfl rfl) $$ HK
  iintro HK
  iapply (wp_vIssue c sel va (nxtOf i) (64 * t4.val + k.val) hj _ _ _ ((k0_off15_closed i t4 k).trans (by rw [hs]))
    ((off16_closed i t4 k h2 _ hlt).trans (by rw [chunkOf_val hsel, hrow])) ((off12_closed i).trans (by rw [hs])) _ _ _ rfl rfl rfl) $$ HV
  iintro HV
  dsimp only [Prog.bind, Pure.pure]
  sl_step
  isplitl [HK]; · iexact HK
  isplitl [HV]; · iexact HV
  iexact HT

/-- Waiting for item `it`'s transfers of K, one at a time. -/
theorem t3_step (k : Fin k0_t3_loop.trips) (acc : Unit) :
    iprop(kDrain c sel ka (itOf i) (k.val * kN) ∗ owesAny c) ⊢ wp frame (wpE (defs₀ (F := F)) Variants.none (c : Thread nD τ) none) Set.univ
      (k0_t3_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 k acc) (fun _ => iprop(kDrain c sel ka (itOf i) ((k.val + 1) * kN) ∗ owesAny c)) := by
  have hk := t3_lt k
  iintro H
  dsimp only [k0_t3_body]
  iapply (wp_kWait c sel ka (itOf i) (k.val * kN) 1 (by simp only [kN]; omega) _ (off9_closed i) _ rfl rfl) $$ H
  iintro H
  dsimp only [Prog.bind, Pure.pure]
  sl_step
  rw [show (k.val + 1) * kN = k.val * kN + 1 * kN by simp only [kN]; omega]
  iexact H

set_option warn.classDefReducibility false in
@[sl_loop] def t3Inv :
    LoopInv (M := 𝕄) frame (wpE (defs₀ (F := F)) Variants.none (c : Thread nD τ) none) Set.univ k0_t3_loop.lb k0_t3_loop.ub k0_t3_loop.st k0_t3_ok ()
      (k0_t3_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82) where
  inv := fun k _ => iprop(kDrain c sel ka (itOf i) (k * kN) ∗ owesAny c)
  step := t3_step c i h4 h5 h6 h7 h8 h9 h10 h11 h14 h15 h16 sel ka g0 g16 g26 g36 w41 w43 w71 w82

end Cert.KernelIdeal.Hand

end
-- ==== Proof.ISpec.lean ====
/- What the scratch of an item holds: the positions, the queries and the scores. -/
module

public import proofs.«01_k».proof.Proof.IIssue
public import Idealize.ShloMosaic.Lib.Pointwise
public import Idealize.ShloMosaic.Lib.Writes

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- The position in its chunk of each of a block's tokens, and the chunk words' high and low parts. -/
abbrev laneJ : IVec S24x512 32 := k0_pay12 8#32 k0_pay8 k0_pay9 k0_pay10 k0_pay11

/-- The token positions of a block of 512, as the first item computes them. -/
def tokB (X : Vec F S24x448 .i32) : Fin 7 → IVec S24x512 32
  | 0 => k0_pay16 (F := F) k0_pay7 8#32 k0_pay8 k0_pay9 k0_pay10 k0_pay11 X
  | 1 => k0_pay22 (F := F) k0_pay7 laneJ (k0_pay14 X) (k0_pay15 X)
  | 2 => k0_pay29 (F := F) laneJ (k0_pay27 k0_pay7 (k0_pay14 X)) (k0_pay28 k0_pay7 (k0_pay15 X))
  | 3 => k0_pay34 (F := F) k0_pay7 laneJ (k0_pay14 X) (k0_pay15 X)
  | 4 => k0_pay40 (F := F) k0_pay7 laneJ (k0_pay14 X) (k0_pay15 X)
  | 5 => k0_pay46 (F := F) k0_pay7 laneJ (k0_pay14 X) (k0_pay15 X)
  | 6 => k0_pay52 (F := F) k0_pay7 laneJ (k0_pay14 X) (k0_pay15 X)

/-- The token positions, tile by tile. -/
def tokG (X : Vec F S24x448 .i32) : S28x24x128.Idx → Elt F .i32 := fun y =>
  tokB X ⟨(y 0).val / 4, by have : (y 0).val < 28 := (y 0).isLt; omega⟩ (ix2 (y 1) ⟨128 * ((y 0).val % 4) + (y 2).val, by have : (y 2).val < 128 := (y 2).isLt; omega⟩)

/-- The queries, head by head. -/
def qG (X : Vec F S6x3584 .bf16) : S28x6x128.Idx → Elt F .f32 := fun y =>
  FloatOps.extf .f32 bitsLt_bf16_f32 (X (ix2 (y 1) ⟨128 * (y 0).val + (y 2).val, by have : (y 0).val < 28 := (y 0).isLt; have : (y 2).val < 128 := (y 2).isLt; omega⟩))

theorem tokG_at (X : Vec F S24x448 .i32) (y : S28x24x128.Idx) (b : Fin 7) (q : ℕ) (z : S24x512.Idx) (hb : (y 0).val = 4 * b.val + q) (hq : q < 4)
    (h1 : (z 0).val = (y 1).val) (h2 : (z 1).val = 128 * q + (y 2).val) : tokB X b z = tokG X y := by
  unfold tokG
  have e : (⟨(y 0).val / 4, by have : (y 0).val < 28 := (y 0).isLt; omega⟩ : Fin 7) = b := Fin.ext (show (y 0).val / 4 = b.val by omega)
  rw [e]
  refine congrArg _ ?_
  funext a
  match a with
  | ⟨0, _⟩ => exact Fin.ext h1
  | ⟨1, _⟩ => exact Fin.ext (show (z 1).val = 128 * ((y 0).val % 4) + (y 2).val by omega)

theorem qG_at (X : Vec F S6x3584 .bf16) (y : S28x6x128.Idx) (z : S6x3584.Idx) (h1 : (z 0).val = (y 1).val) (h2 : (z 1).val = 128 * (y 0).val + (y 2).val) :
    FloatOps.extf .f32 bitsLt_bf16_f32 (X z) = qG X y := by
  unfold qG
  refine congrArg (fun w => FloatOps.extf .f32 bitsLt_bf16_f32 (X w)) ?_
  funext a
  match a with
  | ⟨0, _⟩ => exact Fin.ext h1
  | ⟨1, _⟩ => exact Fin.ext h2

theorem forall_mem_cons' {α : Type*} {p : α → Prop} {a : α} {l : List α} (h : p a) (h' : ∀ x ∈ l, p x) : ∀ x ∈ a :: l, p x :=
  List.forall_mem_cons.2 ⟨h, h'⟩

theorem exists_mem_here {α : Type*} {p : α → Prop} {a : α} {l : List α} (h : p a) : ∃ x ∈ a :: l, p x := ⟨a, List.mem_cons_self, h⟩
theorem exists_mem_next {α : Type*} {p : α → Prop} {a : α} {l : List α} (h : ∃ x ∈ l, p x) : ∃ x ∈ a :: l, p x :=
  h.elim fun x hx => ⟨x, List.mem_cons_of_mem _ hx.1, hx.2⟩

/-- A page of a three-way array holds the elements of its number. -/
theorem mem_page {N A B : ℕ} (n : ℕ) (hb) (y : (⟨3, ![N, A, B]⟩ : Shape).Idx) (h : (y 0).val = n) :
    y ∈ (Rect.unit (s := ⟨3, ![N, A, B]⟩) ![n, 0, 0] ![1, A, B] hb).set := by
  rw [Rect.mem_set_unit]
  intro a
  match a with
  | ⟨0, _⟩ => exact ⟨(show n ≤ (y 0).val by omega), (show (y 0).val < n + 1 by omega)⟩
  | ⟨1, _⟩ => exact ⟨Nat.zero_le _, (show (y 1).val < 0 + A by have : (y 1).val < A := (y 1).isLt; omega)⟩
  | ⟨2, _⟩ => exact ⟨Nat.zero_le _, (show (y 2).val < 0 + B by have : (y 2).val < B := (y 2).isLt; omega)⟩

theorem off21_closed : ∀ (i : grid0.Coords) (k0_t4 : Fin k0_t4_loop.trips) (k0_t7 : Fin k0_t7_loop.trips), k0_off21 i k0_t4 k0_t7 = ![4 * k0_t4.val + k0_t7.val, (i 0).val, 0] := by decide +kernel
theorem off22_closed : ∀ (k0_t4 : Fin k0_t4_loop.trips) (k0_t7 : Fin k0_t7_loop.trips), k0_off22 k0_t4 k0_t7 = ![4 * k0_t4.val + k0_t7.val, 0, 0] := by decide +kernel

/-- The scores of a tile of 128 tokens from its K rows, its positions, the query, the head's factor and the frequencies. -/
def scoT (w41 w43 : Elt F .i32) (w71 : FVec F S8x128 .bf16) (v102 : Vec F S1x160x128 .bf16) (k : Vec F S1x128x160 .bf16) (t : Vec F S1x1x128 .i32) (r0 r1 r2 r3 r4 r5 r6 r7 : Vec F S8x128 .f32) : FVec F S8x128 .f32 :=
  k0_pay129 w41 w71 (k0_pay90 (k0_pay154 v102) k) (k0_pay91 t) (k0_pay92 w43 t) (k0_pay98 w43 (k0_pay154 v102) k t r0) (k0_pay99 w43 (k0_pay154 v102) k t r0)
    (k0_pay105 (k0_pay90 (k0_pay154 v102) k) (k0_pay100 w43 t r1)) (k0_pay106 (k0_pay90 (k0_pay154 v102) k) (k0_pay100 w43 t r1))
    (k0_pay112 (k0_pay90 (k0_pay154 v102) k) (k0_pay92 w43 t) r2) (k0_pay113 (k0_pay90 (k0_pay154 v102) k) (k0_pay92 w43 t) r2)
    (k0_pay119 (k0_pay90 (k0_pay154 v102) k) (k0_pay92 w43 t) r3) (k0_pay120 (k0_pay90 (k0_pay154 v102) k) (k0_pay92 w43 t) r3)
    (k0_pay126 (k0_pay90 (k0_pay154 v102) k) (k0_pay92 w43 t) r4) (k0_pay127 (k0_pay90 (k0_pay154 v102) k) (k0_pay92 w43 t) r4)
    (k0_pay128 (k0_pay92 w43 t) r5) r6 r7

/-- The K rows of tile `n` of item `it`, and its tokens' positions. -/
def kTile (sel : S6x4x448.Idx → Elt F .i32) (ka : S6x65536x160.Idx → Elt F .bf16) (it : Fin 24) (n : Fin 28) : Vec F S1x128x160 .bf16 :=
  fun x => kFull (F := F) sel ka it (ix3 (slotOf it) ⟨128 * n.val + (x 1).val, by have := n.isLt; have : (x 1).val < 128 := (x 1).isLt; omega⟩ (x 2))
def tTile (X : Vec F S24x448 .i32) (it : Fin 24) (n : Fin 28) : Vec F S1x1x128 .i32 := fun x => tokG X (ix3 n it (x 2))

/-- The scores, tile by tile. -/
def scoG (sel : S6x4x448.Idx → Elt F .i32) (ka : S6x65536x160.Idx → Elt F .bf16) (X : Vec F S24x448 .i32) (it : Fin 24) (w41 w43 : Elt F .i32) (w71 : FVec F S8x128 .bf16) (v102 : Vec F S1x160x128 .bf16)
    (r0 r1 r2 r3 r4 r5 r6 r7 : Vec F S8x128 .f32) : S28x8x128.Idx → Elt F .f32 :=
  fun y => scoT w41 w43 w71 v102 (kTile sel ka it (y 0)) (tTile X it (y 0)) r0 r1 r2 r3 r4 r5 r6 r7 (ix2 (y 1) (y 2))

/-- The probabilities as the window holds them: tile by tile, then the new token's. -/
def probG (p : FVec F S28x8x128 .f32) (pn : FVec F S8x1 .f32) : S1x1x7x3585.Idx → Elt F .f32 := fun y =>
  if h : (y 3).val < 3584 then p (ix3 ⟨(y 3).val / 128, by omega⟩ ⟨(y 2).val, by have : (y 2).val < 7 := (y 2).isLt; omega⟩ ⟨(y 3).val % 128, by omega⟩)
  else pn (ix2 ⟨(y 2).val, by have : (y 2).val < 7 := (y 2).isLt; omega⟩ 0)

theorem probG_at (p : FVec F S28x8x128 .f32) (pn : FVec F S8x1 .f32) (y : S1x1x7x3585.Idx) (z : S28x8x128.Idx) (h1 : (z 1).val = (y 2).val) (h2 : 128 * (z 0).val + (z 2).val = (y 3).val) : p z = probG p pn y := by
  have z0 : (z 0).val < 28 := (z 0).isLt
  have z2 : (z 2).val < 128 := (z 2).isLt
  unfold probG
  rw [dif_pos (by omega)]
  refine congrArg p ?_
  funext a
  match a with
  | ⟨0, _⟩ => exact Fin.ext (by show (z 0).val = (y 3).val / 128; omega)
  | ⟨1, _⟩ => exact Fin.ext h1
  | ⟨2, _⟩ => exact Fin.ext (by show (z 2).val = (y 3).val % 128; omega)

theorem probG_new (p : FVec F S28x8x128 .f32) (pn : FVec F S8x1 .f32) (y : S1x1x7x3585.Idx) (z : S8x1.Idx) (h1 : (z 0).val = (y 2).val) (h2 : 3584 ≤ (y 3).val) : pn z = probG p pn y := by
  have z1 : (z 1).val < 1 := (z 1).isLt
  unfold probG
  rw [dif_neg (by omega)]
  refine congrArg pn ?_
  funext a
  match a with
  | ⟨0, _⟩ => exact Fin.ext h1
  | ⟨1, _⟩ => exact Fin.ext (by show (z 1).val = 0; omega)

/-- One more store of `W` lanes behind the first `o`. -/
theorem probs_step {sp : Space} (v : View sig .tc sp S1x1x7x3585 .f32) (f : v.ty.Contents (Elt F)) (o W : ℕ) (inb : ∀ a, (![0, 0, 0, o] : Fin 4 → ℕ) a + (![1, 1, 7, W] : Fin 4 → ℕ) a ≤ S1x1x7x3585.size a)
    (w : (⟨4, ![1, 1, 7, W]⟩ : Shape).Idx → Elt F .f32) (L : List (View.Piece (Elt F) S1x1x7x3585 .f32)) (P : S1x1x7x3585.Idx → Elt F .f32)
    (hw : ∀ (r : Fin 7) (l : Fin W) (hl : o + l.val < 3585), w (ix4 0 0 r l) = P (ix4 0 0 r ⟨o + l.val, hl⟩))
    (hL : ∀ y, (y 3).val < o → v.read (Elt F) (v.writes (Elt F) f L) y = P y) (y : S1x1x7x3585.Idx) (hy : (y 3).val < o + W) :
    v.read (Elt F) (v.writes (Elt F) f (⟨Rect.unit (s := S1x1x7x3585) ![0, 0, 0, o] ![1, 1, 7, W] inb, w⟩ :: L)) y = P y := by
  have y0 : (y 0).val < 1 := (y 0).isLt
  have y1 : (y 1).val < 1 := (y 1).isLt
  have y3 : (y 3).val < 3585 := (y 3).isLt
  by_cases e : (y 3).val < o
  · exact (View.read_writes_cons_miss_of_axis _ _ _ _ y 3 o W rfl rfl rfl (Or.inl e)).trans (hL y e)
  · have hb : (y 3).val - o < W := by omega
    refine (View.read_writes_cons_hit _ _ _ _ _ (ix4 0 0 (y 2) ⟨(y 3).val - o, hb⟩) y ?_).trans ?_
    · funext a
      match a with
      | ⟨0, _⟩ => exact Fin.ext (by show 0 + 1 * 0 = (y 0).val; omega)
      | ⟨1, _⟩ => exact Fin.ext (by show 0 + 1 * 0 = (y 1).val; omega)
      | ⟨2, _⟩ => exact Fin.ext (by show 0 + 1 * (y 2).val = (y 2).val; omega)
      | ⟨3, _⟩ => exact Fin.ext (by show o + 1 * ((y 3).val - o) = (y 3).val; omega)
    · refine (hw (y 2) ⟨(y 3).val - o, hb⟩ (by show o + ((y 3).val - o) < 3585; omega)).trans (congrArg P ?_)
      funext a
      match a with
      | ⟨0, _⟩ => exact Fin.ext (by show 0 = (y 0).val; omega)
      | ⟨1, _⟩ => exact Fin.ext (by show 0 = (y 1).val; omega)
      | ⟨2, _⟩ => rfl
      | ⟨3, _⟩ => exact Fin.ext (by show o + ((y 3).val - o) = (y 3).val; omega)

end Cert.KernelIdeal.Hand

end
-- ==== Proof.IStage.lean ====
/- The loops of one item: its angle rows, its scores and its weighted sum. -/
module

public import proofs.«01_k».proof.Proof.ISpec

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem kLoad_sub (s : Fin 2) (off : Fin S2x3584x160.rank → ℕ) (sz : Shape) (hr : sz.rank = S2x3584x160.rank) (size : Fin S2x3584x160.rank → ℕ) (inb : ∀ a, off a + size a ≤ S2x3584x160.size a)
    (h0 : off 0 = s.val) (h1 : size 0 = 1) : (kBuf.access (Rect.unit (s := S2x3584x160) off size inb)).set ⊆ kSlot s := by
  intro y hy
  rw [show (kBuf.access (Rect.unit (s := S2x3584x160) off size inb)).set = (Rect.unit (s := S2x3584x160) off size inb).set from View.set_slice_whole _ _, Rect.mem_set_unit] at hy
  have a0 := hy 0
  rw [h0, h1] at a0
  simp only [kSlot, Finset.mem_filter, Finset.mem_univ, true_and]
  omega

theorem wp_kLoad {α : Type} {Q : α → sProp 𝕄} (c : Dev nD) (s : Fin 2) (f : S2x3584x160.Idx → Elt F .bf16) (off : Fin S2x3584x160.rank → ℕ) (inb : ∀ a, off a + S1x128x160.size a ≤ S2x3584x160.size a)
    (h0 : off 0 = s.val) (hl : kBuf.view.LoadsAt (Rect.unit (s := S2x3584x160) off S1x128x160.size inb).toLoadRect)
    (k : (S1x128x160.Idx → Elt F .bf16) → Prog (TpuEff nD τ sig (Elt F) Λ₀ .tc) α) :
    (kBuf.view.loc (c : Thread nD τ) ↦[kSlot s]{fullShare} f)
      ⊢ iprop(((kBuf.view.loc (c : Thread nD τ) ↦[kSlot s]{fullShare} f)
          -∗ wp frame (wpE (defs₀ (F := F)) Variants.none (c : Thread nD τ) none) Set.univ (k (kBuf.view.readAt (Elt F) (Rect.unit (s := S2x3584x160) off S1x128x160.size inb).toLoadRect f)) Q)
        -∗ wp frame (wpE (defs₀ (F := F)) Variants.none (c : Thread nD τ) none) Set.univ (.op (.load kBuf (Rect.unit (s := S2x3584x160) off S1x128x160.size inb).toLoadRect hl) k) Q) :=
  wp_load_rect Variants.none (c : Thread nD τ) none Set.univ (m := kBuf) (r := Rect.unit (s := S2x3584x160) off S1x128x160.size inb) (hl := hl) (k := k) (kLoad_sub s off S1x128x160 rfl S1x128x160.size inb h0 rfl)

theorem vLoad_sub (s : Fin 2) (off : Fin S2x3584x4x128.rank → ℕ) (sz : Shape) (hr : sz.rank = S2x3584x4x128.rank) (size : Fin S2x3584x4x128.rank → ℕ) (inb : ∀ a, off a + size a ≤ S2x3584x4x128.size a)
    (h0 : off 0 = s.val) (h1 : size 0 = 1) : (vBuf.access (Rect.unit (s := S2x3584x4x128) off size inb)).set ⊆ vSlot s := by
  intro y hy
  rw [show (vBuf.access (Rect.unit (s := S2x3584x4x128) off size inb)).set = (Rect.unit (s := S2x3584x4x128) off size inb).set from View.set_slice_whole _ _, Rect.mem_set_unit] at hy
  have a0 := hy 0
  rw [h0, h1] at a0
  simp only [vSlot, Finset.mem_filter, Finset.mem_univ, true_and]
  omega

theorem wp_vLoad {α : Type} {Q : α → sProp 𝕄} (c : Dev nD) (s : Fin 2) (f : S2x3584x4x128.Idx → Elt F .fp8e4m3) (off : Fin S2x3584x4x128.rank → ℕ) (inb : ∀ a, off a + S1x128x1x128.size a ≤ S2x3584x4x128.size a)
    (h0 : off 0 = s.val) (hl : vBuf.view.LoadsAt (Rect.unit (s := S2x3584x4x128) off S1x128x1x128.size inb).toLoadRect)
    (k : (S1x128x1x128.Idx → Elt F .fp8e4m3) → Prog (TpuEff nD τ sig (Elt F) Λ₀ .tc) α) :
    (vBuf.view.loc (c : Thread nD τ) ↦[vSlot s]{fullShare} f)
      ⊢ iprop(((vBuf.view.loc (c : Thread nD τ) ↦[vSlot s]{fullShare} f)
          -∗ wp frame (wpE (defs₀ (F := F)) Variants.none (c : Thread nD τ) none) Set.univ (k (vBuf.view.readAt (Elt F) (Rect.unit (s := S2x3584x4x128) off S1x128x1x128.size inb).toLoadRect f)) Q)
        -∗ wp frame (wpE (defs₀ (F := F)) Variants.none (c : Thread nD τ) none) Set.univ (.op (.load vBuf (Rect.unit (s := S2x3584x4x128) off S1x128x1x128.size inb).toLoadRect hl) k) Q) :=
  wp_load_rect Variants.none (c : Thread nD τ) none Set.univ (m := vBuf) (r := Rect.unit (s := S2x3584x4x128) off S1x128x1x128.size inb) (hl := hl) (k := k) (vLoad_sub s off S1x128x1x128 rfl S1x128x1x128.size inb h0 rfl)

/-- A bind in the notation the executor reads. -/
theorem prog_bind {α β : Type} (p : Prog (TpuEff nD τ sig (Elt F) Λ₀ .tc) α) (k : α → Prog (TpuEff nD τ sig (Elt F) Λ₀ .tc) β) : p.bind k = (p >>= k) := rfl

/-- A memref whole at contents `f`, and at some contents. -/
abbrev pt (c : Dev nD) {p : Space} {s : Shape} {ty : EltTy} (m : Memref sig .tc p s ty) (f : Buf (Elt F) (m.view.loc (c : Thread nD τ))) : sProp 𝕄 :=
  m.view.loc (c : Thread nD τ) ↦[m.view.set]{fullShare} f
abbrev anyPt (c : Dev nD) {p : Space} {s : Shape} {ty : EltTy} (m : Memref sig .tc p s ty) : sProp 𝕄 := iprop(∃ f, pt (F := F) c m f)

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)
variable (g0 g16 g26 g36 : BitVec 32) (w41 w43 : Elt F .i32) (w71 : FVec F S8x128 .bf16) (w82 : FVec F S4x128 .bf16)

/-- What the first item leaves: the positions and the queries. -/
def tokPt (X : Vec F S24x448 .i32) : sProp 𝕄 := iprop(∃ f, ⌜∀ y, (Memref.whole cc0_scratch2 : Memref sig .tc _ _ _).view.read (Elt F) f y = tokG X y⌝ ∗ pt (F := F) c (Memref.whole cc0_scratch2) f)
def qPt (X : Vec F S6x3584 .bf16) : sProp 𝕄 := iprop(∃ f, ⌜∀ y, (Memref.whole cc0_scratch6 : Memref sig .tc _ _ _).view.read (Elt F) f y = qG X y⌝ ∗ pt (F := F) c (Memref.whole cc0_scratch6) f)
def tokX (a4 : Memref sig .tc .vmem S24x448 .i32) (f4 : Buf (Elt F) (a4.view.loc (c : Thread nD τ))) : Vec F S24x448 .i32 := View.readAt (Elt F) a4.view (Rect.unit (s := S24x448) ![0, 0] S24x448.size inb_S24x448_S24x448_0_0).toLoadRect f4
def qX (a5 : Memref sig .tc .vmem S6x3584 .bf16) (f5 : Buf (Elt F) (a5.view.loc (c : Thread nD τ))) : Vec F S6x3584 .bf16 := View.readAt (Elt F) a5.view (Rect.unit (s := S6x3584) ![0, 0] S6x3584.size inb_S6x3584_S6x3584_0_0).toLoadRect f5
/-- The frequencies of sublane group `j`, and the head's factor. -/
abbrev rd10 (a10 : Memref sig .tc .vmem S64x128 .f32) (f10 : Buf (Elt F) (a10.view.loc (c : Thread nD τ))) (off : Fin 2 → ℕ) (hb : ∀ a, off a + S8x128.size a ≤ S64x128.size a) : Vec F S8x128 .f32 :=
  View.readAt (Elt F) a10.view (Rect.unit (s := S64x128) off S8x128.size hb).toLoadRect f10
/-- The scores of the item, tile by tile. -/
def scoA (X : Vec F S24x448 .i32) (w41 w43 : Elt F .i32) (w71 : FVec F S8x128 .bf16) (v102 : Vec F S1x160x128 .bf16) (a10 : Memref sig .tc .vmem S64x128 .f32) (f10 : Buf (Elt F) (a10.view.loc (c : Thread nD τ))) : S28x8x128.Idx → Elt F .f32 :=
  scoG sel ka X (itOf i) w41 w43 w71 v102 (rd10 c a10 f10 ![0, 0] inb_S64x128_S8x128_0_0) (rd10 c a10 f10 ![8, 0] inb_S64x128_S8x128_8_0) (rd10 c a10 f10 ![16, 0] inb_S64x128_S8x128_16_0) (rd10 c a10 f10 ![24, 0] inb_S64x128_S8x128_24_0)
    (rd10 c a10 f10 ![32, 0] inb_S64x128_S8x128_32_0) (rd10 c a10 f10 ![40, 0] inb_S64x128_S8x128_40_0) (rd10 c a10 f10 ![48, 0] inb_S64x128_S8x128_48_0) (rd10 c a10 f10 ![56, 0] inb_S64x128_S8x128_56_0)
/-- The scores of the first `n` tiles. -/
def scoPt (S : S28x8x128.Idx → Elt F .f32) (n : ℕ) : sProp 𝕄 :=
  iprop(∃ f, ⌜∀ y, (y 0).val < n → (Memref.whole cc0_scratch3 : Memref sig .tc _ _ _).view.read (Elt F) f y = S y⌝ ∗ pt (F := F) c (Memref.whole cc0_scratch3) f)

/-- What the angle rows' loop holds. -/
def rowInv (f9 : Buf (Elt F) (a9.view.loc (c : Thread nD τ))) : sProp 𝕄 :=
  iprop(tabPt (F := F) c sel q ∗ pt (F := F) c a9 f9 ∗ anyPt (F := F) c (Memref.whole cc0_scratch4))

theorem t6_step (hsel : SelOK (F := F) sel) (f9 : Buf (Elt F) (a9.view.loc (c : Thread nD τ))) (t4 : Fin k0_t4_loop.trips) (k : Fin k0_t6_loop.trips) (acc : Unit) :
    rowInv c (a9 := a9) sel q f9 ⊢ wp frame (wpE (defs₀ (F := F)) Variants.none (c : Thread nD τ) none) Set.univ
      (k0_t6_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4 k acc) (fun _ => rowInv c (a9 := a9) sel q f9) := by
  have ht4 := t4_lt t4; have hk := t6_lt k
  have hj : 64 * t4.val + k.val < 448 := by omega
  unfold rowInv
  iintro ⟨HT, H9, ⟨%f21, H21⟩⟩
  dsimp only [k0_t6_body]
  sl_exec
  have hr : t6_step.sl.r i sel t4 k = selW (F := F) sel (itOf i) ⟨64 * t4.val + k.val, hj⟩ := by
    unfold t6_step.sl.r
    exact selW_read sel (itOf i) ⟨64 * t4.val + k.val, hj⟩ _ (k0_off17_closed i t4 k) _ _
  have hlt := selW_range hsel (itOf i) ⟨64 * t4.val + k.val, hj⟩
  generalize t6_step.sl.r i sel t4 k = w at *
  subst hr
  iapply (wp_assume Variants.none (c : Thread nD τ) none Set.univ (chk3_holds i _ hlt.1 hlt.2))
  sl_exec
  sl_step
  isplitl [HT]; · iexact HT
  isplitl [H9]; · iexact H9
  iexists _; iexact H21

/-- What the scores' loop holds: the item's K, the constants and the scratch it works in. -/
def scoInv (f10 : Buf (Elt F) (a10.view.loc (c : Thread nD τ))) (X : Vec F S24x448 .i32) (w41 w43 : Elt F .i32) (w71 : FVec F S8x128 .bf16) (v102 : Vec F S1x160x128 .bf16) (n : ℕ) : sProp 𝕄 :=
  iprop(kHeld c sel ka (itOf i) ∗ pt (F := F) c a10 f10 ∗ tokPt c X ∗ scoPt c (scoA c i sel ka X w41 w43 w71 v102 a10 f10) n
    ∗ anyPt (F := F) c (Memref.whole cc0_scratch4) ∗ anyPt (F := F) c (Memref.whole cc0_scratch5))

theorem t7_step (f10 : Buf (Elt F) (a10.view.loc (c : Thread nD τ))) (X : Vec F S24x448 .i32) (v102 : FVec F S1x160x128 .bf16) (v104 v105 : IVec S8x128 32) (v329 : BitVec 32) (t4 : Fin k0_t4_loop.trips) (k : Fin k0_t7_loop.trips) (acc : Unit) :
    scoInv c i (a10 := a10) sel ka f10 X w41 w43 w71 v102 (4 * t4.val + k.val) ⊢ wp frame (wpE (defs₀ (F := F)) Variants.none (c : Thread nD τ) none) Set.univ
      (k0_t7_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 t4 v329 k acc) (fun _ => scoInv c i (a10 := a10) sel ka f10 X w41 w43 w71 v102 (4 * t4.val + k.val + 1)) := by
  unfold scoInv kHeld tokPt scoPt
  iintro ⟨HK, H10, ⟨%f19, %e19, H19⟩, ⟨%f20, %e20, H20⟩, ⟨%f21, H21⟩, ⟨%f22, H22⟩⟩
  dsimp only [k0_t7_body]
  simp only [k0_part12_eq_skeleton, k0_part13_eq_skeleton, k0_part14_eq_skeleton, k0_part15_eq_skeleton, k0_part16_eq_skeleton]
  unfold k0_part12_skel k0_part13_skel k0_part14_skel k0_part15_skel k0_part16_skel
  iapply (wp_kLoad c (slotOf (itOf i)) _ _ _ (by rw [k0_off20_closed]; rfl) _ _) $$ HK
  iintro HK
  simp only [prog_bind]
  sl_exec
  sl_step
  isplitl [HK]; · iexact HK
  isplitl [H10]; · iexact H10
  isplitl [H19]
  · iexists _
    isplitr; swap
    · iexact H19
    ipureintro; exact e19
  isplitl [H20]
  · iexists _
    isplitr; swap
    · iexact H20
    ipureintro
    intro y hy
    have ht4 := t4_lt t4; have hk := t7_lt k
    have hn : 4 * t4.val + k.val < 28 := by omega
    by_cases e : (y 0).val = 4 * t4.val + k.val
    · have ey : y = (Rect.unit (s := S28x8x128) (k0_off22 t4 k) S1x8x128.size (k0_off22_inb t4 k)).emb (ix3 0 (y 1) (y 2)) := by
        funext a
        match a with
        | ⟨0, _⟩ => exact Fin.ext (by show (y 0).val = k0_off22 t4 k 0 + 1 * 0; have h : k0_off22 t4 k 0 = 4 * t4.val + k.val := congrFun (off22_closed t4 k) 0; omega)
        | ⟨1, _⟩ => exact Fin.ext (by show (y 1).val = k0_off22 t4 k 1 + 1 * (y 1).val; have h : k0_off22 t4 k 1 = 0 := congrFun (off22_closed t4 k) 1; omega)
        | ⟨2, _⟩ => exact Fin.ext (by show (y 2).val = k0_off22 t4 k 2 + 1 * (y 2).val; have h : k0_off22 t4 k 2 = 0 := congrFun (off22_closed t4 k) 2; omega)
      have eK : (View.readAt (Elt F) (View.whole cc0_scratch0) (Rect.unit (s := S2x3584x160) (k0_off20 i t4 k) S1x128x160.size (k0_off20_inb i t4 k)).toLoadRect (kFull sel ka (itOf i)) : Vec F S1x128x160 .bf16) = kTile sel ka (itOf i) (y 0) := by
        funext x
        refine congrArg (kFull (F := F) sel ka (itOf i)) ?_
        have x0 : (x 0).val < 1 := (x 0).isLt
        funext a
        match a with
        | ⟨0, _⟩ => exact Fin.ext (by show k0_off20 i t4 k 0 + 1 * (x 0).val = (slotOf (itOf i)).val; have h : k0_off20 i t4 k 0 = (i 0).val % 2 := congrFun (k0_off20_closed i t4 k) 0; have h2 : (slotOf (itOf i)).val = (i 0).val % 2 := rfl; omega)
        | ⟨1, _⟩ => exact Fin.ext (by show k0_off20 i t4 k 1 + 1 * (x 1).val = 128 * (y 0).val + (x 1).val; have h : k0_off20 i t4 k 1 = 128 * (4 * t4.val + k.val) := congrFun (k0_off20_closed i t4 k) 1; omega)
        | ⟨2, _⟩ => exact Fin.ext (by show k0_off20 i t4 k 2 + 1 * (x 2).val = (x 2).val; have h : k0_off20 i t4 k 2 = 0 := congrFun (k0_off20_closed i t4 k) 2; omega)
      have eT : (View.readAt (Elt F) (Memref.whole cc0_scratch2).view (Rect.unit (s := S28x24x128) (k0_off21 i t4 k) S1x1x128.size (k0_off21_inb i t4 k)).toLoadRect f19 : Vec F S1x1x128 .i32) = tTile X (itOf i) (y 0) := by
        funext x
        have x0 : (x 0).val < 1 := (x 0).isLt
        have x1 : (x 1).val < 1 := (x 1).isLt
        refine (e19 ((Rect.unit (s := S28x24x128) (k0_off21 i t4 k) S1x1x128.size (k0_off21_inb i t4 k)).emb x)).trans ?_
        refine congrArg (tokG X) ?_
        funext a
        match a with
        | ⟨0, _⟩ => exact Fin.ext (by show k0_off21 i t4 k 0 + 1 * (x 0).val = (y 0).val; have h : k0_off21 i t4 k 0 = 4 * t4.val + k.val := congrFun (off21_closed i t4 k) 0; omega)
        | ⟨1, _⟩ => exact Fin.ext (by show k0_off21 i t4 k 1 + 1 * (x 1).val = (i 0).val; have h : k0_off21 i t4 k 1 = (i 0).val := congrFun (off21_closed i t4 k) 1; omega)
        | ⟨2, _⟩ => exact Fin.ext (by show k0_off21 i t4 k 2 + 1 * (x 2).val = (x 2).val; have h : k0_off21 i t4 k 2 = 0 := congrFun (off21_closed i t4 k) 2; omega)
      refine Eq.trans (congrArg _ ey) ?_
      refine (View.read_writes_cons_emb _ _ _ _ _ _).trans ?_
      refine (show _ = scoT w41 w43 w71 v102 (View.readAt (Elt F) (View.whole cc0_scratch0) (Rect.unit (s := S2x3584x160) (k0_off20 i t4 k) S1x128x160.size (k0_off20_inb i t4 k)).toLoadRect (kFull sel ka (itOf i))) (View.readAt (Elt F) (Memref.whole cc0_scratch2).view (Rect.unit (s := S28x24x128) (k0_off21 i t4 k) S1x1x128.size (k0_off21_inb i t4 k)).toLoadRect f19) (rd10 c a10 f10 ![0, 0] inb_S64x128_S8x128_0_0) (rd10 c a10 f10 ![8, 0] inb_S64x128_S8x128_8_0) (rd10 c a10 f10 ![16, 0] inb_S64x128_S8x128_16_0) (rd10 c a10 f10 ![24, 0] inb_S64x128_S8x128_24_0) (rd10 c a10 f10 ![32, 0] inb_S64x128_S8x128_32_0) (rd10 c a10 f10 ![40, 0] inb_S64x128_S8x128_40_0) (rd10 c a10 f10 ![48, 0] inb_S64x128_S8x128_48_0) (rd10 c a10 f10 ![56, 0] inb_S64x128_S8x128_56_0) (ix2 (y 1) (y 2)) from ?_).trans ?_
      · pointwise [k0_pay130]
        rfl
      · rw [eK, eT]; rfl
    · refine (View.read_writes_cons_miss_of_axis _ _ _ _ y 0 (4 * t4.val + k.val) 1 (congrFun (off22_closed t4 k) 0) rfl rfl (by omega)).trans ?_
      exact e20 y (by omega)
  isplitl [H21]; · iexists _; iexact H21
  iexists _; iexact H22

/-- What the stages' loop holds before stage `k`: the transfers of the next item issued so far (when there is a next item), the angle table and what the scores' loop holds. -/
def nxtInv (k : ℕ) : sProp 𝕄 := if k0_cond2 i = 1#1 then issInv c sel ka va q (nxtOf i) (64 * k) else tabPt (F := F) c sel q
def stgInv (f9 : Buf (Elt F) (a9.view.loc (c : Thread nD τ))) (f10 : Buf (Elt F) (a10.view.loc (c : Thread nD τ))) (X : Vec F S24x448 .i32) (w41 w43 : Elt F .i32) (w71 : FVec F S8x128 .bf16) (v102 : Vec F S1x160x128 .bf16) (k : ℕ) : sProp 𝕄 :=
  iprop(nxtInv c i sel ka va q k ∗ pt (F := F) c a9 f9 ∗ scoInv c i (a10 := a10) sel ka f10 X w41 w43 w71 v102 (4 * k))

/-- A stage after the issue loop: the angle rows and the scores. -/
theorem t67_run (hsel : SelOK (F := F) sel) (f9 : Buf (Elt F) (a9.view.loc (c : Thread nD τ))) (f10 : Buf (Elt F) (a10.view.loc (c : Thread nD τ))) (X : Vec F S24x448 .i32) (v102 : FVec F S1x160x128 .bf16) (v104 v105 : IVec S8x128 32) (v329 : BitVec 32) (t4 : Fin k0_t4_loop.trips) (Q : Unit → sProp 𝕄) :
    iprop((tabPt (F := F) c sel q ∗ pt (F := F) c a9 f9 ∗ scoInv c i (a10 := a10) sel ka f10 X w41 w43 w71 v102 (4 * t4.val)) ∗ ((tabPt (F := F) c sel q ∗ pt (F := F) c a9 f9 ∗ scoInv c i (a10 := a10) sel ka f10 X w41 w43 w71 v102 (4 * t4.val + 4)) -∗ Q ⟨⟩)) ⊢ wp frame (wpE (defs₀ (F := F)) Variants.none (c : Thread nD τ) none) Set.univ
      (do
        Scf.Loop.for k0_t6_loop k0_t6_ok ⟨⟩ (k0_t6_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 t4)
        Scf.Loop.for k0_t7_loop k0_t7_ok ⟨⟩ (k0_t7_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 t4 v329)
        pure ⟨⟩) Q := by
  iintro ⟨⟨HT, H9, HS⟩, HQ⟩
  unfold scoInv
  icases HS with ⟨HK, H10, H19, H20, H21, H22⟩
  sl_for (fun _ _ => rowInv c (a9 := a9) sel q f9) $$ [HT H9 H21]
  · intro k acc; exact t6_step c i h4 h5 h6 h7 h8 h9 h10 h11 h14 h15 h16 sel q g0 g16 g26 g36 w41 w43 w71 w82 hsel f9 t4 k acc
  · unfold rowInv
    isplitl [HT]; · iexact HT
    isplitl [H9]; · iexact H9
    iexact H21
  iintro %acc HR
  unfold rowInv
  icases HR with ⟨HT, H9, H21⟩
  sl_for (fun k _ => scoInv c i (a10 := a10) sel ka f10 X w41 w43 w71 v102 (4 * t4.val + k)) $$ [HK H10 H19 H20 H21 H22]
  · intro k acc; exact t7_step c i h4 h5 h6 h7 h8 h9 h10 h11 h14 h15 h16 sel ka g0 g16 g26 g36 w41 w43 w71 w82 f10 X v102 v104 v105 v329 t4 k acc
  · unfold scoInv
    isplitl [HK]; · iexact HK
    isplitl [H10]; · iexact H10
    isplitl [H19]; · iexact H19
    isplitl [H20]; · iexact H20
    isplitl [H21]; · iexact H21
    iexact H22
  iintro %acc' HS
  rw [show Scf.trips k0_t7_loop.lb k0_t7_loop.ub k0_t7_loop.st = 4 by decide]
  simp only [prog_bind]
  sl_step
  iapply HQ
  isplitl [HT]; · iexact HT
  isplitl [H9]; · iexact H9
  unfold scoInv
  iexact HS

theorem t4_step (hsel : SelOK (F := F) sel) (f9 : Buf (Elt F) (a9.view.loc (c : Thread nD τ))) (f10 : Buf (Elt F) (a10.view.loc (c : Thread nD τ))) (X : Vec F S24x448 .i32) (v102 : FVec F S1x160x128 .bf16) (v104 v105 : IVec S8x128 32) (k : Fin k0_t4_loop.trips) (acc : Unit) :
    stgInv c i (a9 := a9) (a10 := a10) sel ka va q f9 f10 X w41 w43 w71 v102 k.val ⊢ wp frame (wpE (defs₀ (F := F)) Variants.none (c : Thread nD τ) none) Set.univ
      (k0_t4_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105 k acc) (fun _ => stgInv c i (a9 := a9) (a10 := a10) sel ka va q f9 f10 X w41 w43 w71 v102 (k.val + 1)) := by
  unfold stgInv nxtInv
  dsimp only [k0_t4_body]
  by_cases h2 : k0_cond2 i = 1#1
  · rw [dif_pos h2, if_pos h2, if_pos h2]
    iintro ⟨HN, H9, HS⟩
    sl_for (fun k' _ => issInv c sel ka va q (nxtOf i) (64 * k.val + k')) $$ [HN]
    · intro k' acc'; exact t5_step c i h4 h5 h6 h7 h8 h9 h10 h11 h14 h15 h16 sel ka va q g0 g16 g26 g36 w41 w43 w71 w82 hsel h2 k k' acc'
    · rw [Nat.add_zero]; iexact HN
    iintro %acc' HN
    rw [show 64 * k.val + Scf.trips k0_t5_loop.lb k0_t5_loop.ub k0_t5_loop.st = 64 * (k.val + 1) by rw [show Scf.trips k0_t5_loop.lb k0_t5_loop.ub k0_t5_loop.st = 64 by decide]; omega]
    unfold issInv
    icases HN with ⟨HIK, HIV, HT⟩
    simp only [prog_bind]
    iapply (t67_run c i h4 h5 h6 h7 h8 h9 h10 h11 h14 h15 h16 sel ka q g0 g16 g26 g36 w41 w43 w71 w82 hsel f9 f10 X v102 v104 v105 _ k)
    isplitl [HT H9 HS]
    · isplitl [HT]; · iexact HT
      isplitl [H9]; · iexact H9
      iexact HS
    iintro ⟨HT, H9, HS⟩
    isplitl [HIK HIV HT]
    · isplitl [HIK]; · iexact HIK
      isplitl [HIV]; · iexact HIV
      iexact HT
    isplitl [H9]; · iexact H9
    iexact HS
  · rw [dif_neg h2, if_neg h2, if_neg h2]
    iintro ⟨HN, H9, HS⟩
    iapply (t67_run c i h4 h5 h6 h7 h8 h9 h10 h11 h14 h15 h16 sel ka q g0 g16 g26 g36 w41 w43 w71 w82 hsel f9 f10 X v102 v104 v105 _ k)
    isplitl [HN H9 HS]
    · isplitl [HN]; · iexact HN
      isplitl [H9]; · iexact H9
      iexact HS
    iintro ⟨HT, H9, HS⟩
    isplitl [HT]; · iexact HT
    isplitl [H9]; · iexact H9
    iexact HS

set_option warn.classDefReducibility false in
@[sl_loop] def t4Inv (hsel : SelOK (F := F) sel) (f9 : Buf (Elt F) (a9.view.loc (c : Thread nD τ))) (f10 : Buf (Elt F) (a10.view.loc (c : Thread nD τ))) (X : Vec F S24x448 .i32) (v102 : FVec F S1x160x128 .bf16) (v104 v105 : IVec S8x128 32) :
    LoopInv (M := 𝕄) frame (wpE (defs₀ (F := F)) Variants.none (c : Thread nD τ) none) Set.univ k0_t4_loop.lb k0_t4_loop.ub k0_t4_loop.st k0_t4_ok ()
      (k0_t4_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82 v102 v104 v105) where
  inv := fun k _ => stgInv c i (a9 := a9) (a10 := a10) sel ka va q f9 f10 X w41 w43 w71 v102 k
  step := t4_step c i h4 h5 h6 h7 h8 h9 h10 h11 h14 h15 h16 sel ka va q g0 g16 g26 g36 w41 w43 w71 w82 hsel f9 f10 X v102 v104 v105

/-! The weighted sum of V. -/

def sumInv : sProp 𝕄 := iprop(vHeld c sel va (itOf i) ∗ anyPt (F := F) c (Memref.whole cc0_scratch3))

theorem t8_step (v88 : IVec S4x128 1) (v124 : FVec F S28x8x128 .f32) (v125 : FVec F S8x1 .f32) (k : Fin k0_t8_loop.trips) (acc : FVec F S8x128 .f32) :
    sumInv c i sel va ⊢ wp frame (wpE (defs₀ (F := F)) Variants.none (c : Thread nD τ) none) Set.univ
      (k0_t8_body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125 k acc) (fun _ => sumInv c i sel va) := by
  unfold sumInv vHeld
  iintro ⟨HV, ⟨%f20, H20⟩⟩
  dsimp only [k0_t8_body]
  simp only [k0_part17_eq_skeleton]
  unfold k0_part17_skel
  iapply (wp_vLoad c (slotOf (itOf i)) _ _ _ (by exact (congrFun (k0_off27_closed i k 0) 0)) _ _) $$ HV
  iintro HV
  simp only [prog_bind]
  sl_exec
  iapply (wp_vLoad c (slotOf (itOf i)) _ _ _ (by exact (congrFun (k0_off27_closed i k 1) 0)) _ _) $$ HV
  iintro HV
  simp only [prog_bind]
  sl_exec
  iapply (wp_vLoad c (slotOf (itOf i)) _ _ _ (by exact (congrFun (k0_off27_closed i k 2) 0)) _ _) $$ HV
  iintro HV
  simp only [prog_bind]
  sl_exec
  iapply (wp_vLoad c (slotOf (itOf i)) _ _ _ (by exact (congrFun (k0_off27_closed i k 3) 0)) _ _) $$ HV
  iintro HV
  simp only [prog_bind]
  sl_exec
  sl_step
  isplitl [HV]; · iexact HV
  iexists _; iexact H20

set_option warn.classDefReducibility false in
@[sl_loop] def t8Inv (v88 : IVec S4x128 1) (v124 : FVec F S28x8x128 .f32) (v125 : FVec F S8x1 .f32) :
    LoopInv (M := 𝕄) frame (wpE (defs₀ (F := F)) Variants.none (c : Thread nD τ) none) Set.univ k0_t8_loop.lb k0_t8_loop.ub k0_t8_loop.st k0_t8_ok (k0_pay197 (F := F))
      (k0_t8_body (F := F) i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125) where
  inv := fun _ _ => sumInv c i sel va
  step := t8_step c i h4 h5 h6 h7 h8 h9 h10 h11 h14 h15 h16 sel va g16 g26 g36 v88 v124 v125

end Cert.KernelIdeal.Hand

end
-- ==== Proof.IBody.lean ====
/- One item: the whole body. -/
module

public import proofs.«01_k».proof.Proof.IStage

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

instance closedOff7 (i : grid0.Coords) : ClosedOff (k0_off7 i) := ⟨![7 * ((i 0).val % 4), (i 0).val / 4, 0], off7_closed i⟩

variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (sel : S6x4x448.Idx → Elt F .i32) (ka : S6x65536x160.Idx → Elt F .bf16) (va : S6x65536x4x128.Idx → Elt F .fp8e4m3) (q : PosShare TreeShare)
variable (len pos : S6.Idx → Elt F .i32)
variable (f4 : Buf (Elt F) (a4.view.loc (c : Thread nD τ))) (f5 : Buf (Elt F) (a5.view.loc (c : Thread nD τ))) (f6 : Buf (Elt F) (a6.view.loc (c : Thread nD τ))) (f7 : Buf (Elt F) (a7.view.loc (c : Thread nD τ))) (f8 : Buf (Elt F) (a8.view.loc (c : Thread nD τ))) (f9 : Buf (Elt F) (a9.view.loc (c : Thread nD τ))) (f10 : Buf (Elt F) (a10.view.loc (c : Thread nD τ))) (f11 : Buf (Elt F) (a11.view.loc (c : Thread nD τ)))

/-- The other two tables, readable. -/
abbrev lenPt (c : Dev nD) (q : PosShare TreeShare) (f : S6.Idx → Elt F .i32) : sProp 𝕄 := (Memref.whole main_arg8 : Memref sig .tc _ _ _).view.loc (c : Thread nD τ) ↦{q} f
abbrev posPt (c : Dev nD) (q : PosShare TreeShare) (f : S6.Idx → Elt F .i32) : sProp 𝕄 := (Memref.whole main_arg9 : Memref sig .tc _ _ _).view.loc (c : Thread nD τ) ↦{q} f

/-- The words of the item's row, the row's angles and the rotated new key. -/
def lenW (i : grid0.Coords) (f : S6.Idx → Elt F .i32) : Elt F .i32 :=
  (Memref.whole main_arg8 : Memref sig .tc _ _ _).view.readAt (Elt F) (Rect.unit (s := S6) (k0_off6 i) S1.size (k0_off6_inb i)).toLoadRect f (Shape.Idx.first (numel1_S1.symm ▸ Nat.one_pos))
def posW (i : grid0.Coords) (f : S6.Idx → Elt F .i32) : Elt F .i32 :=
  (Memref.whole main_arg9 : Memref sig .tc _ _ _).view.readAt (Elt F) (Rect.unit (s := S6) (k0_off6 i) S1.size (k0_off6_inb i)).toLoadRect f (Shape.Idx.first (numel1_S1.symm ▸ Nat.one_pos))
def rotK (i : grid0.Coords) (a6 : Memref sig .tc .vmem S6x4x128 .bf16) (a11 : Memref sig .tc .vmem S1x128 .f32) (len pos : S6.Idx → Elt F .i32)
    (f6 : Buf (Elt F) (a6.view.loc (c : Thread nD τ))) (f11 : Buf (Elt F) (a11.view.loc (c : Thread nD τ))) : FVec F S4x128 .bf16 :=
  k0_pay150 (lenW i len) (posW i pos)
    (View.readAt (Elt F) a11.view (Rect.unit (s := S1x128) ![0, 0] S1x128.size inb_S1x128_S1x128_0_0).toLoadRect f11)
    (View.readAt (Elt F) a6.view (Rect.unit (s := S6x4x128) (k0_off8 i) S1x4x128.size (k0_off8_inb i)).toLoadRect f6)

/-- What the preparation works with. -/
def prepRes : sProp 𝕄 := iprop(pt (F := F) c a4 f4 ∗ pt (F := F) c a5 f5 ∗ anyPt (F := F) c (Memref.whole cc0_scratch2) ∗ anyPt (F := F) c (Memref.whole cc0_scratch6))

/-- What the preparation leaves. -/
def prepDone : sProp 𝕄 := iprop(pt (F := F) c a4 f4 ∗ pt (F := F) c a5 f5 ∗ tokPt c (tokX c a4 f4) ∗ qPt c (qX c a5 f5))
def prepAt (k : ℕ) : sProp 𝕄 := if k = 0 then prepRes c (a4 := a4) (a5 := a5) f4 f5 else prepDone c (a4 := a4) (a5 := a5) f4 f5

/-- The item's queries and their rotation. -/
def qTile (X : Vec F S6x3584 .bf16) (i : grid0.Coords) : Vec F S7x1x128 .f32 := fun x =>
  qG X (ix3 ⟨7 * ((i 0).val % 4) + (x 0).val, by have : (x 0).val < 7 := (x 0).isLt; omega⟩ ⟨(i 0).val / 4, by have : (i 0).val < 24 := (i 0).isLt; omega⟩ (x 2))
def rotQ (i : grid0.Coords) (a5 : Memref sig .tc .vmem S6x3584 .bf16) (a11 : Memref sig .tc .vmem S1x128 .f32) (len pos : S6.Idx → Elt F .i32)
    (f5 : Buf (Elt F) (a5.view.loc (c : Thread nD τ))) (f11 : Buf (Elt F) (a11.view.loc (c : Thread nD τ))) : FVec F S8x128 .bf16 :=
  k0_pay149 (lenW i len) (posW i pos)
    (View.readAt (Elt F) a11.view (Rect.unit (s := S1x128) ![0, 0] S1x128.size inb_S1x128_S1x128_0_0).toLoadRect f11)
    (qTile (qX c a5 f5) i)

theorem qTile_read (X : Vec F S6x3584 .bf16) (f : Buf (Elt F) ((Memref.whole cc0_scratch6 : Memref sig .tc _ _ _).view.loc (c : Thread nD τ))) (e : ∀ y, (Memref.whole cc0_scratch6 : Memref sig .tc _ _ _).view.read (Elt F) f y = qG X y) :
    (View.readAt (Elt F) (Memref.whole cc0_scratch6).view (Rect.unit (s := S28x6x128) (k0_off7 i) S7x1x128.size (k0_off7_inb i)).toLoadRect f : Vec F S7x1x128 .f32) = qTile X i := by
  funext x
  have x1 : (x 1).val < 1 := (x 1).isLt
  refine (e ((Rect.unit (s := S28x6x128) (k0_off7 i) S7x1x128.size (k0_off7_inb i)).emb x)).trans ?_
  refine congrArg (qG X) ?_
  funext a
  match a with
  | ⟨0, _⟩ => exact Fin.ext (by show k0_off7 i 0 + 1 * (x 0).val = 7 * ((i 0).val % 4) + (x 0).val; have h : k0_off7 i 0 = 7 * ((i 0).val % 4) := congrFun (off7_closed i) 0; omega)
  | ⟨1, _⟩ => exact Fin.ext (by show k0_off7 i 1 + 1 * (x 1).val = (i 0).val / 4; have h : k0_off7 i 1 = (i 0).val / 4 := congrFun (off7_closed i) 1; omega)
  | ⟨2, _⟩ => exact Fin.ext (by show k0_off7 i 2 + 1 * (x 2).val = (x 2).val; have h : k0_off7 i 2 = 0 := congrFun (off7_closed i) 2; omega)

theorem part19_run1 (hsel : SelOK (F := F) sel) (h1 : k0_cond1 i = 1#1) (g16 g26 g38 : BitVec 32) (Q : _ → sProp 𝕄) :
    iprop((issInv c sel ka va q 0 0 ∗ prepRes c (a4 := a4) (a5 := a5) f4 f5 ∗ lenPt c q len ∗ posPt c q pos ∗ pt (F := F) c a6 f6 ∗ pt (F := F) c a11 f11) ∗
      (∀ x, (⌜x.1 = lenW i len ∧ x.2.1 = posW i pos ∧ x.2.2.1 = rotQ c i a5 a11 len pos f5 f11 ∧ x.2.2.2 = rotK c i a6 a11 len pos f6 f11⌝ ∗ issInv c sel ka va q 0 448 ∗ prepDone c (a4 := a4) (a5 := a5) f4 f5 ∗ lenPt c q len ∗ posPt c q pos ∗ pt (F := F) c a6 f6 ∗ pt (F := F) c a11 f11) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  simp only [k0_part19_eq_skeleton]; unfold k0_part19_skel
  rw [dif_pos h1]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold prepRes prepDone tokPt qPt
  iintro ⟨⟨HI, ⟨H4, H5, ⟨%f19, H19⟩, ⟨%f23, H23⟩⟩, HL, HP, H6, H11⟩, HQ⟩
  iapply (Entails.of_eq (wp_bind _ _ _ _ _ _).symm)
  iapply (Entails.of_eq (wp_bind _ _ _ _ _ _).symm)
  sl_for (fun k _ => issInv c sel ka va q 0 (64 * k)) $$ [HI H4 H5 H19 H23 HL HP H6 H11 HQ]
  · intro k acc; exact t1_step c i h4 h5 h6 h7 h8 h9 h10 h11 h14 h15 h16 sel ka va q hsel h1 k acc
  isplitl [HI]
  · iexact HI
  iintro %acc HI
  sl_exec
  have e23 : ∀ y, (Memref.whole cc0_scratch6 : Memref sig .tc _ _ _).view.read (Elt F) ((Memref.whole cc0_scratch6 : Memref sig .tc _ _ _).view.writes (Elt F) (Memref.whole cc0_scratch6 : Memref sig .tc _ _ _).view.junk (part19_run1.sl.H23_28 c f5)) y = qG (qX c a5 f5) y := by
    intro y
    refine View.read_writes_apply_of_pieces _ _ (qG _) _ ?_ y ?_
    · refine forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (fun _ h => absurd h List.not_mem_nil))))))))))))))))))))))))))))
      all_goals
        intro x
        obtain ⟨z, r, l, rfl⟩ : ∃ (z : Fin 1) (r : Fin 6) (l : Fin 128), x = ix3 z r l := ⟨x 0, x 1, x 2, by ext a; fin_cases a <;> rfl⟩
        have hz : z = 0 := Subsingleton.elim _ _
        subst hz
        pointwise [k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay145]
        exact qG_at (qX c a5 f5) _ _ (by simp) (by simp)
    · have hy : (y 0).val < 28 := (y 0).isLt
      by_cases e27 : (y 0).val = 27
      · refine exists_mem_here ?_; exact mem_page 27 inb_S28x6x128_S1x6x128_27_0_0 y e27
      refine exists_mem_next ?_
      by_cases e26 : (y 0).val = 26
      · refine exists_mem_here ?_; exact mem_page 26 inb_S28x6x128_S1x6x128_26_0_0 y e26
      refine exists_mem_next ?_
      by_cases e25 : (y 0).val = 25
      · refine exists_mem_here ?_; exact mem_page 25 inb_S28x6x128_S1x6x128_25_0_0 y e25
      refine exists_mem_next ?_
      by_cases e24 : (y 0).val = 24
      · refine exists_mem_here ?_; exact mem_page 24 inb_S28x6x128_S1x6x128_24_0_0 y e24
      refine exists_mem_next ?_
      by_cases e23 : (y 0).val = 23
      · refine exists_mem_here ?_; exact mem_page 23 inb_S28x6x128_S1x6x128_23_0_0 y e23
      refine exists_mem_next ?_
      by_cases e22 : (y 0).val = 22
      · refine exists_mem_here ?_; exact mem_page 22 inb_S28x6x128_S1x6x128_22_0_0 y e22
      refine exists_mem_next ?_
      by_cases e21 : (y 0).val = 21
      · refine exists_mem_here ?_; exact mem_page 21 inb_S28x6x128_S1x6x128_21_0_0 y e21
      refine exists_mem_next ?_
      by_cases e20 : (y 0).val = 20
      · refine exists_mem_here ?_; exact mem_page 20 inb_S28x6x128_S1x6x128_20_0_0 y e20
      refine exists_mem_next ?_
      by_cases e19 : (y 0).val = 19
      · refine exists_mem_here ?_; exact mem_page 19 inb_S28x6x128_S1x6x128_19_0_0 y e19
      refine exists_mem_next ?_
      by_cases e18 : (y 0).val = 18
      · refine exists_mem_here ?_; exact mem_page 18 inb_S28x6x128_S1x6x128_18_0_0 y e18
      refine exists_mem_next ?_
      by_cases e17 : (y 0).val = 17
      · refine exists_mem_here ?_; exact mem_page 17 inb_S28x6x128_S1x6x128_17_0_0 y e17
      refine exists_mem_next ?_
      by_cases e16 : (y 0).val = 16
      · refine exists_mem_here ?_; exact mem_page 16 inb_S28x6x128_S1x6x128_16_0_0 y e16
      refine exists_mem_next ?_
      by_cases e15 : (y 0).val = 15
      · refine exists_mem_here ?_; exact mem_page 15 inb_S28x6x128_S1x6x128_15_0_0 y e15
      refine exists_mem_next ?_
      by_cases e14 : (y 0).val = 14
      · refine exists_mem_here ?_; exact mem_page 14 inb_S28x6x128_S1x6x128_14_0_0 y e14
      refine exists_mem_next ?_
      by_cases e13 : (y 0).val = 13
      · refine exists_mem_here ?_; exact mem_page 13 inb_S28x6x128_S1x6x128_13_0_0 y e13
      refine exists_mem_next ?_
      by_cases e12 : (y 0).val = 12
      · refine exists_mem_here ?_; exact mem_page 12 inb_S28x6x128_S1x6x128_12_0_0 y e12
      refine exists_mem_next ?_
      by_cases e11 : (y 0).val = 11
      · refine exists_mem_here ?_; exact mem_page 11 inb_S28x6x128_S1x6x128_11_0_0 y e11
      refine exists_mem_next ?_
      by_cases e10 : (y 0).val = 10
      · refine exists_mem_here ?_; exact mem_page 10 inb_S28x6x128_S1x6x128_10_0_0 y e10
      refine exists_mem_next ?_
      by_cases e9 : (y 0).val = 9
      · refine exists_mem_here ?_; exact mem_page 9 inb_S28x6x128_S1x6x128_9_0_0 y e9
      refine exists_mem_next ?_
      by_cases e8 : (y 0).val = 8
      · refine exists_mem_here ?_; exact mem_page 8 inb_S28x6x128_S1x6x128_8_0_0 y e8
      refine exists_mem_next ?_
      by_cases e7 : (y 0).val = 7
      · refine exists_mem_here ?_; exact mem_page 7 inb_S28x6x128_S1x6x128_7_0_0 y e7
      refine exists_mem_next ?_
      by_cases e6 : (y 0).val = 6
      · refine exists_mem_here ?_; exact mem_page 6 inb_S28x6x128_S1x6x128_6_0_0 y e6
      refine exists_mem_next ?_
      by_cases e5 : (y 0).val = 5
      · refine exists_mem_here ?_; exact mem_page 5 inb_S28x6x128_S1x6x128_5_0_0 y e5
      refine exists_mem_next ?_
      by_cases e4 : (y 0).val = 4
      · refine exists_mem_here ?_; exact mem_page 4 inb_S28x6x128_S1x6x128_4_0_0 y e4
      refine exists_mem_next ?_
      by_cases e3 : (y 0).val = 3
      · refine exists_mem_here ?_; exact mem_page 3 inb_S28x6x128_S1x6x128_3_0_0 y e3
      refine exists_mem_next ?_
      by_cases e2 : (y 0).val = 2
      · refine exists_mem_here ?_; exact mem_page 2 inb_S28x6x128_S1x6x128_2_0_0 y e2
      refine exists_mem_next ?_
      by_cases e1 : (y 0).val = 1
      · refine exists_mem_here ?_; exact mem_page 1 inb_S28x6x128_S1x6x128_1_0_0 y e1
      refine exists_mem_next ?_
      refine exists_mem_here ?_; exact mem_page 0 inb_S28x6x128_S1x6x128_0_0_0 y (by omega)
  sl_step
  iapply HQ
  isplitr
  · ipureintro; exact ⟨rfl, rfl, congrArg (k0_pay149 (lenW i len) (posW i pos) _) (qTile_read c i _ _ e23), rfl⟩
  isplitl [HI]; · iexact HI
  isplitl [H4 H5 H19 H23]
  · isplitl [H4]; · iexact H4
    isplitl [H5]; · iexact H5
    isplitl [H19]
    · iexists _
      isplitr; swap
      · iexact H19
      ipureintro
      intro y
      refine View.read_writes_apply_of_pieces _ _ (tokG _) _ ?_ y ?_
      · refine forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (forall_mem_cons' ?_ (fun _ h => absurd h List.not_mem_nil))))))))))))))))))))))))))))
        all_goals
          intro x
          obtain ⟨z, r, l, rfl⟩ : ∃ (z : Fin 1) (r : Fin 24) (l : Fin 128), x = ix3 z r l := ⟨x 0, x 1, x 2, by ext a; fin_cases a <;> rfl⟩
          have hz : z = 0 := Subsingleton.elim _ _
          subst hz
          pointwise [k0_pay17, k0_pay18, k0_pay19, k0_pay20, k0_pay21, k0_pay23, k0_pay24, k0_pay25, k0_pay26, k0_pay30, k0_pay31, k0_pay32, k0_pay33, k0_pay35, k0_pay36, k0_pay37, k0_pay38, k0_pay39, k0_pay41, k0_pay42, k0_pay43, k0_pay44, k0_pay45, k0_pay47, k0_pay48, k0_pay49, k0_pay50, k0_pay51, k0_pay53, k0_pay54, k0_pay55, k0_pay56]
        · exact tokG_at (tokX c a4 f4) _ 6 3 _ rfl (by decide) (by simp) (by simp)
        · exact tokG_at (tokX c a4 f4) _ 6 2 _ rfl (by decide) (by simp) (by simp)
        · exact tokG_at (tokX c a4 f4) _ 6 1 _ rfl (by decide) (by simp) (by simp)
        · exact tokG_at (tokX c a4 f4) _ 6 0 _ rfl (by decide) (by simp) (by simp)
        · exact tokG_at (tokX c a4 f4) _ 5 3 _ rfl (by decide) (by simp) (by simp)
        · exact tokG_at (tokX c a4 f4) _ 5 2 _ rfl (by decide) (by simp) (by simp)
        · exact tokG_at (tokX c a4 f4) _ 5 1 _ rfl (by decide) (by simp) (by simp)
        · exact tokG_at (tokX c a4 f4) _ 5 0 _ rfl (by decide) (by simp) (by simp)
        · exact tokG_at (tokX c a4 f4) _ 4 3 _ rfl (by decide) (by simp) (by simp)
        · exact tokG_at (tokX c a4 f4) _ 4 2 _ rfl (by decide) (by simp) (by simp)
        · exact tokG_at (tokX c a4 f4) _ 4 1 _ rfl (by decide) (by simp) (by simp)
        · exact tokG_at (tokX c a4 f4) _ 4 0 _ rfl (by decide) (by simp) (by simp)
        · exact tokG_at (tokX c a4 f4) _ 3 3 _ rfl (by decide) (by simp) (by simp)
        · exact tokG_at (tokX c a4 f4) _ 3 2 _ rfl (by decide) (by simp) (by simp)
        · exact tokG_at (tokX c a4 f4) _ 3 1 _ rfl (by decide) (by simp) (by simp)
        · exact tokG_at (tokX c a4 f4) _ 3 0 _ rfl (by decide) (by simp) (by simp)
        · exact tokG_at (tokX c a4 f4) _ 2 3 _ rfl (by decide) (by simp) (by simp)
        · exact tokG_at (tokX c a4 f4) _ 2 2 _ rfl (by decide) (by simp) (by simp)
        · exact tokG_at (tokX c a4 f4) _ 2 1 _ rfl (by decide) (by simp) (by simp)
        · exact tokG_at (tokX c a4 f4) _ 2 0 _ rfl (by decide) (by simp) (by simp)
        · exact tokG_at (tokX c a4 f4) _ 1 3 _ rfl (by decide) (by simp) (by simp)
        · exact tokG_at (tokX c a4 f4) _ 1 2 _ rfl (by decide) (by simp) (by simp)
        · exact tokG_at (tokX c a4 f4) _ 1 1 _ rfl (by decide) (by simp) (by simp)
        · exact tokG_at (tokX c a4 f4) _ 1 0 _ rfl (by decide) (by simp) (by simp)
        · exact tokG_at (tokX c a4 f4) _ 0 3 _ rfl (by decide) (by simp) (by simp)
        · exact tokG_at (tokX c a4 f4) _ 0 2 _ rfl (by decide) (by simp) (by simp)
        · exact tokG_at (tokX c a4 f4) _ 0 1 _ rfl (by decide) (by simp) (by simp)
        · exact tokG_at (tokX c a4 f4) _ 0 0 _ rfl (by decide) (by simp) (by simp)
      · have hy : (y 0).val < 28 := (y 0).isLt
        by_cases e27 : (y 0).val = 27
        · refine exists_mem_here ?_; exact mem_page 27 inb_S28x24x128_S1x24x128_27_0_0 y e27
        refine exists_mem_next ?_
        by_cases e26 : (y 0).val = 26
        · refine exists_mem_here ?_; exact mem_page 26 inb_S28x24x128_S1x24x128_26_0_0 y e26
        refine exists_mem_next ?_
        by_cases e25 : (y 0).val = 25
        · refine exists_mem_here ?_; exact mem_page 25 inb_S28x24x128_S1x24x128_25_0_0 y e25
        refine exists_mem_next ?_
        by_cases e24 : (y 0).val = 24
        · refine exists_mem_here ?_; exact mem_page 24 inb_S28x24x128_S1x24x128_24_0_0 y e24
        refine exists_mem_next ?_
        by_cases e23 : (y 0).val = 23
        · refine exists_mem_here ?_; exact mem_page 23 inb_S28x24x128_S1x24x128_23_0_0 y e23
        refine exists_mem_next ?_
        by_cases e22 : (y 0).val = 22
        · refine exists_mem_here ?_; exact mem_page 22 inb_S28x24x128_S1x24x128_22_0_0 y e22
        refine exists_mem_next ?_
        by_cases e21 : (y 0).val = 21
        · refine exists_mem_here ?_; exact mem_page 21 inb_S28x24x128_S1x24x128_21_0_0 y e21
        refine exists_mem_next ?_
        by_cases e20 : (y 0).val = 20
        · refine exists_mem_here ?_; exact mem_page 20 inb_S28x24x128_S1x24x128_20_0_0 y e20
        refine exists_mem_next ?_
        by_cases e19 : (y 0).val = 19
        · refine exists_mem_here ?_; exact mem_page 19 inb_S28x24x128_S1x24x128_19_0_0 y e19
        refine exists_mem_next ?_
        by_cases e18 : (y 0).val = 18
        · refine exists_mem_here ?_; exact mem_page 18 inb_S28x24x128_S1x24x128_18_0_0 y e18
        refine exists_mem_next ?_
        by_cases e17 : (y 0).val = 17
        · refine exists_mem_here ?_; exact mem_page 17 inb_S28x24x128_S1x24x128_17_0_0 y e17
        refine exists_mem_next ?_
        by_cases e16 : (y 0).val = 16
        · refine exists_mem_here ?_; exact mem_page 16 inb_S28x24x128_S1x24x128_16_0_0 y e16
        refine exists_mem_next ?_
        by_cases e15 : (y 0).val = 15
        · refine exists_mem_here ?_; exact mem_page 15 inb_S28x24x128_S1x24x128_15_0_0 y e15
        refine exists_mem_next ?_
        by_cases e14 : (y 0).val = 14
        · refine exists_mem_here ?_; exact mem_page 14 inb_S28x24x128_S1x24x128_14_0_0 y e14
        refine exists_mem_next ?_
        by_cases e13 : (y 0).val = 13
        · refine exists_mem_here ?_; exact mem_page 13 inb_S28x24x128_S1x24x128_13_0_0 y e13
        refine exists_mem_next ?_
        by_cases e12 : (y 0).val = 12
        · refine exists_mem_here ?_; exact mem_page 12 inb_S28x24x128_S1x24x128_12_0_0 y e12
        refine exists_mem_next ?_
        by_cases e11 : (y 0).val = 11
        · refine exists_mem_here ?_; exact mem_page 11 inb_S28x24x128_S1x24x128_11_0_0 y e11
        refine exists_mem_next ?_
        by_cases e10 : (y 0).val = 10
        · refine exists_mem_here ?_; exact mem_page 10 inb_S28x24x128_S1x24x128_10_0_0 y e10
        refine exists_mem_next ?_
        by_cases e9 : (y 0).val = 9
        · refine exists_mem_here ?_; exact mem_page 9 inb_S28x24x128_S1x24x128_9_0_0 y e9
        refine exists_mem_next ?_
        by_cases e8 : (y 0).val = 8
        · refine exists_mem_here ?_; exact mem_page 8 inb_S28x24x128_S1x24x128_8_0_0 y e8
        refine exists_mem_next ?_
        by_cases e7 : (y 0).val = 7
        · refine exists_mem_here ?_; exact mem_page 7 inb_S28x24x128_S1x24x128_7_0_0 y e7
        refine exists_mem_next ?_
        by_cases e6 : (y 0).val = 6
        · refine exists_mem_here ?_; exact mem_page 6 inb_S28x24x128_S1x24x128_6_0_0 y e6
        refine exists_mem_next ?_
        by_cases e5 : (y 0).val = 5
        · refine exists_mem_here ?_; exact mem_page 5 inb_S28x24x128_S1x24x128_5_0_0 y e5
        refine exists_mem_next ?_
        by_cases e4 : (y 0).val = 4
        · refine exists_mem_here ?_; exact mem_page 4 inb_S28x24x128_S1x24x128_4_0_0 y e4
        refine exists_mem_next ?_
        by_cases e3 : (y 0).val = 3
        · refine exists_mem_here ?_; exact mem_page 3 inb_S28x24x128_S1x24x128_3_0_0 y e3
        refine exists_mem_next ?_
        by_cases e2 : (y 0).val = 2
        · refine exists_mem_here ?_; exact mem_page 2 inb_S28x24x128_S1x24x128_2_0_0 y e2
        refine exists_mem_next ?_
        by_cases e1 : (y 0).val = 1
        · refine exists_mem_here ?_; exact mem_page 1 inb_S28x24x128_S1x24x128_1_0_0 y e1
        refine exists_mem_next ?_
        refine exists_mem_here ?_; exact mem_page 0 inb_S28x24x128_S1x24x128_0_0_0 y (by omega)
    iexists _
    isplitr; swap
    · iexact H23
    ipureintro; exact e23
  isplitl [HL]; · iexact HL
  isplitl [HP]; · iexact HP
  isplitl [H6]; · iexact H6
  iexact H11
theorem part19_run0 (h1 : ¬ k0_cond1 i = 1#1) (g16 g26 g38 : BitVec 32) (Q : _ → sProp 𝕄) :
    iprop((qPt c (qX c a5 f5) ∗ lenPt c q len ∗ posPt c q pos ∗ pt (F := F) c a6 f6 ∗ pt (F := F) c a11 f11) ∗
      (∀ x, (⌜x.1 = lenW i len ∧ x.2.1 = posW i pos ∧ x.2.2.1 = rotQ c i a5 a11 len pos f5 f11 ∧ x.2.2.2 = rotK c i a6 a11 len pos f6 f11⌝ ∗ qPt c (qX c a5 f5) ∗ lenPt c q len ∗ posPt c q pos ∗ pt (F := F) c a6 f6 ∗ pt (F := F) c a11 f11) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  simp only [k0_part19_eq_skeleton]; unfold k0_part19_skel
  rw [dif_neg h1]
  unfold qPt
  iintro ⟨⟨⟨%f23, %e23, H23⟩, HL, HP, H6, H11⟩, HQ⟩
  sl_exec
  sl_step
  iapply HQ
  isplitr; · ipureintro; exact ⟨rfl, rfl, congrArg (k0_pay149 (lenW i len) (posW i pos) _) (qTile_read c i _ _ e23), rfl⟩
  isplitl [H23]
  · iexists _
    isplitr; swap
    · iexact H23
    ipureintro; exact e23
  isplitl [HL]; · iexact HL
  isplitl [HP]; · iexact HP
  isplitl [H6]; · iexact H6
  iexact H11

/-- What the scores part works with, beside the flights. -/
def scoRes (X : Vec F S24x448 .i32) : sProp 𝕄 := iprop(tokPt c X ∗ anyPt (F := F) c (Memref.whole cc0_scratch3) ∗ anyPt (F := F) c (Memref.whole cc0_scratch4) ∗ anyPt (F := F) c (Memref.whole cc0_scratch5))
def winRes : sProp 𝕄 := iprop(pt (F := F) c a8 f8 ∗ pt (F := F) c a9 f9 ∗ pt (F := F) c a10 f10)

/-- The head's factor as loaded. -/
def rd8 (a8 : Memref sig .tc .vmem S1x160x128 .bf16) (f8 : Buf (Elt F) (a8.view.loc (c : Thread nD τ))) : Vec F S1x160x128 .bf16 := View.readAt (Elt F) a8.view (Rect.unit (s := S1x160x128) ![0, 0, 0] S1x160x128.size inb_S1x160x128_S1x160x128_0_0_0).toLoadRect f8

/-- What the window of the rotated key holds once stored. -/
def knrPt (w : FVec F S4x128 .bf16) : sProp 𝕄 := iprop(∃ f, pt (F := F) c a16 (a16.view.writes (Elt F) f [⟨Rect.unit (s := S1x1x4x128) ![0, 0, 0, 0] S1x1x4x128.size inb_S1x1x4x128_S1x1x4x128_0_0_0_0, k0_pay151 w⟩]))

theorem part20_run (hsel : SelOK (F := F) sel) (X : Vec F S24x448 .i32) (g0 g16 g26 g36 : BitVec 32) (w41 w43 : Elt F .i32) (w71 : FVec F S8x128 .bf16) (w82 : FVec F S4x128 .bf16) (Q : _ → sProp 𝕄) :
    iprop((anyPt (F := F) c a16 ∗ kDrain c sel ka (itOf i) 0 ∗ owesAny c ∗ winRes c (a8 := a8) (a9 := a9) (a10 := a10) f8 f9 f10 ∗ nxtInv c i sel ka va q 0 ∗ scoRes (F := F) c X) ∗
      (∀ x, (⌜x.2.1 = k0_pay158 g26 w71 w82 (scoA c i sel ka X w41 w43 w71 (rd8 c a8 f8) a10 f10) ∧ x.2.2 = k0_pay159 g26 w71 w82 (scoA c i sel ka X w41 w43 w71 (rd8 c a8 f8) a10 f10)⌝ ∗ knrPt c (a16 := a16) w82 ∗ (kHeld c sel ka (itOf i) ∗ kSem0 c (slotOf (itOf i)) ∗ kToks c ka (slotOf (itOf i))) ∗ owesAny c ∗ winRes c (a8 := a8) (a9 := a9) (a10 := a10) f8 f9 f10 ∗ nxtInv c i sel ka va q 7 ∗ scoRes (F := F) c X) -∗ Q x))
    ⊢ wp frame (wpE (defs₀ (F := F)) Variants.none (c : Thread nD τ) none) Set.univ (k0_part20 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g0 g16 g26 g36 w41 w43 w71 w82) Q := by
  simp only [k0_part20_eq_skeleton]; unfold k0_part20_skel
  unfold winRes scoRes
  iintro ⟨⟨⟨%f16, H16⟩, HD, HW, ⟨H8, H9, H10⟩, HN, ⟨H19, H20, H21, H22⟩⟩, HQ⟩
  sl_exec
  sl_for (fun k _ => iprop(kDrain c sel ka (itOf i) (k * kN) ∗ owesAny c)) $$ [HD HW]
  · intro k acc; exact t3_step c i h4 h5 h6 h7 h8 h9 h10 h11 h14 h15 h16 sel ka g0 g16 g26 g36 w41 w43 w71 w82 k acc
  · rw [Nat.zero_mul]
    isplitl [HD]; · iexact HD
    iexact HW
  iintro %acc ⟨HD, HW⟩
  rw [show Scf.trips k0_t3_loop.lb k0_t3_loop.ub k0_t3_loop.st * kN = kN * 448 by rw [show Scf.trips k0_t3_loop.lb k0_t3_loop.ub k0_t3_loop.st = 448 by decide]; exact Nat.mul_comm _ _]
  imod (kCollect c sel ka (itOf i)) $$ HD with ⟨HK, HS0, HTk⟩
  sl_exec
  sl_for (fun k _ => stgInv c i (a9 := a9) (a10 := a10) sel ka va q f9 f10 X w41 w43 w71 (rd8 c a8 f8) k) $$ [HN H9 HK H10 H19 H20 H21 H22]
  · intro k acc; exact t4_step c i h4 h5 h6 h7 h8 h9 h10 h11 h14 h15 h16 sel ka va q g0 g16 g26 g36 w41 w43 w71 w82 hsel f9 f10 X (rd8 c a8 f8) _ _ k acc
  · unfold stgInv scoInv
    isplitl [HN]; · iexact HN
    isplitl [H9]; · iexact H9
    isplitl [HK]; · iexact HK
    isplitl [H10]; · iexact H10
    isplitl [H19]; · iexact H19
    isplitl [H20]
    · unfold scoPt
      icases H20 with ⟨%f20, H20⟩
      iexists _
      isplitr; swap
      · iexact H20
      ipureintro; exact fun y hy => absurd hy (Nat.not_lt_zero _)
    isplitl [H21]; · iexact H21
    iexact H22
  iintro %acc' HS
  rw [show Scf.trips k0_t4_loop.lb k0_t4_loop.ub k0_t4_loop.st = 7 by decide]
  unfold stgInv scoInv scoPt
  icases HS with ⟨HN, H9, HK, H10, H19, ⟨%f20, %e20, H20⟩, H21, H22⟩
  sl_exec
  sl_step
  have ev : (View.readAt (Elt F) (Memref.whole cc0_scratch3).view (Rect.unit (s := S28x8x128) ![0, 0, 0] S28x8x128.size inb_S28x8x128_S28x8x128_0_0_0).toLoadRect f20 : Vec F S28x8x128 .f32) = scoA c i sel ka X w41 w43 w71 (rd8 c a8 f8) a10 f10 := by
    funext y
    refine Eq.trans ?_ (e20 y (y 0).isLt)
    refine congrArg (View.read (Elt F) (Memref.whole cc0_scratch3).view f20) ?_
    funext a
    match a with
    | ⟨0, _⟩ => exact Fin.ext (by show 0 + 1 * (y 0).val = (y 0).val; omega)
    | ⟨1, _⟩ => exact Fin.ext (by show 0 + 1 * (y 1).val = (y 1).val; omega)
    | ⟨2, _⟩ => exact Fin.ext (by show 0 + 1 * (y 2).val = (y 2).val; omega)
  iapply HQ
  isplitr
  · ipureintro
    exact ⟨congrArg (k0_pay158 g26 w71 w82) ev, congrArg (k0_pay159 g26 w71 w82) ev⟩
  isplitl [H16]; · unfold knrPt; iexists _; iexact H16
  isplitl [HK HS0 HTk]
  · isplitl [HK]; · iexact HK
    isplitl [HS0]; · iexact HS0
    iexact HTk
  isplitl [HW]; · iexact HW
  isplitl [H8 H9 H10]
  · isplitl [H8]; · iexact H8
    isplitl [H9]; · iexact H9
    iexact H10
  isplitl [HN]; · iexact HN
  isplitl [H19]; · iexact H19
  isplitl [H20]; · iexists _; iexact H20
  isplitl [H21]; · iexact H21
  iexact H22

/-- The first `n` lanes of the probabilities' window. -/
def prbPt (P : S1x1x7x3585.Idx → Elt F .f32) (n : ℕ) : sProp 𝕄 := iprop(∃ f, ⌜∀ y, (y 3).val < n → a15.view.read (Elt F) f y = P y⌝ ∗ pt (F := F) c a15 f)

/-! The probabilities' stores. -/
theorem part21_run (v115 : FVec F S28x8x128 .f32) (v117 : FVec F S8x1 .f32) (Q : _ → sProp 𝕄) :
    iprop(anyPt (F := F) c a15 ∗ (∀ x, (⌜x.1 = k0_pay161 v115 v117 ∧ x.2.1 = k0_pay162 v115 v117 ∧ x.2.2 = k0_pay168 v115 v117⌝ ∗ prbPt c (a15 := a15) (probG (k0_pay161 v115 v117) (k0_pay162 v115 v117)) 640) -∗ Q x))
    ⊢ wp frame (wpE (defs₀ (F := F)) Variants.none (c : Thread nD τ) none) Set.univ (k0_part21 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v115 v117) Q := by
  simp only [k0_part21_eq_skeleton]; unfold k0_part21_skel
  unfold prbPt
  iintro ⟨⟨%f15, H15⟩, HQ⟩
  sl_exec
  sl_step
  iapply HQ
  isplitr; · ipureintro; exact ⟨rfl, rfl, rfl⟩
  iexists _
  isplitr; swap
  · iexact H15
  ipureintro
  refine probs_step _ _ 512 128 _ _ _ _ ?_ ?_
  · intro r l hl
    pointwise [k0_pay167]
    exact probG_at _ _ _ _ rfl (by show 128 * 4 + l.val = 512 + l.val; omega)
  refine probs_step _ _ 384 128 _ _ _ _ ?_ ?_
  · intro r l hl
    pointwise [k0_pay166]
    exact probG_at _ _ _ _ rfl (by show 128 * 3 + l.val = 384 + l.val; omega)
  refine probs_step _ _ 256 128 _ _ _ _ ?_ ?_
  · intro r l hl
    pointwise [k0_pay165]
    exact probG_at _ _ _ _ rfl (by show 128 * 2 + l.val = 256 + l.val; omega)
  refine probs_step _ _ 128 128 _ _ _ _ ?_ ?_
  · intro r l hl
    pointwise [k0_pay164]
    exact probG_at _ _ _ _ rfl (by show 128 * 1 + l.val = 128 + l.val; omega)
  refine probs_step _ _ 0 128 _ _ _ _ ?_ ?_
  · intro r l hl
    pointwise [k0_pay163]
    exact probG_at _ _ _ _ rfl (by show 128 * 0 + l.val = l.val; omega)
  exact fun y hy => absurd hy (Nat.not_lt_zero _)

theorem part22_run (v124 : FVec F S28x8x128 .f32) (v151 : FVec F S1x7x128 .f32) (pn : FVec F S8x1 .f32) (hv : v151 = extractStridedSlice S1x7x128 ![5, 0, 0] v124 slices_S28x8x128_o5_0_0_S1x7x128) (Q : _ → sProp 𝕄) :
    iprop(prbPt c (a15 := a15) (probG v124 pn) 640 ∗ (∀ x, (⌜x = extractStridedSlice S1x7x128 ![11, 0, 0] v124 slices_S28x8x128_o11_0_0_S1x7x128⌝ ∗ prbPt c (a15 := a15) (probG v124 pn) 1408) -∗ Q x))
    ⊢ wp frame (wpE (defs₀ (F := F)) Variants.none (c : Thread nD τ) none) Set.univ (k0_part22 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part22_eq_skeleton]; unfold k0_part22_skel
  unfold prbPt
  subst hv
  iintro ⟨⟨%f15, %e15, H15⟩, HQ⟩
  sl_exec
  sl_step
  iapply HQ
  isplitr; · ipureintro; rfl
  iexists _
  isplitr; swap
  · iexact H15
  ipureintro
  refine probs_step _ _ 1280 128 _ _ _ _ ?_ ?_
  · intro r l hl
    pointwise [k0_pay174]
    exact probG_at _ _ _ _ rfl (by show 128 * 10 + l.val = 1280 + l.val; omega)
  refine probs_step _ _ 1152 128 _ _ _ _ ?_ ?_
  · intro r l hl
    pointwise [k0_pay173]
    exact probG_at _ _ _ _ rfl (by show 128 * 9 + l.val = 1152 + l.val; omega)
  refine probs_step _ _ 1024 128 _ _ _ _ ?_ ?_
  · intro r l hl
    pointwise [k0_pay172]
    exact probG_at _ _ _ _ rfl (by show 128 * 8 + l.val = 1024 + l.val; omega)
  refine probs_step _ _ 896 128 _ _ _ _ ?_ ?_
  · intro r l hl
    pointwise [k0_pay171]
    exact probG_at _ _ _ _ rfl (by show 128 * 7 + l.val = 896 + l.val; omega)
  refine probs_step _ _ 768 128 _ _ _ _ ?_ ?_
  · intro r l hl
    pointwise [k0_pay170]
    exact probG_at _ _ _ _ rfl (by show 128 * 6 + l.val = 768 + l.val; omega)
  refine probs_step _ _ 640 128 _ _ _ _ ?_ ?_
  · intro r l hl
    pointwise [k0_pay169]
    exact probG_at _ _ _ _ rfl (by show 128 * 5 + l.val = 640 + l.val; omega)
  exact e15

theorem part23_run (v124 : FVec F S28x8x128 .f32) (v151 : FVec F S1x7x128 .f32) (pn : FVec F S8x1 .f32) (hv : v151 = extractStridedSlice S1x7x128 ![11, 0, 0] v124 slices_S28x8x128_o11_0_0_S1x7x128) (Q : _ → sProp 𝕄) :
    iprop(prbPt c (a15 := a15) (probG v124 pn) 1408 ∗ (∀ x, (⌜x = extractStridedSlice S1x7x128 ![17, 0, 0] v124 slices_S28x8x128_o17_0_0_S1x7x128⌝ ∗ prbPt c (a15 := a15) (probG v124 pn) 2176) -∗ Q x))
    ⊢ wp frame (wpE (defs₀ (F := F)) Variants.none (c : Thread nD τ) none) Set.univ (k0_part23 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part23_eq_skeleton]; unfold k0_part23_skel
  unfold prbPt
  subst hv
  iintro ⟨⟨%f15, %e15, H15⟩, HQ⟩
  sl_exec
  sl_step
  iapply HQ
  isplitr; · ipureintro; rfl
  iexists _
  isplitr; swap
  · iexact H15
  ipureintro
  refine probs_step _ _ 2048 128 _ _ _ _ ?_ ?_
  · intro r l hl
    pointwise [k0_pay181]
    exact probG_at _ _ _ _ rfl (by show 128 * 16 + l.val = 2048 + l.val; omega)
  refine probs_step _ _ 1920 128 _ _ _ _ ?_ ?_
  · intro r l hl
    pointwise [k0_pay180]
    exact probG_at _ _ _ _ rfl (by show 128 * 15 + l.val = 1920 + l.val; omega)
  refine probs_step _ _ 1792 128 _ _ _ _ ?_ ?_
  · intro r l hl
    pointwise [k0_pay179]
    exact probG_at _ _ _ _ rfl (by show 128 * 14 + l.val = 1792 + l.val; omega)
  refine probs_step _ _ 1664 128 _ _ _ _ ?_ ?_
  · intro r l hl
    pointwise [k0_pay178]
    exact probG_at _ _ _ _ rfl (by show 128 * 13 + l.val = 1664 + l.val; omega)
  refine probs_step _ _ 1536 128 _ _ _ _ ?_ ?_
  · intro r l hl
    pointwise [k0_pay177]
    exact probG_at _ _ _ _ rfl (by show 128 * 12 + l.val = 1536 + l.val; omega)
  refine probs_step _ _ 1408 128 _ _ _ _ ?_ ?_
  · intro r l hl
    pointwise [k0_pay176]
    exact probG_at _ _ _ _ rfl (by show 128 * 11 + l.val = 1408 + l.val; omega)
  exact e15

theorem part24_run (v124 : FVec F S28x8x128 .f32) (v151 : FVec F S1x7x128 .f32) (pn : FVec F S8x1 .f32) (hv : v151 = extractStridedSlice S1x7x128 ![17, 0, 0] v124 slices_S28x8x128_o17_0_0_S1x7x128) (Q : _ → sProp 𝕄) :
    iprop(prbPt c (a15 := a15) (probG v124 pn) 2176 ∗ (∀ x, (⌜x = extractStridedSlice S1x7x128 ![23, 0, 0] v124 slices_S28x8x128_o23_0_0_S1x7x128⌝ ∗ prbPt c (a15 := a15) (probG v124 pn) 2944) -∗ Q x))
    ⊢ wp frame (wpE (defs₀ (F := F)) Variants.none (c : Thread nD τ) none) Set.univ (k0_part24 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v151) Q := by
  simp only [k0_part24_eq_skeleton]; unfold k0_part24_skel
  unfold prbPt
  subst hv
  iintro ⟨⟨%f15, %e15, H15⟩, HQ⟩
  sl_exec
  sl_step
  iapply HQ
  isplitr; · ipureintro; rfl
  iexists _
  isplitr; swap
  · iexact H15
  ipureintro
  refine probs_step _ _ 2816 128 _ _ _ _ ?_ ?_
  · intro r l hl
    pointwise [k0_pay188]
    exact probG_at _ _ _ _ rfl (by show 128 * 22 + l.val = 2816 + l.val; omega)
  refine probs_step _ _ 2688 128 _ _ _ _ ?_ ?_
  · intro r l hl
    pointwise [k0_pay187]
    exact probG_at _ _ _ _ rfl (by show 128 * 21 + l.val = 2688 + l.val; omega)
  refine probs_step _ _ 2560 128 _ _ _ _ ?_ ?_
  · intro r l hl
    pointwise [k0_pay186]
    exact probG_at _ _ _ _ rfl (by show 128 * 20 + l.val = 2560 + l.val; omega)
  refine probs_step _ _ 2432 128 _ _ _ _ ?_ ?_
  · intro r l hl
    pointwise [k0_pay185]
    exact probG_at _ _ _ _ rfl (by show 128 * 19 + l.val = 2432 + l.val; omega)
  refine probs_step _ _ 2304 128 _ _ _ _ ?_ ?_
  · intro r l hl
    pointwise [k0_pay184]
    exact probG_at _ _ _ _ rfl (by show 128 * 18 + l.val = 2304 + l.val; omega)
  refine probs_step _ _ 2176 128 _ _ _ _ ?_ ?_
  · intro r l hl
    pointwise [k0_pay183]
    exact probG_at _ _ _ _ rfl (by show 128 * 17 + l.val = 2176 + l.val; omega)
  exact e15

theorem part25_run (v124 : FVec F S28x8x128 .f32) (v125 : FVec F S8x1 .f32) (v151 : FVec F S1x7x128 .f32) (hv : v151 = extractStridedSlice S1x7x128 ![23, 0, 0] v124 slices_S28x8x128_o23_0_0_S1x7x128) (Q : _ → sProp 𝕄) :
    iprop(prbPt c (a15 := a15) (probG v124 v125) 2944 ∗ (∀ x, (prbPt c (a15 := a15) (probG v124 v125) 3585) -∗ Q x))
    ⊢ wp frame (wpE (defs₀ (F := F)) Variants.none (c : Thread nD τ) none) Set.univ (k0_part25 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 v124 v125 v151) Q := by
  simp only [k0_part25_eq_skeleton]; unfold k0_part25_skel
  unfold prbPt
  subst hv
  iintro ⟨⟨%f15, %e15, H15⟩, HQ⟩
  sl_exec
  sl_step
  iapply HQ
  iexists _
  isplitr; swap
  · iexact H15
  ipureintro
  refine probs_step _ _ 3584 1 _ _ _ (probG v124 v125) ?_ ?_
  · intro r l hl
    pointwise [k0_pay195]
    exact probG_new _ _ _ _ rfl (by show 3584 ≤ 3584; omega)
  refine probs_step _ _ 3456 128 _ _ _ _ ?_ ?_
  · intro r l hl
    pointwise [k0_pay194]
    exact probG_at _ _ _ _ rfl (by show 128 * 27 + l.val = 3456 + l.val; omega)
  refine probs_step _ _ 3328 128 _ _ _ _ ?_ ?_
  · intro r l hl
    pointwise [k0_pay193]
    exact probG_at _ _ _ _ rfl (by show 128 * 26 + l.val = 3328 + l.val; omega)
  refine probs_step _ _ 3200 128 _ _ _ _ ?_ ?_
  · intro r l hl
    pointwise [k0_pay192]
    exact probG_at _ _ _ _ rfl (by show 128 * 25 + l.val = 3200 + l.val; omega)
  refine probs_step _ _ 3072 128 _ _ _ _ ?_ ?_
  · intro r l hl
    pointwise [k0_pay191]
    exact probG_at _ _ _ _ rfl (by show 128 * 24 + l.val = 3072 + l.val; omega)
  refine probs_step _ _ 2944 128 _ _ _ _ ?_ ?_
  · intro r l hl
    pointwise [k0_pay190]
    exact probG_at _ _ _ _ rfl (by show 128 * 23 + l.val = 2944 + l.val; omega)
  exact e15

/-- The weighted sum and the output's first store. -/
theorem part26_run (g16 g26 g36 : BitVec 32) (v88 : IVec S4x128 1) (v124 : FVec F S28x8x128 .f32) (v125 : FVec F S8x1 .f32) (Q : _ → sProp 𝕄) :
    iprop((anyPt (F := F) c a14 ∗ vDrain c sel va (itOf i) 0 ∗ owesAny c ∗ pt (F := F) c a7 f7 ∗ anyPt (F := F) c (Memref.whole cc0_scratch3) ∗ anyPt (F := F) c (Memref.whole cc0_scratch5)) ∗
      (∀ x, (anyPt (F := F) c a14 ∗ (vHeld c sel va (itOf i) ∗ vSem0 c (slotOf (itOf i)) ∗ vToks c va (slotOf (itOf i))) ∗ owesAny c ∗ pt (F := F) c a7 f7 ∗ anyPt (F := F) c (Memref.whole cc0_scratch3) ∗ anyPt (F := F) c (Memref.whole cc0_scratch5)) -∗ Q x))
    ⊢ wp frame (wpE (defs₀ (F := F)) Variants.none (c : Thread nD τ) none) Set.univ (k0_part26 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g36 v88 v124 v125) Q := by
  simp only [k0_part26_eq_skeleton]; unfold k0_part26_skel
  iintro ⟨⟨⟨%f14, H14⟩, HD, HW, H7, ⟨%f20, H20⟩, ⟨%f22, H22⟩⟩, HQ⟩
  sl_exec
  ihave HDW : iprop(vDrain c sel va (itOf i) 0 ∗ owesAny c) $$ [HD HW]
  · isplitl [HD]; · iexact HD
    iexact HW
  iapply (wp_vWait c sel va (itOf i) 0 448 (by simp only [vN]; omega) _ (off25_closed i) _ rfl rfl) $$ HDW
  iintro ⟨HD, HW⟩
  rw [show 0 + 448 * vN = vN * 448 by rw [Nat.zero_add, Nat.mul_comm]]
  imod (vCollect c sel va (itOf i)) $$ HD with ⟨HV, HS0, HTk⟩
  simp only [prog_bind]
  sl_for (fun _ _ => sumInv c i sel va) $$ [HV H20]
  · intro k acc; exact t8_step c i h4 h5 h6 h7 h8 h9 h10 h11 h14 h15 h16 sel va g16 g26 g36 v88 v124 v125 k acc
  · unfold sumInv
    isplitl [HV]; · iexact HV
    iexists _; iexact H20
  iintro %acc HS
  unfold sumInv
  icases HS with ⟨HV, H20⟩
  sl_exec
  sl_step
  iapply HQ
  isplitl [H14]; · iexists _; iexact H14
  isplitl [HV HS0 HTk]
  · isplitl [HV]; · iexact HV
    isplitl [HS0]; · iexact HS0
    iexact HTk
  isplitl [HW]; · iexact HW
  isplitl [H7]; · iexact H7
  isplitl [H20]; · iexact H20
  iexists _; iexact H22

/-! ## The flights between items -/

/-- Slot `s` of both buffers with nothing in flight. -/
def freeS (s : Fin 2) : sProp 𝕄 := iprop((kFree (F := F) c s ∗ kSem0 c s ∗ kToks c ka s) ∗ (vFree (F := F) c s ∗ vSem0 c s ∗ vToks c va s))

/-- Before item `k`: its transfers in flight into its slot and the other slot free; before the first and after the last both slots free. -/
def flight (k : ℕ) : sProp 𝕄 :=
  if h : 0 < k ∧ k < 24 then iprop(kIss c sel ka ⟨k, h.2⟩ 448 ∗ vIss c sel va ⟨k, h.2⟩ 448 ∗ freeS c ka va (slotOf ⟨(k + 1) % 24, Nat.mod_lt _ (by decide)⟩))
  else iprop(freeS c ka va 0 ∗ freeS c ka va 1)

theorem flight_mid (h1 : ¬ k0_cond1 i = 1#1) : flight c sel ka va (i 0).val = iprop(kIss c sel ka (itOf i) 448 ∗ vIss c sel va (itOf i) 448 ∗ freeS c ka va (slotOf (nxtOf i))) := by
  have h0 : (i 0).val ≠ 0 := fun e => h1 ((cond1_iff i).mpr e)
  unfold flight
  rw [dif_pos ⟨Nat.pos_of_ne_zero h0, (i 0).isLt⟩]; rfl

theorem flight_first (h1 : k0_cond1 i = 1#1) : flight c sel ka va (i 0).val = iprop(freeS c ka va (slotOf (0 : Fin 24)) ∗ freeS c ka va (slotOf (nxtOf i))) := by
  have h0 := (cond1_iff i).mp h1
  have hn : nxtOf i = (1 : Fin 24) := by unfold nxtOf; simp only [h0]; rfl
  rw [h0, hn]; unfold flight
  rw [dif_neg (by omega)]; rfl

/-- Starting an item's transfers in its free slot. -/
theorem begin_both (it : Fin 24) : freeS c ka va (slotOf it) ⊢ (|={Set.univ}=> iprop(kIss c sel ka it 0 ∗ vIss c sel va it 0) : sProp 𝕄) := by
  unfold freeS
  iintro ⟨HK, HV⟩
  imod (kBegin c sel ka it) $$ HK with HK
  imod (vBegin c sel va it) $$ HV with HV
  imodintro
  isplitl [HK]; · iexact HK
  iexact HV

/-- Beside the stages' loop: the other slot when there is no next item. -/
def nxtSpare : sProp 𝕄 := if k0_cond2 i = 1#1 then iprop(⌜True⌝) else freeS c ka va (slotOf (nxtOf i))

theorem nxt_start : iprop(tabPt (F := F) c sel q ∗ freeS c ka va (slotOf (nxtOf i))) ⊢ (|={Set.univ}=> iprop(nxtInv c i sel ka va q 0 ∗ nxtSpare c i ka va) : sProp 𝕄) := by
  unfold nxtInv nxtSpare
  by_cases h2 : k0_cond2 i = 1#1
  · rw [if_pos h2, if_pos h2]
    iintro ⟨HT, HF⟩
    imod (begin_both c sel ka va (nxtOf i)) $$ HF with ⟨HK, HV⟩
    imodintro
    isplitl
    · unfold issInv
      isplitl [HK]; · iexact HK
      isplitl [HV]; · iexact HV
      iexact HT
    ipureintro; trivial
  · rw [if_neg h2, if_neg h2]
    iintro H
    imodintro
    iexact H

theorem nxt_end : iprop(nxtInv c i sel ka va q 7 ∗ nxtSpare c i ka va ∗ freeS c ka va (slotOf (itOf i))) ⊢ (iprop(tabPt (F := F) c sel q ∗ flight c sel ka va ((i 0).val + 1)) : sProp 𝕄) := by
  unfold nxtInv nxtSpare
  have hlt : (i 0).val < 24 := (i 0).isLt
  by_cases h2 : k0_cond2 i = 1#1
  · have hl := (cond2_iff i).mp h2
    have hn : nxtOf i = ⟨(i 0).val + 1, hl⟩ := Fin.ext (Nat.mod_eq_of_lt hl)
    have hs : slotOf (itOf i) = slotOf ⟨((i 0).val + 1 + 1) % 24, Nat.mod_lt _ (by decide)⟩ := Fin.ext (by show (i 0).val % 2 = ((i 0).val + 1 + 1) % 24 % 2; omega)
    rw [if_pos h2, if_pos h2, hn, hs]
    unfold flight issInv
    rw [dif_pos ⟨Nat.succ_pos _, hl⟩]
    iintro ⟨⟨HK, HV, HT⟩, -, HF⟩
    isplitl [HT]; · iexact HT
    isplitl [HK]; · iexact HK
    isplitl [HV]; · iexact HV
    iexact HF
  · have hl : ¬ (i 0).val + 1 < 24 := fun e => h2 ((cond2_iff i).mpr e)
    have e23 : (i 0).val = 23 := by omega
    have hs : slotOf (itOf i) = 1 := Fin.ext (by show (i 0).val % 2 = 1; omega)
    have hn : slotOf (nxtOf i) = 0 := Fin.ext (by show ((i 0).val + 1) % 24 % 2 = 0; omega)
    rw [if_neg h2, if_neg h2, hs, hn]
    unfold flight
    rw [dif_neg (by omega)]

theorem kHeld_free (it : Fin 24) : (kHeld c sel ka it : sProp 𝕄) ⊢ kFree (F := F) c (slotOf it) := by
  unfold kHeld kFree; iintro H; iexists _; iexact H
theorem vHeld_free (it : Fin 24) : (vHeld c sel va it : sProp 𝕄) ⊢ vFree (F := F) c (slotOf it) := by
  unfold vHeld vFree; iintro H; iexists _; iexact H

/-! ## The body -/

/-- What the first part works with at every item. -/
def rowRes (k : ℕ) : sProp 𝕄 := iprop(prepAt c (a4 := a4) (a5 := a5) f4 f5 k ∗ lenPt c q len ∗ posPt c q pos ∗ pt (F := F) c a6 f6 ∗ pt (F := F) c a11 f11)

theorem part19_run (hsel : SelOK (F := F) sel) (g16 g26 g38 : BitVec 32) (Q : _ → sProp 𝕄) :
    iprop((flight c sel ka va (i 0).val ∗ tabPt (F := F) c sel q ∗ rowRes c (a4 := a4) (a5 := a5) (a6 := a6) (a11 := a11) q len pos f4 f5 f6 f11 (i 0).val) ∗
      (∀ x, (⌜x.1 = lenW i len ∧ x.2.1 = posW i pos ∧ x.2.2.1 = rotQ c i a5 a11 len pos f5 f11 ∧ x.2.2.2 = rotK c i a6 a11 len pos f6 f11⌝ ∗ kDrain c sel ka (itOf i) 0 ∗ vDrain c sel va (itOf i) 0 ∗ freeS c ka va (slotOf (nxtOf i)) ∗ tabPt (F := F) c sel q
          ∗ rowRes c (a4 := a4) (a5 := a5) (a6 := a6) (a11 := a11) q len pos f4 f5 f6 f11 ((i 0).val + 1)) -∗ Q x))
    ⊢ wp frame (wpE (defs₀ (F := F)) Variants.none (c : Thread nD τ) none) Set.univ (k0_part19 i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 g16 g26 g38) Q := by
  by_cases h1 : k0_cond1 i = 1#1
  · rw [flight_first c i sel ka va h1]
    have hit : itOf i = (0 : Fin 24) := Fin.ext ((cond1_iff i).mp h1)
    rw [hit]
    have h0 : (i 0).val = 0 := (cond1_iff i).mp h1
    rw [h0]
    unfold rowRes prepAt
    rw [if_pos rfl, if_neg (by omega)]
    iintro ⟨⟨⟨HF, HF'⟩, HT, HR, HL, HP, H6, H11⟩, HQ⟩
    imod (begin_both c sel ka va 0) $$ HF with ⟨HK, HV⟩
    iapply (part19_run1 c i h4 h5 h6 h7 h8 h9 h10 h11 h14 h15 h16 sel ka va q len pos f4 f5 f6 f11 hsel h1 g16 g26 g38 Q)
    isplitl [HK HV HT HR HL HP H6 H11]
    · isplitl [HK HV HT]
      · unfold issInv
        isplitl [HK]; · iexact HK
        isplitl [HV]; · iexact HV
        iexact HT
      isplitl [HR]; · iexact HR
      isplitl [HL]; · iexact HL
      isplitl [HP]; · iexact HP
      isplitl [H6]; · iexact H6
      iexact H11
    iintro %x ⟨He, HI, HR, HL, HP, H6, H11⟩
    unfold issInv
    icases HI with ⟨HK, HV, HT⟩
    iapply HQ
    isplitl [He]; · iexact He
    isplitl [HK]; · iapply (kIss_all c sel ka 0) $$ HK
    isplitl [HV]; · iapply (vIss_all c sel va 0) $$ HV
    isplitl [HF']; · iexact HF'
    isplitl [HT]; · iexact HT
    isplitl [HR]; · iexact HR
    isplitl [HL]; · iexact HL
    isplitl [HP]; · iexact HP
    isplitl [H6]; · iexact H6
    iexact H11
  · rw [flight_mid c i sel ka va h1]
    have h0 : ¬ (i 0).val = 0 := fun h => h1 ((cond1_iff i).mpr h)
    unfold rowRes prepAt
    rw [if_neg h0, if_neg (by omega)]
    unfold prepDone
    iintro ⟨⟨⟨HK, HV, HF'⟩, HT, ⟨H4, H5, H19, H23⟩, HL, HP, H6, H11⟩, HQ⟩
    iapply (part19_run0 c i h4 h5 h6 h7 h8 h9 h10 h11 h14 h15 h16 q len pos f5 f6 f11 h1 g16 g26 g38 Q)
    isplitl [H23 HL HP H6 H11]
    · isplitl [H23]; · iexact H23
      isplitl [HL]; · iexact HL
      isplitl [HP]; · iexact HP
      isplitl [H6]; · iexact H6
      iexact H11
    iintro %x ⟨He, H23, HL, HP, H6, H11⟩
    iapply HQ
    isplitl [He]; · iexact He
    isplitl [HK]; · iapply (kIss_all c sel ka (itOf i)) $$ HK
    isplitl [HV]; · iapply (vIss_all c sel va (itOf i)) $$ HV
    isplitl [HF']; · iexact HF'
    isplitl [HT]; · iexact HT
    isplitl [H4 H5 H19 H23]
    · isplitl [H4]; · iexact H4
      isplitl [H5]; · iexact H5
      isplitl [H19]; · iexact H19
      iexact H23
    isplitl [HL]; · iexact HL
    isplitl [HP]; · iexact HP
    isplitl [H6]; · iexact H6
    iexact H11

/-- What the body holds at an item's start (`k` its number) and at its end (`k` the next), beside the three written windows. -/
def bodyRes (k : ℕ) : sProp 𝕄 :=
  iprop(flight c sel ka va k ∗ tabPt (F := F) c sel q ∗ rowRes c (a4 := a4) (a5 := a5) (a6 := a6) (a11 := a11) q len pos f4 f5 f6 f11 k ∗ pt (F := F) c a7 f7 ∗ winRes c (a8 := a8) (a9 := a9) (a10 := a10) f8 f9 f10
    ∗ anyPt (F := F) c (Memref.whole cc0_scratch3) ∗ anyPt (F := F) c (Memref.whole cc0_scratch4) ∗ anyPt (F := F) c (Memref.whole cc0_scratch5) ∗ owesAny c)

/-- The scores the item's probabilities are taken of, and the probabilities. -/
def itScores (i : grid0.Coords) (a4 : Memref sig .tc .vmem S24x448 .i32) (a5 : Memref sig .tc .vmem S6x3584 .bf16) (a8 : Memref sig .tc .vmem S1x160x128 .bf16) (a10 : Memref sig .tc .vmem S64x128 .f32) (a11 : Memref sig .tc .vmem S1x128 .f32) (sel : S6x4x448.Idx → Elt F .i32) (ka : S6x65536x160.Idx → Elt F .bf16) (len pos : S6.Idx → Elt F .i32)
    (f4 : Buf (Elt F) (a4.view.loc (c : Thread nD τ))) (f5 : Buf (Elt F) (a5.view.loc (c : Thread nD τ))) (f8 : Buf (Elt F) (a8.view.loc (c : Thread nD τ))) (f10 : Buf (Elt F) (a10.view.loc (c : Thread nD τ))) (f11 : Buf (Elt F) (a11.view.loc (c : Thread nD τ))) : S28x8x128.Idx → Elt F .f32 :=
  scoA c i sel ka (tokX c a4 f4) (lenW i len) (posW i pos) (rotQ c i a5 a11 len pos f5 f11) (rd8 c a8 f8) a10 f10
def headW (i : grid0.Coords) : BitVec 32 :=
  have v18 : BitVec 32 := Scalar.select (Scalar.cmpi .eq 4#32 0#32) 1#32 4#32
  have v19 : BitVec 32 := Scalar.remsi (BitVec.ofNat 32 (i 0).val) v18
  Scalar.select (Scalar.andi (Scalar.xori (Scalar.cmpi .slt v19 0#32) (Scalar.cmpi .slt v18 0#32)) (Scalar.cmpi .ne v19 0#32)) (Scalar.addi v19 v18) v19
def prbP (i : grid0.Coords) (w71 : FVec F S8x128 .bf16) (w82 : FVec F S4x128 .bf16) (S : FVec F S28x8x128 .f32) : S1x1x7x3585.Idx → Elt F .f32 :=
  probG (k0_pay161 (k0_pay158 (headW i) w71 w82 S) (k0_pay159 (headW i) w71 w82 S)) (k0_pay162 (k0_pay158 (headW i) w71 w82 S) (k0_pay159 (headW i) w71 w82 S))

theorem body_run (hsel : SelOK (F := F) sel) (Q : PUnit → sProp 𝕄) :
    iprop((bodyRes c (a4 := a4) (a5 := a5) (a6 := a6) (a7 := a7) (a8 := a8) (a9 := a9) (a10 := a10) (a11 := a11) sel ka va q len pos f4 f5 f6 f7 f8 f9 f10 f11 (i 0).val ∗ anyPt (F := F) c a14 ∗ anyPt (F := F) c a15 ∗ anyPt (F := F) c a16) ∗
      ((bodyRes c (a4 := a4) (a5 := a5) (a6 := a6) (a7 := a7) (a8 := a8) (a9 := a9) (a10 := a10) (a11 := a11) sel ka va q len pos f4 f5 f6 f7 f8 f9 f10 f11 ((i 0).val + 1) ∗ anyPt (F := F) c a14 ∗ prbPt c (a15 := a15) (prbP i (rotQ c i a5 a11 len pos f5 f11) (rotK c i a6 a11 len pos f6 f11) (itScores c i a4 a5 a8 a10 a11 sel ka len pos f4 f5 f8 f10 f11)) 3585
          ∗ knrPt c (a16 := a16) (rotK c i a6 a11 len pos f6 f11)) -∗ Q ⟨⟩))
    ⊢ wp frame (wpE (defs₀ (F := F)) Variants.none (c : Thread nD τ) none) Set.univ (cc0__body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) Q := by
  simp only [cc0__body_eq_skeleton]; unfold cc0__body_skel
  simp only [k0_part18_eq_skeleton]; unfold k0_part18_skel
  unfold bodyRes
  iintro ⟨⟨⟨HF, HT, HR, H7, HWn, H20, H21, H22, HW⟩, H14, H15, H16⟩, HQ⟩
  iapply (Entails.of_eq (wp_bind _ _ _ _ _ _).symm)
  dsimp only
  sl_step
  iapply (Entails.of_eq (wp_bind _ _ _ _ _ _).symm)
  iapply (part19_run c i h4 h5 h6 h7 h8 h9 h10 h11 h14 h15 h16 sel ka va q len pos f4 f5 f6 f11 hsel _ _ _ _)
  isplitl [HF HT HR]
  · isplitl [HF]; · iexact HF
    isplitl [HT]; · iexact HT
    iexact HR
  iintro %x ⟨%hx, HDK, HDV, HF, HT, HR⟩
  imod (nxt_start c i sel ka va q) $$ [HT HF] with ⟨HN, HSp⟩
  · isplitl [HT]; · iexact HT
    iexact HF
  unfold rowRes prepAt
  rw [if_neg (Nat.succ_ne_zero _)]
  unfold prepDone
  icases HR with ⟨⟨H4, H5, H19, H23⟩, HL, HP, H6, H11⟩
  iapply (Entails.of_eq (wp_bind _ _ _ _ _ _).symm)
  iapply (part20_run c i h4 h5 h6 h7 h8 h9 h10 h11 h14 h15 h16 sel ka va q f8 f9 f10 hsel (tokX c a4 f4) _ _ _ _ _ _ _ _ _)
  isplitl [H16 HDK HW HWn HN H19 H20 H21 H22]
  · isplitl [H16]; · iexact H16
    isplitl [HDK]; · iexact HDK
    isplitl [HW]; · iexact HW
    isplitl [HWn]; · iexact HWn
    isplitl [HN]; · iexact HN
    unfold scoRes
    isplitl [H19]; · iexact H19
    isplitl [H20]; · iexact H20
    isplitl [H21]; · iexact H21
    iexact H22
  iintro %y ⟨%hy, H16, ⟨HHk, HSk, HTk⟩, HW, HWn, HN, HSc⟩
  unfold scoRes
  icases HSc with ⟨H19, H20, H21, H22⟩
  iapply (Entails.of_eq (wp_bind _ _ _ _ _ _).symm)
  iapply (part21_run c i h4 h5 h6 h7 h8 h9 h10 h11 h14 h15 h16 _ _ _)
  isplitl [H15]; · iexact H15
  iintro %z21 ⟨%h21, H15⟩
  iapply (Entails.of_eq (wp_bind _ _ _ _ _ _).symm)
  iapply (part22_run c i h4 h5 h6 h7 h8 h9 h10 h11 h14 h15 h16 _ _ z21.2.1 (h21.2.2.trans (by rw [h21.1]; rfl)) _)
  isplitl [H15]; · rw [h21.1, h21.2.1]; iexact H15
  iintro %z22 ⟨%h22, H15⟩
  iapply (Entails.of_eq (wp_bind _ _ _ _ _ _).symm)
  iapply (part23_run c i h4 h5 h6 h7 h8 h9 h10 h11 h14 h15 h16 _ _ z21.2.1 (h22) _)
  isplitl [H15]; · iexact H15
  iintro %z23 ⟨%h23, H15⟩
  iapply (Entails.of_eq (wp_bind _ _ _ _ _ _).symm)
  iapply (part24_run c i h4 h5 h6 h7 h8 h9 h10 h11 h14 h15 h16 _ _ z21.2.1 (h23) _)
  isplitl [H15]; · iexact H15
  iintro %z24 ⟨%h24, H15⟩
  iapply (Entails.of_eq (wp_bind _ _ _ _ _ _).symm)
  iapply (part25_run c i h4 h5 h6 h7 h8 h9 h10 h11 h14 h15 h16 _ _ _ h24 _)
  isplitl [H15]; · iexact H15
  iintro %z25 H15
  iapply (Entails.of_eq (wp_bind _ _ _ _ _ _).symm)
  iapply (part26_run c i h4 h5 h6 h7 h8 h9 h10 h11 h14 h15 h16 sel va f7 _ _ _ _ _ _ _)
  isplitl [H14 HDV HW H7 H20 H22]
  · isplitl [H14]; · iexact H14
    isplitl [HDV]; · iexact HDV
    isplitl [HW]; · iexact HW
    isplitl [H7]; · iexact H7
    isplitl [H20]; · iexact H20
    iexact H22
  iintro %w ⟨⟨%f14, H14⟩, ⟨HHv, HSv, HTv⟩, HW, H7, H20, H22⟩
  sl_exec
  sl_step
  iapply HQ
  ihave HE : iprop(nxtInv c i sel ka va q 7 ∗ nxtSpare c i ka va ∗ freeS c ka va (slotOf (itOf i))) $$ [HN HSp HHk HSk HTk HHv HSv HTv]
  · isplitl [HN]; · iexact HN
    isplitl [HSp]; · iexact HSp
    unfold freeS
    isplitl [HHk HSk HTk]
    · isplitl [HHk]; · iapply (kHeld_free c sel ka (itOf i)) $$ HHk
      isplitl [HSk]; · iexact HSk
      iexact HTk
    isplitl [HHv]; · iapply (vHeld_free c sel va (itOf i)) $$ HHv
    isplitl [HSv]; · iexact HSv
    iexact HTv
  ihave HE' := (nxt_end c i sel ka va q) $$ HE
  icases HE' with ⟨HT, HF⟩
  isplitl [HF HT H4 H5 H19 H23 HL HP H6 H11 H7 HWn H20 H21 H22 HW]
  · isplitl [HF]; · iexact HF
    isplitl [HT]; · iexact HT
    isplitl [H4 H5 H19 H23 HL HP H6 H11]
    · isplitl [H4 H5 H19 H23]
      · isplitl [H4]; · iexact H4
        isplitl [H5]; · iexact H5
        isplitl [H19]; · iexact H19
        iexact H23
      isplitl [HL]; · iexact HL
      isplitl [HP]; · iexact HP
      isplitl [H6]; · iexact H6
      iexact H11
    isplitl [H7]; · iexact H7
    isplitl [HWn]; · iexact HWn
    isplitl [H20]; · iexact H20
    isplitl [H21]; · iexact H21
    isplitl [H22]; · iexact H22
    iexact HW
  isplitl [H14]; · iexists _; iexact H14
  obtain ⟨e1, e2, e3, e4⟩ := hx
  isplitl [H15]
  · rw [h21.1, h21.2.1, hy.1, hy.2, e1, e2, e3, e4]
    iexact H15
  rw [← e4]
  iexact H16

end Cert.KernelIdeal.Hand

end
-- ==== Proof.IEntry.lean ====
/- Entering and leaving the pipeline: the invariant of the whole run, from what the launch hands over and back to it. -/
module

public import proofs.«01_k».proof.Proof.IBody
public import proofs.«01_k».proof.Proof.Gen.KernelIdeal.Launch
public import Idealize.ShloMosaic.Lib.Pipeline.FrameBody
public import Idealize.ShloMosaic.Lib.Ring

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ)

/-- The arrays once the host operations have run. -/
abbrev V (c : Dev nD) (b : Ref sig .tc) : Buf (Elt F) ((c : Thread nD τ).loc b) := StableHlo.after hostOps0 (fun b => m (c, b)) b

abbrev selOf (c : Dev nD) : S6x4x448.Idx → Elt F .i32 := V m c main_arg7
abbrev lenOf (c : Dev nD) : S6.Idx → Elt F .i32 := V m c main_arg8
abbrev posOf (c : Dev nD) : S6.Idx → Elt F .i32 := V m c main_arg9
abbrev kaOf (c : Dev nD) : S6x65536x160.Idx → Elt F .bf16 := V m c main_arg3
abbrev vaOf (c : Dev nD) : S6x65536x4x128.Idx → Elt F .fp8e4m3 := V m c main_arg5

/-- The prefetched tables. -/
abbrev tbl : pre0.Contents (Elt F) := fun k => V m 0 (pre0.ref k)
abbrev adm : (p : Fin 1) → (pcfgs (F := F) p).Adm := fun _ => ⟨tbl m, trivial⟩

/-- The four DMA cells of the body: two for K, two for V. -/
abbrev osem0 : Fin 4 → SemLoc sig := fun j => (![SemLoc.dma (kCell 0), SemLoc.dma (kCell 1), SemLoc.dma (vCell 0), SemLoc.dma (vCell 1)] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(kSem0 (F := F) c 0 ∗ kSem0 (F := F) c 1 ∗ vSem0 (F := F) c 0 ∗ vSem0 (F := F) c 1) := by
  rw [Pipeline.ownSems0_eq_of_list c osem0 [0, 1, 2, 3] (by decide) (by decide)]; rfl

/-- The arrays the body's transfers read. -/
def H0 : Finset (Ref sig .tc) := {main_arg3, main_arg5}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((((c : Thread nD τ).loc main_arg3) ↦{fullShare} V m c main_arg3) ∗ (((c : Thread nD τ).loc main_arg5) ↦{fullShare} V m c main_arg5)) := by
  rw [BI.bigSep_eq_bigSepL_of_eq [main_arg3, main_arg5] (by decide) (by decide)]; rfl

/-- 896 tokens in two lots. -/
theorem lots (Φ : ℕ → sProp 𝕄) : bigSep (Finset.range 896) Φ
    = iprop((bigSep Finset.univ fun t : Fin 448 => Φ (448 * (0 : Fin 2).val + t.val)) ∗ bigSep Finset.univ fun t : Fin 448 => Φ (448 * (1 : Fin 2).val + t.val)) := by
  have e : Finset.range 896 = (Finset.univ.map (⟨fun t : Fin 448 => 448 * (0 : Fin 2).val + t.val, fun a b h => Fin.ext (Nat.add_left_cancel h)⟩ : Fin 448 ↪ ℕ))
      ∪ (Finset.univ.map (⟨fun t : Fin 448 => 448 * (1 : Fin 2).val + t.val, fun a b h => Fin.ext (Nat.add_left_cancel h)⟩ : Fin 448 ↪ ℕ)) := by
    ext x
    simp only [Finset.mem_range, Finset.mem_union, Finset.mem_map, Finset.mem_univ, true_and, Function.Embedding.coeFn_mk]
    constructor
    · intro hx
      by_cases h : x < 448
      · exact .inl ⟨⟨x, h⟩, by simp⟩
      · exact .inr ⟨⟨x - 448, by omega⟩, by simp; omega⟩
    · rintro (⟨t, rfl⟩ | ⟨t, rfl⟩) <;> have := t.isLt <;> simp <;> omega
  rw [e, bigSep_union, bigSep_map, bigSep_map]; rfl
  rw [Finset.disjoint_left]
  intro x hx hy
  simp only [Finset.mem_map, Finset.mem_univ, true_and, Function.Embedding.coeFn_mk] at hx hy
  obtain ⟨a, rfl⟩ := hx; obtain ⟨b, hb⟩ := hy
  have := a.isLt; simp at hb; omega

variable (c : Dev nD)

/-- What is left of an array once its read tokens are taken. -/
abbrev kRem (ka : S6x65536x160.Idx → Elt F .bf16) : sProp 𝕄 := ((c : Thread nD τ).loc main_arg3) ↦{Transfers.shareDrop fullShare 896} ka
abbrev vRem (va : S6x65536x4x128.Idx → Elt F .fp8e4m3) : sProp 𝕄 := ((c : Thread nD τ).loc main_arg5) ↦{Transfers.shareDrop fullShare 896} va

theorem kArr_toks (ka : S6x65536x160.Idx → Elt F .bf16) :
    (((c : Thread nD τ).loc main_arg3) ↦{fullShare} ka : sProp 𝕄) ⊣⊢ iprop(kRem c ka ∗ kToks c ka 0 ∗ kToks c ka 1) := by
  unfold kToks
  rw [← lots (fun n => kTok c ka n)]
  exact Transfers.pointsTo_toks_range fullShare 896
theorem vArr_toks (va : S6x65536x4x128.Idx → Elt F .fp8e4m3) :
    (((c : Thread nD τ).loc main_arg5) ↦{fullShare} va : sProp 𝕄) ⊣⊢ iprop(vRem c va ∗ vToks c va 0 ∗ vToks c va 1) := by
  unfold vToks
  rw [← lots (fun n => vTok c va n)]
  exact Transfers.pointsTo_toks_range fullShare 896

theorem two {Φ : Fin 2 → sProp 𝕄} : bigSep Finset.univ Φ = iprop(Φ 0 ∗ Φ 1) := bigSep_univ_eq_bigSepL [(0 : Fin 2), (1 : Fin 2)] (by decide) (by decide) Φ

theorem kBuf_split (f : Buf (Elt F) ((c : Thread nD τ).loc cc0_scratch0)) :
    (((c : Thread nD τ).loc cc0_scratch0) ↦{fullShare} f : sProp 𝕄) ⊢ iprop(kFree (F := F) c 0 ∗ kFree (F := F) c 1) := by
  rw [Ring.pointsTo_blocks (ℓ := (c : Thread nD τ).loc cc0_scratch0) kSlot kSlot_disjoint kSlot_cover f, two]
  unfold kFree
  iintro ⟨H0, H1⟩
  isplitl [H0]
  · iexists f; iexact H0
  iexists f; iexact H1
theorem kBuf_join : iprop(kFree (F := F) c 0 ∗ kFree (F := F) c 1)
    ⊢ (iprop(∃ f : Buf (Elt F) ((c : Thread nD τ).loc cc0_scratch0), ((c : Thread nD τ).loc cc0_scratch0) ↦{fullShare} f) : sProp 𝕄) := by
  have h := Ring.pointsTo_blocks_join_exists (Ix := Unit) (Val := Elt F) (Name := ℕ) (U := Pipeline.UD sig nD τ) (Lvl := ℕ) (ℓ := (c : Thread nD τ).loc cc0_scratch0) kSlot kSlot_disjoint kSlot_cover (q := fullShare) (fun _ => Classical.arbitrary _)
  rw [two] at h
  exact h
theorem vBuf_split (f : Buf (Elt F) ((c : Thread nD τ).loc cc0_scratch1)) :
    (((c : Thread nD τ).loc cc0_scratch1) ↦{fullShare} f : sProp 𝕄) ⊢ iprop(vFree (F := F) c 0 ∗ vFree (F := F) c 1) := by
  rw [Ring.pointsTo_blocks (ℓ := (c : Thread nD τ).loc cc0_scratch1) vSlot vSlot_disjoint vSlot_cover f, two]
  unfold vFree
  iintro ⟨H0, H1⟩
  isplitl [H0]
  · iexists f; iexact H0
  iexists f; iexact H1
theorem vBuf_join : iprop(vFree (F := F) c 0 ∗ vFree (F := F) c 1)
    ⊢ (iprop(∃ f : Buf (Elt F) ((c : Thread nD τ).loc cc0_scratch1), ((c : Thread nD τ).loc cc0_scratch1) ↦{fullShare} f) : sProp 𝕄) := by
  have h := Ring.pointsTo_blocks_join_exists (Ix := Unit) (Val := Elt F) (Name := ℕ) (U := Pipeline.UD sig nD τ) (Lvl := ℕ) (ℓ := (c : Thread nD τ).loc cc0_scratch1) vSlot vSlot_disjoint vSlot_cover (q := fullShare) (fun _ => Classical.arbitrary _)
  rw [two] at h
  exact h

/-- A buffer held whole at some contents, either way of writing it. -/
theorem anyPt_whole (b : Ref sig .tc) :
    (iprop(∃ f : Buf (Elt F) ((c : Thread nD τ).loc b), ((c : Thread nD τ).loc b) ↦{fullShare} f) : sProp 𝕄) = anyPt (F := F) c (Memref.whole b) := by
  unfold anyPt pt
  rw [show (Memref.whole b).view.set = Finset.univ from View.set_whole b]

/-- The positions' and the queries' scratch: written at the first item. -/
def tokAt (k : ℕ) : sProp 𝕄 := if k = 0 then anyPt (F := F) c (Memref.whole cc0_scratch2) else tokPt c (V m c main_v16)
def qAt (k : ℕ) : sProp 𝕄 := if k = 0 then anyPt (F := F) c (Memref.whole cc0_scratch6) else qPt c (V m c main_v17)
theorem tokPt_any (X : Vec F S24x448 .i32) : tokPt c X ⊢ (anyPt (F := F) c (Memref.whole cc0_scratch2) : sProp 𝕄) := by
  unfold tokPt anyPt
  iintro ⟨%f, -, H⟩
  iexists f; iexact H
theorem qPt_any (X : Vec F S6x3584 .bf16) : qPt c X ⊢ (anyPt (F := F) c (Memref.whole cc0_scratch6) : sProp 𝕄) := by
  unfold qPt anyPt
  iintro ⟨%f, -, H⟩
  iexists f; iexact H

/-- The invariant before item `k`. -/
def phi (k : ℕ) : sProp 𝕄 :=
  iprop(flight c (selOf m c) (kaOf m c) (vaOf m c) k
    ∗ (tabPt (F := F) c (selOf m c) fullShare.right ∗ lenPt (F := F) c fullShare.right (lenOf m c) ∗ posPt (F := F) c fullShare.right (posOf m c))
    ∗ (tokAt m c k ∗ anyPt (F := F) c (Memref.whole cc0_scratch3) ∗ anyPt (F := F) c (Memref.whole cc0_scratch4) ∗ anyPt (F := F) c (Memref.whole cc0_scratch5) ∗ qAt m c k)
    ∗ (kRem c (kaOf m c) ∗ vRem c (vaOf m c)) ∗ ∃ r, prngReg c r)

theorem tabs_eq (v : pre0.Contents (Elt F)) : (Pipeline.ΦT (U := Pipeline.UD sig nD τ) pre0 v c : sProp 𝕄)
    = iprop(tabPt (F := F) c (v 0) fullShare.right ∗ lenPt (F := F) c fullShare.right (v 1) ∗ posPt (F := F) c fullShare.right (v 2)) := by
  show Pipeline.prefHeld _ _ _ _ = _
  unfold Pipeline.prefHeld
  exact bigSep_univ_eq_bigSepL [(0 : Fin 3), (1 : Fin 3), (2 : Fin 3)] (by decide) (by decide) _

theorem phi_in : iprop(Pipeline.ΦD osem0 spec0 H0 (V m) c ∗ Pipeline.ΦT (U := Pipeline.UD sig nD τ) pre0 (tbl m) c) ⊢ (phi m c 0 : sProp 𝕄) := by
  rw [tabs_eq, Pipeline.ΦD_eq, scopedRest0_eq, ownSems00_eq, hbmPts0_eq]
  unfold phi flight freeS tokAt qAt
  rw [dif_neg (by omega), if_pos rfl, if_pos rfl]
  obtain rfl : c = 0 := Subsingleton.elim _ _
  simp only [anyPt_whole]
  rw [← anyPt_whole 0 cc0_scratch0, ← anyPt_whole 0 cc0_scratch1]
  iintro ⟨⟨⟨⟨%f0, S0⟩, ⟨%f1, S1⟩, S2, S3, S4, S5, S6⟩, HG, ⟨Q0, Q1, Q2, Q3⟩, ⟨HK, HV⟩⟩, HT⟩
  ihave HKs := (kArr_toks 0 (kaOf m 0)).1 $$ HK
  ihave HVs := (vArr_toks 0 (vaOf m 0)).1 $$ HV
  ihave S0 := (kBuf_split 0 f0) $$ S0
  ihave S1 := (vBuf_split 0 f1) $$ S1
  icases HKs with ⟨HKr, K0, K1⟩
  icases HVs with ⟨HVr, V0, V1⟩
  icases S0 with ⟨A0, A1⟩
  icases S1 with ⟨B0, B1⟩
  isplitl [Q0 Q1 Q2 Q3 K0 K1 V0 V1 A0 A1 B0 B1]
  · isplitl [Q0 Q2 K0 V0 A0 B0]
    · isplitl [Q0 K0 A0]
      · isplitl [A0]; · iexact A0
        isplitl [Q0]; · iexact Q0
        iexact K0
      isplitl [B0]; · iexact B0
      isplitl [Q2]; · iexact Q2
      iexact V0
    isplitl [Q1 K1 A1]
    · isplitl [A1]; · iexact A1
      isplitl [Q1]; · iexact Q1
      iexact K1
    isplitl [B1]; · iexact B1
    isplitl [Q3]; · iexact Q3
    iexact V1
  isplitl [HT]; · iexact HT
  isplitl [S2 S3 S4 S5 S6]
  · isplitl [S2]; · iexact S2
    isplitl [S3]; · iexact S3
    isplitl [S4]; · iexact S4
    isplitl [S5]; · iexact S5
    iexact S6
  isplitl [HKr HVr]
  · isplitl [HKr]; · iexact HKr
    iexact HVr
  iexact HG

theorem phi_out : (phi m c 24 : sProp 𝕄) ⊢ Pipeline.ΦD osem0 spec0 H0 (V m) c := by
  rw [Pipeline.ΦD_eq, scopedRest0_eq, ownSems00_eq, hbmPts0_eq]
  unfold phi flight freeS tokAt qAt
  rw [dif_neg (by omega), if_neg (by omega), if_neg (by omega)]
  simp only [anyPt_whole]
  rw [← anyPt_whole c cc0_scratch0, ← anyPt_whole c cc0_scratch1]
  iintro ⟨⟨⟨⟨A0, Q0, K0⟩, ⟨B0, Q2, V0⟩⟩, ⟨⟨A1, Q1, K1⟩, ⟨B1, Q3, V1⟩⟩⟩, -, ⟨S2, S3, S4, S5, S6⟩, ⟨HKr, HVr⟩, HG⟩
  ihave S2 := (tokPt_any c _) $$ S2
  ihave S6 := (qPt_any c _) $$ S6
  ihave KB := (kBuf_join (F := F) c) $$ [A0 A1]
  · isplitl [A0]; · iexact A0
    iexact A1
  ihave VB := (vBuf_join (F := F) c) $$ [B0 B1]
  · isplitl [B0]; · iexact B0
    iexact B1
  ihave KA := (kArr_toks c (kaOf m c)).2 $$ [HKr K0 K1]
  · isplitl [HKr]; · iexact HKr
    isplitl [K0]; · iexact K0
    iexact K1
  ihave VA := (vArr_toks c (vaOf m c)).2 $$ [HVr V0 V1]
  · isplitl [HVr]; · iexact HVr
    isplitl [V0]; · iexact V0
    iexact V1
  isplitl [KB VB S2 S3 S4 S5 S6]
  · isplitl [KB]
    · iexact KB
    isplitl [VB]
    · iexact VB
    isplitl [S2]; · iexact S2
    isplitl [S3]; · iexact S3
    isplitl [S4]; · iexact S4
    isplitl [S5]; · iexact S5
    iexact S6
  isplitl [HG]; · iexact HG
  isplitl [Q0 Q1 Q2 Q3]
  · isplitl [Q0]; · iexact Q0
    isplitl [Q1]; · iexact Q1
    isplitl [Q2]; · iexact Q2
    iexact Q3
  isplitl [KA]
  · iexact KA
  iexact VA

end Cert.KernelIdeal.Hand

end
-- ==== Proof.IFrame.lean ====
/- The run: the body at each grid point, the launch, the frame. -/
module

public import proofs.«01_k».proof.Proof.IEntry
public import Idealize.ShloMosaic.Lib.VecWindow
public import Idealize.ShloMosaic.Lib.Pipeline.ValueKit
public import Idealize.ShloMosaic.Lib.StableHlo.RunRead
public import Idealize.ShloMosaic.Lib.Pipeline.FrameBody
public import Idealize.ShloMosaic.Lib.Ring

@[expose] public section

set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationLoose cellOf)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

section Item
variable (c : Dev nD) (i : grid0.Coords)
variable {a4 : Memref sig .tc .vmem S24x448 .i32} (h4 : a4.IsWhole) {a5 : Memref sig .tc .vmem S6x3584 .bf16} (h5 : a5.IsWhole) {a6 : Memref sig .tc .vmem S6x4x128 .bf16} (h6 : a6.IsWhole) {a7 : Memref sig .tc .vmem S6x4x128 .bf16} (h7 : a7.IsWhole) {a8 : Memref sig .tc .vmem S1x160x128 .bf16} (h8 : a8.IsWhole) {a9 : Memref sig .tc .vmem S1x512x4x128 .f32} (h9 : a9.IsWhole) {a10 : Memref sig .tc .vmem S64x128 .f32} (h10 : a10.IsWhole) {a11 : Memref sig .tc .vmem S1x128 .f32} (h11 : a11.IsWhole) {a14 : Memref sig .tc .vmem S1x1x896 .bf16} (h14 : a14.IsWhole) {a15 : Memref sig .tc .vmem S1x1x7x3585 .f32} (h15 : a15.IsWhole) {a16 : Memref sig .tc .vmem S1x1x4x128 .bf16} (h16 : a16.IsWhole)
variable (X4 : Vec F S24x448 .i32) (X5 : Vec F S6x3584 .bf16) (X6 : Vec F S6x4x128 .bf16) (X7 : Vec F S6x4x128 .bf16) (X8 : Vec F S1x160x128 .bf16) (X9 : Vec F S1x512x4x128 .f32) (X10 : Vec F S64x128 .f32) (X11 : Vec F S1x128 .f32)

/-- The rotated new key of an item from the window's contents, as the window of the third result holds it. -/
def knrX (i : grid0.Coords) (len pos : S6.Idx → Elt F .i32) (X6 : Vec F S6x4x128 .bf16) (X11 : Vec F S1x128 .f32) : Vec F S1x1x4x128 .bf16 :=
  k0_pay151 (k0_pay150 (lenW i len) (posW i pos)
    (fun y => X11 ((Rect.unit (s := S1x128) ![0, 0] S1x128.size inb_S1x128_S1x128_0_0).toLoadRect.idx y))
    (fun y => X6 ((Rect.unit (s := S6x4x128) (k0_off8 i) S1x4x128.size (k0_off8_inb i)).toLoadRect.idx y)))

/-- The probabilities of an item from the windows' contents. -/
def prbX (i : grid0.Coords) (sel : S6x4x448.Idx → Elt F .i32) (ka : S6x65536x160.Idx → Elt F .bf16) (len pos : S6.Idx → Elt F .i32) (X4 : Vec F S24x448 .i32) (X5 : Vec F S6x3584 .bf16) (X6 : Vec F S6x4x128 .bf16) (X8 : Vec F S1x160x128 .bf16) (X10 : Vec F S64x128 .f32) (X11 : Vec F S1x128 .f32) : S1x1x7x3585.Idx → Elt F .f32 :=
  prbP i (k0_pay149 (lenW i len) (posW i pos) (fun y => X11 ((Rect.unit (s := S1x128) ![0, 0] S1x128.size inb_S1x128_S1x128_0_0).toLoadRect.idx y)) (qTile X5 i))
    (k0_pay150 (lenW i len) (posW i pos) (fun y => X11 ((Rect.unit (s := S1x128) ![0, 0] S1x128.size inb_S1x128_S1x128_0_0).toLoadRect.idx y)) (fun y => X6 ((Rect.unit (s := S6x4x128) (k0_off8 i) S1x4x128.size (k0_off8_inb i)).toLoadRect.idx y)))
    (scoG sel ka X4 (itOf i) (lenW i len) (posW i pos) (k0_pay149 (lenW i len) (posW i pos) (fun y => X11 ((Rect.unit (s := S1x128) ![0, 0] S1x128.size inb_S1x128_S1x128_0_0).toLoadRect.idx y)) (qTile X5 i)) (fun y => X8 ((Rect.unit (s := S1x160x128) ![0, 0, 0] S1x160x128.size inb_S1x160x128_S1x160x128_0_0_0).toLoadRect.idx y))
      (fun y => X10 ((Rect.unit (s := S64x128) ![0, 0] S8x128.size inb_S64x128_S8x128_0_0).toLoadRect.idx y)) (fun y => X10 ((Rect.unit (s := S64x128) ![8, 0] S8x128.size inb_S64x128_S8x128_8_0).toLoadRect.idx y)) (fun y => X10 ((Rect.unit (s := S64x128) ![16, 0] S8x128.size inb_S64x128_S8x128_16_0).toLoadRect.idx y)) (fun y => X10 ((Rect.unit (s := S64x128) ![24, 0] S8x128.size inb_S64x128_S8x128_24_0).toLoadRect.idx y)) (fun y => X10 ((Rect.unit (s := S64x128) ![32, 0] S8x128.size inb_S64x128_S8x128_32_0).toLoadRect.idx y)) (fun y => X10 ((Rect.unit (s := S64x128) ![40, 0] S8x128.size inb_S64x128_S8x128_40_0).toLoadRect.idx y)) (fun y => X10 ((Rect.unit (s := S64x128) ![48, 0] S8x128.size inb_S64x128_S8x128_48_0).toLoadRect.idx y)) (fun y => X10 ((Rect.unit (s := S64x128) ![56, 0] S8x128.size inb_S64x128_S8x128_56_0).toLoadRect.idx y)))

theorem tokX_read (c : Dev nD) (a4 : Memref sig .tc .vmem S24x448 .i32) (f4 : Buf (Elt F) (a4.view.loc (c : Thread nD τ))) : tokX c a4 f4 = a4.view.read (Elt F) f4 := by
  funext y
  refine congrArg (a4.view.read (Elt F) f4) (a₁ := (Rect.unit (s := S24x448) ![0, 0] S24x448.size inb_S24x448_S24x448_0_0).emb y) ?_
  funext a
  match a with
  | ⟨0, _⟩ => exact Fin.ext (by show 0 + 1 * (y 0).val = (y 0).val; omega)
  | ⟨1, _⟩ => exact Fin.ext (by show 0 + 1 * (y 1).val = (y 1).val; omega)
theorem qX_read (c : Dev nD) (a5 : Memref sig .tc .vmem S6x3584 .bf16) (f5 : Buf (Elt F) (a5.view.loc (c : Thread nD τ))) : qX c a5 f5 = a5.view.read (Elt F) f5 := by
  funext y
  refine congrArg (a5.view.read (Elt F) f5) (a₁ := (Rect.unit (s := S6x3584) ![0, 0] S6x3584.size inb_S6x3584_S6x3584_0_0).emb y) ?_
  funext a
  match a with
  | ⟨0, _⟩ => exact Fin.ext (by show 0 + 1 * (y 0).val = (y 0).val; omega)
  | ⟨1, _⟩ => exact Fin.ext (by show 0 + 1 * (y 1).val = (y 1).val; omega)

theorem prep_in (c : Dev nD) {a4 : Memref sig .tc .vmem S24x448 .i32} {a5 : Memref sig .tc .vmem S6x3584 .bf16} (f4 : Buf (Elt F) (a4.view.loc (c : Thread nD τ))) (f5 : Buf (Elt F) (a5.view.loc (c : Thread nD τ))) (k : ℕ)
    (e4 : tokX c a4 f4 = V m c main_v16) (e5 : qX c a5 f5 = V m c main_v17) :
    iprop(pt (F := F) c a4 f4 ∗ pt (F := F) c a5 f5 ∗ tokAt m c k ∗ qAt m c k) ⊢ (prepAt c (a4 := a4) (a5 := a5) f4 f5 k : sProp 𝕄) := by
  unfold prepAt tokAt qAt
  by_cases hk : k = 0
  · rw [if_pos hk, if_pos hk, if_pos hk]
    unfold prepRes
    exact .rfl
  · rw [if_neg hk, if_neg hk, if_neg hk]
    unfold prepDone
    rw [e4, e5]

theorem prep_out (c : Dev nD) {a4 : Memref sig .tc .vmem S24x448 .i32} {a5 : Memref sig .tc .vmem S6x3584 .bf16} (f4 : Buf (Elt F) (a4.view.loc (c : Thread nD τ))) (f5 : Buf (Elt F) (a5.view.loc (c : Thread nD τ))) (k : ℕ)
    (e4 : tokX c a4 f4 = V m c main_v16) (e5 : qX c a5 f5 = V m c main_v17) :
    (prepAt c (a4 := a4) (a5 := a5) f4 f5 (k + 1) : sProp 𝕄) ⊢ iprop(pt (F := F) c a4 f4 ∗ pt (F := F) c a5 f5 ∗ tokAt m c (k + 1) ∗ qAt m c (k + 1)) := by
  unfold prepAt tokAt qAt
  rw [if_neg (Nat.succ_ne_zero _), if_neg (Nat.succ_ne_zero _), if_neg (Nat.succ_ne_zero _)]
  unfold prepDone
  rw [e4, e5]

theorem prbP_eq (f4 : Buf (Elt F) (a4.view.loc (c : Thread nD τ))) (f5 : Buf (Elt F) (a5.view.loc (c : Thread nD τ))) (f6 : Buf (Elt F) (a6.view.loc (c : Thread nD τ))) (f8 : Buf (Elt F) (a8.view.loc (c : Thread nD τ))) (f10 : Buf (Elt F) (a10.view.loc (c : Thread nD τ))) (f11 : Buf (Elt F) (a11.view.loc (c : Thread nD τ)))
    (sel : S6x4x448.Idx → Elt F .i32) (ka : S6x65536x160.Idx → Elt F .bf16) (len pos : S6.Idx → Elt F .i32) :
    prbP i (rotQ c i a5 a11 len pos f5 f11) (rotK c i a6 a11 len pos f6 f11) (itScores c i a4 a5 a8 a10 a11 sel ka len pos f4 f5 f8 f10 f11)
      = prbX i sel ka len pos (a4.view.read (Elt F) f4) (a5.view.read (Elt F) f5) (a6.view.read (Elt F) f6) (a8.view.read (Elt F) f8) (a10.view.read (Elt F) f10) (a11.view.read (Elt F) f11) := by
  unfold prbX itScores scoA rotQ rotK
  rw [tokX_read, qX_read]
  rfl

/-- The body at a grid point, its windows owned by their contents. -/
theorem item_run (hsel : SelOK (F := F) (selOf m c)) (hX4 : X4 = V m c main_v16) (hX5 : X5 = V m c main_v17) :
    iprop(phi m c (i 0).val ∗ owesAny c ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11
      ∗ (∃ d, owns (c : Thread nD τ) a14 fullShare d) ∗ (∃ d, owns (c : Thread nD τ) a15 fullShare d) ∗ (∃ d, owns (c : Thread nD τ) a16 fullShare d))
    ⊢ wp frame (wpE (defs₀ (F := F)) Variants.none (c : Thread nD τ) none) Set.univ (cc0__body i (Memref.whole main_arg7) (Memref.isWhole_whole _) (Memref.whole main_arg8) (Memref.isWhole_whole _) (Memref.whole main_arg9) (Memref.isWhole_whole _) a4 h4 a5 h5 a6 h6 a7 h7 a8 h8 a9 h9 a10 h10 a11 h11 (Memref.whole main_arg3) (Memref.isWhole_whole _) (Memref.whole main_arg5) (Memref.isWhole_whole _) a14 h14 a15 h15 a16 h16 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8) (fun _ =>
      iprop(phi m c ((i 0).val + 1) ∗ owesAny c ∗ owns (c : Thread nD τ) a4 fullShare X4 ∗ owns (c : Thread nD τ) a5 fullShare X5 ∗ owns (c : Thread nD τ) a6 fullShare X6 ∗ owns (c : Thread nD τ) a7 fullShare X7 ∗ owns (c : Thread nD τ) a8 fullShare X8 ∗ owns (c : Thread nD τ) a9 fullShare X9 ∗ owns (c : Thread nD τ) a10 fullShare X10 ∗ owns (c : Thread nD τ) a11 fullShare X11
      ∗ (∃ d, owns (c : Thread nD τ) a14 fullShare d) ∗ owns (c : Thread nD τ) a15 fullShare (prbX i (selOf m c) (kaOf m c) (lenOf m c) (posOf m c) X4 X5 X6 X8 X10 X11) ∗ owns (c : Thread nD τ) a16 fullShare (knrX i (lenOf m c) (posOf m c) X6 X11))) := by
  unfold phi
  unfold owns
  iintro ⟨⟨HF, ⟨HT, HL, HP⟩, ⟨S2, S3, S4, S5, S6⟩, HR, HG⟩, HW, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d14, %f14, -, H14⟩, ⟨%d15, %f15, -, H15⟩, ⟨%d16, %f16, -, H16⟩⟩
  subst e4 e5 e6 e7 e8 e9 e10 e11
  have e4 := (tokX_read c a4 f4).trans hX4
  have e5 := (qX_read c a5 f5).trans hX5
  iapply (body_run c i h4 h5 h6 h7 h8 h9 h10 h11 h14 h15 h16 (selOf m c) (kaOf m c) (vaOf m c) fullShare.right (lenOf m c) (posOf m c) f4 f5 f6 f7 f8 f9 f10 f11 hsel _)
  isplitl [HF HT HL HP S2 S3 S4 S5 S6 HW H4 H5 H6 H7 H8 H9 H10 H11 H14 H15 H16]
  · isplitl [HF HT HL HP S2 S3 S4 S5 S6 HW H4 H5 H6 H7 H8 H9 H10 H11]
    · unfold bodyRes rowRes winRes
      ihave HPA := (prep_in m c f4 f5 (i 0).val e4 e5) $$ [H4 H5 S2 S6]
      · isplitl [H4]; · iexact H4
        isplitl [H5]; · iexact H5
        isplitl [S2]; · iexact S2
        iexact S6
      isplitl [HF]; · iexact HF
      isplitl [HT]; · iexact HT
      isplitl [HL HP HPA H6 H11]
      · isplitl [HPA]; · iexact HPA
        isplitl [HL]; · iexact HL
        isplitl [HP]; · iexact HP
        isplitl [H6]; · iexact H6
        iexact H11
      isplitl [H7]; · iexact H7
      isplitl [H8 H9 H10]
      · isplitl [H8]; · iexact H8
        isplitl [H9]; · iexact H9
        iexact H10
      isplitl [S3]; · iexact S3
      isplitl [S4]; · iexact S4
      isplitl [S5]; · iexact S5
      iexact HW
    isplitl [H14]; · iexists f14; iexact H14
    isplitl [H15]; · iexists f15; iexact H15
    iexists f16; iexact H16
  unfold bodyRes rowRes winRes knrPt prbPt
  iintro ⟨⟨HF, HT, ⟨HPA, HL, HP, H6, H11⟩, H7, ⟨H8, H9, H10⟩, S3, S4, S5, HW⟩, ⟨%g14, H14⟩, ⟨%g15, %e15, H15⟩, ⟨%g16, H16⟩⟩
  ihave HPA := (prep_out m c f4 f5 (i 0).val e4 e5) $$ HPA
  icases HPA with ⟨H4, H5, S2, S6⟩
  isplitl [HF HT HL HP S2 S3 S4 S5 S6 HR HG]
  · isplitl [HF]; · iexact HF
    isplitl [HT HL HP]
    · isplitl [HT]; · iexact HT
      isplitl [HL]; · iexact HL
      iexact HP
    isplitl [S2 S3 S4 S5 S6]
    · isplitl [S2]; · iexact S2
      isplitl [S3]; · iexact S3
      isplitl [S4]; · iexact S4
      isplitl [S5]; · iexact S5
      iexact S6
    isplitl [HR]; · iexact HR
    iexact HG
  isplitl [HW]; · iexact HW
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H14]
  · iexists _; iexists g14; isplitr; · ipureintro; rfl
    iexact H14
  isplitl [H15]
  · iexists g15; isplitr
    swap; · iexact H15
    ipureintro
    funext y
    exact (e15 y (y 3).isLt).trans (congrFun (prbP_eq c i f4 f5 f6 f8 f10 f11 _ _ _ _) y)
  iexists _; isplitr
  swap; · iexact H16
  ipureintro
  exact View.read_writes_full a16.view g16 inb_S1x1x4x128_S1x1x4x128_0_0_0_0 _ []

end Item

/-! ## The proof data -/

/-- The first result's window is forgotten. -/
def forgets0 : Fin 11 → Bool := fun w => w == 8

abbrev cfgm : Cfg sig Λ₀ := Pipeline.pin (pcfgs (F := F)) (adm m) 0

/-- What an input window holds at a grid point. -/
abbrev held (c : Dev nD) (w : Fin 11) (t : Fin (cfgm m).N) : ((cfgm m).win w).block.Idx → Elt F ((cfgm m).win w).elt :=
  Pipeline.heldIn (c := c) (cfgm m) (fun w => V m c (Pipeline.arrRef spec0 w)) w t.val t.isLt

theorem blk0_read (c : Dev nD) (t : Fin (cfgm m).N) (y : S24x448.Idx) : (((cfgm m).win 0).blk t).view.read (Elt F) (V m c main_v16) y = V m c main_v16 y := by
  unfold View.read
  refine congrArg (V m c main_v16) ?_
  blk_ext
  · show 0 * 24 + (y 0).val = (y 0).val; omega
  · show 0 * 448 + (y 1).val = (y 1).val; omega

/-- The window holds the whole array at every grid point. -/
theorem held0_eq (c : Dev nD) (n : ℕ) (h : n < (cfgm m).N) (y : S24x448.Idx) : held m c 0 ⟨n, h⟩ y = V m c main_v16 y := by
  induction n with
  | zero =>
    unfold held Pipeline.heldIn Pipeline.Window.fill
    rw [dif_pos (by rfl)]
    exact blk0_read m c _ y
  | succ n ih =>
    simp only [Pipeline.heldIn]
    split
    · unfold Pipeline.Window.fill
      rw [dif_pos (by rfl)]
      exact blk0_read m c _ y
    · exact ih (Nat.lt_of_succ_lt h)

theorem blk1_read (c : Dev nD) (t : Fin (cfgm m).N) (y : S6x3584.Idx) : (((cfgm m).win 1).blk t).view.read (Elt F) (V m c main_v17) y = V m c main_v17 y := by
  unfold View.read
  refine congrArg (V m c main_v17) ?_
  blk_ext
  · show 0 * 6 + (y 0).val = (y 0).val; omega
  · show 0 * 3584 + (y 1).val = (y 1).val; omega

/-- The window holds the whole array at every grid point. -/
theorem held1_eq (c : Dev nD) (n : ℕ) (h : n < (cfgm m).N) (y : S6x3584.Idx) : held m c 1 ⟨n, h⟩ y = V m c main_v17 y := by
  induction n with
  | zero =>
    unfold held Pipeline.heldIn Pipeline.Window.fill
    rw [dif_pos (by rfl)]
    exact blk1_read m c _ y
  | succ n ih =>
    simp only [Pipeline.heldIn]
    split
    · unfold Pipeline.Window.fill
      rw [dif_pos (by rfl)]
      exact blk1_read m c _ y
    · exact ih (Nat.lt_of_succ_lt h)

/-- The second result's window after the body at a grid point. -/
def prbAt (c : Dev nD) (t : Fin (cfgm m).N) : S1x1x7x3585.Idx → Elt F .f32 :=
  prbX (grid0.coords t) (selOf m c) (kaOf m c) (lenOf m c) (posOf m c) (held m c 0 t) (held m c 1 t) (held m c 2 t) (held m c 4 t) (held m c 6 t) (held m c 7 t)

/-- The third result's window after the body at a grid point. -/
def knrAt (c : Dev nD) (t : Fin (cfgm m).N) : Vec F S1x1x4x128 .bf16 := knrX (grid0.coords t) (lenOf m c) (posOf m c) (held m c 2 t) (held m c 7 t)

def dats (p : Fin 1) (c : Dev nD) : Dat τ (Elt F) Unit ℕ (Pipeline.UD sig nD τ) ℕ (Pipeline.pin (pcfgs (F := F)) (adm m) p) c where
  A w := V m c (Pipeline.arrRef spec0 w)
  after w t := match w with
    | ⟨0, _⟩ => held m c 0 t
    | ⟨1, _⟩ => held m c 1 t
    | ⟨2, _⟩ => held m c 2 t
    | ⟨3, _⟩ => held m c 3 t
    | ⟨4, _⟩ => held m c 4 t
    | ⟨5, _⟩ => held m c 5 t
    | ⟨6, _⟩ => held m c 6 t
    | ⟨7, _⟩ => held m c 7 t
    | ⟨8, h⟩ => Pipeline.Dat.unnamed (cfg := cfgm m) ⟨8, h⟩ t
    | ⟨9, _⟩ => prbAt m c t
    | ⟨10, _⟩ => knrAt m c t
    | ⟨_ + 11, h⟩ => absurd h (Nat.not_lt.2 (Nat.le_add_left _ _))
  Φ t := phi m c t.val
  q _ := fullShare
  owed _ := 0

theorem A_eq (c : Dev nD) (w : Fin 11) : (dats m 0 c).A w = V m c (Pipeline.arrRef spec0 w) := by dsimp only [dats]

abbrev mst (t : Fin (cfgm m).N) (w : Fin 11) := ((cfgm m).win w).stage ((cfgm m).slots t w)

theorem after0 (c : Dev nD) (t : Fin (cfgm m).N) : (dats m 0 c).after 0 t = held m c 0 t := rfl
theorem before0 (c : Dev nD) (t : Fin (cfgm m).N) (d) : (dats m 0 c).before 0 t d = held m c 0 t :=
  (dats m 0 c).before_eq_heldIn 0 rfl (fun _ => rfl) (fun _ _ => rfl) (after0 m c) t d
theorem after1 (c : Dev nD) (t : Fin (cfgm m).N) : (dats m 0 c).after 1 t = held m c 1 t := rfl
theorem before1 (c : Dev nD) (t : Fin (cfgm m).N) (d) : (dats m 0 c).before 1 t d = held m c 1 t :=
  (dats m 0 c).before_eq_heldIn 1 rfl (fun _ => rfl) (fun _ _ => rfl) (after1 m c) t d
theorem after2 (c : Dev nD) (t : Fin (cfgm m).N) : (dats m 0 c).after 2 t = held m c 2 t := rfl
theorem before2 (c : Dev nD) (t : Fin (cfgm m).N) (d) : (dats m 0 c).before 2 t d = held m c 2 t :=
  (dats m 0 c).before_eq_heldIn 2 rfl (fun _ => rfl) (fun _ _ => rfl) (after2 m c) t d
theorem after3 (c : Dev nD) (t : Fin (cfgm m).N) : (dats m 0 c).after 3 t = held m c 3 t := rfl
theorem before3 (c : Dev nD) (t : Fin (cfgm m).N) (d) : (dats m 0 c).before 3 t d = held m c 3 t :=
  (dats m 0 c).before_eq_heldIn 3 rfl (fun _ => rfl) (fun _ _ => rfl) (after3 m c) t d
theorem after4 (c : Dev nD) (t : Fin (cfgm m).N) : (dats m 0 c).after 4 t = held m c 4 t := rfl
theorem before4 (c : Dev nD) (t : Fin (cfgm m).N) (d) : (dats m 0 c).before 4 t d = held m c 4 t :=
  (dats m 0 c).before_eq_heldIn 4 rfl (fun _ => rfl) (fun _ _ => rfl) (after4 m c) t d
theorem after5 (c : Dev nD) (t : Fin (cfgm m).N) : (dats m 0 c).after 5 t = held m c 5 t := rfl
theorem before5 (c : Dev nD) (t : Fin (cfgm m).N) (d) : (dats m 0 c).before 5 t d = held m c 5 t :=
  (dats m 0 c).before_eq_heldIn 5 rfl (fun _ => rfl) (fun _ _ => rfl) (after5 m c) t d
theorem after6 (c : Dev nD) (t : Fin (cfgm m).N) : (dats m 0 c).after 6 t = held m c 6 t := rfl
theorem before6 (c : Dev nD) (t : Fin (cfgm m).N) (d) : (dats m 0 c).before 6 t d = held m c 6 t :=
  (dats m 0 c).before_eq_heldIn 6 rfl (fun _ => rfl) (fun _ _ => rfl) (after6 m c) t d
theorem after7 (c : Dev nD) (t : Fin (cfgm m).N) : (dats m 0 c).after 7 t = held m c 7 t := rfl
theorem before7 (c : Dev nD) (t : Fin (cfgm m).N) (d) : (dats m 0 c).before 7 t d = held m c 7 t :=
  (dats m 0 c).before_eq_heldIn 7 rfl (fun _ => rfl) (fun _ _ => rfl) (after7 m c) t d
theorem after9 (c : Dev nD) (t : Fin (cfgm m).N) : (dats m 0 c).after 9 t = prbAt m c t := rfl
theorem after10 (c : Dev nD) (t : Fin (cfgm m).N) : (dats m 0 c).after 10 t = knrAt m c t := rfl

abbrev bodyAt0 (t : Fin (cfgm m).N) : Prog (TpuEff nD τ sig (Elt F) Λ₀ .tc) PUnit :=
  cc0__body (grid0.coords t) (Memref.whole main_arg7) (Memref.isWhole_whole _) (Memref.whole main_arg8) (Memref.isWhole_whole _) (Memref.whole main_arg9) (Memref.isWhole_whole _) (spec0_0.stage ((cfgm m).slots t 0)) (hstage0_0 (((cfgm m).slots t 0).cast nbuf0_0)) (spec0_1.stage ((cfgm m).slots t 1)) (hstage0_1 (((cfgm m).slots t 1).cast nbuf0_1)) (spec0_2.stage ((cfgm m).slots t 2)) (hstage0_2 (((cfgm m).slots t 2).cast nbuf0_2)) (spec0_3.stage ((cfgm m).slots t 3)) (hstage0_3 (((cfgm m).slots t 3).cast nbuf0_3)) (spec0_4.stage ((cfgm m).slots t 4)) (hstage0_4 (((cfgm m).slots t 4).cast nbuf0_4)) (spec0_5.stage ((cfgm m).slots t 5)) (hstage0_5 (((cfgm m).slots t 5).cast nbuf0_5)) (spec0_6.stage ((cfgm m).slots t 6)) (hstage0_6 (((cfgm m).slots t 6).cast nbuf0_6)) (spec0_7.stage ((cfgm m).slots t 7)) (hstage0_7 (((cfgm m).slots t 7).cast nbuf0_7)) (Memref.whole main_arg3) (Memref.isWhole_whole _) (Memref.whole main_arg5) (Memref.isWhole_whole _) (spec0_8.stage ((cfgm m).slots t 8)) (hstage0_8 (((cfgm m).slots t 8).cast nbuf0_8)) (spec0_9.stage ((cfgm m).slots t 9)) (hstage0_9 (((cfgm m).slots t 9).cast nbuf0_9)) (spec0_10.stage ((cfgm m).slots t 10)) (hstage0_10 (((cfgm m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8

def bodyPre (c : Dev nD) (t : Fin (cfgm m).N) : sProp 𝕄 :=
  iprop((dats m 0 c).Φ t.castSucc ∗ (dats m 0 c).owesAt () t.castSucc ∗ (∃ d, owns (c : Thread nD τ) (spec0_0.stage ((cfgm m).slots t 0)) fullShare ((dats m 0 c).before 0 t d)) ∗ (∃ d, owns (c : Thread nD τ) (spec0_1.stage ((cfgm m).slots t 1)) fullShare ((dats m 0 c).before 1 t d)) ∗ (∃ d, owns (c : Thread nD τ) (spec0_2.stage ((cfgm m).slots t 2)) fullShare ((dats m 0 c).before 2 t d)) ∗ (∃ d, owns (c : Thread nD τ) (spec0_3.stage ((cfgm m).slots t 3)) fullShare ((dats m 0 c).before 3 t d)) ∗ (∃ d, owns (c : Thread nD τ) (spec0_4.stage ((cfgm m).slots t 4)) fullShare ((dats m 0 c).before 4 t d)) ∗ (∃ d, owns (c : Thread nD τ) (spec0_5.stage ((cfgm m).slots t 5)) fullShare ((dats m 0 c).before 5 t d)) ∗ (∃ d, owns (c : Thread nD τ) (spec0_6.stage ((cfgm m).slots t 6)) fullShare ((dats m 0 c).before 6 t d)) ∗ (∃ d, owns (c : Thread nD τ) (spec0_7.stage ((cfgm m).slots t 7)) fullShare ((dats m 0 c).before 7 t d)) ∗ (∃ d, owns (c : Thread nD τ) (spec0_8.stage ((cfgm m).slots t 8)) fullShare d) ∗ (∃ d, owns (c : Thread nD τ) (spec0_9.stage ((cfgm m).slots t 9)) fullShare ((dats m 0 c).before 9 t d)) ∗ (∃ d, owns (c : Thread nD τ) (spec0_10.stage ((cfgm m).slots t 10)) fullShare ((dats m 0 c).before 10 t d)))
def bodyPost (c : Dev nD) (t : Fin (cfgm m).N) : sProp 𝕄 :=
  iprop((dats m 0 c).Φ t.succ ∗ (dats m 0 c).owesAt () t.succ ∗ owns (c : Thread nD τ) (spec0_0.stage ((cfgm m).slots t 0)) fullShare ((dats m 0 c).after 0 t) ∗ owns (c : Thread nD τ) (spec0_1.stage ((cfgm m).slots t 1)) fullShare ((dats m 0 c).after 1 t) ∗ owns (c : Thread nD τ) (spec0_2.stage ((cfgm m).slots t 2)) fullShare ((dats m 0 c).after 2 t) ∗ owns (c : Thread nD τ) (spec0_3.stage ((cfgm m).slots t 3)) fullShare ((dats m 0 c).after 3 t) ∗ owns (c : Thread nD τ) (spec0_4.stage ((cfgm m).slots t 4)) fullShare ((dats m 0 c).after 4 t) ∗ owns (c : Thread nD τ) (spec0_5.stage ((cfgm m).slots t 5)) fullShare ((dats m 0 c).after 5 t) ∗ owns (c : Thread nD τ) (spec0_6.stage ((cfgm m).slots t 6)) fullShare ((dats m 0 c).after 6 t) ∗ owns (c : Thread nD τ) (spec0_7.stage ((cfgm m).slots t 7)) fullShare ((dats m 0 c).after 7 t) ∗ (∃ d, owns (c : Thread nD τ) (spec0_8.stage ((cfgm m).slots t 8)) fullShare d) ∗ owns (c : Thread nD τ) (spec0_9.stage ((cfgm m).slots t 9)) fullShare ((dats m 0 c).after 9 t) ∗ owns (c : Thread nD τ) (spec0_10.stage ((cfgm m).slots t 10)) fullShare ((dats m 0 c).after 10 t))

theorem coords_val (t : Fin (cfgm m).N) : (grid0.coords t 0).val = t.val := by
  have h : ∀ t : Fin grid0.N, (grid0.coords t 0).val = t.val := by decide
  exact h t

theorem sound_body (c : Dev nD) (hsel : SelOK (F := F) (selOf m c)) (t : Fin (cfgm m).N) :
    bodyPre m c t ⊢ wp frame (wpE (defs₀ (F := F)) Variants.none c none) Set.univ (bodyAt0 m t) (fun _ => bodyPost m c t) := by
  unfold bodyPre bodyPost bodyAt0
  rw [show (dats m 0 c).Φ t.succ = phi m c ((grid0.coords t 0).val + 1) by rw [coords_val]; rfl,
    show (dats m 0 c).Φ t.castSucc = phi m c (grid0.coords t 0).val by rw [coords_val]; rfl]
  unfold Dat.owesAt Pipeline.owesWithin
  rw [show (dats m 0 c).owed t.castSucc = 0 from rfl, show (dats m 0 c).owed t.succ = 0 from rfl]
  rw [after0, after1, after2, after3, after4, after5, after6, after7, after9, after10]
  simp only [before0, before1, before2, before3, before4, before5, before6, before7]
  refine triple_restated (item_run m c (grid0.coords t) (hstage0_0 (((cfgm m).slots t 0).cast nbuf0_0)) (hstage0_1 (((cfgm m).slots t 1).cast nbuf0_1)) (hstage0_2 (((cfgm m).slots t 2).cast nbuf0_2)) (hstage0_3 (((cfgm m).slots t 3).cast nbuf0_3)) (hstage0_4 (((cfgm m).slots t 4).cast nbuf0_4)) (hstage0_5 (((cfgm m).slots t 5).cast nbuf0_5)) (hstage0_6 (((cfgm m).slots t 6).cast nbuf0_6)) (hstage0_7 (((cfgm m).slots t 7).cast nbuf0_7)) (hstage0_8 (((cfgm m).slots t 8).cast nbuf0_8)) (hstage0_9 (((cfgm m).slots t 9).cast nbuf0_9)) (hstage0_10 (((cfgm m).slots t 10).cast nbuf0_10)) (held m c 0 t) (held m c 1 t) (held m c 2 t) (held m c 3 t) (held m c 4 t) (held m c 5 t) (held m c 6 t) (held m c 7 t) hsel (funext (held0_eq m c t.val t.isLt)) (funext (held1_eq m c t.val t.isLt))) rfl ?_ fun _ => ?_
  · iintro ⟨HF, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    isplitl [HF]; · iexact HF
    isplitl [HW]; · iexists W; iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · iexists _; iexact H9
    iexists _; iexact H10
  iintro ⟨HF, ⟨%W', HW⟩, H0, H1, H2, H3, H4, H5, H6, H7, H8, H9, H10⟩
  isplitl [HF]; · iexact HF
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfgm m).N) :
    defs₀ (F := F) .tc (cfgm m).body ((cfgm m).bodyArgs t ((cfgm m).slots t)) = bodyAt0 m t := by
  unfold defs₀; rw [Defs.onTc_tc]

theorem body_obligation (c : Dev nD) (hsel : SelOK (F := F) (selOf m c)) :
    BodyObligationLoose (dats (F := F) m 0 c) (defs₀ (F := F)) Variants.none () Set.univ forgets0 := fun t => by
  rw [bigSep_W0, bigSep_W0, defs₀_row]
  exact triple_restated (sound_body m c hsel t) rfl .rfl fun _ => .rfl

/-! ## The run and the frame -/

theorem hfresh : (hostOps0 : List (HloOp τ sig (Elt F))).Forall fun op => op.fresh = ∅ := by
  simp only [hostOps0, List.forall_cons, List.Forall]
  repeat' constructor

set_option backward.isDefEq.respectTransparency.types false in
theorem run_main (hsel : ∀ c, SelOK (F := F) (selOf m c)) : θ_run defs (onTc (τ := τ) (main (F := F))) (s₀ m ρ)
    (fun r => Pipeline.RDat.FramePost (cfgm m) (fun c => (dats m 0 c).toRForget forgets0) (V m) r ∧ r.2.sem = fun _ => 0) :=
  Pipeline.θ_run_frameP_dma_forget (Q' := _) pcfgs (adm m) (dats m) (0 : Fin 1) launch0 osem0 defs₀ Variants.none forgets0 ownSemFacts0 H0 H0_sub m ρ main
    (hbody := fun c => body_obligation m c (hsel c)) (hshare := fun c => (dats m 0 c).share_full fun _ => rfl)
    (howed := fun _ _ => rfl) (V := V m)
    (hmain := Pipeline.hmainP_prefix pcfgs 0 defs₀ Variants.none m main hostOps0 hostOps0_sub hfresh main_chain) (hA := A_eq m)
    (hpf := fun c k => by obtain rfl : c = 0 := Subsingleton.elim _ _; rfl)
    (hin := fun c => phi_in m c) (hout := fun c => phi_out m c)

/-- The buffers @main's host operations write, none of them an argument. -/
abbrev hostWrites : List (Ref sig .tc) :=
  [main_v0, main_cst, main_v1, main_v2, main_cst_0, main_v3, main_v4, main_v5, main_cst_1, main_v6, main_v7, main_cst_2, main_v8, main_v9,
    main_v10, main_v11, main_v12, main_v13, main_v14, main_v15, main_v16, main_v17, main_v18, main_v19]

/-- A buffer the host operations do not write reaches the region as launched. -/
theorem V_kept (c : Dev nD) (b : Ref sig .tc) (hb : b ∉ hostWrites) : V m c b = m ((c.tc : Thread nD τ).loc b) :=
  StableHlo.after_unwritten (ops := hostOps0) hostWrites rfl hb _

theorem selOf_eq (c : Dev nD) : selOf m c = m ((c.tc : Thread nD τ).loc main_arg7) := V_kept m c main_arg7 (by decide)

/-- The frame: from any launch memory whose selection is in range the run ends, its semaphores at zero and its arguments as they were. -/
theorem frame_of (hsel : ∀ c, SelOK (F := F) (selOf m c)) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) := by
  refine (θ_run defs _ _).mono (fun r hr => ⟨fun c => ?_, hr.2⟩) (run_main m ρ hsel)
  have hrest : ∀ b (hb : b ∈ Pipeline.restRefs sig spec0) (_ : b ∉ hostWrites), r.2.mem ((c.tc : Thread nD τ).loc b) = m ((c.tc : Thread nD τ).loc b) :=
    fun b hb hw => ((hr.1 c).2 b hb).trans (V_kept m c b hw)
  refine ⟨hrest main_arg0 (Pipeline.mem_restRefs_of main_arg0 (by decide) (by decide)) (by decide), hrest main_arg1 (Pipeline.mem_restRefs_of main_arg1 (by decide) (by decide)) (by decide), hrest main_arg2 (Pipeline.mem_restRefs_of main_arg2 (by decide) (by decide)) (by decide), hrest main_arg3 (Pipeline.mem_restRefs_of main_arg3 (by decide) (by decide)) (by decide), (Pipeline.RDat.FramePost.arr_in hr.1 c 4 rfl).trans ((A_eq m c 4).trans (V_kept m c main_arg4 (by decide))), hrest main_arg5 (Pipeline.mem_restRefs_of main_arg5 (by decide) (by decide)) (by decide), hrest main_arg6 (Pipeline.mem_restRefs_of main_arg6 (by decide) (by decide)) (by decide), hrest main_arg7 (Pipeline.mem_restRefs_of main_arg7 (by decide) (by decide)) (by decide), hrest main_arg8 (Pipeline.mem_restRefs_of main_arg8 (by decide) (by decide)) (by decide), hrest main_arg9 (Pipeline.mem_restRefs_of main_arg9 (by decide) (by decide)) (by decide)⟩

end Cert.KernelIdeal.Hand

end
-- ==== Proof.NewKey.lean ====
/- The rotated new key as the mathematics has it, and the form in which the kernel computes it. -/
module

public import Idealize.ShloMosaic.Lib.Pointwise

@[expose] public section

noncomputable section

namespace Cert.NewKey

open Idealize.ShloMosaic

/-- The rotary frequency of a pair of lanes. -/
def invF (k : Fin 64) : EReal :=
  Ideal.pow (Ideal.ofBits FTy.f32 1223959552#32)
    (Ideal.div (-(Ideal.ofBits FTy.f32 1073741824#32 * FloatOps.sitofp (F := Ideal) FTy.f32 (BitVec.ofNat 32 k.val))) (Ideal.ofBits FTy.f32 1124073472#32))

/-- The frequency of a lane: both halves of a head use the same 64. -/
def laneF (d : Fin 128) : EReal := if h : d.val < 64 then invF ⟨d.val, h⟩ else invF ⟨d.val - 64, by omega⟩

/-- The angle at a position. -/
def ang (p : BitVec 32) (x : EReal) : EReal := (FloatOps.sitofp (F := Ideal) FTy.f32 p : EReal) * x

variable (kn : (⟨4, ![6, 1, 4, 128]⟩ : Shape).Idx → EReal) (p : BitVec 32) (a : Fin 6) (b : Fin 4)

/-- A lane of the rotated key: the first half subtracts, the second adds. -/
def lo (k : Fin 64) : EReal :=
  kn (ix4 a 0 b ⟨k.val, by omega⟩) * Ideal.cos (ang p (invF k)) - kn (ix4 a 0 b ⟨64 + k.val, by omega⟩) * Ideal.sin (ang p (invF k))
def hi (k : Fin 64) : EReal :=
  kn (ix4 a 0 b ⟨64 + k.val, by omega⟩) * Ideal.cos (ang p (invF k)) + kn (ix4 a 0 b ⟨k.val, by omega⟩) * Ideal.sin (ang p (invF k))

def lane (d : Fin 128) : EReal := if h : d.val < 64 then lo kn p a b ⟨d.val, h⟩ else hi kn p a b ⟨d.val - 64, by omega⟩

/-- The whole result: each row rotated to its own position. -/
def result (kn : (⟨4, ![6, 1, 4, 128]⟩ : Shape).Idx → EReal) (pos len : (⟨1, ![6]⟩ : Shape).Idx → BitVec 32) : (⟨4, ![6, 1, 4, 128]⟩ : Shape).Idx → EReal :=
  fun y => lane kn (pos (ix1 (y 0)) + len (ix1 (y 0))) (y 0) (y 2) (y 3)

/-- The kernel's form: the key times the cosine, plus the key with its halves exchanged times the signed sine. -/
theorem lane_of_rotate (d : Fin 128) :
    (kn (ix4 a 0 b d) * Ideal.cos (ang p (laneF d)) + kn (ix4 a 0 b ⟨(d.val + 128 - 64) % 128, Nat.mod_lt _ (by decide)⟩)
      * Scalar.select (IntOp.cmpi CmpIPredicate.slt (BitVec.ofNat 32 d.val) 64#32) (0 - Ideal.sin (ang p (laneF d))) (Ideal.sin (ang p (laneF d))) : EReal)
      = lane kn p a b d := by
  have hc : ∀ d : Fin 128, IntOp.cmpi CmpIPredicate.slt (BitVec.ofNat 32 d.val) 64#32 = if d.val < 64 then 1#1 else 0#1 := by decide +kernel
  rw [hc]
  unfold lane laneF
  by_cases h : d.val < 64
  · rw [dif_pos h, dif_pos h, if_pos h]
    have e : (⟨(d.val + 128 - 64) % 128, Nat.mod_lt _ (by decide)⟩ : Fin 128) = ⟨64 + d.val, by omega⟩ := Fin.ext (by simp only; omega)
    rw [e]
    unfold lo Scalar.select
    rw [if_pos (by decide), zero_sub, mul_neg, ← sub_eq_add_neg]
  · rw [dif_neg h, dif_neg h, if_neg h]
    have e : (⟨(d.val + 128 - 64) % 128, Nat.mod_lt _ (by decide)⟩ : Fin 128) = ⟨d.val - 64, by omega⟩ := Fin.ext (by simp only; omega)
    have e2 : (⟨64 + (d.val - 64), by omega⟩ : Fin 128) = d := Fin.ext (by simp only; omega)
    rw [e]
    unfold hi Scalar.select
    rw [if_neg (by decide)]
    simp only [e2]

end Cert.NewKey

end
-- ==== Proof.IValue.lean ====
/- The third result: the rotated new key, element by element. -/
module

public import proofs.«01_k».proof.Proof.IFrame
public import proofs.«01_k».proof.Proof.NewKey
public import Idealize.ShloMosaic.Lib.Pointwise
public import Idealize.ShloMosaic.Lib.Pipeline.ValueKit
public import Idealize.ShloMosaic.Lib.StableHlo.RunRead

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

section Held
variable {F : FTy → Type} [FloatOps F] [∀ e, Nonempty (Elt F e)]
variable (m : (ℓ : Loc nD τ sig) → Buf (Elt F) ℓ)

theorem blk2_read (c : Dev nD) (t : Fin (cfgm m).N) (y : S6x4x128.Idx) : (((cfgm m).win 2).blk t).view.read (Elt F) (V m c main_v18) y = V m c main_v18 y := by
  unfold View.read
  refine congrArg (V m c main_v18) ?_
  blk_ext
  · show 0 * 6 + (y 0).val = (y 0).val; omega
  · show 0 * 4 + (y 1).val = (y 1).val; omega
  · show 0 * 128 + (y 2).val = (y 2).val; omega

theorem blk7_read (c : Dev nD) (t : Fin (cfgm m).N) (y : S1x128.Idx) : (((cfgm m).win 7).blk t).view.read (Elt F) (V m c main_v13) y = V m c main_v13 y := by
  unfold View.read
  refine congrArg (V m c main_v13) ?_
  blk_ext
  · exact rfl
  · show 0 * 128 + (y 1).val = (y 1).val; omega

/-- The window of the new keys holds the whole array at every grid point. -/
theorem held2_eq (c : Dev nD) (n : ℕ) (h : n < (cfgm m).N) (y : S6x4x128.Idx) : held m c 2 ⟨n, h⟩ y = V m c main_v18 y := by
  induction n with
  | zero =>
    unfold held Pipeline.heldIn Pipeline.Window.fill
    rw [dif_pos (by rfl)]
    exact blk2_read m c _ y
  | succ n ih =>
    simp only [Pipeline.heldIn]
    split
    · unfold Pipeline.Window.fill
      rw [dif_pos (by rfl)]
      exact blk2_read m c _ y
    · exact ih (Nat.lt_of_succ_lt h)

/-- The window of the frequencies holds the whole array at every grid point. -/
theorem held7_eq (c : Dev nD) (n : ℕ) (h : n < (cfgm m).N) (y : S1x128.Idx) : held m c 7 ⟨n, h⟩ y = V m c main_v13 y := by
  induction n with
  | zero =>
    unfold held Pipeline.heldIn Pipeline.Window.fill
    rw [dif_pos (by rfl)]
    exact blk7_read m c _ y
  | succ n ih =>
    simp only [Pipeline.heldIn]
    split
    · unfold Pipeline.Window.fill
      rw [dif_pos (by rfl)]
      exact blk7_read m c _ y
    · exact ih (Nat.lt_of_succ_lt h)

end Held

theorem val_v9 (m : (ℓ : Loc nD τ sig) → Buf (Elt Ideal) ℓ) (c : Dev nD) (k : Fin 64) : StableHlo.upto hostOps0 (fun b => m (c, b)) 16 (Proc.tc.devRef main_v9) (ix1 k) = Cert.NewKey.invF k := by
  after_reads_simp
  pointwise
  rfl

theorem val_v13 (m : (ℓ : Loc nD τ sig) → Buf (Elt Ideal) ℓ) (c : Dev nD) (u : S1x128.Idx) : V m c main_v13 u = Cert.NewKey.laneF (u 1) := by
  dsimp only [V]
  after_reads_simp
  pointwise
  unfold Cert.NewKey.laneF
  split
  · exact val_v9 m c _
  · exact val_v9 m c _

theorem val_v18 (m : (ℓ : Loc nD τ sig) → Buf (Elt Ideal) ℓ) (c : Dev nD) (a : Fin 6) (b : Fin 4) (d : Fin 128) : V m c main_v18 (ix3 a b d) = m (c, Proc.tc.devRef main_arg1) (ix4 a 0 b d) := by
  dsimp only [V]
  after_reads_simp
  pointwise

theorem off6_eq (t : Fin grid0.N) : k0_off6 (grid0.coords t) 0 = t.val / 4 := by
  have h : ∀ t : Fin grid0.N, k0_off6 (grid0.coords t) 0 = t.val / 4 := by decide +kernel
  exact h t

theorem off8_eq (t : Fin grid0.N) : k0_off8 (grid0.coords t) 0 = t.val / 4 ∧ k0_off8 (grid0.coords t) 1 = 0 ∧ k0_off8 (grid0.coords t) 2 = 0 := by
  have h : ∀ t : Fin grid0.N, k0_off8 (grid0.coords t) 0 = t.val / 4 ∧ k0_off8 (grid0.coords t) 1 = 0 ∧ k0_off8 (grid0.coords t) 2 = 0 := by decide +kernel
  exact h t

/-- The row of a grid point. -/
def rowAt (t : Fin grid0.N) : Fin 6 := ⟨t.val / 4, by
  have := t.isLt
  change t.val < 24 at this
  omega⟩

theorem lenW_eq (t : Fin grid0.N) (f : S6.Idx → Elt Ideal .i32) : lenW (F := Ideal) (grid0.coords t) f = f (ix1 (rowAt t)) := by
  unfold lenW View.readAt
  refine congrArg f ?_
  funext (a : Fin 1)
  obtain rfl : a = 0 := Subsingleton.elim _ _
  refine Fin.ext ?_
  show k0_off6 (grid0.coords t) 0 + 1 * 0 = _
  rw [off6_eq]; rfl

theorem posW_eq (t : Fin grid0.N) (f : S6.Idx → Elt Ideal .i32) : posW (F := Ideal) (grid0.coords t) f = f (ix1 (rowAt t)) := by
  unfold posW View.readAt
  refine congrArg f ?_
  funext (a : Fin 1)
  obtain rfl : a = 0 := Subsingleton.elim _ _
  refine Fin.ext ?_
  show k0_off6 (grid0.coords t) 0 + 1 * 0 = _
  rw [off6_eq]; rfl

/-- The rotated new key of a grid point, from the arrays. -/
theorem knr_apply (t : Fin grid0.N) (kn : S6x1x4x128.Idx → EReal) (len pos : S6.Idx → BitVec 32) (X6 : Vec Ideal S6x4x128 .bf16) (X11 : Vec Ideal S1x128 .f32)
    (h6 : ∀ (a : Fin 6) (b : Fin 4) (d : Fin 128), X6 (ix3 a b d) = kn (ix4 a 0 b d)) (h11 : ∀ u : S1x128.Idx, X11 u = Cert.NewKey.laneF (u 1))
    (y : S1x1x4x128.Idx) : knrX (F := Ideal) (grid0.coords t) len pos X6 X11 y = Cert.NewKey.result kn pos len (ix4 (rowAt t) 0 (y 2) (y 3)) := by
  unfold knrX
  pointwise [k0_pay151, k0_pay150, k0_pay147, k0_pay148, k0_pay146]
  obtain ⟨e0, e1, e2⟩ := off8_eq t
  simp only [e0, e1, e2, Nat.zero_add]
  rw [lenW_eq, posW_eq, h6, h6, h11]
  exact Cert.NewKey.lane_of_rotate kn _ (rowAt t) (y 2) (y 3)

/-- The third result as the run leaves it. -/
def newKeyOf (m : (ℓ : Loc nD τ sig) → Buf (Elt Ideal) ℓ) (c : Dev nD) : S6x1x4x128.Idx → EReal :=
  Cert.NewKey.result (m ((c.tc : Thread nD τ).loc main_arg1)) (m ((c.tc : Thread nD τ).loc main_arg9)) (m ((c.tc : Thread nD τ).loc main_arg8))

theorem lenOf_eq (m : (ℓ : Loc nD τ sig) → Buf (Elt Ideal) ℓ) (c : Dev nD) : lenOf m c = m ((c.tc : Thread nD τ).loc main_arg8) := V_kept m c main_arg8 (by decide)
theorem posOf_eq (m : (ℓ : Loc nD τ sig) → Buf (Elt Ideal) ℓ) (c : Dev nD) : posOf m c = m ((c.tc : Thread nD τ).loc main_arg9) := V_kept m c main_arg9 (by decide)

theorem knrAt_eq (m : (ℓ : Loc nD τ sig) → Buf (Elt Ideal) ℓ) (c : Dev nD) (t : Fin grid0.N) (y : S1x1x4x128.Idx) :
    knrAt m c t y = newKeyOf m c (ix4 (rowAt t) 0 (y 2) (y 3)) := by
  unfold knrAt newKeyOf
  rw [lenOf_eq, posOf_eq]
  exact knr_apply t _ _ _ _ _ (fun a b d => (held2_eq m c t.val t.isLt _).trans (val_v18 m c a b d)) (fun d => (held7_eq m c t.val t.isLt _).trans (val_v13 m c d)) y

theorem t12_eq (t : Fin grid0.N) : cc0_transform_12 (grid0.coords t) = ![t.val / 4, 0, 0, 0] := by
  have h : ∀ t : Fin grid0.N, cc0_transform_12 (grid0.coords t) = ![t.val / 4, 0, 0, 0] := by decide +kernel
  exact h t

theorem flush10 : ∀ t : Fin grid0.N, t.val % 4 = 3 → Pipeline.Window.flushOf grid0 true cc0_transform_12 t = true := by decide +kernel

theorem covers10 (m : (ℓ : Loc nD τ sig) → Buf (Elt Ideal) ℓ) : ((cfgm m).win 10).Covers := by
  refine ⟨fun (a : Fin 4) => ?_, fun β => ?_⟩
  · match a with
    | 0 => exact Nat.one_pos
    | 1 => exact Nat.one_pos
    | 2 => exact (by decide : 0 < 4)
    | 3 => exact (by decide : 0 < 128)
  · have h0 : (β (0 : Fin 4)).val < 6 := Nat.lt_of_lt_of_eq (β (0 : Fin 4)).isLt (by show (6 + 1 - 1) / 1 = 6; rfl)
    have h1 : (β (1 : Fin 4)).val < 1 := Nat.lt_of_lt_of_eq (β (1 : Fin 4)).isLt (by show (1 + 1 - 1) / 1 = 1; rfl)
    have h2 : (β (2 : Fin 4)).val < 1 := Nat.lt_of_lt_of_eq (β (2 : Fin 4)).isLt (by show (4 + 4 - 1) / 4 = 1; rfl)
    have h3 : (β (3 : Fin 4)).val < 1 := Nat.lt_of_lt_of_eq (β (3 : Fin 4)).isLt (by show (128 + 128 - 1) / 128 = 1; rfl)
    have ht : 4 * (β (0 : Fin 4)).val + 3 < grid0.N := by show _ < 24; omega
    refine ⟨⟨4 * (β (0 : Fin 4)).val + 3, ht⟩, flush10 ⟨_, ht⟩ (by show (4 * (β (0 : Fin 4)).val + 3) % 4 = 3; omega), fun (a : Fin 4) => ⟨?_, Or.inl ?_⟩⟩
    · show cc0_transform_12 (grid0.coords ⟨4 * (β (0 : Fin 4)).val + 3, ht⟩) a = _
      rw [t12_eq]
      match a with
      | 0 => show (4 * (β (0 : Fin 4)).val + 3) / 4 = _; omega
      | 1 => show 0 = _; omega
      | 2 => show 0 = _; omega
      | 3 => show 0 = _; omega
    · rfl

/-- The third result's array after the run. -/
theorem arr10 (m : (ℓ : Loc nD τ sig) → Buf (Elt Ideal) ℓ) (c : Dev nD) : (dats m 0 c).arrAt 10 (cfgm m).N = newKeyOf m c := by
  refine (dats m 0 c).arrAt_eq_of_covers 10 (newKeyOf m c) (covers10 m) fun t hf y => ?_
  blk_simp
  rw [after10]
  refine (knrAt_eq m c t y).trans (congrArg (newKeyOf m c) ?_)
  blk_ext
  · show _ = cc0_transform_12 (grid0.coords t) 0; rw [t12_eq]; rfl
  · show _ = cc0_transform_12 (grid0.coords t) 1; rw [t12_eq]; rfl
  · show _ = cc0_transform_12 (grid0.coords t) 2 * 4 + _; rw [t12_eq]; show (y (2 : Fin 4)).val = 0 * 4 + (y (2 : Fin 4)).val; omega
  · show _ = cc0_transform_12 (grid0.coords t) 3 * 128 + _; rw [t12_eq]; show (y (3 : Fin 4)).val = 0 * 128 + (y (3 : Fin 4)).val; omega

/-- The run leaves the rotated new key in the third result. -/
theorem run_newKey (m : (ℓ : Loc nD τ sig) → Buf (Elt Ideal) ℓ) (ρ : Dev nD → PrngReg) (hsel : ∀ c, SelOK (F := Ideal) (selOf m c)) :
    θ_run defs (onTc (τ := τ) (main (F := Ideal))) ⟨m, fun _ => 0, ρ⟩ (fun r => ∀ c : Dev nD, r.2.mem ((c.tc : Thread nD τ).loc main_v20_2) = newKeyOf m c) :=
  (θ_run defs _ _).mono (fun r hr c => (((dats m 0 c).toRForget_arrAt_iff (w := 10) rfl _ _).mp ((hr.1 c).1 10)).trans (arr10 m c)) (run_main m ρ hsel)

end Cert.KernelIdeal.Hand

end
-- ==== Proof.Probs.lean ====
/- The probabilities as the mathematics has them. -/
module

public import proofs.«01_k».proof.Proof.NewKey

@[expose] public section

noncomputable section

namespace Cert.Probs

open Idealize.ShloMosaic Cert.NewKey

/-- The two halves of a rotated head. -/
def rotLo (v : Fin 128 → EReal) (p : BitVec 32) (k : Fin 64) : EReal :=
  v ⟨k.val, by omega⟩ * Ideal.cos (ang p (invF k)) - v ⟨64 + k.val, by omega⟩ * Ideal.sin (ang p (invF k))
def rotHi (v : Fin 128 → EReal) (p : BitVec 32) (k : Fin 64) : EReal :=
  v ⟨64 + k.val, by omega⟩ * Ideal.cos (ang p (invF k)) + v ⟨k.val, by omega⟩ * Ideal.sin (ang p (invF k))
def rot (v : Fin 128 → EReal) (p : BitVec 32) (d : Fin 128) : EReal :=
  if h : d.val < 64 then rotLo v p ⟨d.val, h⟩ else rotHi v p ⟨d.val - 64, by omega⟩

/-- A position brought into the range of the past. -/
def clip (w : BitVec 32) : BitVec 32 := IntOp.minsi 65535#32 (IntOp.maxsi 0#32 w)

theorem clip_lt (w : BitVec 32) : (clip w).toNat < 65536 := by
  unfold clip IntOp.minsi IntOp.maxsi
  have h0 : (0#32 : BitVec 32).toInt = 0 := by decide
  have h1 : (65535#32 : BitVec 32).toInt = 65535 := by decide
  have hn : ∀ u : BitVec 32, 0 ≤ u.toInt → u.toInt ≤ 65535 → u.toNat < 65536 := by
    intro u h h'
    have := BitVec.toInt_eq_toNat_cond u
    split at this <;> omega
  simp only [BitVec.slt, BitVec.sle, decide_eq_true_eq] at *
  refine hn _ ?_ ?_ <;> split_ifs <;> omega

variable (x : (⟨3, ![6, 1, 3584]⟩ : Shape).Idx → EReal) (kn : (⟨4, ![6, 1, 4, 128]⟩ : Shape).Idx → EReal) (ka : (⟨3, ![6, 65536, 160]⟩ : Shape).Idx → EReal)
  (kb : (⟨3, ![6, 160, 512]⟩ : Shape).Idx → EReal) (sel : (⟨3, ![6, 4, 448]⟩ : Shape).Idx → BitVec 32) (len pos : (⟨1, ![6]⟩ : Shape).Idx → BitVec 32)

/-- The chunk of a token and the token's position. -/
def chunk (b : Fin 6) (h : Fin 4) (t : Fin 3584) : BitVec 32 := sel (ix3 b h ⟨t.val / 8, by omega⟩)
def tok (b : Fin 6) (h : Fin 4) (t : Fin 3584) : BitVec 32 := IntOp.addi (IntOp.muli (chunk sel b h t) 8#32) (BitVec.ofNat 32 (t.val % 8))

/-- Whether a token takes part. -/
def live (b : Fin 6) (h : Fin 4) (t : Fin 3584) : BitVec 1 :=
  IntOp.andi (IntOp.cmpi CmpIPredicate.sge (chunk sel b h t) 0#32) (IntOp.cmpi CmpIPredicate.slt (tok sel b h t) (len (ix1 b)))

/-- A token's key before the rotation. -/
def key (b : Fin 6) (h : Fin 4) (t : Fin 3584) (d : Fin 128) : EReal :=
  ∑ r : Fin 160, ka (ix3 b ⟨(clip (tok sel b h t)).toNat, clip_lt _⟩ r) * kb (ix3 b r ⟨h.val * 128 + d.val, by omega⟩)

/-- A query head, and the position it is rotated to. -/
def query (b : Fin 6) (n : Fin 28) (d : Fin 128) : EReal := x (ix3 b 0 ⟨n.val * 128 + d.val, by omega⟩)
def posNew (b : Fin 6) : BitVec 32 := IntOp.addi (pos (ix1 b)) (len (ix1 b))
def headOf (h : Fin 4) (g : Fin 7) : Fin 28 := ⟨h.val * 7 + g.val, by omega⟩

def scale : EReal := Ideal.ofBits FTy.f32 1035273459#32
def bottom : EReal := Ideal.ofBits FTy.f32 4286578688#32

/-- A token's score before the mask. -/
def raw (b : Fin 6) (h : Fin 4) (g : Fin 7) (t : Fin 3584) : EReal :=
  (∑ k : Fin 64, rotLo (query x b (headOf h g)) (posNew len pos b) k * rotLo (key ka kb sel b h t) (IntOp.addi (pos (ix1 b)) (clip (tok sel b h t))) k
    + ∑ k : Fin 64, rotHi (query x b (headOf h g)) (posNew len pos b) k * rotHi (key ka kb sel b h t) (IntOp.addi (pos (ix1 b)) (clip (tok sel b h t))) k) * scale

def score (b : Fin 6) (h : Fin 4) (g : Fin 7) (t : Fin 3584) : EReal := Scalar.select (live sel len b h t) (raw x ka kb sel len pos b h g t) bottom

/-- The new token's score. -/
def scoreNew (b : Fin 6) (h : Fin 4) (g : Fin 7) : EReal :=
  (∑ d : Fin 128, rot (query x b (headOf h g)) (posNew len pos b) d * lane kn (posNew len pos b) b h d) * scale

/-- The softmax over the tokens and the new one. -/
def top (s : Fin 3584 → EReal) (n : EReal) : EReal := max (Finset.fold max bottom s Finset.univ) n
def denom (s : Fin 3584 → EReal) (n : EReal) : EReal := ∑ t, Ideal.exp (s t - top s n) + Ideal.exp (n - top s n)
def soft (s : Fin 3584 → EReal) (n : EReal) (t : Fin 3585) : EReal :=
  if h : t.val < 3584 then Ideal.div (Ideal.exp (s ⟨t.val, h⟩ - top s n)) (denom s n) else Ideal.div (Ideal.exp (n - top s n)) (denom s n)

/-- The whole result. -/
def result : (⟨4, ![6, 4, 7, 3585]⟩ : Shape).Idx → EReal := fun y =>
  soft (score x ka kb sel len pos (y 0) (y 1) (y 2)) (scoreNew x kn len pos (y 0) (y 1) (y 2)) (y 3)

end Cert.Probs

end
-- ==== Proof.ITok.lean ====
/- The token positions, as words. -/
module

public import proofs.«01_k».proof.Proof.IValue
public import proofs.«01_k».proof.Proof.Probs

@[expose] public section

set_option maxHeartbeats 2000000

noncomputable section

namespace Cert.KernelIdeal.Hand

open Cert.KernelIdeal Cert.KernelIdeal.Gen
open Idealize.ShloMosaic Idealize.ShloMosaic.TcCoe Idealize.ShloMosaic.Tactic
open Cert.Probs

/-- A lane's chunk in its block, and its place in the chunk, as the kernel counts them. -/
def laneQ (y : Fin 512) : BitVec 32 :=
  (Scalar.select
                          (IntOp.andi
                            (IntOp.cmpi CmpIPredicate.ne
                              (IntOp.subi
                                (BitVec.setWidth 32 (IntOp.cmpi CmpIPredicate.sgt (BitVec.ofNat 32 y.val) 0#32))
                                (BitVec.setWidth 32 (IntOp.cmpi CmpIPredicate.slt (BitVec.ofNat 32 y.val) 0#32)))
                              (Scalar.subi (Scalar.extui (Scalar.cmpi CmpIPredicate.sgt 8#32 0#32))
                                (Scalar.extui (Scalar.cmpi CmpIPredicate.slt 8#32 0#32))))
                            (IntOp.cmpi CmpIPredicate.ne (IntOp.remsi ArithUnit.vector (BitVec.ofNat 32 y.val) 8#32)
                              0#32))
                          (IntOp.subi (IntOp.divsi ArithUnit.vector (BitVec.ofNat 32 y.val) 8#32) 1#32)
                          (IntOp.divsi ArithUnit.vector (BitVec.ofNat 32 y.val) 8#32))
def laneR (y : Fin 512) : BitVec 32 :=
  (Scalar.select
        (IntOp.andi
          (IntOp.xori
            (IntOp.cmpi CmpIPredicate.slt
              (IntOp.remsi ArithUnit.vector (BitVec.ofNat 32 y.val)
                (Scalar.select (Scalar.cmpi CmpIPredicate.eq 8#32 0#32) 1#32 8#32))
              0#32)
            (Scalar.cmpi CmpIPredicate.slt (Scalar.select (Scalar.cmpi CmpIPredicate.eq 8#32 0#32) 1#32 8#32) 0#32))
          (IntOp.cmpi CmpIPredicate.ne
            (IntOp.remsi ArithUnit.vector (BitVec.ofNat 32 y.val)
              (Scalar.select (Scalar.cmpi CmpIPredicate.eq 8#32 0#32) 1#32 8#32))
            0#32))
        (IntOp.addi
          (IntOp.remsi ArithUnit.vector (BitVec.ofNat 32 y.val)
            (Scalar.select (Scalar.cmpi CmpIPredicate.eq 8#32 0#32) 1#32 8#32))
          8#32)
        (IntOp.remsi ArithUnit.vector (BitVec.ofNat 32 y.val)
          (Scalar.select (Scalar.cmpi CmpIPredicate.eq 8#32 0#32) 1#32 8#32)))

theorem laneQ_eq : ∀ y : Fin 512, laneQ y = BitVec.ofNat 32 (y.val / 8) := by decide +kernel
theorem laneR_eq : ∀ y : Fin 512, laneR y = BitVec.ofNat 32 (y.val % 8) := by decide +kernel

/-- The word of a lane's position from the chunks of its block. -/
def tokE (s : Fin 64 → BitVec 32) (y : Fin 512) : BitVec 32 :=
  IntOp.addi
      (IntOp.muli
        (FloatOps.fptosi (F := Ideal) (φ := FTy.f32) 32
          ((∑ x : Fin 64, FloatOps.sitofp (F := Ideal) FTy.f32 (IntOp.shrsi ArithUnit.vector (s x) 7#32) * FloatOps.sitofp (F := Ideal) FTy.f32 (BitVec.setWidth 32 (IntOp.cmpi CmpIPredicate.eq (BitVec.ofNat 32 x.val) (laneQ y)))) *
              Ideal.ofBits FTy.f32 1124073472#32 +
            ∑ x : Fin 64, FloatOps.sitofp (F := Ideal) FTy.f32 (IntOp.andi (s x) 127#32) * FloatOps.sitofp (F := Ideal) FTy.f32 (BitVec.setWidth 32 (IntOp.cmpi CmpIPredicate.eq (BitVec.ofNat 32 x.val) (laneQ y)))))
        8#32) (laneR y)

/-- A sum against the indicator of one chunk. -/
theorem sum_pick (f : Fin 64 → BitVec 32) (y : Fin 512) :
    (∑ x : Fin 64, FloatOps.sitofp (F := Ideal) FTy.f32 (f x) * FloatOps.sitofp (F := Ideal) FTy.f32 (BitVec.setWidth 32 (IntOp.cmpi CmpIPredicate.eq (BitVec.ofNat 32 x.val) (laneQ y))) : EReal)
      = (((f ⟨y.val / 8, by omega⟩).toInt : ℝ) : EReal) := by
  have hb : ∀ (x q : Fin 64), (BitVec.setWidth 32 (IntOp.cmpi CmpIPredicate.eq (BitVec.ofNat 32 x.val) (BitVec.ofNat 32 q.val))) = if x = q then 1#32 else 0#32 := by decide +kernel
  rw [Finset.sum_eq_single ⟨y.val / 8, by omega⟩]
  · rw [laneQ_eq, hb ⟨y.val / 8, by omega⟩ ⟨y.val / 8, by omega⟩, if_pos rfl]
    show (((f _).toInt : ℝ) : EReal) * (((1#32 : BitVec 32).toInt : ℝ) : EReal) = _
    have : (1#32 : BitVec 32).toInt = 1 := by decide
    rw [this]
    simp
  · intro x _ hx
    rw [laneQ_eq, hb x ⟨y.val / 8, by omega⟩, if_neg hx]
    show (((f _).toInt : ℝ) : EReal) * (((0#32 : BitVec 32).toInt : ℝ) : EReal) = _
    have : (0#32 : BitVec 32).toInt = 0 := by decide
    rw [this]
    simp
  · intro h
    exact absurd (Finset.mem_univ _) h

theorem split_word (s : BitVec 32) : (IntOp.shrsi ArithUnit.vector s 7#32).toInt * 128 + (IntOp.andi s 127#32).toInt = s.toInt := by
  have h1 : (IntOp.shrsi ArithUnit.vector s 7#32).toInt = s.toInt / 128 := by
    show (s.sshiftRight 7).toInt = _
    rw [BitVec.toInt_sshiftRight, Int.shiftRight_eq_div_pow]
    rfl
  have h2 : (IntOp.andi s 127#32).toNat = s.toNat % 128 := by
    show (s &&& 127#32).toNat = _
    rw [BitVec.toNat_and]
    exact Nat.and_two_pow_sub_one_eq_mod s.toNat 7
  have h3 := BitVec.toInt_eq_toNat_cond (IntOp.andi s 127#32)
  have h4 := BitVec.toInt_eq_toNat_cond s
  have h5 : s.toNat < 2 ^ 32 := s.isLt
  rw [h2] at h3
  rw [h1]
  split at h3 <;> split at h4 <;> omega

theorem word128 : Ideal.ofBits FTy.f32 1124073472#32 = ((128 : ℝ) : EReal) := by
  simp [Ideal.ofBits, Ideal.ieee, -EReal.coe_mul]; norm_num

theorem tokE_eq (s : Fin 64 → BitVec 32) (y : Fin 512) : tokE s y = IntOp.addi (IntOp.muli (s ⟨y.val / 8, by omega⟩) 8#32) (BitVec.ofNat 32 (y.val % 8)) := by
  unfold tokE
  rw [sum_pick (fun x => IntOp.shrsi ArithUnit.vector (s x) 7#32), sum_pick (fun x => IntOp.andi (s x) 127#32), laneR_eq, word128]
  generalize s ⟨y.val / 8, by omega⟩ = w
  have e : ((((IntOp.shrsi ArithUnit.vector w 7#32).toInt : ℝ) : EReal) * ((128 : ℝ) : EReal) + (((IntOp.andi w 127#32).toInt : ℝ) : EReal)) = ((w.toInt : ℝ) : EReal) := by
    rw [← EReal.coe_mul, ← EReal.coe_add]
    exact congrArg _ (by exact_mod_cast congrArg (fun z : ℤ => (z : ℝ)) (split_word w))
  refine congrArg (fun z => IntOp.addi (IntOp.muli z 8#32) _) ?_
  refine (congrArg (Ideal.fptosi 32) e).trans ?_
  unfold Ideal.fptosi
  rw [Ideal.toIntClamped_coe, Int.floor_intCast, Int.ceil_intCast, ite_self]
  have h1 : w.toInt < 2 ^ 31 := by have := @BitVec.toInt_lt 32 w; omega
  have h2 : -(2 ^ 31) ≤ w.toInt := by have := @BitVec.le_toInt 32 w; omega
  have h3 : max (-((2 ^ (32 - 1) : ℕ) : ℤ)) (min (((2 ^ (32 - 1) : ℕ) : ℤ) - 1) w.toInt) = w.toInt := by
    norm_num
    omega
  rw [h3]
  exact BitVec.ofInt_toInt

/-- A block's position words. -/
theorem tokB_eq (X : Vec Ideal S24x448 .i32) (b : Fin 7) (i : Fin 24) (y : Fin 512) :
    tokB (F := Ideal) X b (ix2 i y) = IntOp.addi (IntOp.muli (X (ix2 i ⟨64 * b.val + y.val / 8, by omega⟩)) 8#32) (BitVec.ofNat 32 (y.val % 8)) := by
  refine Eq.trans ?_ (tokE_eq (fun x => X (ix2 i ⟨64 * b.val + x.val, by omega⟩)) y)
  match b with
  | ⟨0, _⟩ =>
    show k0_pay16 (F := Ideal) k0_pay7 8#32 k0_pay8 k0_pay9 k0_pay10 k0_pay11 X _ = _
    pointwise [k0_pay16, k0_pay12, k0_pay14, k0_pay15, k0_pay13, k0_pay8, k0_pay9, k0_pay10, k0_pay11, k0_pay7]
    rfl
  | ⟨1, _⟩ =>
    show k0_pay22 (F := Ideal) k0_pay7 laneJ (k0_pay14 X) (k0_pay15 X) _ = _
    unfold laneJ
    pointwise [k0_pay22, k0_pay12, k0_pay14, k0_pay15, k0_pay13, k0_pay8, k0_pay9, k0_pay10, k0_pay11, k0_pay7]
    rfl
  | ⟨2, _⟩ =>
    show k0_pay29 (F := Ideal) laneJ (k0_pay27 k0_pay7 (k0_pay14 X)) (k0_pay28 k0_pay7 (k0_pay15 X)) _ = _
    unfold laneJ
    pointwise [k0_pay29, k0_pay27, k0_pay28, k0_pay12, k0_pay14, k0_pay15, k0_pay13, k0_pay8, k0_pay9, k0_pay10, k0_pay11, k0_pay7]
    rfl
  | ⟨3, _⟩ =>
    show k0_pay34 (F := Ideal) k0_pay7 laneJ (k0_pay14 X) (k0_pay15 X) _ = _
    unfold laneJ
    pointwise [k0_pay34, k0_pay12, k0_pay14, k0_pay15, k0_pay13, k0_pay8, k0_pay9, k0_pay10, k0_pay11, k0_pay7]
    rfl
  | ⟨4, _⟩ =>
    show k0_pay40 (F := Ideal) k0_pay7 laneJ (k0_pay14 X) (k0_pay15 X) _ = _
    unfold laneJ
    pointwise [k0_pay40, k0_pay12, k0_pay14, k0_pay15, k0_pay13, k0_pay8, k0_pay9, k0_pay10, k0_pay11, k0_pay7]
    rfl
  | ⟨5, _⟩ =>
    show k0_pay46 (F := Ideal) k0_pay7 laneJ (k0_pay14 X) (k0_pay15 X) _ = _
    unfold laneJ
    pointwise [k0_pay46, k0_pay12, k0_pay14, k0_pay15, k0_pay13, k0_pay8, k0_pay9, k0_pay10, k0_pay11, k0_pay7]
    rfl
  | ⟨6, _⟩ =>
    show k0_pay52 (F := Ideal) k0_pay7 laneJ (k0_pay14 X) (k0_pay15 X) _ = _
    unfold laneJ
    pointwise [k0_pay52, k0_pay12, k0_pay14, k0_pay15, k0_pay13, k0_pay8, k0_pay9, k0_pay10, k0_pay11, k0_pay7]
    rfl

end Cert.KernelIdeal.Hand

end
-- ==== Proof.IScore.lean ====
/- The scores of a tile, element by element. -/
module

public import proofs.«01_k».proof.Proof.ITok

@[expose] public section

set_option maxHeartbeats 2000000

noncomputable section

namespace Cert.KernelIdeal.Hand

open Cert.KernelIdeal Cert.KernelIdeal.Gen
open Idealize.ShloMosaic Idealize.ShloMosaic.TcCoe Idealize.ShloMosaic.Tactic
open Cert.Probs Cert.NewKey

/-- Eight lanes of the first half of a head, rotated, and of the second half. -/
def loAt (A : FVec Ideal S128x128 .f32) (u : FVec Ideal S8x128 .f32) (o : ℕ) (h : o + 8 ≤ 64) : FVec Ideal S8x128 .f32 := fun y =>
  have hy : (y 0).val < 8 := (y 0).isLt
  (A (ix2 ⟨o + (y 0).val, by omega⟩ (y 1)) * Ideal.cos (u y) - A (ix2 ⟨64 + o + (y 0).val, by omega⟩ (y 1)) * Ideal.sin (u y) : EReal)
def hiAt (A : FVec Ideal S128x128 .f32) (u : FVec Ideal S8x128 .f32) (o : ℕ) (h : o + 8 ≤ 64) : FVec Ideal S8x128 .f32 := fun y =>
  have hy : (y 0).val < 8 := (y 0).isLt
  (A (ix2 ⟨64 + o + (y 0).val, by omega⟩ (y 1)) * Ideal.cos (u y) + A (ix2 ⟨o + (y 0).val, by omega⟩ (y 1)) * Ideal.sin (u y) : EReal)

theorem loAt_rot (A : FVec Ideal S128x128 .f32) (u : FVec Ideal S8x128 .f32) (o : ℕ) (h : o + 8 ≤ 64) (v : Fin 128 → EReal) (p : BitVec 32) (l : Fin 128) (a : Fin 8)
    (hA : ∀ d, A (ix2 d l) = v d) (hu : u (ix2 a l) = ang p (invF ⟨o + a.val, by omega⟩)) (d : Fin 128) (hd : d.val = o + a.val) : loAt A u o h (ix2 a l) = rot v p d := by
  unfold rot
  rw [dif_pos (by omega)]
  unfold rotLo loAt
  have e : (⟨d.val, by omega⟩ : Fin 64) = ⟨o + a.val, by omega⟩ := Fin.ext hd
  rw [e]
  refine congrArg₂ (fun x y : EReal => x - y) (congrArg₂ (fun x y : EReal => x * y) (hA _) (congrArg Ideal.cos hu)) (congrArg₂ (fun x y : EReal => x * y) ((hA _).trans (congrArg v (Fin.ext ?_))) (congrArg Ideal.sin hu))
  show 64 + o + a.val = 64 + (o + a.val)
  omega

theorem hiAt_rot (A : FVec Ideal S128x128 .f32) (u : FVec Ideal S8x128 .f32) (o : ℕ) (h : o + 8 ≤ 64) (v : Fin 128 → EReal) (p : BitVec 32) (l : Fin 128) (a : Fin 8)
    (hA : ∀ d, A (ix2 d l) = v d) (hu : u (ix2 a l) = ang p (invF ⟨o + a.val, by omega⟩)) (d : Fin 128) (hd : d.val = 64 + o + a.val) : hiAt A u o h (ix2 a l) = rot v p d := by
  unfold rot
  rw [dif_neg (by omega)]
  unfold rotHi hiAt
  have e : (⟨d.val - 64, by omega⟩ : Fin 64) = ⟨o + a.val, by omega⟩ := Fin.ext (by show d.val - 64 = o + a.val; omega)
  rw [e]
  refine congrArg₂ (fun x y : EReal => x + y) (congrArg₂ (fun x y : EReal => x * y) ((hA _).trans (congrArg v (Fin.ext ?_))) (congrArg Ideal.cos hu)) (congrArg₂ (fun x y : EReal => x * y) (hA _) (congrArg Ideal.sin hu))
  show 64 + o + a.val = 64 + (o + a.val)
  omega

theorem pay98_eq (v43 : Elt Ideal .i32) (v103 : FVec Ideal S160x128 .bf16) (v345 : Vec Ideal S1x128x160 .bf16) (v355 : Vec Ideal S1x1x128 .i32) (v366 : Vec Ideal S8x128 .f32) : k0_pay98 (F := Ideal) v43 v103 v345 v355 v366 = loAt (k0_pay90 v103 v345) (mulf (k0_pay92 v43 v355) v366) 0 (by decide) := by
  funext y
  pointwise [k0_pay98, k0_pay96, k0_pay94, k0_pay93, k0_pay97, k0_pay95]
  simp only [loAt, Nat.zero_add, Nat.add_zero]
  rfl

theorem pay99_eq (v43 : Elt Ideal .i32) (v103 : FVec Ideal S160x128 .bf16) (v345 : Vec Ideal S1x128x160 .bf16) (v355 : Vec Ideal S1x1x128 .i32) (v366 : Vec Ideal S8x128 .f32) : k0_pay99 (F := Ideal) v43 v103 v345 v355 v366 = hiAt (k0_pay90 v103 v345) (mulf (k0_pay92 v43 v355) v366) 0 (by decide) := by
  funext y
  pointwise [k0_pay99, k0_pay97, k0_pay94, k0_pay93, k0_pay96, k0_pay95]
  simp only [hiAt, Nat.zero_add, Nat.add_zero]
  rfl

theorem pay105_eq (v350 : FVec Ideal S128x128 .f32) (v381 : FVec Ideal S8x128 .f32) : k0_pay105 (F := Ideal) v350 v381 = loAt v350 (v381) 8 (by decide) := by
  funext y
  pointwise [k0_pay105, k0_pay103, k0_pay101, k0_pay104, k0_pay102]
  rfl

theorem pay106_eq (v350 : FVec Ideal S128x128 .f32) (v381 : FVec Ideal S8x128 .f32) : k0_pay106 (F := Ideal) v350 v381 = hiAt v350 (v381) 8 (by decide) := by
  funext y
  pointwise [k0_pay106, k0_pay104, k0_pay101, k0_pay103, k0_pay102]
  rfl

theorem pay112_eq (v350 : FVec Ideal S128x128 .f32) (v365 : FVec Ideal S8x128 .f32) (v392 : Vec Ideal S8x128 .f32) : k0_pay112 (F := Ideal) v350 v365 v392 = loAt v350 (mulf v365 v392) 16 (by decide) := by
  funext y
  pointwise [k0_pay112, k0_pay110, k0_pay108, k0_pay107, k0_pay111, k0_pay109]
  rfl

theorem pay113_eq (v350 : FVec Ideal S128x128 .f32) (v365 : FVec Ideal S8x128 .f32) (v392 : Vec Ideal S8x128 .f32) : k0_pay113 (F := Ideal) v350 v365 v392 = hiAt v350 (mulf v365 v392) 16 (by decide) := by
  funext y
  pointwise [k0_pay113, k0_pay111, k0_pay108, k0_pay107, k0_pay110, k0_pay109]
  rfl

theorem pay119_eq (v350 : FVec Ideal S128x128 .f32) (v365 : FVec Ideal S8x128 .f32) (v405 : Vec Ideal S8x128 .f32) : k0_pay119 (F := Ideal) v350 v365 v405 = loAt v350 (mulf v365 v405) 24 (by decide) := by
  funext y
  pointwise [k0_pay119, k0_pay117, k0_pay115, k0_pay114, k0_pay118, k0_pay116]
  rfl

theorem pay120_eq (v350 : FVec Ideal S128x128 .f32) (v365 : FVec Ideal S8x128 .f32) (v405 : Vec Ideal S8x128 .f32) : k0_pay120 (F := Ideal) v350 v365 v405 = hiAt v350 (mulf v365 v405) 24 (by decide) := by
  funext y
  pointwise [k0_pay120, k0_pay118, k0_pay115, k0_pay114, k0_pay117, k0_pay116]
  rfl

theorem pay126_eq (v350 : FVec Ideal S128x128 .f32) (v365 : FVec Ideal S8x128 .f32) (v418 : Vec Ideal S8x128 .f32) : k0_pay126 (F := Ideal) v350 v365 v418 = loAt v350 (mulf v365 v418) 32 (by decide) := by
  funext y
  pointwise [k0_pay126, k0_pay124, k0_pay122, k0_pay121, k0_pay125, k0_pay123]
  rfl

theorem pay127_eq (v350 : FVec Ideal S128x128 .f32) (v365 : FVec Ideal S8x128 .f32) (v418 : Vec Ideal S8x128 .f32) : k0_pay127 (F := Ideal) v350 v365 v418 = hiAt v350 (mulf v365 v418) 32 (by decide) := by
  funext y
  pointwise [k0_pay127, k0_pay125, k0_pay122, k0_pay121, k0_pay124, k0_pay123]
  rfl

theorem lo40_eq (A : FVec Ideal S128x128 .f32) (u : FVec Ideal S8x128 .f32) :
    subf (F := Ideal) (mulf (extractStridedSlice S8x128 ![40, 0] A slices_S128x128_o40_0_S8x128) (cos u)) (mulf (extractStridedSlice S8x128 ![104, 0] A slices_S128x128_o104_0_S8x128) (sin u)) = loAt A u 40 (by decide) := by
  funext y
  pointwise
  rfl

theorem hi40_eq (A : FVec Ideal S128x128 .f32) (u : FVec Ideal S8x128 .f32) :
    addf (F := Ideal) (mulf (extractStridedSlice S8x128 ![104, 0] A slices_S128x128_o104_0_S8x128) (cos u)) (mulf (extractStridedSlice S8x128 ![40, 0] A slices_S128x128_o40_0_S8x128) (sin u)) = hiAt A u 40 (by decide) := by
  funext y
  pointwise
  rfl

theorem lo48_eq (A : FVec Ideal S128x128 .f32) (u : FVec Ideal S8x128 .f32) :
    subf (F := Ideal) (mulf (extractStridedSlice S8x128 ![48, 0] A slices_S128x128_o48_0_S8x128) (cos u)) (mulf (extractStridedSlice S8x128 ![112, 0] A slices_S128x128_o112_0_S8x128) (sin u)) = loAt A u 48 (by decide) := by
  funext y
  pointwise
  rfl

theorem hi48_eq (A : FVec Ideal S128x128 .f32) (u : FVec Ideal S8x128 .f32) :
    addf (F := Ideal) (mulf (extractStridedSlice S8x128 ![112, 0] A slices_S128x128_o112_0_S8x128) (cos u)) (mulf (extractStridedSlice S8x128 ![48, 0] A slices_S128x128_o48_0_S8x128) (sin u)) = hiAt A u 48 (by decide) := by
  funext y
  pointwise
  rfl

theorem lo56_eq (A : FVec Ideal S128x128 .f32) (u : FVec Ideal S8x128 .f32) :
    subf (F := Ideal) (mulf (extractStridedSlice S8x128 ![56, 0] A slices_S128x128_o56_0_S8x128) (cos u)) (mulf (extractStridedSlice S8x128 ![120, 0] A slices_S128x128_o120_0_S8x128) (sin u)) = loAt A u 56 (by decide) := by
  funext y
  pointwise
  rfl

theorem hi56_eq (A : FVec Ideal S128x128 .f32) (u : FVec Ideal S8x128 .f32) :
    addf (F := Ideal) (mulf (extractStridedSlice S8x128 ![120, 0] A slices_S128x128_o120_0_S8x128) (cos u)) (mulf (extractStridedSlice S8x128 ![56, 0] A slices_S128x128_o56_0_S8x128) (sin u)) = hiAt A u 56 (by decide) := by
  funext y
  pointwise
  rfl

/-- Sixteen pieces of eight rows, read at a row. -/
theorem concat16 (f : Fin 16 → (S8x128.Idx → EReal)) (d l : Fin 128) :
    concatenate S128x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩, ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩] concatenates_S8x128_S8x128_S8x128_S8x128_S8x128_S8x128_S8x128_S8x128_S8x128_S8x128_S8x128_S8x128_S8x128_S8x128_S8x128_S8x128_S128x128_d0 (ix2 d l) = f ⟨d.val / 8, by omega⟩ (ix2 ⟨d.val % 8, by omega⟩ l) := by
  refine concatenate_ofFn_apply (t := S128x128) (s₁ := S8x128) 0 f concatenates_S8x128_S8x128_S8x128_S8x128_S8x128_S8x128_S8x128_S8x128_S8x128_S8x128_S8x128_S8x128_S8x128_S8x128_S8x128_S8x128_S128x128_d0 rfl 8 rfl (ix2 d l) ⟨d.val / 8, by omega⟩ rfl (ix2 ⟨d.val % 8, by omega⟩ l) rfl ?_
  intro (b : Fin 2) hb
  match b with
  | ⟨0, _⟩ => exact absurd rfl hb
  | ⟨1, _⟩ => rfl

theorem concat16' (f0 f1 f2 f3 f4 f5 f6 f7 f8 f9 f10 f11 f12 f13 f14 f15 : S8x128.Idx → EReal) (d l : Fin 128) :
    concatenate S128x128 0 [⟨S8x128, f0⟩, ⟨S8x128, f1⟩, ⟨S8x128, f2⟩, ⟨S8x128, f3⟩, ⟨S8x128, f4⟩, ⟨S8x128, f5⟩, ⟨S8x128, f6⟩, ⟨S8x128, f7⟩, ⟨S8x128, f8⟩, ⟨S8x128, f9⟩, ⟨S8x128, f10⟩, ⟨S8x128, f11⟩, ⟨S8x128, f12⟩, ⟨S8x128, f13⟩, ⟨S8x128, f14⟩, ⟨S8x128, f15⟩] concatenates_S8x128_S8x128_S8x128_S8x128_S8x128_S8x128_S8x128_S8x128_S8x128_S8x128_S8x128_S8x128_S8x128_S8x128_S8x128_S8x128_S128x128_d0 (ix2 d l) = (![f0, f1, f2, f3, f4, f5, f6, f7, f8, f9, f10, f11, f12, f13, f14, f15] : Fin 16 → (S8x128.Idx → EReal)) ⟨d.val / 8, by omega⟩ (ix2 ⟨d.val % 8, by omega⟩ l) :=
  concat16 ![f0, f1, f2, f3, f4, f5, f6, f7, f8, f9, f10, f11, f12, f13, f14, f15] d l

end Cert.KernelIdeal.Hand

end
-- ==== Proof.ITile.lean ====
/- The scores of a tile, assembled. -/
module

public import proofs.«01_k».proof.Proof.IScore

@[expose] public section

set_option maxHeartbeats 2000000

noncomputable section

namespace Cert.KernelIdeal.Hand

open Cert.KernelIdeal Cert.KernelIdeal.Gen
open Idealize.ShloMosaic Idealize.ShloMosaic.TcCoe Idealize.ShloMosaic.Tactic
open Cert.Probs Cert.NewKey

theorem pay129_eq (v41 : Elt Ideal .i32) (v71 : FVec Ideal S8x128 .bf16) (v350 : FVec Ideal S128x128 .f32) (v356 : IVec S1x128 32) (v365 : FVec Ideal S8x128 .f32) (v375 : FVec Ideal S8x128 .f32) (v378 : FVec Ideal S8x128 .f32) (v388 : FVec Ideal S8x128 .f32) (v391 : FVec Ideal S8x128 .f32) (v401 : FVec Ideal S8x128 .f32) (v404 : FVec Ideal S8x128 .f32) (v414 : FVec Ideal S8x128 .f32) (v417 : FVec Ideal S8x128 .f32) (v427 : FVec Ideal S8x128 .f32) (v430 : FVec Ideal S8x128 .f32) (v433 : FVec Ideal S8x128 .f32) (v444 : Vec Ideal S8x128 .f32) (v457 : Vec Ideal S8x128 .f32)  (y : S8x128.Idx) :
    k0_pay129 (F := Ideal) v41 v71 v350 v356 v365 v375 v378 v388 v391 v401 v404 v414 v417 v427 v430 v433 v444 v457 y =
      Scalar.select (IntOp.andi (IntOp.cmpi CmpIPredicate.sge (v356 (ix2 0 (y 1))) 0#32) (IntOp.cmpi CmpIPredicate.slt (v356 (ix2 0 (y 1))) v41))
        ((∑ d : Fin 128, (fun u w : EReal => u * w) (v71 (ix2 (y 0) d)) ((![v375, v388, v401, v414, v427, (loAt v350 v433 40 (by decide)), (loAt v350 (mulf v365 v444) 48 (by decide)), (loAt v350 (mulf v365 v457) 56 (by decide)), v378, v391, v404, v417, v430, (hiAt v350 v433 40 (by decide)), (hiAt v350 (mulf v365 v444) 48 (by decide)), (hiAt v350 (mulf v365 v457) 56 (by decide))] : Fin 16 → (S8x128.Idx → EReal)) ⟨d.val / 8, by omega⟩ (ix2 ⟨d.val % 8, by omega⟩ (y 1)))) * scale) bottom := by
  have hs : ∀ r : Vec Ideal S8x128 .f32, shapeCast S8x128 r shapeCasts_S8x128_S8x128 = r := fun r => by
    funext y
    pointwise
  unfold k0_pay129
  dsimp only
  rw [hs v444, hs v457, lo40_eq, hi40_eq, lo48_eq, hi48_eq, lo56_eq, hi56_eq]
  generalize hcc : concatenate S128x128 0 _ _ = cc
  pointwise
  refine congrArg (fun z : EReal => Scalar.select _ z _) (congrArg (fun z : EReal => z * scale) (Finset.sum_congr rfl fun d _ => congrArg (fun z : EReal => v71 (ix2 (y 0) d) * z) ?_))
  rw [← hcc]
  exact concat16' _ _ _ _ _ _ _ _ _ _ _ _ _ _ _ _ d (y 1)

/-- The scores of a tile. -/
theorem scoT_eq (w41 w43 : Elt Ideal .i32) (w71 : FVec Ideal S8x128 .bf16) (v102 : Vec Ideal S1x160x128 .bf16) (k : Vec Ideal S1x128x160 .bf16) (t : Vec Ideal S1x1x128 .i32) (r0 r1 r2 r3 r4 r5 r6 r7 : Vec Ideal S8x128 .f32)
    (e0 : ∀ (a : Fin 8) (l : Fin 128), r0 (ix2 a l) = invF ⟨0 + a.val, by omega⟩)
    (e1 : ∀ (a : Fin 8) (l : Fin 128), r1 (ix2 a l) = invF ⟨8 + a.val, by omega⟩)
    (e2 : ∀ (a : Fin 8) (l : Fin 128), r2 (ix2 a l) = invF ⟨16 + a.val, by omega⟩)
    (e3 : ∀ (a : Fin 8) (l : Fin 128), r3 (ix2 a l) = invF ⟨24 + a.val, by omega⟩)
    (e4 : ∀ (a : Fin 8) (l : Fin 128), r4 (ix2 a l) = invF ⟨32 + a.val, by omega⟩)
    (e5 : ∀ (a : Fin 8) (l : Fin 128), r5 (ix2 a l) = invF ⟨40 + a.val, by omega⟩)
    (e6 : ∀ (a : Fin 8) (l : Fin 128), r6 (ix2 a l) = invF ⟨48 + a.val, by omega⟩)
    (e7 : ∀ (a : Fin 8) (l : Fin 128), r7 (ix2 a l) = invF ⟨56 + a.val, by omega⟩)
    (g : Fin 8) (l : Fin 128) :
    scoT (F := Ideal) w41 w43 w71 v102 k t r0 r1 r2 r3 r4 r5 r6 r7 (ix2 g l) =
      Scalar.select (IntOp.andi (IntOp.cmpi CmpIPredicate.sge (t (ix3 0 0 l)) 0#32) (IntOp.cmpi CmpIPredicate.slt (t (ix3 0 0 l)) w41))
        ((∑ d : Fin 128, (fun u w : EReal => u * w) (w71 (ix2 g d)) (rot (fun d => ∑ r : Fin 160, (fun u w : EReal => u * w) (k (ix3 0 l r)) (v102 (ix3 0 r d))) (IntOp.addi w43 (clip (t (ix3 0 0 l)))) d)) * scale) bottom := by
  have hA : ∀ d, k0_pay90 (F := Ideal) (k0_pay154 v102) k (ix2 d l) = (fun d => ∑ r : Fin 160, (fun u w : EReal => u * w) (k (ix3 0 l r)) (v102 (ix3 0 r d))) d := fun d => by
    pointwise [k0_pay90, k0_pay154]
  have hw : ∀ a, k0_pay92 (F := Ideal) w43 t (ix2 a l) = (FloatOps.sitofp (F := Ideal) FTy.f32 (IntOp.addi w43 (clip (t (ix3 0 0 l))))) := fun a => by
    pointwise [k0_pay92, k0_pay91]
    rfl
  have h91 : k0_pay91 (F := Ideal) t (ix2 0 l) = t (ix3 0 0 l) := by
    pointwise [k0_pay91]
  unfold scoT
  rw [pay98_eq, pay99_eq, pay105_eq, pay106_eq, pay112_eq, pay113_eq, pay119_eq, pay120_eq, pay126_eq, pay127_eq, pay129_eq]
  generalize k0_pay90 (F := Ideal) (k0_pay154 v102) k = A at hA ⊢
  generalize (fun d => ∑ r : Fin 160, (fun u w : EReal => u * w) (k (ix3 0 l r)) (v102 (ix3 0 r d))) = v at hA ⊢
  rw [show ((ix2 g l : S8x128.Idx) 1) = l from rfl, show ((ix2 g l : S8x128.Idx) 0) = g from rfl, h91]
  generalize IntOp.addi w43 (clip (t (ix3 0 0 l))) = p at hw ⊢
  refine congrArg (fun z : EReal => Scalar.select _ z _) (congrArg (fun z : EReal => z * scale) (Finset.sum_congr rfl fun d _ => congrArg (fun z : EReal => w71 (ix2 g d) * z) ?_))
  have hm : ∀ (r : Vec Ideal S8x128 .f32) (o : ℕ) (ho : o + 8 ≤ 64) (e : ∀ (a : Fin 8) (l : Fin 128), r (ix2 a l) = invF ⟨o + a.val, by omega⟩) (a : Fin 8),
      mulf (F := Ideal) (k0_pay92 w43 t) r (ix2 a l) = ang p (invF ⟨o + a.val, by omega⟩) := fun r o ho e a => by
    show (k0_pay92 (F := Ideal) w43 t (ix2 a l) * r (ix2 a l) : EReal) = _
    rw [hw, e]
    rfl
  have hs : ∀ r : Vec Ideal S8x128 .f32, shapeCast S8x128 r shapeCasts_S8x128_S8x128 = r := fun r => by
    funext y
    pointwise
  have h100 : k0_pay100 (F := Ideal) w43 t r1 = mulf (F := Ideal) (k0_pay92 w43 t) r1 := by
    unfold k0_pay100
    dsimp only
    rw [hs]
  have h128 : k0_pay128 (F := Ideal) (k0_pay92 w43 t) r5 = mulf (F := Ideal) (k0_pay92 w43 t) r5 := by
    unfold k0_pay128
    dsimp only
    rw [hs]
  rw [h100, h128]
  have hd : d.val = 8 * (d.val / 8) + d.val % 8 := (Nat.div_add_mod _ _).symm
  have key : ∀ (n : Fin 16) (a : Fin 8), d.val = 8 * n.val + a.val → (![loAt A (mulf (F := Ideal) (k0_pay92 w43 t) r0) 0 (by decide), loAt A (mulf (F := Ideal) (k0_pay92 w43 t) r1) 8 (by decide), loAt A (mulf (F := Ideal) (k0_pay92 w43 t) r2) 16 (by decide), loAt A (mulf (F := Ideal) (k0_pay92 w43 t) r3) 24 (by decide), loAt A (mulf (F := Ideal) (k0_pay92 w43 t) r4) 32 (by decide), loAt A (mulf (F := Ideal) (k0_pay92 w43 t) r5) 40 (by decide), loAt A (mulf (F := Ideal) (k0_pay92 w43 t) r6) 48 (by decide), loAt A (mulf (F := Ideal) (k0_pay92 w43 t) r7) 56 (by decide), hiAt A (mulf (F := Ideal) (k0_pay92 w43 t) r0) 0 (by decide), hiAt A (mulf (F := Ideal) (k0_pay92 w43 t) r1) 8 (by decide), hiAt A (mulf (F := Ideal) (k0_pay92 w43 t) r2) 16 (by decide), hiAt A (mulf (F := Ideal) (k0_pay92 w43 t) r3) 24 (by decide), hiAt A (mulf (F := Ideal) (k0_pay92 w43 t) r4) 32 (by decide), hiAt A (mulf (F := Ideal) (k0_pay92 w43 t) r5) 40 (by decide), hiAt A (mulf (F := Ideal) (k0_pay92 w43 t) r6) 48 (by decide), hiAt A (mulf (F := Ideal) (k0_pay92 w43 t) r7) 56 (by decide)] : Fin 16 → (S8x128.Idx → EReal)) n (ix2 a l) = rot v p d := by
    intro n a hn
    match n with
    | ⟨0, _⟩ => exact loAt_rot A _ 0 (by decide) v p l a hA (hm r0 0 (by decide) e0 a) d (by simpa using hn)
    | ⟨1, _⟩ => exact loAt_rot A _ 8 (by decide) v p l a hA (hm r1 8 (by decide) e1 a) d (by simpa using hn)
    | ⟨2, _⟩ => exact loAt_rot A _ 16 (by decide) v p l a hA (hm r2 16 (by decide) e2 a) d (by simpa using hn)
    | ⟨3, _⟩ => exact loAt_rot A _ 24 (by decide) v p l a hA (hm r3 24 (by decide) e3 a) d (by simpa using hn)
    | ⟨4, _⟩ => exact loAt_rot A _ 32 (by decide) v p l a hA (hm r4 32 (by decide) e4 a) d (by simpa using hn)
    | ⟨5, _⟩ => exact loAt_rot A _ 40 (by decide) v p l a hA (hm r5 40 (by decide) e5 a) d (by simpa using hn)
    | ⟨6, _⟩ => exact loAt_rot A _ 48 (by decide) v p l a hA (hm r6 48 (by decide) e6 a) d (by simpa using hn)
    | ⟨7, _⟩ => exact loAt_rot A _ 56 (by decide) v p l a hA (hm r7 56 (by decide) e7 a) d (by simpa using hn)
    | ⟨8, _⟩ => exact hiAt_rot A _ 0 (by decide) v p l a hA (hm r0 0 (by decide) e0 a) d (by simpa using hn)
    | ⟨9, _⟩ => exact hiAt_rot A _ 8 (by decide) v p l a hA (hm r1 8 (by decide) e1 a) d (by simpa using hn)
    | ⟨10, _⟩ => exact hiAt_rot A _ 16 (by decide) v p l a hA (hm r2 16 (by decide) e2 a) d (by simpa using hn)
    | ⟨11, _⟩ => exact hiAt_rot A _ 24 (by decide) v p l a hA (hm r3 24 (by decide) e3 a) d (by simpa using hn)
    | ⟨12, _⟩ => exact hiAt_rot A _ 32 (by decide) v p l a hA (hm r4 32 (by decide) e4 a) d (by simpa using hn)
    | ⟨13, _⟩ => exact hiAt_rot A _ 40 (by decide) v p l a hA (hm r5 40 (by decide) e5 a) d (by simpa using hn)
    | ⟨14, _⟩ => exact hiAt_rot A _ 48 (by decide) v p l a hA (hm r6 48 (by decide) e6 a) d (by simpa using hn)
    | ⟨15, _⟩ => exact hiAt_rot A _ 56 (by decide) v p l a hA (hm r7 56 (by decide) e7 a) d (by simpa using hn)
    | ⟨n + 16, h⟩ => exact absurd h (by omega)
  exact key ⟨d.val / 8, by omega⟩ ⟨d.val % 8, by omega⟩ hd

end Cert.KernelIdeal.Hand

end
-- ==== Proof.PSum.lean ====
/- Sums, maxima and words: the arithmetic the two readings of the probabilities share. -/
module

public import proofs.«01_k».proof.Proof.Probs
public import Mathlib.Data.Finset.Fold
public import Mathlib.Data.Finset.Lattice.Fold
public import Mathlib.Algebra.BigOperators.Fin
public import Mathlib.Logic.Equiv.Fin.Basic

@[expose] public section

noncomputable section

namespace Cert.Probs

open Idealize.ShloMosaic Cert.NewKey

/-- The kernel's form of a rotation. -/
theorem rot_of_rotate (v : Fin 128 → EReal) (p : BitVec 32) (d : Fin 128) :
    (v d * Ideal.cos (ang p (laneF d)) + v ⟨(d.val + 128 - 64) % 128, Nat.mod_lt _ (by decide)⟩
      * Scalar.select (IntOp.cmpi CmpIPredicate.slt (BitVec.ofNat 32 d.val) 64#32) (0 - Ideal.sin (ang p (laneF d))) (Ideal.sin (ang p (laneF d))) : EReal)
      = rot v p d := by
  have hc : ∀ d : Fin 128, IntOp.cmpi CmpIPredicate.slt (BitVec.ofNat 32 d.val) 64#32 = if d.val < 64 then 1#1 else 0#1 := by decide +kernel
  rw [hc]
  unfold rot laneF
  by_cases h : d.val < 64
  · rw [dif_pos h, dif_pos h, if_pos h]
    have e : (⟨(d.val + 128 - 64) % 128, Nat.mod_lt _ (by decide)⟩ : Fin 128) = ⟨64 + d.val, by omega⟩ := Fin.ext (by simp only; omega)
    rw [e]
    unfold rotLo Scalar.select
    rw [if_pos (by decide), zero_sub, mul_neg, ← sub_eq_add_neg]
  · rw [dif_neg h, dif_neg h, if_neg h]
    have e : (⟨(d.val + 128 - 64) % 128, Nat.mod_lt _ (by decide)⟩ : Fin 128) = ⟨d.val - 64, by omega⟩ := Fin.ext (by simp only; omega)
    have e2 : (⟨64 + (d.val - 64), by omega⟩ : Fin 128) = d := Fin.ext (by simp only; omega)
    rw [e]
    unfold rotHi Scalar.select
    rw [if_neg (by decide)]
    simp only [e2]

theorem sum_rot (v w : Fin 128 → EReal) (p q : BitVec 32) :
    (∑ d : Fin 128, rot v p d * rot w q d) = ∑ k : Fin 64, rotLo v p k * rotLo w q k + ∑ k : Fin 64, rotHi v p k * rotHi w q k := by
  refine (Fin.sum_univ_add (a := 64) (b := 64) (fun d : Fin 128 => rot v p d * rot w q d)).trans ?_
  have hl : ∀ (v : Fin 128 → EReal) p (k : Fin 64), rot v p (Fin.castAdd 64 k) = rotLo v p k := fun v p k => by
    unfold rot
    exact dif_pos k.isLt
  have hr : ∀ (v : Fin 128 → EReal) p (k : Fin 64), rot v p (Fin.natAdd 64 k) = rotHi v p k := fun v p k => by
    unfold rot
    rw [dif_neg (by show ¬ 64 + k.val < 64; omega)]
    exact congrArg (rotHi v p) (Fin.ext (by show 64 + k.val - 64 = k.val; omega))
  simp only [hl, hr]

/-- The token of a tile's lane. -/
def lin (n : Fin 28) (l : Fin 128) : Fin 3584 := ⟨128 * n.val + l.val, by omega⟩

theorem lin_split (t : Fin 3584) : lin ⟨t.val / 128, by omega⟩ ⟨t.val % 128, by omega⟩ = t := Fin.ext (by show 128 * (t.val / 128) + t.val % 128 = t.val; omega)

theorem fold_pages (c : EReal) (s : Fin 3584 → EReal) :
    Finset.fold max c (fun l : Fin 128 => Finset.fold max c (fun n : Fin 28 => s (lin n l)) Finset.univ) Finset.univ = Finset.fold max c s Finset.univ := by
  refine eq_of_forall_ge_iff fun u => ?_
  simp only [Finset.fold_max_le, Finset.mem_univ, true_imp_iff]
  constructor
  · rintro ⟨h, k⟩
    exact ⟨h, fun t => by rw [← lin_split t]; exact (k _).2 _⟩
  · rintro ⟨h, k⟩
    exact ⟨h, fun l => ⟨h, fun n => k _⟩⟩

theorem sum_pages (f : Fin 3584 → EReal) : (∑ l : Fin 128, ∑ n : Fin 28, f (lin n l)) = ∑ t, f t := by
  rw [Finset.sum_comm, ← Fintype.sum_prod_type']
  refine Fintype.sum_equiv (finProdFinEquiv (m := 28) (n := 128)) _ (fun t : Fin 3584 => f t) fun x => congrArg f (Fin.ext ?_)
  show 128 * x.1.val + x.2.val = x.2.val + 128 * x.1.val
  omega

theorem pick (h : Fin 4) (w : BitVec 32) (hw : w = BitVec.ofNat 32 h.val) (f : Fin 4 → EReal) :
    (∑ x : Fin 4, Scalar.select (IntOp.cmpi CmpIPredicate.eq (BitVec.ofNat 32 x.val) w) (f x) 0) = f h := by
  subst hw
  have hc : ∀ x h : Fin 4, IntOp.cmpi CmpIPredicate.eq (BitVec.ofNat 32 x.val) (BitVec.ofNat 32 h.val) = if x = h then 1#1 else 0#1 := by decide
  have hs : ∀ x : Fin 4, Scalar.select (IntOp.cmpi CmpIPredicate.eq (BitVec.ofNat 32 x.val) (BitVec.ofNat 32 h.val)) (f x) 0 = if x = h then f x else 0 := fun x => by
    rw [hc]
    unfold Scalar.select
    by_cases e : x = h
    · rw [if_pos e, if_pos e, if_pos (by decide)]
    · rw [if_neg e, if_neg e, if_neg (by decide)]
  simp only [hs, Finset.sum_ite_eq', Finset.mem_univ, if_true]

section Words

theorem toNat_of_nonneg {c : BitVec 32} (h0 : 0 ≤ c.toInt) : c.toInt.toNat = c.toNat ∧ c.toNat < 2 ^ 31 := by
  have hl := c.isLt
  have := BitVec.toInt_eq_toNat_cond c
  split at this <;> omega

theorem toInt_of_small {c : BitVec 32} (h : c.toNat < 65536) : c.toInt = c.toNat := by
  have := BitVec.toInt_eq_toNat_cond c
  split at this <;> omega

theorem pos_toNat {c : BitVec 32} {j : ℕ} (hj : j < 8) (h0 : 0 ≤ c.toInt) (h1 : c.toInt < 8192) :
    (IntOp.addi (IntOp.muli c 8#32) (BitVec.ofNat 32 j)).toNat = 8 * c.toInt.toNat + j := by
  obtain ⟨e, _⟩ := toNat_of_nonneg h0
  show (c * 8#32 + BitVec.ofNat 32 j).toNat = _
  rw [BitVec.toNat_add, BitVec.toNat_mul, BitVec.toNat_ofNat, BitVec.toNat_ofNat]
  omega

theorem clip_of_small {w : BitVec 32} (h : w.toNat < 65536) : clip w = w := by
  have e := toInt_of_small h
  have h0 : (0#32 : BitVec 32).toInt = 0 := by decide
  have h1 : (65535#32 : BitVec 32).toInt = 65535 := by decide
  unfold clip IntOp.minsi IntOp.maxsi
  simp only [BitVec.slt, BitVec.sle, decide_eq_true_eq]
  split_ifs <;> first | rfl | (exfalso; omega) | (apply BitVec.eq_of_toInt_eq; omega)

theorem sge_pos {c : BitVec 32} {j : ℕ} (hj : j < 8) (h0 : -1 ≤ c.toInt) (h1 : c.toInt < 8192) :
    IntOp.cmpi CmpIPredicate.sge (IntOp.addi (IntOp.muli c 8#32) (BitVec.ofNat 32 j)) 0#32 = IntOp.cmpi CmpIPredicate.sge c 0#32 := by
  by_cases h : 0 ≤ c.toInt
  · have e := pos_toNat hj h h1
    have e2 := toInt_of_small (c := IntOp.addi (IntOp.muli c 8#32) (BitVec.ofNat 32 j)) (by omega)
    have hz : (0#32 : BitVec 32).toInt = 0 := by decide
    show BitVec.ofBool (BitVec.sle 0#32 _) = BitVec.ofBool (BitVec.sle 0#32 c)
    unfold BitVec.sle
    rw [hz, decide_eq_true (by omega), decide_eq_true h]
  · have hc : c = (-1 : BitVec 32) := BitVec.eq_of_toInt_eq (by
      have : ((-1 : BitVec 32)).toInt = -1 := by decide
      omega)
    subst hc
    have : ∀ j : Fin 8, IntOp.cmpi CmpIPredicate.sge (IntOp.addi (IntOp.muli (-1 : BitVec 32) 8#32) (BitVec.ofNat 32 j.val)) 0#32 = IntOp.cmpi CmpIPredicate.sge (-1 : BitVec 32) 0#32 := by decide
    exact this ⟨j, hj⟩

theorem nonneg_of_sge {c : BitVec 32} (h : IntOp.cmpi CmpIPredicate.sge c 0#32 = 1#1) : 0 ≤ c.toInt := by
  have hz : (0#32 : BitVec 32).toInt = 0 := by decide
  have h' : BitVec.ofBool (BitVec.sle 0#32 c) = 1#1 := h
  by_contra hn
  unfold BitVec.sle at h'
  rw [hz, decide_eq_false hn] at h'
  exact absurd h' (by decide)

end Words

end Cert.Probs

end
-- ==== Proof.IWin.lean ====
/- What the windows and the K slot hold, from the arrays. -/
module

public import proofs.«01_k».proof.Proof.IValue
public import proofs.«01_k».proof.Proof.ITok
public import proofs.«01_k».proof.Proof.PSum

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

theorem coords0 (t : Fin grid0.N) : ((grid0.coords t) 0).val = t.val := by
  have h : ∀ t : Fin grid0.N, ((grid0.coords t) 0).val = t.val := by decide +kernel
  exact h t

theorem itOf_eq (t : Fin grid0.N) : itOf (grid0.coords t) = ⟨t.val, t.isLt⟩ := Fin.ext (coords0 t)

theorem headW_eq (t : Fin grid0.N) : headW (grid0.coords t) = BitVec.ofNat 32 (t.val % 4) := by
  have h : ∀ t : Fin grid0.N, headW (grid0.coords t) = BitVec.ofNat 32 (t.val % 4) := by decide +kernel
  exact h t

theorem t4_eq (t : Fin grid0.N) : cc0_transform_4 (grid0.coords t) = ![t.val / 4, 0, t.val % 4] := by
  have h : ∀ t : Fin grid0.N, cc0_transform_4 (grid0.coords t) = ![t.val / 4, 0, t.val % 4] := by decide +kernel
  exact h t

/-- The head of a grid point. -/
def headAt (t : Fin grid0.N) : Fin 4 := ⟨t.val % 4, Nat.mod_lt _ (by decide)⟩

theorem fetch4 : ∀ t : Fin grid0.N, Pipeline.Window.fetchOf grid0 false cc0_transform_4 t = true := by decide +kernel

section Held
variable {F : FTy → Type} [FloatOps F] [∀ e, Nonempty (Elt F e)]
variable (m : (ℓ : Loc nD τ sig) → Buf (Elt F) ℓ)

theorem blk6_read (c : Dev nD) (t : Fin (cfgm m).N) (y : S64x128.Idx) : (((cfgm m).win 6).blk t).view.read (Elt F) (V m c main_v11) y = V m c main_v11 y := by
  unfold View.read
  refine congrArg (V m c main_v11) ?_
  blk_ext
  · show 0 * 64 + (y 0).val = (y 0).val; omega
  · show 0 * 128 + (y 1).val = (y 1).val; omega

/-- The window of the frequency columns holds the whole array at every grid point. -/
theorem held6_eq (c : Dev nD) (n : ℕ) (h : n < (cfgm m).N) (y : S64x128.Idx) : held m c 6 ⟨n, h⟩ y = V m c main_v11 y := by
  induction n with
  | zero =>
    unfold held Pipeline.heldIn Pipeline.Window.fill
    rw [dif_pos (by rfl)]
    exact blk6_read m c _ y
  | succ n ih =>
    simp only [Pipeline.heldIn]
    split
    · unfold Pipeline.Window.fill
      rw [dif_pos (by rfl)]
      exact blk6_read m c _ y
    · exact ih (Nat.lt_of_succ_lt h)

theorem blk4_read (c : Dev nD) (t : Fin (cfgm m).N) (r : Fin 160) (d : Fin 128) : (((cfgm m).win 4).blk t).view.read (Elt F) (V m c main_arg4) (ix3 0 r d)
    = V m c main_arg4 (ix3 (rowAt t) r ⟨(headAt t).val * 128 + d.val, by have := (headAt t).isLt; omega⟩) := by
  unfold View.read
  refine congrArg (V m c main_arg4) ?_
  blk_ext
  · show cc0_transform_4 (grid0.coords t) 0 + 0 = _; rw [t4_eq]; rfl
  · show cc0_transform_4 (grid0.coords t) 1 * 160 + r.val = _; rw [t4_eq]; show 0 * 160 + r.val = r.val; omega
  · show cc0_transform_4 (grid0.coords t) 2 * 128 + d.val = _; rw [t4_eq]; rfl

/-- The window of the head's factor holds the item's own block. -/
theorem held4_eq (c : Dev nD) (t : Fin (cfgm m).N) (r : Fin 160) (d : Fin 128) : held m c 4 t (ix3 0 r d)
    = V m c main_arg4 (ix3 (rowAt t) r ⟨(headAt t).val * 128 + d.val, by have := (headAt t).isLt; omega⟩) := by
  have hf : ((cfgm m).win 4).fetch t = true := (Pipeline.Window.fetch_eq_fetchOf ((cfgm m).win 4) t).trans (fetch4 t)
  unfold held
  rw [Pipeline.heldIn_of_fetch _ 4 t hf]
  unfold Pipeline.Window.fill
  rw [dif_pos (by rfl)]
  exact blk4_read m c t r d

end Held

theorem val_v11 (m : (ℓ : Loc nD τ sig) → Buf (Elt Ideal) ℓ) (c : Dev nD) (u : S64x128.Idx) : V m c main_v11 u = Cert.NewKey.invF (u 0) := by
  dsimp only [V]
  after_reads_simp
  pointwise
  rfl

theorem val_v16 (m : (ℓ : Loc nD τ sig) → Buf (Elt Ideal) ℓ) (c : Dev nD) (i : Fin 24) (j : Fin 448) :
    V m c main_v16 (ix2 i j) = m (c, Proc.tc.devRef main_arg7) (ix3 ⟨i.val / 4, by omega⟩ ⟨i.val % 4, by omega⟩ j) := by
  dsimp only [V]
  after_reads_simp
  pointwise

theorem val_v17 (m : (ℓ : Loc nD τ sig) → Buf (Elt Ideal) ℓ) (c : Dev nD) (a : Fin 6) (j : Fin 3584) : V m c main_v17 (ix2 a j) = m (c, Proc.tc.devRef main_arg0) (ix3 a 0 j) := by
  dsimp only [V]
  after_reads_simp
  pointwise

theorem reshape_3_2 (h : (⟨2, ![8, 160]⟩ : Shape).numel = (⟨3, ![1, 8, 160]⟩ : Shape).numel) (a : Fin 8) (q : Fin 160) :
    Shape.reshapeEquiv h (ix2 a q) = ix3 0 a q := by
  refine Shape.reshapeEquiv_eq_of_vals h _ _ (a.val * 160 + q.val) (a.val * 160 + q.val) ?_ ?_ rfl
  · rw [rowMajor_val3 _ 1280 160 rfl rfl]; show 0 * 1280 + a.val * 160 + q.val = _; omega
  · rw [rowMajor_val2 _ 160 rfl]; rfl

/-- A landed block's row. -/
theorem kLand_at (s : Fin 2) (t : Fin 448) (b : Fin 6) (r : Fin 8192) (ka : S6x65536x160.Idx → EReal) (a : Fin 8) (q : Fin 160) (y : S2x3584x160.Idx)
    (h0 : (y 0).val = s.val) (h1 : (y 1).val = 8 * t.val + a.val) (h2 : (y 2).val = q.val) :
    kLand (F := Ideal) s t b r ka y = ka (ix3 b ⟨8 * r.val + a.val, by omega⟩ q) := by
  have hy : y = (kDst s t).view.emb (ix2 a q) := by
    show y = (Rect.unit (s := S2x3584x160) ![s.val, 8 * t.val, 0] S1x8x160.size (kDst_inb s t)).emb (Shape.reshapeEquiv _ (ix2 a q))
    rw [reshape_3_2]
    funext (z : Fin 3)
    match z with
    | ⟨0, _⟩ => exact Fin.ext (by show (y 0).val = s.val + 1 * 0; omega)
    | ⟨1, _⟩ => exact Fin.ext (by show (y 1).val = 8 * t.val + 1 * a.val; omega)
    | ⟨2, _⟩ => exact Fin.ext (by show (y 2).val = 0 + 1 * q.val; omega)
  unfold kLand
  refine (congrArg _ hy).trans ((View.write_emb_of_mem (v := (kDst s t).view) _ _ (Finset.mem_univ (ix2 a q))).trans ?_)
  refine congrArg ka ?_
  show (Rect.unit (s := S6x65536x160) ![b.val, 8 * r.val, 0] S1x8x160.size (kSrc_inb b r)).emb (Shape.reshapeEquiv _ (ix2 a q)) = _
  rw [reshape_3_2]
  funext (z : Fin 3)
  match z with
  | ⟨0, _⟩ => exact Fin.ext (by show b.val + 1 * 0 = b.val; omega)
  | ⟨1, _⟩ => exact Fin.ext (by show 8 * r.val + 1 * a.val = 8 * r.val + a.val; omega)
  | ⟨2, _⟩ => exact Fin.ext (by show 0 + 1 * q.val = q.val; omega)

theorem selW_eq (sel : S6x4x448.Idx → BitVec 32) (it : Fin 24) (t : Fin 448) : selW (F := Ideal) sel it t = sel (ix3 (rowOf it) (headOf it) t) := by
  unfold selW View.readAt
  refine congrArg sel ?_
  funext (z : Fin 3)
  match z with
  | ⟨0, _⟩ => exact Fin.ext (by show (rowOf it).val + 1 * 0 = (rowOf it).val; omega)
  | ⟨1, _⟩ => exact Fin.ext (by show (headOf it).val + 1 * 0 = (headOf it).val; omega)
  | ⟨2, _⟩ => exact Fin.ext (by show t.val + 1 * 0 = t.val; omega)

open Cert.Probs in
/-- The position of a tile's token. -/
theorem tTile_eq (X : Vec Ideal S24x448 .i32) (sel : S6x4x448.Idx → BitVec 32) (hX : ∀ (i : Fin 24) (j : Fin 448), X (ix2 i j) = sel (ix3 (rowOf i) (headOf i) j))
    (it : Fin 24) (n : Fin 28) (l : Fin 128) : tTile (F := Ideal) X it n (ix3 0 0 l) = tok sel (rowOf it) (headOf it) (lin n l) := by
  unfold tTile tokG
  rw [show (ix2 ((ix3 n it ((ix3 0 0 l : S1x1x128.Idx) 2) : S28x24x128.Idx) 1) ⟨128 * (((ix3 n it ((ix3 0 0 l : S1x1x128.Idx) 2) : S28x24x128.Idx) 0).val % 4) + ((ix3 n it ((ix3 0 0 l : S1x1x128.Idx) 2) : S28x24x128.Idx) 2).val, by
      show 128 * (n.val % 4) + l.val < 512; omega⟩ : S24x512.Idx) = ix2 it ⟨128 * (n.val % 4) + l.val, by omega⟩ from rfl]
  refine (tokB_eq X _ it _).trans ?_
  rw [hX]
  unfold tok chunk lin
  refine congrArg₂ (fun (a : Fin 448) (j : ℕ) => IntOp.addi (IntOp.muli (sel (ix3 (rowOf it) (headOf it) a)) 8#32) (BitVec.ofNat 32 j)) (Fin.ext ?_) ?_
  · show 64 * (n.val / 4) + (128 * (n.val % 4) + l.val) / 8 = (128 * n.val + l.val) / 8
    omega
  · show (128 * (n.val % 4) + l.val) % 8 = (128 * n.val + l.val) % 8
    omega

open Cert.Probs in
/-- A live token's row of the K slot. -/
theorem kTile_eq (sel : S6x4x448.Idx → BitVec 32) (hsel : SelOK (F := Ideal) sel) (ka : S6x65536x160.Idx → EReal) (it : Fin 24) (n : Fin 28) (l : Fin 128) (r : Fin 160)
    (h : 0 ≤ (chunk sel (rowOf it) (headOf it) (lin n l)).toInt) :
    kTile (F := Ideal) sel ka it n (ix3 0 l r) = ka (ix3 (rowOf it) ⟨(clip (tok sel (rowOf it) (headOf it) (lin n l))).toNat, clip_lt _⟩ r) := by
  have hr : (chunk sel (rowOf it) (headOf it) (lin n l)).toInt < 8192 := (hsel _).2
  have ht := pos_toNat (j := (lin n l).val % 8) (by omega) h hr
  have ht' : (tok sel (rowOf it) (headOf it) (lin n l)).toNat = 8 * (chunk sel (rowOf it) (headOf it) (lin n l)).toInt.toNat + (lin n l).val % 8 := ht
  have hl := (lin n l).isLt
  unfold kTile kFull
  refine (kLand_at (slotOf it) ⟨(lin n l).val / 8, by omega⟩ (rowOf it) _ ka ⟨(lin n l).val % 8, by omega⟩ r _ rfl ?_ rfl).trans (congrArg (fun z => ka (ix3 (rowOf it) z r)) (Fin.ext ?_))
  · show (lin n l).val = 8 * ((lin n l).val / 8) + (lin n l).val % 8
    omega
  · have hc := chunkOf_val (F := Ideal) hsel it ⟨(lin n l).val / 8, by omega⟩
    rw [selW_eq] at hc
    have hc := hc.trans (if_pos h)
    have e : (clip (tok sel (rowOf it) (headOf it) (lin n l))).toNat = 8 * (chunk sel (rowOf it) (headOf it) (lin n l)).toInt.toNat + (lin n l).val % 8 := by
      rw [clip_of_small (by omega), ht']
    exact (congrArg (fun z => 8 * z + (lin n l).val % 8) hc).trans e.symm

end Cert.KernelIdeal.Hand

end
-- ==== Proof.IProbs.lean ====
/- The second result: the probabilities, element by element. -/
module

public import proofs.«01_k».proof.Proof.ITile
public import proofs.«01_k».proof.Proof.IWin

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)
open Cert.Probs

section Soft
variable (i : grid0.Coords) (w71 : FVec Ideal S8x128 .bf16) (w82 : FVec Ideal S4x128 .bf16) (S : FVec Ideal S28x8x128 .f32)

/-- The new token's score, the largest score and the denominator, as the kernel adds them up. -/
def snK (g : Fin 8) : EReal :=
  (∑ x : Fin 128, (fun u w : EReal => u * w) (w71 (ix2 g x)) (∑ z : Fin 4, Scalar.select (IntOp.cmpi CmpIPredicate.eq (BitVec.ofNat 32 z.val) (headW i)) (w82 (ix2 z x)) (0 : EReal))) * scale
def topK (n : EReal) (g : Fin 8) : EReal :=
  max (Finset.fold max bottom (fun l : Fin 128 => Finset.fold max bottom (fun k : Fin 28 => (S (ix3 k g l) : EReal)) Finset.univ) Finset.univ) n
def denK (n : EReal) (g : Fin 8) : EReal :=
  (∑ l : Fin 128, ∑ k : Fin 28, Ideal.exp ((S (ix3 k g l) : EReal) - topK S n g)) + Ideal.exp (n - topK S n g)

theorem pay161_eq (k : Fin 28) (g : Fin 8) (l : Fin 128) : k0_pay161 (F := Ideal) (k0_pay158 (headW i) w71 w82 S) (k0_pay159 (headW i) w71 w82 S) (ix3 k g l)
    = Ideal.div (Ideal.exp ((S (ix3 k g l) : EReal) - topK S (snK i w71 w82 g) g)) (denK S (snK i w71 w82 g) g) := by
  pointwise [k0_pay161, k0_pay160, k0_pay158, k0_pay159, k0_pay157, k0_pay153, k0_pay152]
  rfl

theorem pay162_eq (g : Fin 8) : k0_pay162 (F := Ideal) (k0_pay158 (headW i) w71 w82 S) (k0_pay159 (headW i) w71 w82 S) (ix2 g 0)
    = Ideal.div (Ideal.exp (snK i w71 w82 g - topK S (snK i w71 w82 g) g)) (denK S (snK i w71 w82 g) g) := by
  pointwise [k0_pay162, k0_pay160, k0_pay158, k0_pay159, k0_pay157, k0_pay153, k0_pay152]
  rfl

variable (s : Fin 3584 → EReal) (g : Fin 8) (hS : ∀ k l, S (ix3 k g l) = s (lin k l)) (n : EReal)
include hS

theorem topK_eq : topK S n g = top s n := by
  unfold topK top
  simp only [hS]
  rw [fold_pages]

theorem denK_eq : denK S n g = denom s n := by
  unfold denK denom
  rw [topK_eq S s g hS]
  simp only [hS]
  rw [sum_pages (fun t => Ideal.exp (s t - top s n))]

end Soft

theorem soft_of (i : grid0.Coords) (w71 : FVec Ideal S8x128 .bf16) (w82 : FVec Ideal S4x128 .bf16) (S : FVec Ideal S28x8x128 .f32) (s : Fin 3584 → EReal) (n : EReal) (y : S1x1x7x3585.Idx)
    (hS : ∀ k l, S (ix3 k ⟨(y 2).val, by have : (y 2).val < 7 := (y 2).isLt; omega⟩ l) = s (lin k l))
    (hn : snK i w71 w82 ⟨(y 2).val, by have : (y 2).val < 7 := (y 2).isLt; omega⟩ = n) : prbP (F := Ideal) i w71 w82 S y = soft s n (y 3) := by
  unfold prbP probG soft
  split
  · rename_i h
    rw [pay161_eq, hn, topK_eq S s _ hS, denK_eq S s _ hS, hS, lin_split ⟨(y 3).val, h⟩]
  · rw [pay162_eq, hn, topK_eq S s _ hS, denK_eq S s _ hS]

section Item
variable (t : Fin grid0.N) (x : S6x1x3584.Idx → EReal) (kn : S6x1x4x128.Idx → EReal) (ka : S6x65536x160.Idx → EReal) (kb : S6x160x512.Idx → EReal) (sel : S6x4x448.Idx → BitVec 32) (len pos : S6.Idx → BitVec 32)
variable (X4 : Vec Ideal S24x448 .i32) (X5 : Vec Ideal S6x3584 .bf16) (X6 : Vec Ideal S6x4x128 .bf16) (X8 : Vec Ideal S1x160x128 .bf16) (X10 : Vec Ideal S64x128 .f32) (X11 : Vec Ideal S1x128 .f32)

theorem qTile_eq (h5 : ∀ (a : Fin 6) (j : Fin 3584), X5 (ix2 a j) = x (ix3 a 0 j)) (g : Fin 7) (d : Fin 128) :
    qTile (F := Ideal) X5 (grid0.coords t) (ix3 g 0 d) = query x (rowAt t) (Cert.Probs.headOf (headAt t) g) d := by
  unfold qTile qG query
  refine (h5 _ _).trans (congrArg₂ (fun (a : Fin 6) (j : Fin 3584) => x (ix3 a 0 j)) (Fin.ext ?_) (Fin.ext ?_))
  · show ((grid0.coords t) 0).val / 4 = t.val / 4
    rw [coords0]
  · show 128 * (7 * (((grid0.coords t) 0).val % 4) + g.val) + d.val = (t.val % 4 * 7 + g.val) * 128 + d.val
    rw [coords0]
    omega

theorem q_apply (h5 : ∀ (a : Fin 6) (j : Fin 3584), X5 (ix2 a j) = x (ix3 a 0 j)) (h11 : ∀ u : S1x128.Idx, X11 u = Cert.NewKey.laneF (u 1)) (g : Fin 7) (d : Fin 128) :
    k0_pay149 (F := Ideal) (lenW (F := Ideal) (grid0.coords t) len) (posW (F := Ideal) (grid0.coords t) pos) (fun y => X11 ((Rect.unit (s := S1x128) ![0, 0] S1x128.size inb_S1x128_S1x128_0_0).toLoadRect.idx y)) (qTile (F := Ideal) X5 (grid0.coords t)) (ix2 ⟨g.val, by omega⟩ d)
      = rot (query x (rowAt t) (Cert.Probs.headOf (headAt t) g)) (posNew len pos (rowAt t)) d := by
  generalize hQ : qTile (F := Ideal) X5 (grid0.coords t) = Q
  have hq : ∀ d, Q (ix3 g 0 d) = query x (rowAt t) (Cert.Probs.headOf (headAt t) g) d := fun d => by
    rw [← hQ]
    exact qTile_eq t x X5 h5 g d
  rw [lenW_eq, posW_eq]
  pointwise [k0_pay149, k0_pay146, k0_pay147, k0_pay148]
  rw [hq, hq, h11]
  exact rot_of_rotate _ _ d

theorem k_apply (h6 : ∀ (a : Fin 6) (b : Fin 4) (d : Fin 128), X6 (ix3 a b d) = kn (ix4 a 0 b d)) (h11 : ∀ u : S1x128.Idx, X11 u = Cert.NewKey.laneF (u 1)) (h : Fin 4) (d : Fin 128) :
    k0_pay150 (F := Ideal) (lenW (F := Ideal) (grid0.coords t) len) (posW (F := Ideal) (grid0.coords t) pos) (fun y => X11 ((Rect.unit (s := S1x128) ![0, 0] S1x128.size inb_S1x128_S1x128_0_0).toLoadRect.idx y))
      (fun y => X6 ((Rect.unit (s := S6x4x128) (k0_off8 (grid0.coords t)) S1x4x128.size (k0_off8_inb (grid0.coords t))).toLoadRect.idx y)) (ix2 h d)
      = Cert.NewKey.lane kn (posNew len pos (rowAt t)) (rowAt t) h d := by
  pointwise [k0_pay150, k0_pay147, k0_pay148, k0_pay146]
  obtain ⟨e0, e1, e2⟩ := off8_eq t
  simp only [e0, e1, e2, Nat.zero_add]
  rw [lenW_eq, posW_eq, h6, h6, h11]
  exact Cert.NewKey.lane_of_rotate kn _ (rowAt t) h d

theorem select_live (c : BitVec 1) (a a' b : EReal) (h : c = 1#1 → a = a') : Scalar.select c a b = Scalar.select c a' b := by
  unfold Scalar.select
  split
  · exact h ‹_›
  · rfl

theorem and_left_one {p q : BitVec 1} (h : IntOp.andi p q = 1#1) : p = 1#1 := by
  revert p q
  decide

/-- A tile's score. -/
theorem score_apply (hsel : SelOK (F := Ideal) sel) (w71 : FVec Ideal S8x128 .bf16) (V8 : Vec Ideal S1x160x128 .bf16) (r0 r1 r2 r3 r4 r5 r6 r7 : Vec Ideal S8x128 .f32) (g : Fin 7)
    (h4 : ∀ (i : Fin 24) (j : Fin 448), X4 (ix2 i j) = sel (ix3 (rowOf i) (headOf i) j))
    (hq : ∀ d, w71 (ix2 ⟨g.val, by omega⟩ d) = rot (query x (rowAt t) (Cert.Probs.headOf (headAt t) g)) (posNew len pos (rowAt t)) d)
    (h8 : ∀ (r : Fin 160) (d : Fin 128), V8 (ix3 0 r d) = kb (ix3 (rowAt t) r ⟨(headAt t).val * 128 + d.val, by have := (headAt t).isLt; omega⟩))
    (e0 : ∀ (a : Fin 8) (l : Fin 128), r0 (ix2 a l) = Cert.NewKey.invF ⟨0 + a.val, by omega⟩)
    (e1 : ∀ (a : Fin 8) (l : Fin 128), r1 (ix2 a l) = Cert.NewKey.invF ⟨8 + a.val, by omega⟩)
    (e2 : ∀ (a : Fin 8) (l : Fin 128), r2 (ix2 a l) = Cert.NewKey.invF ⟨16 + a.val, by omega⟩)
    (e3 : ∀ (a : Fin 8) (l : Fin 128), r3 (ix2 a l) = Cert.NewKey.invF ⟨24 + a.val, by omega⟩)
    (e4 : ∀ (a : Fin 8) (l : Fin 128), r4 (ix2 a l) = Cert.NewKey.invF ⟨32 + a.val, by omega⟩)
    (e5 : ∀ (a : Fin 8) (l : Fin 128), r5 (ix2 a l) = Cert.NewKey.invF ⟨40 + a.val, by omega⟩)
    (e6 : ∀ (a : Fin 8) (l : Fin 128), r6 (ix2 a l) = Cert.NewKey.invF ⟨48 + a.val, by omega⟩)
    (e7 : ∀ (a : Fin 8) (l : Fin 128), r7 (ix2 a l) = Cert.NewKey.invF ⟨56 + a.val, by omega⟩)
    (n : Fin 28) (l : Fin 128) :
    scoG (F := Ideal) sel ka X4 (itOf (grid0.coords t)) (lenW (F := Ideal) (grid0.coords t) len) (posW (F := Ideal) (grid0.coords t) pos) w71 V8 r0 r1 r2 r3 r4 r5 r6 r7 (ix3 n ⟨g.val, by omega⟩ l)
      = score x ka kb sel len pos (rowAt t) (headAt t) g (lin n l) := by
  have hb : rowOf ⟨t.val, t.isLt⟩ = rowAt t := rfl
  have hh : headOf ⟨t.val, t.isLt⟩ = headAt t := rfl
  unfold scoG
  refine (scoT_eq _ _ w71 V8 (kTile (F := Ideal) sel ka (itOf (grid0.coords t)) n) (tTile (F := Ideal) X4 (itOf (grid0.coords t)) n) r0 r1 r2 r3 r4 r5 r6 r7 e0 e1 e2 e3 e4 e5 e6 e7 ⟨g.val, by omega⟩ l).trans ?_
  rw [itOf_eq, lenW_eq, posW_eq, tTile_eq X4 sel h4 ⟨t.val, t.isLt⟩ n l, hb, hh]
  unfold score
  have hlive : IntOp.andi (IntOp.cmpi CmpIPredicate.sge (tok sel (rowAt t) (headAt t) (lin n l)) 0#32) (IntOp.cmpi CmpIPredicate.slt (tok sel (rowAt t) (headAt t) (lin n l)) (len (ix1 (rowAt t))))
      = live sel len (rowAt t) (headAt t) (lin n l) := by
    unfold live
    refine congrArg (fun z => IntOp.andi z _) ?_
    exact sge_pos (j := (lin n l).val % 8) (by omega) (hsel _).1 (hsel _).2
  rw [hlive]
  refine select_live _ _ _ _ fun hl => ?_
  have h0 : 0 ≤ (chunk sel (rowAt t) (headAt t) (lin n l)).toInt := nonneg_of_sge (and_left_one hl)
  have hk : ∀ r, kTile (F := Ideal) sel ka ⟨t.val, t.isLt⟩ n (ix3 0 l r) = ka (ix3 (rowAt t) ⟨(clip (tok sel (rowAt t) (headAt t) (lin n l))).toNat, clip_lt _⟩ r) := fun r => kTile_eq sel hsel ka ⟨t.val, t.isLt⟩ n l r h0
  have hkey : (fun d : Fin 128 => ∑ r : Fin 160, (fun u w : EReal => u * w) (kTile (F := Ideal) sel ka ⟨t.val, t.isLt⟩ n (ix3 0 l r)) (V8 (ix3 0 r d))) = key ka kb sel (rowAt t) (headAt t) (lin n l) := by
    funext d
    unfold key
    refine Finset.sum_congr rfl fun r _ => ?_
    rw [hk, h8]
  rw [hkey]
  unfold raw
  rw [← sum_rot]
  refine congrArg (fun z : EReal => z * scale) (Finset.sum_congr rfl fun d _ => ?_)
  rw [hq]

/-- The probabilities of a grid point, from the arrays. -/
theorem prb_apply (hsel : SelOK (F := Ideal) sel)
    (h4 : ∀ (i : Fin 24) (j : Fin 448), X4 (ix2 i j) = sel (ix3 (rowOf i) (headOf i) j))
    (h5 : ∀ (a : Fin 6) (j : Fin 3584), X5 (ix2 a j) = x (ix3 a 0 j))
    (h6 : ∀ (a : Fin 6) (b : Fin 4) (d : Fin 128), X6 (ix3 a b d) = kn (ix4 a 0 b d))
    (h8 : ∀ (r : Fin 160) (d : Fin 128), X8 (ix3 0 r d) = kb (ix3 (rowAt t) r ⟨(headAt t).val * 128 + d.val, by have := (headAt t).isLt; omega⟩))
    (h10 : ∀ u : S64x128.Idx, X10 u = Cert.NewKey.invF (u 0)) (h11 : ∀ u : S1x128.Idx, X11 u = Cert.NewKey.laneF (u 1)) (y : S1x1x7x3585.Idx) :
    prbX (F := Ideal) (grid0.coords t) sel ka len pos X4 X5 X6 X8 X10 X11 y = Cert.Probs.result x kn ka kb sel len pos (ix4 (rowAt t) (headAt t) (y 2) (y 3)) := by
  obtain ⟨g, hg⟩ : ∃ g : Fin 7, g = y 2 := ⟨_, rfl⟩
  have hgl : (⟨(y 2).val, by have : (y 2).val < 7 := (y 2).isLt; omega⟩ : Fin 8) = ⟨g.val, by omega⟩ := Fin.ext (congrArg Fin.val hg).symm
  have hq := q_apply t x len pos X5 X11 h5 h11 g
  have h8' : ∀ (r : Fin 160) (d : Fin 128), (fun y => X8 ((Rect.unit (s := S1x160x128) ![0, 0, 0] S1x160x128.size inb_S1x160x128_S1x160x128_0_0_0).toLoadRect.idx y)) (ix3 0 r d) = kb (ix3 (rowAt t) r ⟨(headAt t).val * 128 + d.val, by have := (headAt t).isLt; omega⟩) := fun r d => by
    rw [← h8]
    refine congrArg X8 ?_
    funext (z : Fin 3)
    match z with
    | ⟨0, _⟩ => rfl
    | ⟨1, _⟩ => exact Fin.ext (by show 0 + 1 * r.val = r.val; omega)
    | ⟨2, _⟩ => exact Fin.ext (by show 0 + 1 * d.val = d.val; omega)
  unfold prbX
  refine soft_of (grid0.coords t) _ _ _ (score x ka kb sel len pos (rowAt t) (headAt t) (y 2)) (scoreNew x kn len pos (rowAt t) (headAt t) (y 2)) y (fun k l => ?_) ?_
  · rw [hgl, ← hg]
    refine score_apply t x ka kb sel len pos X4 hsel _ _ _ _ _ _ _ _ _ _ g h4 hq h8' ?_ ?_ ?_ ?_ ?_ ?_ ?_ ?_ k l
    all_goals
      intro a l
      refine (h10 _).trans (congrArg Cert.NewKey.invF (Fin.ext ?_))
    · show 0 + 1 * a.val = 0 + a.val; omega
    · show 8 + 1 * a.val = 8 + a.val; omega
    · show 16 + 1 * a.val = 16 + a.val; omega
    · show 24 + 1 * a.val = 24 + a.val; omega
    · show 32 + 1 * a.val = 32 + a.val; omega
    · show 40 + 1 * a.val = 40 + a.val; omega
    · show 48 + 1 * a.val = 48 + a.val; omega
    · show 56 + 1 * a.val = 56 + a.val; omega
  · rw [hgl, ← hg]
    unfold snK scoreNew
    refine congrArg (fun z : EReal => z * scale) (Finset.sum_congr rfl fun d _ => ?_)
    rw [hq]
    refine congrArg (fun z : EReal => _ * z) ?_
    refine (pick (headAt t) _ (headW_eq t) _).trans ?_
    exact k_apply t kn len pos X6 X11 h6 h11 (headAt t) d

end Item

theorem kaOf_eq (m : (ℓ : Loc nD τ sig) → Buf (Elt Ideal) ℓ) (c : Dev nD) : kaOf m c = m ((c.tc : Thread nD τ).loc main_arg3) := V_kept m c main_arg3 (by decide)

/-- The second result as the run leaves it. -/
def probsOf (m : (ℓ : Loc nD τ sig) → Buf (Elt Ideal) ℓ) (c : Dev nD) : S6x4x7x3585.Idx → EReal :=
  Cert.Probs.result (m ((c.tc : Thread nD τ).loc main_arg0)) (m ((c.tc : Thread nD τ).loc main_arg1)) (m ((c.tc : Thread nD τ).loc main_arg3)) (m ((c.tc : Thread nD τ).loc main_arg4))
    (m ((c.tc : Thread nD τ).loc main_arg7)) (m ((c.tc : Thread nD τ).loc main_arg8)) (m ((c.tc : Thread nD τ).loc main_arg9))

theorem prbAt_eq (m : (ℓ : Loc nD τ sig) → Buf (Elt Ideal) ℓ) (c : Dev nD) (hsel : SelOK (F := Ideal) (selOf m c)) (t : Fin grid0.N) (y : S1x1x7x3585.Idx) :
    prbAt m c t y = probsOf m c (ix4 (rowAt t) (headAt t) (y 2) (y 3)) := by
  unfold prbAt probsOf
  rw [selOf_eq] at hsel
  rw [selOf_eq, kaOf_eq, lenOf_eq, posOf_eq]
  exact prb_apply t _ _ _ _ _ _ _ _ _ _ _ _ _ hsel (fun i j => (held0_eq m c t.val t.isLt _).trans (val_v16 m c i j)) (fun a j => (held1_eq m c t.val t.isLt _).trans (val_v17 m c a j))
    (fun a b d => (held2_eq m c t.val t.isLt _).trans (val_v18 m c a b d)) (fun r d => (held4_eq m c t r d).trans (congrFun (V_kept m c main_arg4 (by decide)) _))
    (fun u => (held6_eq m c t.val t.isLt _).trans (val_v11 m c u)) (fun u => (held7_eq m c t.val t.isLt _).trans (val_v13 m c u)) y

theorem t11_eq (t : Fin grid0.N) : cc0_transform_11 (grid0.coords t) = ![t.val / 4, t.val % 4, 0, 0] := by
  have h : ∀ t : Fin grid0.N, cc0_transform_11 (grid0.coords t) = ![t.val / 4, t.val % 4, 0, 0] := by decide +kernel
  exact h t

theorem flush9 : ∀ t : Fin grid0.N, Pipeline.Window.flushOf grid0 true cc0_transform_11 t = true := by decide +kernel

theorem covers9 (m : (ℓ : Loc nD τ sig) → Buf (Elt Ideal) ℓ) : ((cfgm m).win 9).Covers := by
  refine ⟨fun (a : Fin 4) => ?_, fun β => ?_⟩
  · match a with
    | 0 => exact Nat.one_pos
    | 1 => exact Nat.one_pos
    | 2 => exact (by decide : 0 < 7)
    | 3 => exact (by decide : 0 < 3585)
  · have h0 : (β (0 : Fin 4)).val < 6 := Nat.lt_of_lt_of_eq (β (0 : Fin 4)).isLt (by show (6 + 1 - 1) / 1 = 6; rfl)
    have h1 : (β (1 : Fin 4)).val < 4 := Nat.lt_of_lt_of_eq (β (1 : Fin 4)).isLt (by show (4 + 1 - 1) / 1 = 4; rfl)
    have h2 : (β (2 : Fin 4)).val < 1 := Nat.lt_of_lt_of_eq (β (2 : Fin 4)).isLt (by show (7 + 7 - 1) / 7 = 1; rfl)
    have h3 : (β (3 : Fin 4)).val < 1 := Nat.lt_of_lt_of_eq (β (3 : Fin 4)).isLt (by show (3585 + 3585 - 1) / 3585 = 1; rfl)
    have ht : 4 * (β (0 : Fin 4)).val + (β (1 : Fin 4)).val < grid0.N := by show _ < 24; omega
    refine ⟨⟨4 * (β (0 : Fin 4)).val + (β (1 : Fin 4)).val, ht⟩, flush9 ⟨_, ht⟩, fun (a : Fin 4) => ⟨?_, Or.inl ?_⟩⟩
    · show cc0_transform_11 (grid0.coords ⟨4 * (β (0 : Fin 4)).val + (β (1 : Fin 4)).val, ht⟩) a = _
      rw [t11_eq]
      match a with
      | 0 => show (4 * (β (0 : Fin 4)).val + (β (1 : Fin 4)).val) / 4 = _; omega
      | 1 => show (4 * (β (0 : Fin 4)).val + (β (1 : Fin 4)).val) % 4 = _; omega
      | 2 => show 0 = _; omega
      | 3 => show 0 = _; omega
    · rfl

/-- The second result's array after the run. -/
theorem arr9 (m : (ℓ : Loc nD τ sig) → Buf (Elt Ideal) ℓ) (c : Dev nD) (hsel : SelOK (F := Ideal) (selOf m c)) : (dats m 0 c).arrAt 9 (cfgm m).N = probsOf m c := by
  refine (dats m 0 c).arrAt_eq_of_covers 9 (probsOf m c) (covers9 m) fun t hf y => ?_
  blk_simp
  rw [after9]
  refine (prbAt_eq m c hsel t y).trans (congrArg (probsOf m c) ?_)
  blk_ext
  · show _ = cc0_transform_11 (grid0.coords t) 0; rw [t11_eq]; rfl
  · show _ = cc0_transform_11 (grid0.coords t) 1; rw [t11_eq]; rfl
  · show _ = cc0_transform_11 (grid0.coords t) 2 * 7 + _; rw [t11_eq]; show (y (2 : Fin 4)).val = 0 * 7 + (y (2 : Fin 4)).val; omega
  · show _ = cc0_transform_11 (grid0.coords t) 3 * 3585 + _; rw [t11_eq]; show (y (3 : Fin 4)).val = 0 * 3585 + (y (3 : Fin 4)).val; omega

/-- The run leaves the probabilities in the second result. -/
theorem run_probs (m : (ℓ : Loc nD τ sig) → Buf (Elt Ideal) ℓ) (ρ : Dev nD → PrngReg) (hsel : ∀ c, SelOK (F := Ideal) (selOf m c)) :
    θ_run defs (onTc (τ := τ) (main (F := Ideal))) ⟨m, fun _ => 0, ρ⟩ (fun r => ∀ c : Dev nD, r.2.mem ((c.tc : Thread nD τ).loc main_v20_1) = probsOf m c) :=
  (θ_run defs _ _).mono (fun r hr c => (((dats m 0 c).toRForget_arrAt_iff (w := 9) rfl _ _).mp ((hr.1 c).1 9)).trans (arr9 m c (hsel c))) (run_main m ρ hsel)

end Cert.KernelIdeal.Hand

end
-- ==== Proof.RValue.lean ====
/- The third result of the reference, element by element. -/
module

public import proofs.«01_k».proof.Proof.Gen.ReferenceIdeal.Frame
public import proofs.«01_k».proof.Proof.NewKey
public import Idealize.ShloMosaic.Lib.Pointwise
public import Idealize.ShloMosaic.Lib.Pipeline.ValueKit
public import Idealize.ShloMosaic.Lib.StableHlo.RunRead

@[expose] public section

set_option maxHeartbeats 1000000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)

theorem val_v62 (m : (ℓ : Loc nD τ sig) → Buf (Elt Ideal) ℓ) (c : Dev nD) (a : Fin 6) (b : Fin 4) (k : Fin 64) :
    StableHlo.upto hostOps0 (fun b => m (c, b)) 76 (Proc.tc.devRef main_v62) (ix4 a 0 b k)
      = Cert.NewKey.lo (m (c, Proc.tc.devRef main_arg1)) (IntOp.addi (m (c, Proc.tc.devRef main_arg9) (ix1 a)) (m (c, Proc.tc.devRef main_arg8) (ix1 a))) a b k := by
  after_reads_simp
  pointwise
  rfl

theorem val_v67 (m : (ℓ : Loc nD τ sig) → Buf (Elt Ideal) ℓ) (c : Dev nD) (a : Fin 6) (b : Fin 4) (k : Fin 64) :
    StableHlo.upto hostOps0 (fun b => m (c, b)) 76 (Proc.tc.devRef main_v67) (ix4 a 0 b k)
      = Cert.NewKey.hi (m (c, Proc.tc.devRef main_arg1)) (IntOp.addi (m (c, Proc.tc.devRef main_arg9) (ix1 a)) (m (c, Proc.tc.devRef main_arg8) (ix1 a))) a b k := by
  after_reads_simp
  pointwise
  rfl

theorem val_v69 (m : (ℓ : Loc nD τ sig) → Buf (Elt Ideal) ℓ) (c : Dev nD) (y : S6x1x4x128.Idx) :
    StableHlo.after hostOps0 (fun b => m (c, b)) (Proc.tc.devRef main_v69) y
      = Cert.NewKey.result (m (c, Proc.tc.devRef main_arg1)) (m (c, Proc.tc.devRef main_arg9)) (m (c, Proc.tc.devRef main_arg8)) y := by
  after_reads_simp
  pointwise
  unfold Cert.NewKey.result Cert.NewKey.lane
  split
  · exact val_v62 m c _ _ _
  · exact val_v67 m c _ _ _

/-- The third result as the run leaves it. -/
def newKeyOf (m : (ℓ : Loc nD τ sig) → Buf (Elt Ideal) ℓ) (c : Dev nD) : S6x1x4x128.Idx → EReal :=
  Cert.NewKey.result (m ((c.tc : Thread nD τ).loc main_arg1)) (m ((c.tc : Thread nD τ).loc main_arg9)) (m ((c.tc : Thread nD τ).loc main_arg8))

theorem V0_v69 (m : (ℓ : Loc nD τ sig) → Buf (Elt Ideal) ℓ) (c : Dev nD) : V0 m c (Proc.devRef .tc main_v69) = newKeyOf m c := by
  have e : V0 m c = StableHlo.after (List.flatten [hostOps0_1, hostOps0_2, hostOps0_3, hostOps0_4]) (StableHlo.after hostOps0 (fun b => m (c, b))) :=
    StableHlo.after_append _ _ _
  rw [e, StableHlo.after_of_forall_not_mem (b := Proc.devRef .tc main_v69) _ _ (List.forall_iff_forall_mem.mp (by
    simp only [hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  funext y
  exact val_v69 m c y

theorem W_v69 (m : (ℓ : Loc nD τ sig) → Buf (Elt Ideal) ℓ) (c : Dev nD) : Pipeline.afterTail₀ cfgs (dats m) 0 (V0 m) [hostOps1] c main_v69 = newKeyOf m c := by
  unfold Pipeline.afterTail₀
  rw [StableHlo.after_of_forall_not_mem (b := Proc.devRef .tc main_v69) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_v69 (by exact (by decide : ∀ w, Pipeline.arrRef spec0 w ≠ main_v69))]
  exact V0_v69 m c

/-- The run leaves the rotated new key in the third result. -/
theorem run_newKey (m : (ℓ : Loc nD τ sig) → Buf (Elt Ideal) ℓ) (ρ : Dev nD → PrngReg) :
    θ_run defs (onTc (τ := τ) (main (F := Ideal))) ⟨m, fun _ => 0, ρ⟩ (fun r => ∀ c : Dev nD, r.2.mem ((c.tc : Thread nD τ).loc main_v69) = newKeyOf m c) :=
  (θ_run defs _ _).mono (fun r hr c => ((hr.1 c).2 main_v69 (Pipeline.mem_restRefs_of main_v69 (by decide) (by decide))).trans (W_v69 m c)) (run_main_quiescent m ρ)

end Cert.ReferenceIdeal.Hand

end
-- ==== Proof.RStage.lean ====
/- The second result of the reference: each stretch of the program. -/
module

public import proofs.«01_k».proof.Proof.RValue
public import proofs.«01_k».proof.Proof.Probs

@[expose] public section

set_option maxHeartbeats 1000000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.Probs

/-! Each stretch of the program from the arrays it starts with. -/

section Stages
variable (m : Valuation τ sig (Elt Ideal))

theorem st4 (y : S6x4x7x3585.Idx) : StableHlo.after hostOps0_4 m (Proc.tc.devRef main_v167) y
    = soft (fun t => m (Proc.tc.devRef main_v147) (ix4 (y 0) (y 1) (y 2) t))
        ((∑ d : Fin 128, (fun u w : EReal => u * w) (m (Proc.tc.devRef main_v142) (ix4 (y 0) (y 1) (y 2) d)) (m (Proc.tc.devRef main_v69) (ix4 (y 0) 0 (y 1) d))) * scale) (y 3) := by
  after_reads_simp
  pointwise
  unfold soft
  split
  · rfl
  · rfl

theorem st3 (b : Fin 6) (h : Fin 4) (g : Fin 7) (t : Fin 3584) : StableHlo.after hostOps0_3 m (Proc.tc.devRef main_v147) (ix4 b h g t)
    = Scalar.select (m (Proc.tc.devRef main_v146) (ix4 b h 0 t)) (m (Proc.tc.devRef main_v145) (ix4 b h g t)) (m (Proc.tc.devRef main_cst_19) ix0) := by
  after_reads_simp
  show select (broadcastInDim S6x4x7x3584 ![0, 1, 2, 3] bcast_S6x4x1x3584_S6x4x7x3584_0_1_2_3 (m (Proc.tc.devRef main_v146))) (m (Proc.tc.devRef main_v145))
    (broadcastInDim S6x4x7x3584 ![] bcast_S_S6x4x7x3584 (m (Proc.tc.devRef main_cst_19))) (ix4 b h g t) = _
  pointwise

theorem st1 (b : Fin 6) (h : Fin 4) (t : Fin 3584) : StableHlo.after hostOps0_1 m (Proc.tc.devRef main_v87) (ix3 b h t)
    = IntOp.minsi (m (Proc.tc.devRef main_c_9) ix0) (IntOp.maxsi (m (Proc.tc.devRef main_c_8) ix0) (m (Proc.tc.devRef main_v78) (ix3 b h t))) := by
  after_reads_simp
  show minsi (broadcastInDim S6x4x3584 ![] bcast_S_S6x4x3584 (m (Proc.tc.devRef main_c_9)))
    (maxsi (broadcastInDim S6x4x3584 ![] bcast_S_S6x4x3584 (m (Proc.tc.devRef main_c_8))) (m (Proc.tc.devRef main_v78))) (ix3 b h t) = _
  pointwise

theorem st2_v142 (b : Fin 6) (h : Fin 4) (g : Fin 7) (d : Fin 128) : StableHlo.after hostOps0_2 m (Proc.tc.devRef main_v142) (ix4 b h g d)
    = m (Proc.tc.devRef main_v35) (ix4 b 0 (headOf h g) d) := by
  after_reads_simp
  pointwise
  rfl

theorem st2_v146 (b : Fin 6) (h : Fin 4) (t : Fin 3584) : StableHlo.after hostOps0_2 m (Proc.tc.devRef main_v146) (ix4 b h 0 t)
    = m (Proc.tc.devRef main_v86) (ix3 b h t) := by
  after_reads_simp
  pointwise

theorem st2_cst19 : StableHlo.after hostOps0_2 m (Proc.tc.devRef main_cst_19) ix0 = bottom := by
  after_reads_simp
  pointwise
  rfl

theorem up_v103 (b : Fin 6) (h : Fin 4) (t : Fin 3584) : StableHlo.upto hostOps0_2 m 21 (Proc.tc.devRef main_v103) (ix4 b h t 0) = BitVec.ofNat 32 b.val := by
  after_reads_simp
  pointwise
  have e : ∀ b : Fin 6, Scalar.select (IntOp.cmpi CmpIPredicate.slt (BitVec.ofNat 32 b.val) 0#32) (IntOp.addi (BitVec.ofNat 32 b.val) 6#32) (BitVec.ofNat 32 b.val) = BitVec.ofNat 32 b.val := by decide +kernel
  exact e b

theorem up_v104 (b : Fin 6) (h : Fin 4) (t : Fin 3584) (w : BitVec 32) (hw : m (Proc.tc.devRef main_v87) (ix3 b h t) = clip w) :
    StableHlo.upto hostOps0_2 m 21 (Proc.tc.devRef main_v104) (ix4 b h t 0) = clip w := by
  after_reads_simp
  pointwise
  rw [hw]
  have h0 : 0 ≤ (clip w).toInt := by
    have h1 := clip_lt w
    have := BitVec.toInt_eq_toNat_cond (clip w)
    split at this <;> omega
  have e : IntOp.cmpi CmpIPredicate.slt (clip w) 0#32 = 0#1 := by
    simp only [IntOp.cmpi, BitVec.slt]
    have : ¬ (clip w).toInt < (0#32 : BitVec 32).toInt := by
      have : (0#32 : BitVec 32).toInt = 0 := by decide
      omega
    rw [decide_eq_false this]
    rfl
  rw [e]
  rfl

/-- The rows of the first factor that the tokens name. -/
theorem gather_row (x : S6x65536x160.Idx → EReal) (idx : IVec S6x4x3584x2 32) (b : Fin 6) (h : Fin 4) (t : Fin 3584) (r : Fin 160) :
    Host.gather gather_S6x65536x160_S6x4x3584x2_S6x4x3584x160_3_01_n_n_01_3_11160 x idx (ix4 b h t r)
      = x (ix3 ⟨min (idx (ix4 b h t 0)).toInt.toNat 5, by omega⟩ ⟨min (idx (ix4 b h t 1)).toInt.toNat 65535, by omega⟩ r) := by
  unfold Host.gather
  refine congrArg x ?_
  funext (a : Fin 3)
  refine Fin.ext ?_
  show gather_S6x65536x160_S6x4x3584x2_S6x4x3584x160_3_01_n_n_01_3_11160.start (ix4 b h t r) idx a + gather_S6x65536x160_S6x4x3584x2_S6x4x3584x160_3_01_n_n_01_3_11160.batchCoord (ix4 b h t r) a + gather_S6x65536x160_S6x4x3584x2_S6x4x3584x160_3_01_n_n_01_3_11160.offCoord (ix4 b h t r) a = _
  rw [GatherDims.batchCoord_eq_zero _ _ _ List.not_mem_nil]
  have h3 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h3 with rfl | rfl | rfl
  · rw [GatherDims.offCoord_eq_zero _ _ _ (by decide : (0 : Fin 3) ∉ gather_S6x65536x160_S6x4x3584x2_S6x4x3584x160_3_01_n_n_01_3_11160.sKept)]
    unfold GatherDims.start
    rw [dif_pos (by decide : (0 : Fin 3) ∈ gather_S6x65536x160_S6x4x3584x2_S6x4x3584x160_3_01_n_n_01_3_11160.startIndexMap)]
    refine (congrArg (fun z => min (idx z).toInt.toNat 5) (?_ : _ = ix4 b h t 0))
    funext (q : Fin 4)
    match q with
    | ⟨0, _⟩ => rfl
    | ⟨1, _⟩ => rfl
    | ⟨2, _⟩ => rfl
    | ⟨3, _⟩ => rfl
  · rw [GatherDims.offCoord_eq_zero _ _ _ (by decide : (1 : Fin 3) ∉ gather_S6x65536x160_S6x4x3584x2_S6x4x3584x160_3_01_n_n_01_3_11160.sKept)]
    unfold GatherDims.start
    rw [dif_pos (by decide : (1 : Fin 3) ∈ gather_S6x65536x160_S6x4x3584x2_S6x4x3584x160_3_01_n_n_01_3_11160.startIndexMap)]
    refine (congrArg (fun z => min (idx z).toInt.toNat 65535) (?_ : _ = ix4 b h t 1))
    funext (q : Fin 4)
    match q with
    | ⟨0, _⟩ => rfl
    | ⟨1, _⟩ => rfl
    | ⟨2, _⟩ => rfl
    | ⟨3, _⟩ => rfl
  · unfold GatherDims.start
    rw [dif_neg (by decide : (2 : Fin 3) ∉ gather_S6x65536x160_S6x4x3584x2_S6x4x3584x160_3_01_n_n_01_3_11160.startIndexMap)]
    unfold GatherDims.offCoord
    rw [dif_pos (by decide : (2 : Fin 3) ∈ gather_S6x65536x160_S6x4x3584x2_S6x4x3584x160_3_01_n_n_01_3_11160.sKept), Nat.zero_add]
    rfl

theorem gathered (b : Fin 6) (h : Fin 4) (t : Fin 3584) (r : Fin 160) (w : BitVec 32) (hw : m (Proc.tc.devRef main_v87) (ix3 b h t) = clip w) (x : S6x65536x160.Idx → EReal) :
    Host.gather gather_S6x65536x160_S6x4x3584x2_S6x4x3584x160_3_01_n_n_01_3_11160 x
              (concatenate S6x4x3584x2 3
                [⟨S6x4x3584x1, StableHlo.upto hostOps0_2 m 21 (Proc.tc.devRef main_v103)⟩,
                  ⟨S6x4x3584x1, StableHlo.upto hostOps0_2 m 21 (Proc.tc.devRef main_v104)⟩]
                concatenates_S6x4x3584x1_S6x4x3584x1_S6x4x3584x2_d3) (ix4 b h t r) = x (ix3 b ⟨(clip w).toNat, clip_lt w⟩ r) := by
  rw [gather_row]
  have e0 : concatenate S6x4x3584x2 3
                [⟨S6x4x3584x1, StableHlo.upto hostOps0_2 m 21 (Proc.tc.devRef main_v103)⟩,
                  ⟨S6x4x3584x1, StableHlo.upto hostOps0_2 m 21 (Proc.tc.devRef main_v104)⟩]
                concatenates_S6x4x3584x1_S6x4x3584x1_S6x4x3584x2_d3 (ix4 b h t 0) = BitVec.ofNat 32 b.val := by
    pointwise
    exact up_v103 m b h t
  have e1 : concatenate S6x4x3584x2 3
                [⟨S6x4x3584x1, StableHlo.upto hostOps0_2 m 21 (Proc.tc.devRef main_v103)⟩,
                  ⟨S6x4x3584x1, StableHlo.upto hostOps0_2 m 21 (Proc.tc.devRef main_v104)⟩]
                concatenates_S6x4x3584x1_S6x4x3584x1_S6x4x3584x2_d3 (ix4 b h t 1) = clip w := by
    pointwise
    exact up_v104 m b h t w hw
  refine congrArg x ?_
  have hb : ∀ b : Fin 6, min (BitVec.ofNat 32 b.val).toInt.toNat 5 = b.val := by decide +kernel
  have hc : min (clip w).toInt.toNat 65535 = (clip w).toNat := by
    have h1 := clip_lt w
    have := BitVec.toInt_eq_toNat_cond (clip w)
    split at this <;> omega
  funext (a : Fin 3)
  match a with
  | ⟨0, _⟩ => exact Fin.ext ((congrArg (fun z : BitVec 32 => min z.toInt.toNat 5) e0).trans (hb b))
  | ⟨1, _⟩ => exact Fin.ext ((congrArg (fun z : BitVec 32 => min z.toInt.toNat 65535) e1).trans hc)
  | ⟨2, _⟩ => rfl

section Keys
variable (sel : (⟨3, ![6, 4, 448]⟩ : Shape).Idx → BitVec 32) (b : Fin 6) (h : Fin 4) (t : Fin 3584) (hw : m (Proc.tc.devRef main_v87) (ix3 b h t) = clip (tok sel b h t))
include hw

theorem up_v136 (k : Fin 64) : StableHlo.upto hostOps0_2 m 60 (Proc.tc.devRef main_v136) (ix4 b h t k)
    = rotLo (key (m (Proc.tc.devRef main_arg3)) (m (Proc.tc.devRef main_arg4)) sel b h t) (IntOp.addi (m (Proc.tc.devRef main_arg9) (ix1 b)) (clip (tok sel b h t))) k := by
  after_reads_simp
  pointwise
  simp only [gathered m b h t _ _ hw]
  rw [hw]
  rfl

theorem up_v139 (k : Fin 64) : StableHlo.upto hostOps0_2 m 60 (Proc.tc.devRef main_v139) (ix4 b h t k)
    = rotHi (key (m (Proc.tc.devRef main_arg3)) (m (Proc.tc.devRef main_arg4)) sel b h t) (IntOp.addi (m (Proc.tc.devRef main_arg9) (ix1 b)) (clip (tok sel b h t))) k := by
  after_reads_simp
  pointwise
  simp only [gathered m b h t _ _ hw]
  rw [hw]
  rfl

theorem st2_v145 (g : Fin 7) (v : Fin 128 → EReal) (p : BitVec 32) (hv : ∀ d, m (Proc.tc.devRef main_v35) (ix4 b 0 (headOf h g) d) = rot v p d) :
    StableHlo.after hostOps0_2 m (Proc.tc.devRef main_v145) (ix4 b h g t)
    = (∑ k : Fin 64, rotLo v p k * rotLo (key (m (Proc.tc.devRef main_arg3)) (m (Proc.tc.devRef main_arg4)) sel b h t) (IntOp.addi (m (Proc.tc.devRef main_arg9) (ix1 b)) (clip (tok sel b h t))) k
    + ∑ k : Fin 64, rotHi v p k * rotHi (key (m (Proc.tc.devRef main_arg3)) (m (Proc.tc.devRef main_arg4)) sel b h t) (IntOp.addi (m (Proc.tc.devRef main_arg9) (ix1 b)) (clip (tok sel b h t))) k) * scale := by
  have eLo : ∀ k : Fin 64, rot v p ⟨k.val, by omega⟩ = rotLo v p k := fun k => by
    unfold rot
    rw [dif_pos (by exact k.isLt)]
  have eHi : ∀ k : Fin 64, rot v p ⟨64 + k.val, by omega⟩ = rotHi v p k := fun k => by
    unfold rot
    rw [dif_neg (by show ¬ (64 + k.val < 64); omega)]
    exact congrArg (rotHi v p) (Fin.ext (by show 64 + k.val - 64 = k.val; omega))
  after_reads_simp
  pointwise
  refine congrArg (fun z : EReal => z * scale) (congrArg₂ (fun u w : EReal => u + w) (Finset.sum_congr rfl fun k _ => ?_) (Finset.sum_congr rfl fun k _ => ?_))
  · exact congrArg₂ (fun u w : EReal => u * w) ((hv _).trans (eLo k)) (up_v136 m sel b h t hw k)
  · exact congrArg₂ (fun u w : EReal => u * w) ((hv _).trans (eHi k)) (up_v139 m sel b h t hw k)

end Keys

end Stages

end Cert.ReferenceIdeal.Hand

end
-- ==== Proof.RProbs.lean ====
/- The second result of the reference, element by element. -/
module

public import proofs.«01_k».proof.Proof.RStage

@[expose] public section

set_option maxHeartbeats 1000000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.Pipeline (Dat Cfg Window)
open Cert.Probs

section Zero
variable (m : (ℓ : Loc nD τ sig) → Buf (Elt Ideal) ℓ) (c : Dev nD)

theorem val_v28 (a : Fin 6) (b : Fin 28) (k : Fin 64) :
    StableHlo.upto hostOps0 (fun b => m (c, b)) 38 (Proc.tc.devRef main_v28) (ix4 a 0 b k)
      = rotLo (query (m (c, Proc.tc.devRef main_arg0)) a b) (posNew (m (c, Proc.tc.devRef main_arg8)) (m (c, Proc.tc.devRef main_arg9)) a) k := by
  after_reads_simp
  pointwise
  rfl

theorem val_v33 (a : Fin 6) (b : Fin 28) (k : Fin 64) :
    StableHlo.upto hostOps0 (fun b => m (c, b)) 38 (Proc.tc.devRef main_v33) (ix4 a 0 b k)
      = rotHi (query (m (c, Proc.tc.devRef main_arg0)) a b) (posNew (m (c, Proc.tc.devRef main_arg8)) (m (c, Proc.tc.devRef main_arg9)) a) k := by
  after_reads_simp
  pointwise
  rfl

theorem val_v35 (a : Fin 6) (b : Fin 28) (d : Fin 128) :
    StableHlo.after hostOps0 (fun b => m (c, b)) (Proc.tc.devRef main_v35) (ix4 a 0 b d)
      = rot (query (m (c, Proc.tc.devRef main_arg0)) a b) (posNew (m (c, Proc.tc.devRef main_arg8)) (m (c, Proc.tc.devRef main_arg9)) a) d := by
  after_reads_simp
  pointwise
  unfold rot
  split
  · exact val_v28 m c _ _ _
  · exact val_v33 m c _ _ _

theorem val_v78 (b : Fin 6) (h : Fin 4) (t : Fin 3584) : StableHlo.after hostOps0 (fun b => m (c, b)) (Proc.tc.devRef main_v78) (ix3 b h t) = tok (m (c, Proc.tc.devRef main_arg7)) b h t := by
  after_reads_simp
  pointwise
  rfl

theorem val_v86 (b : Fin 6) (h : Fin 4) (t : Fin 3584) : StableHlo.after hostOps0 (fun b => m (c, b)) (Proc.tc.devRef main_v86) (ix3 b h t)
    = live (m (c, Proc.tc.devRef main_arg7)) (m (c, Proc.tc.devRef main_arg8)) b h t := by
  after_reads_simp
  pointwise
  rfl

theorem val_c8 : StableHlo.after hostOps0 (fun b => m (c, b)) (Proc.tc.devRef main_c_8) ix0 = 0#32 := by
  after_reads_simp
  pointwise
theorem val_c9 : StableHlo.after hostOps0 (fun b => m (c, b)) (Proc.tc.devRef main_c_9) ix0 = 65535#32 := by
  after_reads_simp
  pointwise

theorem kept0_arg3 (w : Valuation τ sig (Elt Ideal)) : StableHlo.after hostOps0 w (Proc.tc.devRef main_arg3) = w (Proc.tc.devRef main_arg3) := by
  after_reads_simp

theorem kept0_arg4 (w : Valuation τ sig (Elt Ideal)) : StableHlo.after hostOps0 w (Proc.tc.devRef main_arg4) = w (Proc.tc.devRef main_arg4) := by
  after_reads_simp

theorem kept0_arg9 (w : Valuation τ sig (Elt Ideal)) : StableHlo.after hostOps0 w (Proc.tc.devRef main_arg9) = w (Proc.tc.devRef main_arg9) := by
  after_reads_simp

theorem kept1_v35 (w : Valuation τ sig (Elt Ideal)) : StableHlo.after hostOps0_1 w (Proc.tc.devRef main_v35) = w (Proc.tc.devRef main_v35) := by
  after_reads_simp

theorem kept1_v86 (w : Valuation τ sig (Elt Ideal)) : StableHlo.after hostOps0_1 w (Proc.tc.devRef main_v86) = w (Proc.tc.devRef main_v86) := by
  after_reads_simp

theorem kept1_v69 (w : Valuation τ sig (Elt Ideal)) : StableHlo.after hostOps0_1 w (Proc.tc.devRef main_v69) = w (Proc.tc.devRef main_v69) := by
  after_reads_simp

theorem kept1_arg3 (w : Valuation τ sig (Elt Ideal)) : StableHlo.after hostOps0_1 w (Proc.tc.devRef main_arg3) = w (Proc.tc.devRef main_arg3) := by
  after_reads_simp

theorem kept1_arg4 (w : Valuation τ sig (Elt Ideal)) : StableHlo.after hostOps0_1 w (Proc.tc.devRef main_arg4) = w (Proc.tc.devRef main_arg4) := by
  after_reads_simp

theorem kept1_arg9 (w : Valuation τ sig (Elt Ideal)) : StableHlo.after hostOps0_1 w (Proc.tc.devRef main_arg9) = w (Proc.tc.devRef main_arg9) := by
  after_reads_simp

theorem kept2_v69 (w : Valuation τ sig (Elt Ideal)) : StableHlo.after hostOps0_2 w (Proc.tc.devRef main_v69) = w (Proc.tc.devRef main_v69) := by
  after_reads_simp

theorem kept3_v142 (w : Valuation τ sig (Elt Ideal)) : StableHlo.after hostOps0_3 w (Proc.tc.devRef main_v142) = w (Proc.tc.devRef main_v142) := by
  after_reads_simp

theorem kept3_v69 (w : Valuation τ sig (Elt Ideal)) : StableHlo.after hostOps0_3 w (Proc.tc.devRef main_v69) = w (Proc.tc.devRef main_v69) := by
  after_reads_simp

/-- The second result of the reference, from the arrays. -/
theorem val_v167 (y : S6x4x7x3585.Idx) :
    StableHlo.after hostOps0_4 (StableHlo.after hostOps0_3 (StableHlo.after hostOps0_2 (StableHlo.after hostOps0_1 (StableHlo.after hostOps0 (fun b => m (c, b)))))) (Proc.tc.devRef main_v167) y
      = Cert.Probs.result (m (c, Proc.tc.devRef main_arg0)) (m (c, Proc.tc.devRef main_arg1)) (m (c, Proc.tc.devRef main_arg3)) (m (c, Proc.tc.devRef main_arg4)) (m (c, Proc.tc.devRef main_arg7)) (m (c, Proc.tc.devRef main_arg8)) (m (c, Proc.tc.devRef main_arg9)) y := by
  rw [st4]
  unfold Cert.Probs.result
  obtain ⟨b, hb⟩ : ∃ b : Fin 6, b = y 0 := ⟨_, rfl⟩
  obtain ⟨h, hh⟩ : ∃ h : Fin 4, h = y 1 := ⟨_, rfl⟩
  obtain ⟨g, hg⟩ : ∃ g : Fin 7, g = y 2 := ⟨_, rfl⟩
  rw [← hb, ← hh, ← hg]
  have hq : ∀ d, StableHlo.after hostOps0_1 (StableHlo.after hostOps0 (fun b => m (c, b))) (Proc.tc.devRef main_v35) (ix4 b 0 (headOf h g) d)
      = rot (query (m (c, Proc.tc.devRef main_arg0)) b (headOf h g)) (posNew (m (c, Proc.tc.devRef main_arg8)) (m (c, Proc.tc.devRef main_arg9)) b) d := fun d => by
    rw [kept1_v35]
    exact val_v35 m c b _ d
  have hw : ∀ t, StableHlo.after hostOps0_1 (StableHlo.after hostOps0 (fun b => m (c, b))) (Proc.tc.devRef main_v87) (ix3 b h t) = clip (tok (m (c, Proc.tc.devRef main_arg7)) b h t) := fun t => by
    rw [st1, val_c8, val_c9, val_v78]
    rfl
  refine congrArg₂ (fun s n => soft s n (y 3)) (funext fun t => ?_) (congrArg (fun z : EReal => z * scale) (Finset.sum_congr rfl fun d _ => ?_))
  · rw [st3, st2_v146, st2_cst19, kept1_v86, val_v86, st2_v145 _ (m (c, Proc.tc.devRef main_arg7)) b h t (hw t) g _ _ hq]
    rfl
  · rw [kept3_v142, st2_v142, hq, kept3_v69, kept2_v69, kept1_v69, val_v69]
    rfl

end Zero

/-- The second result as the run leaves it. -/
def probsOf (m : (ℓ : Loc nD τ sig) → Buf (Elt Ideal) ℓ) (c : Dev nD) : S6x4x7x3585.Idx → EReal :=
  Cert.Probs.result (m ((c.tc : Thread nD τ).loc main_arg0)) (m ((c.tc : Thread nD τ).loc main_arg1)) (m ((c.tc : Thread nD τ).loc main_arg3)) (m ((c.tc : Thread nD τ).loc main_arg4))
    (m ((c.tc : Thread nD τ).loc main_arg7)) (m ((c.tc : Thread nD τ).loc main_arg8)) (m ((c.tc : Thread nD τ).loc main_arg9))

theorem V0_v167 (m : (ℓ : Loc nD τ sig) → Buf (Elt Ideal) ℓ) (c : Dev nD) : V0 m c (Proc.devRef .tc main_v167) = probsOf m c := by
  have e : V0 m c = StableHlo.after hostOps0_4 (StableHlo.after hostOps0_3 (StableHlo.after hostOps0_2 (StableHlo.after hostOps0_1 (StableHlo.after hostOps0 (fun b => m (c, b)))))) := by
    show StableHlo.after (List.flatten [hostOps0, hostOps0_1, hostOps0_2, hostOps0_3, hostOps0_4]) (fun b => m (c, b)) = _
    simp only [List.flatten_cons, List.flatten_nil, List.append_nil, StableHlo.after_append]
  rw [e]
  funext y
  exact val_v167 m c y

theorem W_v167 (m : (ℓ : Loc nD τ sig) → Buf (Elt Ideal) ℓ) (c : Dev nD) : Pipeline.afterTail₀ cfgs (dats m) 0 (V0 m) [hostOps1] c main_v167 = probsOf m c := by
  unfold Pipeline.afterTail₀
  rw [StableHlo.after_of_forall_not_mem (b := Proc.devRef .tc main_v167) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_v167 (by exact (by decide : ∀ w, Pipeline.arrRef spec0 w ≠ main_v167))]
  exact V0_v167 m c

/-- The run leaves the probabilities in the second result. -/
theorem run_probs (m : (ℓ : Loc nD τ sig) → Buf (Elt Ideal) ℓ) (ρ : Dev nD → PrngReg) :
    θ_run defs (onTc (τ := τ) (main (F := Ideal))) ⟨m, fun _ => 0, ρ⟩ (fun r => ∀ c : Dev nD, r.2.mem ((c.tc : Thread nD τ).loc main_v167) = probsOf m c) :=
  (θ_run defs _ _).mono (fun r hr c => ((hr.1 c).2 main_v167 (Pipeline.mem_restRefs_of main_v167 (by decide) (by decide))).trans (W_v167 m c)) (run_main_quiescent m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Frame
public import proofs.«01_k».proof.Proof.Gen.Pre_sel_in_range
public import proofs.«01_k».proof.Proof.Gen.On_not_out
public import Idealize.ShloMosaic.Lib.StableHlo.Predicate

public import proofs.«01_k».proof.Proof.Frame
public import proofs.«01_k».proof.Proof.IFrame
public import proofs.«01_k».proof.Proof.IProbs
public import proofs.«01_k».proof.Proof.RProbs

@[expose] public section

noncomputable section

namespace Cert.Proof

open Idealize.ShloMosaic Idealize.ShloMosaic.TcCoe

/-- One word of the precondition: the index it admits. -/
theorem range_of_pre {F : FTy → Type} [FloatOps F] {x0 x1 x2 x3 x4 x5 x6} {sel : IVec Cert.Pre_sel_in_range.S6x4x448 32} {x8 x9} {y : Cert.Pre_sel_in_range.S6x4x448.Idx}
    (e : Cert.Pre_sel_in_range.fn (F := F) x0 x1 x2 x3 x4 x5 x6 sel x8 x9 y = 1#1) :
    -1 ≤ (sel y).toInt ∧ (sel y).toInt < 8192 := by
  simp only [Cert.Pre_sel_in_range.fn, cmpi, andi, constantI, broadcastInDim, IntOp.cmpi, IntOp.andi] at e
  have h : ∀ p q : Bool, BitVec.ofBool p &&& BitVec.ofBool q = 1#1 → p = true ∧ q = true := by decide
  have h2 := h _ _ e
  simp only [BitVec.sle, BitVec.slt, decide_eq_true_eq] at h2
  exact h2

/-- The precondition, read word by word: every selected index lies in `[-1, 8192)`. -/
theorem selOK_Kernel (m : (ℓ : Loc Cert.Kernel.nD Cert.Kernel.τ Cert.Kernel.sig) → Buf (Elt Bits) ℓ) (h : Cert.Pre_Kernel m) (c : Dev Cert.Kernel.nD) :
    Cert.Kernel.Hand.SelOK (F := Bits) (Cert.Kernel.Hand.selOf m c) := by
  intro y
  rw [Cert.Kernel.Hand.selOf_eq]
  exact range_of_pre (congrFun (h c) y)

/-- The precondition, read word by word: every selected index lies in `[-1, 8192)`. -/
theorem selOK_KernelIdeal (m : (ℓ : Loc Cert.KernelIdeal.nD Cert.KernelIdeal.τ Cert.KernelIdeal.sig) → Buf (Elt Ideal) ℓ) (h : Cert.Pre_KernelIdeal m) (c : Dev Cert.KernelIdeal.nD) :
    Cert.KernelIdeal.Hand.SelOK (F := Ideal) (Cert.KernelIdeal.Hand.selOf m c) := by
  intro y
  rw [Cert.KernelIdeal.Hand.selOf_eq]
  exact range_of_pre (congrFun (h c) y)

/-- The masked claim: the first result is not compared, the probabilities and the rotated new key are the same in both programs. -/
theorem notOut_agrees : Cert.algebraic_KernelIdeal_ReferenceIdeal_on_not_out (hKernelIdeal := Cert.KernelIdeal.Gen.facts) (hReferenceIdeal := Cert.ReferenceIdeal.Gen.facts)
    (hPre_sel_in_range := Cert.Pre_sel_in_range.Gen.facts) (hOn_not_out := Cert.On_not_out.Gen.facts) := by
  intro m g m' g' hpre hargs
  have h01 : (0#1 : BitVec 1) ≠ 1#1 := by decide
  have hsel := fun c => selOK_KernelIdeal m hpre c
  refine ⟨fun c => m ((c.tc : Thread Cert.KernelIdeal.nD Cert.KernelIdeal.τ).loc Cert.KernelIdeal.main_v20_0), fun c => Cert.KernelIdeal.Hand.probsOf m c,
    fun c => Cert.KernelIdeal.Hand.newKeyOf m c, ?_, ?_⟩
  · exact (θ_run Cert.KernelIdeal.defs _ _).mono
      (fun r hr c => ⟨fun i h => absurd h h01, fun i _ => congrFun (hr.1 c) i, fun i _ => congrFun (hr.2.1 c) i, hr.2.2.1 c⟩)
      (θ_run_and (Cert.KernelIdeal.Hand.run_probs m g hsel) (θ_run_and (Cert.KernelIdeal.Hand.run_newKey m g hsel) (Cert.KernelIdeal.Hand.frame_of m g hsel)))
  · have e : ∀ c : Dev Cert.ReferenceIdeal.nD, Cert.ReferenceIdeal.Hand.newKeyOf m' c = Cert.KernelIdeal.Hand.newKeyOf m c := fun c => by
      obtain ⟨_, h1, _, _, _, _, _, _, h8, h9⟩ := hargs c
      unfold Cert.ReferenceIdeal.Hand.newKeyOf Cert.KernelIdeal.Hand.newKeyOf
      rw [h1, h8, h9]
    have e' : ∀ c : Dev Cert.ReferenceIdeal.nD, Cert.ReferenceIdeal.Hand.probsOf m' c = Cert.KernelIdeal.Hand.probsOf m c := fun c => by
      obtain ⟨h0, h1, _, h3, h4, _, _, h7, h8, h9⟩ := hargs c
      unfold Cert.ReferenceIdeal.Hand.probsOf Cert.KernelIdeal.Hand.probsOf
      rw [h0, h1, h3, h4, h7, h8, h9]
    exact (θ_run Cert.ReferenceIdeal.defs _ _).mono
      (fun r hr c => ⟨fun i h => absurd h h01, fun i _ => (congrFun (hr.1 c) i).trans (congrFun (e' c) i), fun i _ => (congrFun (hr.2.1 c) i).trans (congrFun (e c) i), hr.2.2.1 c⟩)
      (θ_run_and (Cert.ReferenceIdeal.Hand.run_probs m' g') (θ_run_and (Cert.ReferenceIdeal.Hand.run_newKey m' g') (Cert.ReferenceIdeal.Gen.frame m' g')))

theorem claim : Cert.Claim :=
  ⟨Cert.Kernel.Gen.facts, Cert.KernelIdeal.Gen.facts, Cert.ReferenceIdeal.Gen.facts, Cert.Pre_sel_in_range.Gen.facts, Cert.On_not_out.Gen.facts,
    fun m g h => Cert.Kernel.Hand.frame_of m g fun c => selOK_Kernel m h c,
    fun m g h => Cert.KernelIdeal.Hand.frame_of m g fun c => selOK_KernelIdeal m h c,
    fun m g _ => Cert.ReferenceIdeal.Gen.frame m g, fun m g _ => Cert.ReferenceIdeal.Gen.frame m g, trivial, notOut_agrees⟩

end Cert.Proof

end
